-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane [hPre_sane : Cert.Pre_sane.Facts] (m : (ℓ : Loc Cert.KernelIdeal.nD Cert.KernelIdeal.τ Cert.KernelIdeal.sig) → Buf (Elt Ideal) ℓ) : Prop :=
  ∀ c : Dev Cert.KernelIdeal.nD,
    (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane [hPre_sane : Cert.Pre_sane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sane [hKernelIdeal : Cert.KernelIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sane [hReferenceIdeal : Cert.ReferenceIdeal.Facts] [hPre_sane : Cert.Pre_sane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S9x16x64x2x128 Cert.KernelIdeal.S9x16x64x1x128
  ∧ IdealRules.bf16_pair.Statement Cert.KernelIdeal.S1x1x64x2x128 Cert.KernelIdeal.S1x1x64x1x128
  ∧ IdealRules.bf16_pair.Statement Cert.KernelIdeal.S128x128 Cert.KernelIdeal.S64x128
  ∧ IdealRules.bf16_pack.Statement Cert.KernelIdeal.S128x256
  ∧ IdealRules.bf16_pair.PackStatement Cert.KernelIdeal.S8x128
  ∧ IdealRules.bf16_pair.Statement Cert.KernelIdeal.S16x128 Cert.KernelIdeal.S8x128
  ∧ IdealRules.bf16_pair.Statement Cert.KernelIdeal.S1x1x8x2x128 Cert.KernelIdeal.S1x1x8x1x128

def algebraic_KernelIdeal_ReferenceIdeal_pre_sane [hKernelIdeal : Cert.KernelIdeal.Facts] [hReferenceIdeal : Cert.ReferenceIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v454) = v0 c
          ∧ r.2.mem ((c.tc : Thread Cert.ReferenceIdeal.nD Cert.ReferenceIdeal.τ).loc Cert.ReferenceIdeal.main_v455) = v1 c
          ∧ r.2.mem ((c.tc : Thread Cert.ReferenceIdeal.nD Cert.ReferenceIdeal.τ).loc Cert.ReferenceIdeal.main_v233) = v2 c
          ∧ r.2.mem ((c.tc : Thread Cert.ReferenceIdeal.nD Cert.ReferenceIdeal.τ).loc Cert.ReferenceIdeal.main_v223) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sane : Cert.Pre_sane.Facts),
    quiescent_Kernel (hKernel := hKernel)
    ∧ quiescent_KernelIdeal (hKernelIdeal := hKernelIdeal)
    ∧ quiescent_KernelIdeal_pre_sane (hKernelIdeal := hKernelIdeal) (hPre_sane := hPre_sane)
    ∧ quiescent_ReferenceIdeal (hReferenceIdeal := hReferenceIdeal)
    ∧ quiescent_ReferenceIdeal_pre_sane (hReferenceIdeal := hReferenceIdeal) (hPre_sane := hPre_sane)
    ∧ preserves_Kernel_KernelIdeal
    ∧ algebraic_KernelIdeal_ReferenceIdeal_pre_sane (hKernelIdeal := hKernelIdeal) (hReferenceIdeal := hReferenceIdeal) (hPre_sane := hPre_sane)
-- ==== Pre_sane.lean ====
abbrev S8x1152x2048 : Shape := ⟨3, ![8, 1152, 2048]⟩
abbrev S8x1152x256 : Shape := ⟨3, ![8, 1152, 256]⟩
abbrev S_ : Shape := ⟨0, ![]⟩
abbrev S8 : Shape := ⟨1, ![8]⟩
abbrev S8x1x1 : Shape := ⟨3, ![8, 1, 1]⟩

class Facts : Prop where
  reducesTo_S8x1152x2048_S8_d1_2 : S8x1152x2048.ReducesTo [1, 2] S8
  h_S_ : 0 < S_.numel
  bcast_S_S8 : S_.BroadcastsInDim S8 (![] : Fin 0 → Fin S8.rank)
  bcast_S_S8x1152x2048 : S_.BroadcastsInDim S8x1152x2048 (![] : Fin 0 → Fin S8x1152x2048.rank)
  bcast_S8_S8x1x1_0 : S8.BroadcastsInDim S8x1x1 (![0] : Fin 1 → Fin S8x1x1.rank)
  bcast_S8x1x1_S8x1152x2048_0_1_2 : S8x1x1.BroadcastsInDim S8x1152x2048 (![0, 1, 2] : Fin 3 → Fin S8x1152x2048.rank)

variable [Facts]

def fn {F : FTy → Type} [FloatOps F] (main_arg0 : FVec F S8x1152x2048 .f32) (main_arg1 : IVec S8x1152x256 8) (main_arg2 : FVec F S8x1152x2048 .f32) : IVec S8x1152x2048 1 :=
  let main_v0 : FVec F S8x1152x2048 .f32 := addf main_arg0 main_arg2
  let main_v1 : FVec F S8x1152x2048 .f32 := mulf main_v0 main_v0
  let main_cst : FVec F S_ .f32 := constant S_ .f32 0x00000000#32
  let main_v2 : FVec F S8 .f32 := (fun x v => Host.reduceAdd x v reducesTo_S8x1152x2048_S8_d1_2 h_S_) main_v1 main_cst
  let main_cst_0 : FVec F S_ .f32 := constant S_ .f32 0x00000000#32
  let main_v3 : FVec F S8 .f32 := broadcastInDim S8 ![] bcast_S_S8 main_cst_0
  let main_v4 : IVec S8 1 := cmpf .ogt main_v2 main_v3
  let main_v5 : FVec F S8x1152x2048 .f32 := Host.absf main_arg0
  let main_cst_1 : FVec F S_ .f32 := constant S_ .f32 0x7F800000#32
  let main_v6 : FVec F S8x1152x2048 .f32 := broadcastInDim S8x1152x2048 ![] bcast_S_S8x1152x2048 main_cst_1
  let main_v7 : IVec S8x1152x2048 1 := cmpf .olt main_v5 main_v6
  let main_v8 : FVec F S8x1152x2048 .f32 := Host.absf main_arg2
  let main_cst_2 : FVec F S_ .f32 := constant S_ .f32 0x7F800000#32
  let main_v9 : FVec F S8x1152x2048 .f32 := broadcastInDim S8x1152x2048 ![] bcast_S_S8x1152x2048 main_cst_2
  let main_v10 : IVec S8x1152x2048 1 := cmpf .olt main_v8 main_v9
  let main_v11 : IVec S8x1152x2048 1 := andi main_v7 main_v10
  let main_v12 : IVec S8x1x1 1 := broadcastInDim S8x1x1 ![0] bcast_S8_S8x1x1_0 main_v4
  let main_v13 : IVec S8x1152x2048 1 := broadcastInDim S8x1152x2048 ![0, 1, 2] bcast_S8x1x1_S8x1152x2048_0_1_2 main_v12
  let main_v14 : IVec S8x1152x2048 1 := andi main_v11 main_v13
  main_v14
-- ==== Kernel.lean ====
abbrev S8x1152x2048 : Shape := ⟨3, ![8, 1152, 2048]⟩
abbrev S8x1152x256 : Shape := ⟨3, ![8, 1152, 256]⟩
abbrev S8 : Shape := ⟨1, ![8]⟩
abbrev S1x128x2048 : Shape := ⟨3, ![1, 128, 2048]⟩
abbrev S1x128x256 : Shape := ⟨3, ![1, 128, 256]⟩
abbrev S9x16x128x128 : Shape := ⟨4, ![9, 16, 128, 128]⟩
abbrev S9x16x64x128 : Shape := ⟨4, ![9, 16, 64, 128]⟩
abbrev S2x128x128 : Shape := ⟨3, ![2, 128, 128]⟩
abbrev S4352x128 : Shape := ⟨2, ![4352, 128]⟩
abbrev S64x128 : Shape := ⟨2, ![64, 128]⟩
abbrev S256x256 : Shape := ⟨2, ![256, 256]⟩
abbrev S16x128 : Shape := ⟨2, ![16, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S1x1 : Shape := ⟨2, ![1, 1]⟩
abbrev S1x128 : Shape := ⟨2, ![1, 128]⟩
abbrev S128x128 : Shape := ⟨2, ![128, 128]⟩
abbrev S1x1x64x128 : Shape := ⟨4, ![1, 1, 64, 128]⟩
abbrev S128x256 : Shape := ⟨2, ![128, 256]⟩
abbrev S1x1x128x128 : Shape := ⟨4, ![1, 1, 128, 128]⟩
abbrev S1x128x128 : Shape := ⟨3, ![1, 128, 128]⟩
abbrev S32x128 : Shape := ⟨2, ![32, 128]⟩
abbrev S128x128x1 : Shape := ⟨3, ![128, 128, 1]⟩
abbrev S16x8x128 : Shape := ⟨3, ![16, 8, 128]⟩
abbrev S1x1x8x128 : Shape := ⟨4, ![1, 1, 8, 128]⟩
abbrev S8x128x1 : Shape := ⟨3, ![8, 128, 1]⟩

abbrev nBuf : Space → Nat
  | .hbm => 7
  | .vmem => 22
  | .smem => 1
  | _ => 0

abbrev bufTy : (tb : Table) → Fin (tcTables nBuf tb) → BufTy
  | .hbm, ⟨0, _⟩ => ⟨S8x1152x2048, .f32⟩
  | .hbm, ⟨1, _⟩ => ⟨S8x1152x256, .i8⟩
  | .hbm, ⟨2, _⟩ => ⟨S8x1152x2048, .f32⟩
  | .hbm, ⟨3, _⟩ => ⟨S8x1152x2048, .f32⟩
  | .hbm, ⟨4, _⟩ => ⟨S8x1152x2048, .f32⟩
  | .hbm, ⟨5, _⟩ => ⟨S8x1152x256, .i8⟩
  | .hbm, ⟨6, _⟩ => ⟨S8, .f32⟩
  | .local _ .vmem, ⟨0, _⟩ => ⟨S1x128x2048, .f32⟩
  | .local _ .vmem, ⟨1, _⟩ => ⟨S1x128x2048, .f32⟩
  | .local _ .vmem, ⟨2, _⟩ => ⟨S1x128x256, .i8⟩
  | .local _ .vmem, ⟨3, _⟩ => ⟨S1x128x256, .i8⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x256, .i8⟩
  | .local _ .vmem, ⟨11, _⟩ => ⟨S1x128x256, .i8⟩
  | .local _ .vmem, ⟨12, _⟩ => ⟨S9x16x128x128, .f32⟩
  | .local _ .vmem, ⟨13, _⟩ => ⟨S9x16x128x128, .i32⟩
  | .local _ .vmem, ⟨14, _⟩ => ⟨S9x16x64x128, .i32⟩
  | .local _ .vmem, ⟨15, _⟩ => ⟨S2x128x128, .i32⟩
  | .local _ .vmem, ⟨16, _⟩ => ⟨S4352x128, .f32⟩
  | .local _ .vmem, ⟨17, _⟩ => ⟨S64x128, .i32⟩
  | .local _ .vmem, ⟨18, _⟩ => ⟨S256x256, .f32⟩
  | .local _ .vmem, ⟨19, _⟩ => ⟨S256x256, .bf16⟩
  | .local _ .vmem, ⟨20, _⟩ => ⟨S16x128, .f32⟩
  | .local _ .vmem, ⟨21, _⟩ => ⟨S8x128, .f32⟩
  | .local _ .smem, ⟨0, _⟩ => ⟨S8, .f32⟩
  | _, _ => ⟨S8x1152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [BitOps F]

abbrev grid0 : Pipeline.Grid := ⟨1, ![81], ![false]⟩

def k0_cond2 (i : grid0.Coords) : BitVec 1 :=
  let arg0 : BitVec 32 := BitVec.ofNat 32 (i 0).val
  let c0_i32_5 : BitVec 32 := 0#32
  let v15 : BitVec 1 := Scalar.cmpi .sgt arg0 c0_i32_5
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_6 : BitVec 32 := 0#32
  let v16 : BitVec 1 := Scalar.cmpi .eq v9 c0_i32_6
  let v17 : BitVec 1 := Scalar.andi v15 v16
  let v18 : BitVec 32 := Scalar.extui v17
  let c0_i32_7 : BitVec 32 := 0#32
  let v19 : BitVec 1 := Scalar.cmpi .ne v18 c0_i32_7
  v19

def k0_off1 (i : grid0.Coords) : Fin 1 → Nat :=
  let arg0 : BitVec 32 := BitVec.ofNat 32 (i 0).val
  let c0_i32_19 : BitVec 32 := 0#32
  let v50 : BitVec 1 := Scalar.cmpi .sgt arg0 c0_i32_19
  let v51 : BitVec 32 := Scalar.extui v50
  let c0_i32_20 : BitVec 32 := 0#32
  let v52 : BitVec 1 := Scalar.cmpi .slt arg0 c0_i32_20
  let v53 : BitVec 32 := Scalar.extui v52
  let v54 : BitVec 32 := Scalar.subi v51 v53
  let c9_i32_18 : BitVec 32 := 9#32
  let c0_i32_21 : BitVec 32 := 0#32
  let v55 : BitVec 1 := Scalar.cmpi .sgt c9_i32_18 c0_i32_21
  let v56 : BitVec 32 := Scalar.extui v55
  let c0_i32_22 : BitVec 32 := 0#32
  let v57 : BitVec 1 := Scalar.cmpi .slt c9_i32_18 c0_i32_22
  let v58 : BitVec 32 := Scalar.extui v57
  let v59 : BitVec 32 := Scalar.subi v56 v58
  let v60 : BitVec 1 := Scalar.cmpi .ne v54 v59
  let v61 : BitVec 32 := Scalar.remsi arg0 c9_i32_18
  let c0_i32_23 : BitVec 32 := 0#32
  let v62 : BitVec 1 := Scalar.cmpi .ne v61 c0_i32_23
  let v63 : BitVec 1 := Scalar.andi v60 v62
  let v49 : BitVec 32 := Scalar.divsi arg0 c9_i32_18
  let c1_i32_24 : BitVec 32 := 1#32
  let v64 : BitVec 32 := Scalar.subi v49 c1_i32_24
  let v65 : BitVec 32 := Scalar.select v63 v64 v49
  let c1_i32_25 : BitVec 32 := 1#32
  let v66 : BitVec 32 := Scalar.subi v65 c1_i32_25
  let v67 : Index := Scalar.indexCast v66
  ![v67.toNat]
def k0_cond3 (i : grid0.Coords) : BitVec 1 :=
  let arg0 : BitVec 32 := BitVec.ofNat 32 (i 0).val
  let c9_i32_8 : BitVec 32 := 9#32
  let v20 : BitVec 1 := Scalar.cmpi .sge arg0 c9_i32_8
  let v21 : BitVec 32 := Scalar.extui v20
  let c0_i32_9 : BitVec 32 := 0#32
  let v22 : BitVec 1 := Scalar.cmpi .ne v21 c0_i32_9
  v22

def k0_off2 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : Index := Scalar.indexCast v9
  let c0_14 : Index := 0#32
  let c0_15 : Index := 0#32
  let c0_16 : Index := 0#32
  ![v30.toNat, 0, 0, 0]
def k0_off3 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v34 : Index := Scalar.indexCast v9
  let c1 : Index := 1#32
  let c0_17 : Index := 0#32
  let c0_18 : Index := 0#32
  ![v34.toNat, 1, 0, 0]
def k0_off4 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c4 : Index := 4#32
  let c0_19 : Index := 0#32
  let c0_20 : Index := 0#32
  ![v39.toNat, 4, 0, 0]
def k0_off5 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : Index := Scalar.indexCast v9
  let c5 : Index := 5#32
  let c0_21 : Index := 0#32
  let c0_22 : Index := 0#32
  ![v43.toNat, 5, 0, 0]
def k0_off6 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v48 : Index := Scalar.indexCast v9
  let c8 : Index := 8#32
  let c0_23 : Index := 0#32
  let c0_24 : Index := 0#32
  ![v48.toNat, 8, 0, 0]
def k0_off7 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v52 : Index := Scalar.indexCast v9
  let c9 : Index := 9#32
  let c0_25 : Index := 0#32
  let c0_26 : Index := 0#32
  ![v52.toNat, 9, 0, 0]
def k0_off8 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v57 : Index := Scalar.indexCast v9
  let c12 : Index := 12#32
  let c0_27 : Index := 0#32
  let c0_28 : Index := 0#32
  ![v57.toNat, 12, 0, 0]
def k0_off9 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v61 : Index := Scalar.indexCast v9
  let c13 : Index := 13#32
  let c0_29 : Index := 0#32
  let c0_30 : Index := 0#32
  ![v61.toNat, 13, 0, 0]
def k0_off10 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v78 : Index := Scalar.indexCast v9
  let c2 : Index := 2#32
  let c0_32 : Index := 0#32
  let c0_33 : Index := 0#32
  ![v78.toNat, 2, 0, 0]
def k0_off11 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v82 : Index := Scalar.indexCast v9
  let c3 : Index := 3#32
  let c0_34 : Index := 0#32
  let c0_35 : Index := 0#32
  ![v82.toNat, 3, 0, 0]
def k0_off12 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v87 : Index := Scalar.indexCast v9
  let c6 : Index := 6#32
  let c0_36 : Index := 0#32
  let c0_37 : Index := 0#32
  ![v87.toNat, 6, 0, 0]
def k0_off13 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v91 : Index := Scalar.indexCast v9
  let c7 : Index := 7#32
  let c0_38 : Index := 0#32
  let c0_39 : Index := 0#32
  ![v91.toNat, 7, 0, 0]
def k0_off14 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v96 : Index := Scalar.indexCast v9
  let c10 : Index := 10#32
  let c0_40 : Index := 0#32
  let c0_41 : Index := 0#32
  ![v96.toNat, 10, 0, 0]
def k0_off15 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : Index := Scalar.indexCast v9
  let c11 : Index := 11#32
  let c0_42 : Index := 0#32
  let c0_43 : Index := 0#32
  ![v100.toNat, 11, 0, 0]
def k0_off16 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v105 : Index := Scalar.indexCast v9
  let c14 : Index := 14#32
  let c0_44 : Index := 0#32
  let c0_45 : Index := 0#32
  ![v105.toNat, 14, 0, 0]
def k0_off17 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v109 : Index := Scalar.indexCast v9
  let c15 : Index := 15#32
  let c0_46 : Index := 0#32
  let c0_47 : Index := 0#32
  ![v109.toNat, 15, 0, 0]
def k0_off18 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v134 : Index := Scalar.indexCast v9
  let c0_56 : Index := 0#32
  let c0_57 : Index := 0#32
  let c0_58 : Index := 0#32
  ![v134.toNat, 0, 0, 0]
def k0_off19 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : Index := Scalar.indexCast v9
  let c1_70 : Index := 1#32
  let c0_71 : Index := 0#32
  let c0_72 : Index := 0#32
  ![v154.toNat, 1, 0, 0]
def k0_off20 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v174 : Index := Scalar.indexCast v9
  let c2_83 : Index := 2#32
  let c0_84 : Index := 0#32
  let c0_85 : Index := 0#32
  ![v174.toNat, 2, 0, 0]
def k0_off21 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v194 : Index := Scalar.indexCast v9
  let c3_96 : Index := 3#32
  let c0_97 : Index := 0#32
  let c0_98 : Index := 0#32
  ![v194.toNat, 3, 0, 0]
def k0_off22 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v220 : Index := Scalar.indexCast v9
  let c4_115 : Index := 4#32
  let c0_116 : Index := 0#32
  let c0_117 : Index := 0#32
  ![v220.toNat, 4, 0, 0]
def k0_off23 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v240 : Index := Scalar.indexCast v9
  let c5_128 : Index := 5#32
  let c0_129 : Index := 0#32
  let c0_130 : Index := 0#32
  ![v240.toNat, 5, 0, 0]
def k0_off24 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v260 : Index := Scalar.indexCast v9
  let c6_141 : Index := 6#32
  let c0_142 : Index := 0#32
  let c0_143 : Index := 0#32
  ![v260.toNat, 6, 0, 0]
def k0_off25 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v280 : Index := Scalar.indexCast v9
  let c7_154 : Index := 7#32
  let c0_155 : Index := 0#32
  let c0_156 : Index := 0#32
  ![v280.toNat, 7, 0, 0]
def k0_off26 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v306 : Index := Scalar.indexCast v9
  let c8_173 : Index := 8#32
  let c0_174 : Index := 0#32
  let c0_175 : Index := 0#32
  ![v306.toNat, 8, 0, 0]
def k0_off27 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v326 : Index := Scalar.indexCast v9
  let c9_186 : Index := 9#32
  let c0_187 : Index := 0#32
  let c0_188 : Index := 0#32
  ![v326.toNat, 9, 0, 0]
def k0_off28 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v346 : Index := Scalar.indexCast v9
  let c10_199 : Index := 10#32
  let c0_200 : Index := 0#32
  let c0_201 : Index := 0#32
  ![v346.toNat, 10, 0, 0]
def k0_off29 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v366 : Index := Scalar.indexCast v9
  let c11_212 : Index := 11#32
  let c0_213 : Index := 0#32
  let c0_214 : Index := 0#32
  ![v366.toNat, 11, 0, 0]
def k0_off30 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v392 : Index := Scalar.indexCast v9
  let c12_231 : Index := 12#32
  let c0_232 : Index := 0#32
  let c0_233 : Index := 0#32
  ![v392.toNat, 12, 0, 0]
def k0_off31 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v412 : Index := Scalar.indexCast v9
  let c13_244 : Index := 13#32
  let c0_245 : Index := 0#32
  let c0_246 : Index := 0#32
  ![v412.toNat, 13, 0, 0]
def k0_off32 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v432 : Index := Scalar.indexCast v9
  let c14_257 : Index := 14#32
  let c0_258 : Index := 0#32
  let c0_259 : Index := 0#32
  ![v432.toNat, 14, 0, 0]
def k0_off33 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v452 : Index := Scalar.indexCast v9
  let c15_270 : Index := 15#32
  let c0_271 : Index := 0#32
  let c0_272 : Index := 0#32
  ![v452.toNat, 15, 0, 0]
def k0_cond4 (i : grid0.Coords) : BitVec 1 :=
  let arg0 : BitVec 32 := BitVec.ofNat 32 (i 0).val
  let c72_i32 : BitVec 32 := 72#32
  let v23 : BitVec 1 := Scalar.cmpi .slt arg0 c72_i32
  let v24 : BitVec 32 := Scalar.extui v23
  let c0_i32_10 : BitVec 32 := 0#32
  let v25 : BitVec 1 := Scalar.cmpi .ne v24 c0_i32_10
  v25

def k0_off34 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v432 : Index := Scalar.indexCast v9
  let c0_134 : Index := 0#32
  let c0_135 : Index := 0#32
  let c0_136 : Index := 0#32
  ![v432.toNat, 0, 0, 0]
def k0_off35 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v553 : Index := Scalar.indexCast v9
  let c1_154 : Index := 1#32
  let c0_155 : Index := 0#32
  let c0_156 : Index := 0#32
  ![v553.toNat, 1, 0, 0]
def k0_off36 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v821 : Index := Scalar.indexCast v9
  let c2 : Index := 2#32
  let c0_218 : Index := 0#32
  let c0_219 : Index := 0#32
  ![v821.toNat, 2, 0, 0]
def k0_off37 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v942 : Index := Scalar.indexCast v9
  let c3 : Index := 3#32
  let c0_238 : Index := 0#32
  let c0_239 : Index := 0#32
  ![v942.toNat, 3, 0, 0]
def k0_off38 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1210 : Index := Scalar.indexCast v9
  let c4 : Index := 4#32
  let c0_301 : Index := 0#32
  let c0_302 : Index := 0#32
  ![v1210.toNat, 4, 0, 0]
def k0_off39 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1331 : Index := Scalar.indexCast v9
  let c5 : Index := 5#32
  let c0_321 : Index := 0#32
  let c0_322 : Index := 0#32
  ![v1331.toNat, 5, 0, 0]
def k0_off40 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1599 : Index := Scalar.indexCast v9
  let c6 : Index := 6#32
  let c0_384 : Index := 0#32
  let c0_385 : Index := 0#32
  ![v1599.toNat, 6, 0, 0]
def k0_off41 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1720 : Index := Scalar.indexCast v9
  let c7 : Index := 7#32
  let c0_404 : Index := 0#32
  let c0_405 : Index := 0#32
  ![v1720.toNat, 7, 0, 0]
def k0_off42 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1988 : Index := Scalar.indexCast v9
  let c8_467 : Index := 8#32
  let c0_468 : Index := 0#32
  let c0_469 : Index := 0#32
  ![v1988.toNat, 8, 0, 0]
def k0_off43 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2109 : Index := Scalar.indexCast v9
  let c9 : Index := 9#32
  let c0_489 : Index := 0#32
  let c0_490 : Index := 0#32
  ![v2109.toNat, 9, 0, 0]
def k0_off44 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2377 : Index := Scalar.indexCast v9
  let c10 : Index := 10#32
  let c0_553 : Index := 0#32
  let c0_554 : Index := 0#32
  ![v2377.toNat, 10, 0, 0]
def k0_off45 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2498 : Index := Scalar.indexCast v9
  let c11 : Index := 11#32
  let c0_574 : Index := 0#32
  let c0_575 : Index := 0#32
  ![v2498.toNat, 11, 0, 0]
def k0_off46 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2766 : Index := Scalar.indexCast v9
  let c12 : Index := 12#32
  let c0_638 : Index := 0#32
  let c0_639 : Index := 0#32
  ![v2766.toNat, 12, 0, 0]
def k0_off47 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2887 : Index := Scalar.indexCast v9
  let c13 : Index := 13#32
  let c0_659 : Index := 0#32
  let c0_660 : Index := 0#32
  ![v2887.toNat, 13, 0, 0]
def k0_off48 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3155 : Index := Scalar.indexCast v9
  let c14 : Index := 14#32
  let c0_723 : Index := 0#32
  let c0_724 : Index := 0#32
  ![v3155.toNat, 14, 0, 0]
def k0_off49 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3276 : Index := Scalar.indexCast v9
  let c15 : Index := 15#32
  let c0_744 : Index := 0#32
  let c0_745 : Index := 0#32
  ![v3276.toNat, 15, 0, 0]
def k0_off50 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3871 : Index := Scalar.indexCast v9
  let c0_889 : Index := 0#32
  let c0_890 : Index := 0#32
  let c0_891 : Index := 0#32
  ![v3871.toNat, 0, 0, 0]
def k0_off51 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3886 : Index := Scalar.indexCast v9
  let c0_895 : Index := 0#32
  let c8_896 : Index := 8#32
  let c0_897 : Index := 0#32
  ![v3886.toNat, 0, 8, 0]
def k0_off52 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3902 : Index := Scalar.indexCast v9
  let c0_902 : Index := 0#32
  let c16_903 : Index := 16#32
  let c0_904 : Index := 0#32
  ![v3902.toNat, 0, 16, 0]
def k0_off53 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3917 : Index := Scalar.indexCast v9
  let c0_910 : Index := 0#32
  let c24_911 : Index := 24#32
  let c0_912 : Index := 0#32
  ![v3917.toNat, 0, 24, 0]
def k0_off54 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3933 : Index := Scalar.indexCast v9
  let c2_918 : Index := 2#32
  let c0_919 : Index := 0#32
  let c0_920 : Index := 0#32
  ![v3933.toNat, 2, 0, 0]
def k0_off55 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3949 : Index := Scalar.indexCast v9
  let c2_925 : Index := 2#32
  let c8_926 : Index := 8#32
  let c0_927 : Index := 0#32
  ![v3949.toNat, 2, 8, 0]
def k0_off56 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3965 : Index := Scalar.indexCast v9
  let c2_932 : Index := 2#32
  let c16_933 : Index := 16#32
  let c0_934 : Index := 0#32
  ![v3965.toNat, 2, 16, 0]
def k0_off57 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3981 : Index := Scalar.indexCast v9
  let c2_940 : Index := 2#32
  let c24_941 : Index := 24#32
  let c0_942 : Index := 0#32
  ![v3981.toNat, 2, 24, 0]
def k0_off58 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3997 : Index := Scalar.indexCast v9
  let c4_948 : Index := 4#32
  let c0_949 : Index := 0#32
  let c0_950 : Index := 0#32
  ![v3997.toNat, 4, 0, 0]
def k0_off59 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4013 : Index := Scalar.indexCast v9
  let c4_955 : Index := 4#32
  let c8_956 : Index := 8#32
  let c0_957 : Index := 0#32
  ![v4013.toNat, 4, 8, 0]
def k0_off60 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4029 : Index := Scalar.indexCast v9
  let c4_962 : Index := 4#32
  let c16_963 : Index := 16#32
  let c0_964 : Index := 0#32
  ![v4029.toNat, 4, 16, 0]
def k0_off61 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4045 : Index := Scalar.indexCast v9
  let c4_970 : Index := 4#32
  let c24_971 : Index := 24#32
  let c0_972 : Index := 0#32
  ![v4045.toNat, 4, 24, 0]
def k0_off62 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4061 : Index := Scalar.indexCast v9
  let c6_978 : Index := 6#32
  let c0_979 : Index := 0#32
  let c0_980 : Index := 0#32
  ![v4061.toNat, 6, 0, 0]
def k0_off63 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4077 : Index := Scalar.indexCast v9
  let c6_985 : Index := 6#32
  let c8_986 : Index := 8#32
  let c0_987 : Index := 0#32
  ![v4077.toNat, 6, 8, 0]
def k0_off64 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4093 : Index := Scalar.indexCast v9
  let c6_992 : Index := 6#32
  let c16_993 : Index := 16#32
  let c0_994 : Index := 0#32
  ![v4093.toNat, 6, 16, 0]
def k0_off65 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4109 : Index := Scalar.indexCast v9
  let c6_1000 : Index := 6#32
  let c24_1001 : Index := 24#32
  let c0_1002 : Index := 0#32
  ![v4109.toNat, 6, 24, 0]
def k0_off66 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4445 : Index := Scalar.indexCast v9
  let c1_1080 : Index := 1#32
  let c0_1081 : Index := 0#32
  let c0_1082 : Index := 0#32
  ![v4445.toNat, 1, 0, 0]
def k0_off67 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4461 : Index := Scalar.indexCast v9
  let c1_1087 : Index := 1#32
  let c8_1088 : Index := 8#32
  let c0_1089 : Index := 0#32
  ![v4461.toNat, 1, 8, 0]
def k0_off68 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4477 : Index := Scalar.indexCast v9
  let c1_1094 : Index := 1#32
  let c16_1095 : Index := 16#32
  let c0_1096 : Index := 0#32
  ![v4477.toNat, 1, 16, 0]
def k0_off69 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4493 : Index := Scalar.indexCast v9
  let c1_1102 : Index := 1#32
  let c24_1103 : Index := 24#32
  let c0_1104 : Index := 0#32
  ![v4493.toNat, 1, 24, 0]
def k0_off70 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4509 : Index := Scalar.indexCast v9
  let c3_1110 : Index := 3#32
  let c0_1111 : Index := 0#32
  let c0_1112 : Index := 0#32
  ![v4509.toNat, 3, 0, 0]
def k0_off71 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4525 : Index := Scalar.indexCast v9
  let c3_1117 : Index := 3#32
  let c8_1118 : Index := 8#32
  let c0_1119 : Index := 0#32
  ![v4525.toNat, 3, 8, 0]
def k0_off72 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4541 : Index := Scalar.indexCast v9
  let c3_1124 : Index := 3#32
  let c16_1125 : Index := 16#32
  let c0_1126 : Index := 0#32
  ![v4541.toNat, 3, 16, 0]
def k0_off73 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4557 : Index := Scalar.indexCast v9
  let c3_1132 : Index := 3#32
  let c24_1133 : Index := 24#32
  let c0_1134 : Index := 0#32
  ![v4557.toNat, 3, 24, 0]
def k0_off74 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4573 : Index := Scalar.indexCast v9
  let c5_1140 : Index := 5#32
  let c0_1141 : Index := 0#32
  let c0_1142 : Index := 0#32
  ![v4573.toNat, 5, 0, 0]
def k0_off75 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4589 : Index := Scalar.indexCast v9
  let c5_1147 : Index := 5#32
  let c8_1148 : Index := 8#32
  let c0_1149 : Index := 0#32
  ![v4589.toNat, 5, 8, 0]
def k0_off76 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4605 : Index := Scalar.indexCast v9
  let c5_1154 : Index := 5#32
  let c16_1155 : Index := 16#32
  let c0_1156 : Index := 0#32
  ![v4605.toNat, 5, 16, 0]
def k0_off77 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4621 : Index := Scalar.indexCast v9
  let c5_1162 : Index := 5#32
  let c24_1163 : Index := 24#32
  let c0_1164 : Index := 0#32
  ![v4621.toNat, 5, 24, 0]
def k0_off78 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4637 : Index := Scalar.indexCast v9
  let c7_1170 : Index := 7#32
  let c0_1171 : Index := 0#32
  let c0_1172 : Index := 0#32
  ![v4637.toNat, 7, 0, 0]
def k0_off79 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4653 : Index := Scalar.indexCast v9
  let c7_1177 : Index := 7#32
  let c8_1178 : Index := 8#32
  let c0_1179 : Index := 0#32
  ![v4653.toNat, 7, 8, 0]
def k0_off80 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4669 : Index := Scalar.indexCast v9
  let c7_1184 : Index := 7#32
  let c16_1185 : Index := 16#32
  let c0_1186 : Index := 0#32
  ![v4669.toNat, 7, 16, 0]
def k0_off81 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4685 : Index := Scalar.indexCast v9
  let c7_1192 : Index := 7#32
  let c24_1193 : Index := 24#32
  let c0_1194 : Index := 0#32
  ![v4685.toNat, 7, 24, 0]
def k0_off82 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5191 : Index := Scalar.indexCast v9
  let c8_1399 : Index := 8#32
  let c0_1400 : Index := 0#32
  let c0_1401 : Index := 0#32
  ![v5191.toNat, 8, 0, 0]
def k0_off83 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5206 : Index := Scalar.indexCast v9
  let c8_1407 : Index := 8#32
  let c8_1408 : Index := 8#32
  let c0_1409 : Index := 0#32
  ![v5206.toNat, 8, 8, 0]
def k0_off84 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5222 : Index := Scalar.indexCast v9
  let c8_1415 : Index := 8#32
  let c16_1416 : Index := 16#32
  let c0_1417 : Index := 0#32
  ![v5222.toNat, 8, 16, 0]
def k0_off85 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5237 : Index := Scalar.indexCast v9
  let c8_1423 : Index := 8#32
  let c24_1424 : Index := 24#32
  let c0_1425 : Index := 0#32
  ![v5237.toNat, 8, 24, 0]
def k0_off86 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5253 : Index := Scalar.indexCast v9
  let c10_1431 : Index := 10#32
  let c0_1432 : Index := 0#32
  let c0_1433 : Index := 0#32
  ![v5253.toNat, 10, 0, 0]
def k0_off87 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5269 : Index := Scalar.indexCast v9
  let c10_1439 : Index := 10#32
  let c8_1440 : Index := 8#32
  let c0_1441 : Index := 0#32
  ![v5269.toNat, 10, 8, 0]
def k0_off88 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5285 : Index := Scalar.indexCast v9
  let c10_1447 : Index := 10#32
  let c16_1448 : Index := 16#32
  let c0_1449 : Index := 0#32
  ![v5285.toNat, 10, 16, 0]
def k0_off89 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5301 : Index := Scalar.indexCast v9
  let c10_1455 : Index := 10#32
  let c24_1456 : Index := 24#32
  let c0_1457 : Index := 0#32
  ![v5301.toNat, 10, 24, 0]
def k0_off90 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5317 : Index := Scalar.indexCast v9
  let c12_1463 : Index := 12#32
  let c0_1464 : Index := 0#32
  let c0_1465 : Index := 0#32
  ![v5317.toNat, 12, 0, 0]
def k0_off91 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5333 : Index := Scalar.indexCast v9
  let c12_1471 : Index := 12#32
  let c8_1472 : Index := 8#32
  let c0_1473 : Index := 0#32
  ![v5333.toNat, 12, 8, 0]
def k0_off92 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5349 : Index := Scalar.indexCast v9
  let c12_1479 : Index := 12#32
  let c16_1480 : Index := 16#32
  let c0_1481 : Index := 0#32
  ![v5349.toNat, 12, 16, 0]
def k0_off93 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5365 : Index := Scalar.indexCast v9
  let c12_1487 : Index := 12#32
  let c24_1488 : Index := 24#32
  let c0_1489 : Index := 0#32
  ![v5365.toNat, 12, 24, 0]
def k0_off94 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5381 : Index := Scalar.indexCast v9
  let c14_1495 : Index := 14#32
  let c0_1496 : Index := 0#32
  let c0_1497 : Index := 0#32
  ![v5381.toNat, 14, 0, 0]
def k0_off95 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5397 : Index := Scalar.indexCast v9
  let c14_1503 : Index := 14#32
  let c8_1504 : Index := 8#32
  let c0_1505 : Index := 0#32
  ![v5397.toNat, 14, 8, 0]
def k0_off96 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5413 : Index := Scalar.indexCast v9
  let c14_1511 : Index := 14#32
  let c16_1512 : Index := 16#32
  let c0_1513 : Index := 0#32
  ![v5413.toNat, 14, 16, 0]
def k0_off97 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5429 : Index := Scalar.indexCast v9
  let c14_1519 : Index := 14#32
  let c24_1520 : Index := 24#32
  let c0_1521 : Index := 0#32
  ![v5429.toNat, 14, 24, 0]
def k0_off98 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5765 : Index := Scalar.indexCast v9
  let c9_1655 : Index := 9#32
  let c0_1656 : Index := 0#32
  let c0_1657 : Index := 0#32
  ![v5765.toNat, 9, 0, 0]
def k0_off99 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5781 : Index := Scalar.indexCast v9
  let c9_1663 : Index := 9#32
  let c8_1664 : Index := 8#32
  let c0_1665 : Index := 0#32
  ![v5781.toNat, 9, 8, 0]
def k0_off100 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5797 : Index := Scalar.indexCast v9
  let c9_1671 : Index := 9#32
  let c16_1672 : Index := 16#32
  let c0_1673 : Index := 0#32
  ![v5797.toNat, 9, 16, 0]
def k0_off101 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5813 : Index := Scalar.indexCast v9
  let c9_1679 : Index := 9#32
  let c24_1680 : Index := 24#32
  let c0_1681 : Index := 0#32
  ![v5813.toNat, 9, 24, 0]
def k0_off102 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5829 : Index := Scalar.indexCast v9
  let c11_1687 : Index := 11#32
  let c0_1688 : Index := 0#32
  let c0_1689 : Index := 0#32
  ![v5829.toNat, 11, 0, 0]
def k0_off103 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5845 : Index := Scalar.indexCast v9
  let c11_1695 : Index := 11#32
  let c8_1696 : Index := 8#32
  let c0_1697 : Index := 0#32
  ![v5845.toNat, 11, 8, 0]
def k0_off104 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5861 : Index := Scalar.indexCast v9
  let c11_1703 : Index := 11#32
  let c16_1704 : Index := 16#32
  let c0_1705 : Index := 0#32
  ![v5861.toNat, 11, 16, 0]
def k0_off105 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5877 : Index := Scalar.indexCast v9
  let c11_1711 : Index := 11#32
  let c24_1712 : Index := 24#32
  let c0_1713 : Index := 0#32
  ![v5877.toNat, 11, 24, 0]
def k0_off106 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5893 : Index := Scalar.indexCast v9
  let c13_1719 : Index := 13#32
  let c0_1720 : Index := 0#32
  let c0_1721 : Index := 0#32
  ![v5893.toNat, 13, 0, 0]
def k0_off107 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5909 : Index := Scalar.indexCast v9
  let c13_1727 : Index := 13#32
  let c8_1728 : Index := 8#32
  let c0_1729 : Index := 0#32
  ![v5909.toNat, 13, 8, 0]
def k0_off108 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5925 : Index := Scalar.indexCast v9
  let c13_1735 : Index := 13#32
  let c16_1736 : Index := 16#32
  let c0_1737 : Index := 0#32
  ![v5925.toNat, 13, 16, 0]
def k0_off109 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5941 : Index := Scalar.indexCast v9
  let c13_1743 : Index := 13#32
  let c24_1744 : Index := 24#32
  let c0_1745 : Index := 0#32
  ![v5941.toNat, 13, 24, 0]
def k0_off110 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5957 : Index := Scalar.indexCast v9
  let c15_1751 : Index := 15#32
  let c0_1752 : Index := 0#32
  let c0_1753 : Index := 0#32
  ![v5957.toNat, 15, 0, 0]
def k0_off111 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5973 : Index := Scalar.indexCast v9
  let c15_1759 : Index := 15#32
  let c8_1760 : Index := 8#32
  let c0_1761 : Index := 0#32
  ![v5973.toNat, 15, 8, 0]
def k0_off112 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5989 : Index := Scalar.indexCast v9
  let c15_1767 : Index := 15#32
  let c16_1768 : Index := 16#32
  let c0_1769 : Index := 0#32
  ![v5989.toNat, 15, 16, 0]
def k0_off113 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6005 : Index := Scalar.indexCast v9
  let c15_1775 : Index := 15#32
  let c24_1776 : Index := 24#32
  let c0_1777 : Index := 0#32
  ![v6005.toNat, 15, 24, 0]
def k0_off114 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6511 : Index := Scalar.indexCast v9
  let c0_1934 : Index := 0#32
  let c32_1935 : Index := 32#32
  let c0_1936 : Index := 0#32
  ![v6511.toNat, 0, 32, 0]
def k0_off115 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6526 : Index := Scalar.indexCast v9
  let c0_1942 : Index := 0#32
  let c40_1943 : Index := 40#32
  let c0_1944 : Index := 0#32
  ![v6526.toNat, 0, 40, 0]
def k0_off116 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6542 : Index := Scalar.indexCast v9
  let c0_1950 : Index := 0#32
  let c48_1951 : Index := 48#32
  let c0_1952 : Index := 0#32
  ![v6542.toNat, 0, 48, 0]
def k0_off117 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6557 : Index := Scalar.indexCast v9
  let c0_1958 : Index := 0#32
  let c56_1959 : Index := 56#32
  let c0_1960 : Index := 0#32
  ![v6557.toNat, 0, 56, 0]
def k0_off118 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6573 : Index := Scalar.indexCast v9
  let c2_1966 : Index := 2#32
  let c32_1967 : Index := 32#32
  let c0_1968 : Index := 0#32
  ![v6573.toNat, 2, 32, 0]
def k0_off119 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6589 : Index := Scalar.indexCast v9
  let c2_1974 : Index := 2#32
  let c40_1975 : Index := 40#32
  let c0_1976 : Index := 0#32
  ![v6589.toNat, 2, 40, 0]
def k0_off120 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6605 : Index := Scalar.indexCast v9
  let c2_1982 : Index := 2#32
  let c48_1983 : Index := 48#32
  let c0_1984 : Index := 0#32
  ![v6605.toNat, 2, 48, 0]
def k0_off121 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6621 : Index := Scalar.indexCast v9
  let c2_1990 : Index := 2#32
  let c56_1991 : Index := 56#32
  let c0_1992 : Index := 0#32
  ![v6621.toNat, 2, 56, 0]
def k0_off122 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6637 : Index := Scalar.indexCast v9
  let c4_1998 : Index := 4#32
  let c32_1999 : Index := 32#32
  let c0_2000 : Index := 0#32
  ![v6637.toNat, 4, 32, 0]
def k0_off123 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6653 : Index := Scalar.indexCast v9
  let c4_2006 : Index := 4#32
  let c40_2007 : Index := 40#32
  let c0_2008 : Index := 0#32
  ![v6653.toNat, 4, 40, 0]
def k0_off124 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6669 : Index := Scalar.indexCast v9
  let c4_2014 : Index := 4#32
  let c48_2015 : Index := 48#32
  let c0_2016 : Index := 0#32
  ![v6669.toNat, 4, 48, 0]
def k0_off125 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6685 : Index := Scalar.indexCast v9
  let c4_2022 : Index := 4#32
  let c56_2023 : Index := 56#32
  let c0_2024 : Index := 0#32
  ![v6685.toNat, 4, 56, 0]
def k0_off126 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6701 : Index := Scalar.indexCast v9
  let c6_2030 : Index := 6#32
  let c32_2031 : Index := 32#32
  let c0_2032 : Index := 0#32
  ![v6701.toNat, 6, 32, 0]
def k0_off127 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6717 : Index := Scalar.indexCast v9
  let c6_2038 : Index := 6#32
  let c40_2039 : Index := 40#32
  let c0_2040 : Index := 0#32
  ![v6717.toNat, 6, 40, 0]
def k0_off128 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6733 : Index := Scalar.indexCast v9
  let c6_2046 : Index := 6#32
  let c48_2047 : Index := 48#32
  let c0_2048 : Index := 0#32
  ![v6733.toNat, 6, 48, 0]
def k0_off129 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6749 : Index := Scalar.indexCast v9
  let c6_2054 : Index := 6#32
  let c56_2055 : Index := 56#32
  let c0_2056 : Index := 0#32
  ![v6749.toNat, 6, 56, 0]
def k0_off130 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7085 : Index := Scalar.indexCast v9
  let c1_2134 : Index := 1#32
  let c32_2135 : Index := 32#32
  let c0_2136 : Index := 0#32
  ![v7085.toNat, 1, 32, 0]
def k0_off131 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7101 : Index := Scalar.indexCast v9
  let c1_2142 : Index := 1#32
  let c40_2143 : Index := 40#32
  let c0_2144 : Index := 0#32
  ![v7101.toNat, 1, 40, 0]
def k0_off132 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7117 : Index := Scalar.indexCast v9
  let c1_2150 : Index := 1#32
  let c48_2151 : Index := 48#32
  let c0_2152 : Index := 0#32
  ![v7117.toNat, 1, 48, 0]
def k0_off133 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7133 : Index := Scalar.indexCast v9
  let c1_2158 : Index := 1#32
  let c56_2159 : Index := 56#32
  let c0_2160 : Index := 0#32
  ![v7133.toNat, 1, 56, 0]
def k0_off134 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7149 : Index := Scalar.indexCast v9
  let c3_2166 : Index := 3#32
  let c32_2167 : Index := 32#32
  let c0_2168 : Index := 0#32
  ![v7149.toNat, 3, 32, 0]
def k0_off135 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7165 : Index := Scalar.indexCast v9
  let c3_2174 : Index := 3#32
  let c40_2175 : Index := 40#32
  let c0_2176 : Index := 0#32
  ![v7165.toNat, 3, 40, 0]
def k0_off136 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7181 : Index := Scalar.indexCast v9
  let c3_2182 : Index := 3#32
  let c48_2183 : Index := 48#32
  let c0_2184 : Index := 0#32
  ![v7181.toNat, 3, 48, 0]
def k0_off137 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7197 : Index := Scalar.indexCast v9
  let c3_2190 : Index := 3#32
  let c56_2191 : Index := 56#32
  let c0_2192 : Index := 0#32
  ![v7197.toNat, 3, 56, 0]
def k0_off138 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7213 : Index := Scalar.indexCast v9
  let c5_2198 : Index := 5#32
  let c32_2199 : Index := 32#32
  let c0_2200 : Index := 0#32
  ![v7213.toNat, 5, 32, 0]
def k0_off139 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7229 : Index := Scalar.indexCast v9
  let c5_2206 : Index := 5#32
  let c40_2207 : Index := 40#32
  let c0_2208 : Index := 0#32
  ![v7229.toNat, 5, 40, 0]
def k0_off140 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7245 : Index := Scalar.indexCast v9
  let c5_2214 : Index := 5#32
  let c48_2215 : Index := 48#32
  let c0_2216 : Index := 0#32
  ![v7245.toNat, 5, 48, 0]
def k0_off141 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7261 : Index := Scalar.indexCast v9
  let c5_2222 : Index := 5#32
  let c56_2223 : Index := 56#32
  let c0_2224 : Index := 0#32
  ![v7261.toNat, 5, 56, 0]
def k0_off142 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7277 : Index := Scalar.indexCast v9
  let c7_2230 : Index := 7#32
  let c32_2231 : Index := 32#32
  let c0_2232 : Index := 0#32
  ![v7277.toNat, 7, 32, 0]
def k0_off143 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7293 : Index := Scalar.indexCast v9
  let c7_2238 : Index := 7#32
  let c40_2239 : Index := 40#32
  let c0_2240 : Index := 0#32
  ![v7293.toNat, 7, 40, 0]
def k0_off144 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7309 : Index := Scalar.indexCast v9
  let c7_2246 : Index := 7#32
  let c48_2247 : Index := 48#32
  let c0_2248 : Index := 0#32
  ![v7309.toNat, 7, 48, 0]
def k0_off145 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7325 : Index := Scalar.indexCast v9
  let c7_2254 : Index := 7#32
  let c56_2255 : Index := 56#32
  let c0_2256 : Index := 0#32
  ![v7325.toNat, 7, 56, 0]
def k0_off146 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7831 : Index := Scalar.indexCast v9
  let c8_2470 : Index := 8#32
  let c32_2471 : Index := 32#32
  let c0_2472 : Index := 0#32
  ![v7831.toNat, 8, 32, 0]
def k0_off147 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7846 : Index := Scalar.indexCast v9
  let c8_2478 : Index := 8#32
  let c40_2479 : Index := 40#32
  let c0_2480 : Index := 0#32
  ![v7846.toNat, 8, 40, 0]
def k0_off148 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7862 : Index := Scalar.indexCast v9
  let c8_2486 : Index := 8#32
  let c48_2487 : Index := 48#32
  let c0_2488 : Index := 0#32
  ![v7862.toNat, 8, 48, 0]
def k0_off149 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7877 : Index := Scalar.indexCast v9
  let c8_2494 : Index := 8#32
  let c56_2495 : Index := 56#32
  let c0_2496 : Index := 0#32
  ![v7877.toNat, 8, 56, 0]
def k0_off150 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7893 : Index := Scalar.indexCast v9
  let c10_2502 : Index := 10#32
  let c32_2503 : Index := 32#32
  let c0_2504 : Index := 0#32
  ![v7893.toNat, 10, 32, 0]
def k0_off151 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7909 : Index := Scalar.indexCast v9
  let c10_2510 : Index := 10#32
  let c40_2511 : Index := 40#32
  let c0_2512 : Index := 0#32
  ![v7909.toNat, 10, 40, 0]
def k0_off152 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7925 : Index := Scalar.indexCast v9
  let c10_2518 : Index := 10#32
  let c48_2519 : Index := 48#32
  let c0_2520 : Index := 0#32
  ![v7925.toNat, 10, 48, 0]
def k0_off153 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7941 : Index := Scalar.indexCast v9
  let c10_2526 : Index := 10#32
  let c56_2527 : Index := 56#32
  let c0_2528 : Index := 0#32
  ![v7941.toNat, 10, 56, 0]
def k0_off154 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7957 : Index := Scalar.indexCast v9
  let c12_2534 : Index := 12#32
  let c32_2535 : Index := 32#32
  let c0_2536 : Index := 0#32
  ![v7957.toNat, 12, 32, 0]
def k0_off155 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7973 : Index := Scalar.indexCast v9
  let c12_2542 : Index := 12#32
  let c40_2543 : Index := 40#32
  let c0_2544 : Index := 0#32
  ![v7973.toNat, 12, 40, 0]
def k0_off156 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7989 : Index := Scalar.indexCast v9
  let c12_2550 : Index := 12#32
  let c48_2551 : Index := 48#32
  let c0_2552 : Index := 0#32
  ![v7989.toNat, 12, 48, 0]
def k0_off157 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8005 : Index := Scalar.indexCast v9
  let c12_2558 : Index := 12#32
  let c56_2559 : Index := 56#32
  let c0_2560 : Index := 0#32
  ![v8005.toNat, 12, 56, 0]
def k0_off158 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8021 : Index := Scalar.indexCast v9
  let c14_2566 : Index := 14#32
  let c32_2567 : Index := 32#32
  let c0_2568 : Index := 0#32
  ![v8021.toNat, 14, 32, 0]
def k0_off159 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8037 : Index := Scalar.indexCast v9
  let c14_2574 : Index := 14#32
  let c40_2575 : Index := 40#32
  let c0_2576 : Index := 0#32
  ![v8037.toNat, 14, 40, 0]
def k0_off160 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8053 : Index := Scalar.indexCast v9
  let c14_2582 : Index := 14#32
  let c48_2583 : Index := 48#32
  let c0_2584 : Index := 0#32
  ![v8053.toNat, 14, 48, 0]
def k0_off161 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8069 : Index := Scalar.indexCast v9
  let c14_2590 : Index := 14#32
  let c56_2591 : Index := 56#32
  let c0_2592 : Index := 0#32
  ![v8069.toNat, 14, 56, 0]
def k0_off162 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8405 : Index := Scalar.indexCast v9
  let c9_2726 : Index := 9#32
  let c32_2727 : Index := 32#32
  let c0_2728 : Index := 0#32
  ![v8405.toNat, 9, 32, 0]
def k0_off163 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8421 : Index := Scalar.indexCast v9
  let c9_2734 : Index := 9#32
  let c40_2735 : Index := 40#32
  let c0_2736 : Index := 0#32
  ![v8421.toNat, 9, 40, 0]
def k0_off164 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8437 : Index := Scalar.indexCast v9
  let c9_2742 : Index := 9#32
  let c48_2743 : Index := 48#32
  let c0_2744 : Index := 0#32
  ![v8437.toNat, 9, 48, 0]
def k0_off165 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8453 : Index := Scalar.indexCast v9
  let c9_2750 : Index := 9#32
  let c56_2751 : Index := 56#32
  let c0_2752 : Index := 0#32
  ![v8453.toNat, 9, 56, 0]
def k0_off166 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8469 : Index := Scalar.indexCast v9
  let c11_2758 : Index := 11#32
  let c32_2759 : Index := 32#32
  let c0_2760 : Index := 0#32
  ![v8469.toNat, 11, 32, 0]
def k0_off167 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8485 : Index := Scalar.indexCast v9
  let c11_2766 : Index := 11#32
  let c40_2767 : Index := 40#32
  let c0_2768 : Index := 0#32
  ![v8485.toNat, 11, 40, 0]
def k0_off168 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8501 : Index := Scalar.indexCast v9
  let c11_2774 : Index := 11#32
  let c48_2775 : Index := 48#32
  let c0_2776 : Index := 0#32
  ![v8501.toNat, 11, 48, 0]
def k0_off169 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8517 : Index := Scalar.indexCast v9
  let c11_2782 : Index := 11#32
  let c56_2783 : Index := 56#32
  let c0_2784 : Index := 0#32
  ![v8517.toNat, 11, 56, 0]
def k0_off170 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8533 : Index := Scalar.indexCast v9
  let c13_2790 : Index := 13#32
  let c32_2791 : Index := 32#32
  let c0_2792 : Index := 0#32
  ![v8533.toNat, 13, 32, 0]
def k0_off171 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8549 : Index := Scalar.indexCast v9
  let c13_2798 : Index := 13#32
  let c40_2799 : Index := 40#32
  let c0_2800 : Index := 0#32
  ![v8549.toNat, 13, 40, 0]
def k0_off172 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8565 : Index := Scalar.indexCast v9
  let c13_2806 : Index := 13#32
  let c48_2807 : Index := 48#32
  let c0_2808 : Index := 0#32
  ![v8565.toNat, 13, 48, 0]
def k0_off173 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8581 : Index := Scalar.indexCast v9
  let c13_2814 : Index := 13#32
  let c56_2815 : Index := 56#32
  let c0_2816 : Index := 0#32
  ![v8581.toNat, 13, 56, 0]
def k0_off174 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8597 : Index := Scalar.indexCast v9
  let c15_2822 : Index := 15#32
  let c32_2823 : Index := 32#32
  let c0_2824 : Index := 0#32
  ![v8597.toNat, 15, 32, 0]
def k0_off175 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8613 : Index := Scalar.indexCast v9
  let c15_2830 : Index := 15#32
  let c40_2831 : Index := 40#32
  let c0_2832 : Index := 0#32
  ![v8613.toNat, 15, 40, 0]
def k0_off176 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8629 : Index := Scalar.indexCast v9
  let c15_2838 : Index := 15#32
  let c48_2839 : Index := 48#32
  let c0_2840 : Index := 0#32
  ![v8629.toNat, 15, 48, 0]
def k0_off177 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8645 : Index := Scalar.indexCast v9
  let c15_2846 : Index := 15#32
  let c56_2847 : Index := 56#32
  let c0_2848 : Index := 0#32
  ![v8645.toNat, 15, 56, 0]
def cc0_transform_0 (i : grid0.Coords) : Fin 3 → Nat :=
  let arg0 : BitVec 32 := BitVec.ofNat 32 (i 0).val
  let c71_i32 : BitVec 32 := 71#32
  let v0 : BitVec 32 := Scalar.minsi arg0 c71_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c71_i32 : BitVec 32 := 71#32
  let v0 : BitVec 32 := Scalar.minsi arg0 c71_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 3 → Nat :=
  let arg0 : BitVec 32 := BitVec.ofNat 32 (i 0).val
  let c71_i32 : BitVec 32 := 71#32
  let v0 : BitVec 32 := Scalar.minsi arg0 c71_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c9_i32_0 : BitVec 32 := 9#32
  let v2 : BitVec 32 := Scalar.divsi v1 c9_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c9_i32_0 c0_i32_3
  let v9 : BitVec 32 := Scalar.extui v8
  let c0_i32_4 : BitVec 32 := 0#32
  let v10 : BitVec 1 := Scalar.cmpi .slt c9_i32_0 c0_i32_4
  let v11 : BitVec 32 := Scalar.extui v10
  let v12 : BitVec 32 := Scalar.subi v9 v11
  let v13 : BitVec 1 := Scalar.cmpi .ne v7 v12
  let v14 : BitVec 32 := Scalar.remsi v1 c9_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c9_i32_6 : BitVec 32 := 9#32
  let c0_i32_7 : BitVec 32 := 0#32
  let v19 : BitVec 1 := Scalar.cmpi .eq c9_i32_6 c0_i32_7
  let c1_i32_8 : BitVec 32 := 1#32
  let v20 : BitVec 32 := Scalar.select v19 c1_i32_8 c9_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_4 (i : grid0.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c9_i32_0 : BitVec 32 := 9#32
  let v2 : BitVec 32 := Scalar.divsi v1 c9_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c9_i32_0 c0_i32_3
  let v9 : BitVec 32 := Scalar.extui v8
  let c0_i32_4 : BitVec 32 := 0#32
  let v10 : BitVec 1 := Scalar.cmpi .slt c9_i32_0 c0_i32_4
  let v11 : BitVec 32 := Scalar.extui v10
  let v12 : BitVec 32 := Scalar.subi v9 v11
  let v13 : BitVec 1 := Scalar.cmpi .ne v7 v12
  let v14 : BitVec 32 := Scalar.remsi v1 c9_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c9_i32_6 : BitVec 32 := 9#32
  let c0_i32_7 : BitVec 32 := 0#32
  let v19 : BitVec 1 := Scalar.cmpi .eq c9_i32_6 c0_i32_7
  let c1_i32_8 : BitVec 32 := 1#32
  let v20 : BitVec 32 := Scalar.select v19 c1_i32_8 c9_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_5 (i : grid0.Coords) : Fin 3 → Nat :=
  let arg0 : BitVec 32 := BitVec.ofNat 32 (i 0).val
  let c71_i32 : BitVec 32 := 71#32
  let v0 : BitVec 32 := Scalar.minsi arg0 c71_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
abbrev S8x1152x2048 : Shape := ⟨3, ![8, 1152, 2048]⟩
abbrev S8x1152x256 : Shape := ⟨3, ![8, 1152, 256]⟩
abbrev S8 : Shape := ⟨1, ![8]⟩
abbrev S1x128x2048 : Shape := ⟨3, ![1, 128, 2048]⟩
abbrev S1x128x256 : Shape := ⟨3, ![1, 128, 256]⟩
abbrev S9x16x128x128 : Shape := ⟨4, ![9, 16, 128, 128]⟩
abbrev S9x16x64x128 : Shape := ⟨4, ![9, 16, 64, 128]⟩
abbrev S9x16x64x2x128 : Shape := ⟨5, ![9, 16, 64, 2, 128]⟩
abbrev S9x16x64x1x128 : Shape := ⟨5, ![9, 16, 64, 1, 128]⟩
abbrev S2x128x128 : Shape := ⟨3, ![2, 128, 128]⟩
abbrev S4352x128 : Shape := ⟨2, ![4352, 128]⟩
abbrev S64x128 : Shape := ⟨2, ![64, 128]⟩
abbrev S256x256 : Shape := ⟨2, ![256, 256]⟩
abbrev S16x128 : Shape := ⟨2, ![16, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S1x1 : Shape := ⟨2, ![1, 1]⟩
abbrev S1x128 : Shape := ⟨2, ![1, 128]⟩
abbrev S128x128 : Shape := ⟨2, ![128, 128]⟩
abbrev S1x1x64x128 : Shape := ⟨4, ![1, 1, 64, 128]⟩
abbrev S1x1x64x2x128 : Shape := ⟨5, ![1, 1, 64, 2, 128]⟩
abbrev S1x1x64x1x128 : Shape := ⟨5, ![1, 1, 64, 1, 128]⟩
abbrev S128x256 : Shape := ⟨2, ![128, 256]⟩
abbrev S1x1x128x128 : Shape := ⟨4, ![1, 1, 128, 128]⟩
abbrev S1x128x128 : Shape := ⟨3, ![1, 128, 128]⟩
abbrev S32x128 : Shape := ⟨2, ![32, 128]⟩
abbrev S128x128x1 : Shape := ⟨3, ![128, 128, 1]⟩
abbrev S16x8x128 : Shape := ⟨3, ![16, 8, 128]⟩
abbrev S1x1x8x128 : Shape := ⟨4, ![1, 1, 8, 128]⟩
abbrev S1x1x8x2x128 : Shape := ⟨5, ![1, 1, 8, 2, 128]⟩
abbrev S1x1x8x1x128 : Shape := ⟨5, ![1, 1, 8, 1, 128]⟩
abbrev S8x128x1 : Shape := ⟨3, ![8, 128, 1]⟩

abbrev nBuf : Space → Nat
  | .hbm => 7
  | .vmem => 22
  | .smem => 1
  | _ => 0

abbrev bufTy : (tb : Table) → Fin (tcTables nBuf tb) → BufTy
  | .hbm, ⟨0, _⟩ => ⟨S8x1152x2048, .f32⟩
  | .hbm, ⟨1, _⟩ => ⟨S8x1152x256, .i8⟩
  | .hbm, ⟨2, _⟩ => ⟨S8x1152x2048, .f32⟩
  | .hbm, ⟨3, _⟩ => ⟨S8x1152x2048, .f32⟩
  | .hbm, ⟨4, _⟩ => ⟨S8x1152x2048, .f32⟩
  | .hbm, ⟨5, _⟩ => ⟨S8x1152x256, .i8⟩
  | .hbm, ⟨6, _⟩ => ⟨S8, .f32⟩
  | .local _ .vmem, ⟨0, _⟩ => ⟨S1x128x2048, .f32⟩
  | .local _ .vmem, ⟨1, _⟩ => ⟨S1x128x2048, .f32⟩
  | .local _ .vmem, ⟨2, _⟩ => ⟨S1x128x256, .i8⟩
  | .local _ .vmem, ⟨3, _⟩ => ⟨S1x128x256, .i8⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x256, .i8⟩
  | .local _ .vmem, ⟨11, _⟩ => ⟨S1x128x256, .i8⟩
  | .local _ .vmem, ⟨12, _⟩ => ⟨S9x16x128x128, .f32⟩
  | .local _ .vmem, ⟨13, _⟩ => ⟨S9x16x128x128, .i32⟩
  | .local _ .vmem, ⟨14, _⟩ => ⟨S9x16x64x2x128, .bf16⟩
  | .local _ .vmem, ⟨15, _⟩ => ⟨S2x128x128, .i32⟩
  | .local _ .vmem, ⟨16, _⟩ => ⟨S4352x128, .f32⟩
  | .local _ .vmem, ⟨17, _⟩ => ⟨S64x128, .i32⟩
  | .local _ .vmem, ⟨18, _⟩ => ⟨S256x256, .f32⟩
  | .local _ .vmem, ⟨19, _⟩ => ⟨S256x256, .bf16⟩
  | .local _ .vmem, ⟨20, _⟩ => ⟨S16x128, .f32⟩
  | .local _ .vmem, ⟨21, _⟩ => ⟨S8x128, .f32⟩
  | .local _ .smem, ⟨0, _⟩ => ⟨S8, .f32⟩
  | _, _ => ⟨S8x1152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![81], ![false]⟩

def k0_cond2 (i : grid0.Coords) : BitVec 1 :=
  let arg0 : BitVec 32 := BitVec.ofNat 32 (i 0).val
  let c0_i32_5 : BitVec 32 := 0#32
  let v15 : BitVec 1 := Scalar.cmpi .sgt arg0 c0_i32_5
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_6 : BitVec 32 := 0#32
  let v16 : BitVec 1 := Scalar.cmpi .eq v9 c0_i32_6
  let v17 : BitVec 1 := Scalar.andi v15 v16
  let v18 : BitVec 32 := Scalar.extui v17
  let c0_i32_7 : BitVec 32 := 0#32
  let v19 : BitVec 1 := Scalar.cmpi .ne v18 c0_i32_7
  v19

def k0_off1 (i : grid0.Coords) : Fin 1 → Nat :=
  let arg0 : BitVec 32 := BitVec.ofNat 32 (i 0).val
  let c0_i32_19 : BitVec 32 := 0#32
  let v50 : BitVec 1 := Scalar.cmpi .sgt arg0 c0_i32_19
  let v51 : BitVec 32 := Scalar.extui v50
  let c0_i32_20 : BitVec 32 := 0#32
  let v52 : BitVec 1 := Scalar.cmpi .slt arg0 c0_i32_20
  let v53 : BitVec 32 := Scalar.extui v52
  let v54 : BitVec 32 := Scalar.subi v51 v53
  let c9_i32_18 : BitVec 32 := 9#32
  let c0_i32_21 : BitVec 32 := 0#32
  let v55 : BitVec 1 := Scalar.cmpi .sgt c9_i32_18 c0_i32_21
  let v56 : BitVec 32 := Scalar.extui v55
  let c0_i32_22 : BitVec 32 := 0#32
  let v57 : BitVec 1 := Scalar.cmpi .slt c9_i32_18 c0_i32_22
  let v58 : BitVec 32 := Scalar.extui v57
  let v59 : BitVec 32 := Scalar.subi v56 v58
  let v60 : BitVec 1 := Scalar.cmpi .ne v54 v59
  let v61 : BitVec 32 := Scalar.remsi arg0 c9_i32_18
  let c0_i32_23 : BitVec 32 := 0#32
  let v62 : BitVec 1 := Scalar.cmpi .ne v61 c0_i32_23
  let v63 : BitVec 1 := Scalar.andi v60 v62
  let v49 : BitVec 32 := Scalar.divsi arg0 c9_i32_18
  let c1_i32_24 : BitVec 32 := 1#32
  let v64 : BitVec 32 := Scalar.subi v49 c1_i32_24
  let v65 : BitVec 32 := Scalar.select v63 v64 v49
  let c1_i32_25 : BitVec 32 := 1#32
  let v66 : BitVec 32 := Scalar.subi v65 c1_i32_25
  let v67 : Index := Scalar.indexCast v66
  ![v67.toNat]
def k0_cond3 (i : grid0.Coords) : BitVec 1 :=
  let arg0 : BitVec 32 := BitVec.ofNat 32 (i 0).val
  let c9_i32_8 : BitVec 32 := 9#32
  let v20 : BitVec 1 := Scalar.cmpi .sge arg0 c9_i32_8
  let v21 : BitVec 32 := Scalar.extui v20
  let c0_i32_9 : BitVec 32 := 0#32
  let v22 : BitVec 1 := Scalar.cmpi .ne v21 c0_i32_9
  v22

def k0_off2 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : Index := Scalar.indexCast v9
  let c0_14 : Index := 0#32
  let c0_15 : Index := 0#32
  let c0_16 : Index := 0#32
  ![v30.toNat, 0, 0, 0, 0]
def k0_off3 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v34 : Index := Scalar.indexCast v9
  let c1 : Index := 1#32
  let c0_17 : Index := 0#32
  let c0_18 : Index := 0#32
  ![v34.toNat, 1, 0, 0, 0]
def k0_off4 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v39 : Index := Scalar.indexCast v9
  let c4 : Index := 4#32
  let c0_19 : Index := 0#32
  let c0_20 : Index := 0#32
  ![v39.toNat, 4, 0, 0, 0]
def k0_off5 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : Index := Scalar.indexCast v9
  let c5 : Index := 5#32
  let c0_21 : Index := 0#32
  let c0_22 : Index := 0#32
  ![v43.toNat, 5, 0, 0, 0]
def k0_off6 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v48 : Index := Scalar.indexCast v9
  let c8 : Index := 8#32
  let c0_23 : Index := 0#32
  let c0_24 : Index := 0#32
  ![v48.toNat, 8, 0, 0, 0]
def k0_off7 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v52 : Index := Scalar.indexCast v9
  let c9 : Index := 9#32
  let c0_25 : Index := 0#32
  let c0_26 : Index := 0#32
  ![v52.toNat, 9, 0, 0, 0]
def k0_off8 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v57 : Index := Scalar.indexCast v9
  let c12 : Index := 12#32
  let c0_27 : Index := 0#32
  let c0_28 : Index := 0#32
  ![v57.toNat, 12, 0, 0, 0]
def k0_off9 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v61 : Index := Scalar.indexCast v9
  let c13 : Index := 13#32
  let c0_29 : Index := 0#32
  let c0_30 : Index := 0#32
  ![v61.toNat, 13, 0, 0, 0]
def k0_off10 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v78 : Index := Scalar.indexCast v9
  let c2 : Index := 2#32
  let c0_32 : Index := 0#32
  let c0_33 : Index := 0#32
  ![v78.toNat, 2, 0, 0, 0]
def k0_off11 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v82 : Index := Scalar.indexCast v9
  let c3 : Index := 3#32
  let c0_34 : Index := 0#32
  let c0_35 : Index := 0#32
  ![v82.toNat, 3, 0, 0, 0]
def k0_off12 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v87 : Index := Scalar.indexCast v9
  let c6 : Index := 6#32
  let c0_36 : Index := 0#32
  let c0_37 : Index := 0#32
  ![v87.toNat, 6, 0, 0, 0]
def k0_off13 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v91 : Index := Scalar.indexCast v9
  let c7 : Index := 7#32
  let c0_38 : Index := 0#32
  let c0_39 : Index := 0#32
  ![v91.toNat, 7, 0, 0, 0]
def k0_off14 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v96 : Index := Scalar.indexCast v9
  let c10 : Index := 10#32
  let c0_40 : Index := 0#32
  let c0_41 : Index := 0#32
  ![v96.toNat, 10, 0, 0, 0]
def k0_off15 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : Index := Scalar.indexCast v9
  let c11 : Index := 11#32
  let c0_42 : Index := 0#32
  let c0_43 : Index := 0#32
  ![v100.toNat, 11, 0, 0, 0]
def k0_off16 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v105 : Index := Scalar.indexCast v9
  let c14 : Index := 14#32
  let c0_44 : Index := 0#32
  let c0_45 : Index := 0#32
  ![v105.toNat, 14, 0, 0, 0]
def k0_off17 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v109 : Index := Scalar.indexCast v9
  let c15 : Index := 15#32
  let c0_46 : Index := 0#32
  let c0_47 : Index := 0#32
  ![v109.toNat, 15, 0, 0, 0]
def k0_off18 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v134 : Index := Scalar.indexCast v9
  let c0_56 : Index := 0#32
  let c0_57 : Index := 0#32
  let c0_58 : Index := 0#32
  ![v134.toNat, 0, 0, 0]
def k0_off19 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : Index := Scalar.indexCast v9
  let c1_70 : Index := 1#32
  let c0_71 : Index := 0#32
  let c0_72 : Index := 0#32
  ![v154.toNat, 1, 0, 0]
def k0_off20 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v174 : Index := Scalar.indexCast v9
  let c2_83 : Index := 2#32
  let c0_84 : Index := 0#32
  let c0_85 : Index := 0#32
  ![v174.toNat, 2, 0, 0]
def k0_off21 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v194 : Index := Scalar.indexCast v9
  let c3_96 : Index := 3#32
  let c0_97 : Index := 0#32
  let c0_98 : Index := 0#32
  ![v194.toNat, 3, 0, 0]
def k0_off22 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v220 : Index := Scalar.indexCast v9
  let c4_115 : Index := 4#32
  let c0_116 : Index := 0#32
  let c0_117 : Index := 0#32
  ![v220.toNat, 4, 0, 0]
def k0_off23 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v240 : Index := Scalar.indexCast v9
  let c5_128 : Index := 5#32
  let c0_129 : Index := 0#32
  let c0_130 : Index := 0#32
  ![v240.toNat, 5, 0, 0]
def k0_off24 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v260 : Index := Scalar.indexCast v9
  let c6_141 : Index := 6#32
  let c0_142 : Index := 0#32
  let c0_143 : Index := 0#32
  ![v260.toNat, 6, 0, 0]
def k0_off25 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v280 : Index := Scalar.indexCast v9
  let c7_154 : Index := 7#32
  let c0_155 : Index := 0#32
  let c0_156 : Index := 0#32
  ![v280.toNat, 7, 0, 0]
def k0_off26 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v306 : Index := Scalar.indexCast v9
  let c8_173 : Index := 8#32
  let c0_174 : Index := 0#32
  let c0_175 : Index := 0#32
  ![v306.toNat, 8, 0, 0]
def k0_off27 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v326 : Index := Scalar.indexCast v9
  let c9_186 : Index := 9#32
  let c0_187 : Index := 0#32
  let c0_188 : Index := 0#32
  ![v326.toNat, 9, 0, 0]
def k0_off28 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v346 : Index := Scalar.indexCast v9
  let c10_199 : Index := 10#32
  let c0_200 : Index := 0#32
  let c0_201 : Index := 0#32
  ![v346.toNat, 10, 0, 0]
def k0_off29 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v366 : Index := Scalar.indexCast v9
  let c11_212 : Index := 11#32
  let c0_213 : Index := 0#32
  let c0_214 : Index := 0#32
  ![v366.toNat, 11, 0, 0]
def k0_off30 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v392 : Index := Scalar.indexCast v9
  let c12_231 : Index := 12#32
  let c0_232 : Index := 0#32
  let c0_233 : Index := 0#32
  ![v392.toNat, 12, 0, 0]
def k0_off31 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v412 : Index := Scalar.indexCast v9
  let c13_244 : Index := 13#32
  let c0_245 : Index := 0#32
  let c0_246 : Index := 0#32
  ![v412.toNat, 13, 0, 0]
def k0_off32 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v432 : Index := Scalar.indexCast v9
  let c14_257 : Index := 14#32
  let c0_258 : Index := 0#32
  let c0_259 : Index := 0#32
  ![v432.toNat, 14, 0, 0]
def k0_off33 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v452 : Index := Scalar.indexCast v9
  let c15_270 : Index := 15#32
  let c0_271 : Index := 0#32
  let c0_272 : Index := 0#32
  ![v452.toNat, 15, 0, 0]
def k0_cond4 (i : grid0.Coords) : BitVec 1 :=
  let arg0 : BitVec 32 := BitVec.ofNat 32 (i 0).val
  let c72_i32 : BitVec 32 := 72#32
  let v23 : BitVec 1 := Scalar.cmpi .slt arg0 c72_i32
  let v24 : BitVec 32 := Scalar.extui v23
  let c0_i32_10 : BitVec 32 := 0#32
  let v25 : BitVec 1 := Scalar.cmpi .ne v24 c0_i32_10
  v25

def k0_off34 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v432 : Index := Scalar.indexCast v9
  let c0_134 : Index := 0#32
  let c0_135 : Index := 0#32
  let c0_136 : Index := 0#32
  ![v432.toNat, 0, 0, 0]
def k0_off35 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v553 : Index := Scalar.indexCast v9
  let c1_154 : Index := 1#32
  let c0_155 : Index := 0#32
  let c0_156 : Index := 0#32
  ![v553.toNat, 1, 0, 0]
def k0_off36 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v821 : Index := Scalar.indexCast v9
  let c2 : Index := 2#32
  let c0_218 : Index := 0#32
  let c0_219 : Index := 0#32
  ![v821.toNat, 2, 0, 0]
def k0_off37 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v942 : Index := Scalar.indexCast v9
  let c3 : Index := 3#32
  let c0_238 : Index := 0#32
  let c0_239 : Index := 0#32
  ![v942.toNat, 3, 0, 0]
def k0_off38 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1210 : Index := Scalar.indexCast v9
  let c4 : Index := 4#32
  let c0_301 : Index := 0#32
  let c0_302 : Index := 0#32
  ![v1210.toNat, 4, 0, 0]
def k0_off39 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1331 : Index := Scalar.indexCast v9
  let c5 : Index := 5#32
  let c0_321 : Index := 0#32
  let c0_322 : Index := 0#32
  ![v1331.toNat, 5, 0, 0]
def k0_off40 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1599 : Index := Scalar.indexCast v9
  let c6 : Index := 6#32
  let c0_384 : Index := 0#32
  let c0_385 : Index := 0#32
  ![v1599.toNat, 6, 0, 0]
def k0_off41 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1720 : Index := Scalar.indexCast v9
  let c7 : Index := 7#32
  let c0_404 : Index := 0#32
  let c0_405 : Index := 0#32
  ![v1720.toNat, 7, 0, 0]
def k0_off42 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1988 : Index := Scalar.indexCast v9
  let c8_467 : Index := 8#32
  let c0_468 : Index := 0#32
  let c0_469 : Index := 0#32
  ![v1988.toNat, 8, 0, 0]
def k0_off43 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2109 : Index := Scalar.indexCast v9
  let c9 : Index := 9#32
  let c0_489 : Index := 0#32
  let c0_490 : Index := 0#32
  ![v2109.toNat, 9, 0, 0]
def k0_off44 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2377 : Index := Scalar.indexCast v9
  let c10 : Index := 10#32
  let c0_553 : Index := 0#32
  let c0_554 : Index := 0#32
  ![v2377.toNat, 10, 0, 0]
def k0_off45 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2498 : Index := Scalar.indexCast v9
  let c11 : Index := 11#32
  let c0_574 : Index := 0#32
  let c0_575 : Index := 0#32
  ![v2498.toNat, 11, 0, 0]
def k0_off46 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2766 : Index := Scalar.indexCast v9
  let c12 : Index := 12#32
  let c0_638 : Index := 0#32
  let c0_639 : Index := 0#32
  ![v2766.toNat, 12, 0, 0]
def k0_off47 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2887 : Index := Scalar.indexCast v9
  let c13 : Index := 13#32
  let c0_659 : Index := 0#32
  let c0_660 : Index := 0#32
  ![v2887.toNat, 13, 0, 0]
def k0_off48 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3155 : Index := Scalar.indexCast v9
  let c14 : Index := 14#32
  let c0_723 : Index := 0#32
  let c0_724 : Index := 0#32
  ![v3155.toNat, 14, 0, 0]
def k0_off49 (i : grid0.Coords) : Fin 4 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3276 : Index := Scalar.indexCast v9
  let c15 : Index := 15#32
  let c0_744 : Index := 0#32
  let c0_745 : Index := 0#32
  ![v3276.toNat, 15, 0, 0]
def k0_off50 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3871 : Index := Scalar.indexCast v9
  let c0_889 : Index := 0#32
  let c0_890 : Index := 0#32
  let c0_891 : Index := 0#32
  ![v3871.toNat, 0, 0, 0, 0]
def k0_off51 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3886 : Index := Scalar.indexCast v9
  let c0_895 : Index := 0#32
  let c8_896 : Index := 8#32
  let c0_897 : Index := 0#32
  ![v3886.toNat, 0, 8, 0, 0]
def k0_off52 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3902 : Index := Scalar.indexCast v9
  let c0_902 : Index := 0#32
  let c16_903 : Index := 16#32
  let c0_904 : Index := 0#32
  ![v3902.toNat, 0, 16, 0, 0]
def k0_off53 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3917 : Index := Scalar.indexCast v9
  let c0_910 : Index := 0#32
  let c24_911 : Index := 24#32
  let c0_912 : Index := 0#32
  ![v3917.toNat, 0, 24, 0, 0]
def k0_off54 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3933 : Index := Scalar.indexCast v9
  let c2_918 : Index := 2#32
  let c0_919 : Index := 0#32
  let c0_920 : Index := 0#32
  ![v3933.toNat, 2, 0, 0, 0]
def k0_off55 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3949 : Index := Scalar.indexCast v9
  let c2_925 : Index := 2#32
  let c8_926 : Index := 8#32
  let c0_927 : Index := 0#32
  ![v3949.toNat, 2, 8, 0, 0]
def k0_off56 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3965 : Index := Scalar.indexCast v9
  let c2_932 : Index := 2#32
  let c16_933 : Index := 16#32
  let c0_934 : Index := 0#32
  ![v3965.toNat, 2, 16, 0, 0]
def k0_off57 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3981 : Index := Scalar.indexCast v9
  let c2_940 : Index := 2#32
  let c24_941 : Index := 24#32
  let c0_942 : Index := 0#32
  ![v3981.toNat, 2, 24, 0, 0]
def k0_off58 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3997 : Index := Scalar.indexCast v9
  let c4_948 : Index := 4#32
  let c0_949 : Index := 0#32
  let c0_950 : Index := 0#32
  ![v3997.toNat, 4, 0, 0, 0]
def k0_off59 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4013 : Index := Scalar.indexCast v9
  let c4_955 : Index := 4#32
  let c8_956 : Index := 8#32
  let c0_957 : Index := 0#32
  ![v4013.toNat, 4, 8, 0, 0]
def k0_off60 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4029 : Index := Scalar.indexCast v9
  let c4_962 : Index := 4#32
  let c16_963 : Index := 16#32
  let c0_964 : Index := 0#32
  ![v4029.toNat, 4, 16, 0, 0]
def k0_off61 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4045 : Index := Scalar.indexCast v9
  let c4_970 : Index := 4#32
  let c24_971 : Index := 24#32
  let c0_972 : Index := 0#32
  ![v4045.toNat, 4, 24, 0, 0]
def k0_off62 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4061 : Index := Scalar.indexCast v9
  let c6_978 : Index := 6#32
  let c0_979 : Index := 0#32
  let c0_980 : Index := 0#32
  ![v4061.toNat, 6, 0, 0, 0]
def k0_off63 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4077 : Index := Scalar.indexCast v9
  let c6_985 : Index := 6#32
  let c8_986 : Index := 8#32
  let c0_987 : Index := 0#32
  ![v4077.toNat, 6, 8, 0, 0]
def k0_off64 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4093 : Index := Scalar.indexCast v9
  let c6_992 : Index := 6#32
  let c16_993 : Index := 16#32
  let c0_994 : Index := 0#32
  ![v4093.toNat, 6, 16, 0, 0]
def k0_off65 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4109 : Index := Scalar.indexCast v9
  let c6_1000 : Index := 6#32
  let c24_1001 : Index := 24#32
  let c0_1002 : Index := 0#32
  ![v4109.toNat, 6, 24, 0, 0]
def k0_off66 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4445 : Index := Scalar.indexCast v9
  let c1_1080 : Index := 1#32
  let c0_1081 : Index := 0#32
  let c0_1082 : Index := 0#32
  ![v4445.toNat, 1, 0, 0, 0]
def k0_off67 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4461 : Index := Scalar.indexCast v9
  let c1_1087 : Index := 1#32
  let c8_1088 : Index := 8#32
  let c0_1089 : Index := 0#32
  ![v4461.toNat, 1, 8, 0, 0]
def k0_off68 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4477 : Index := Scalar.indexCast v9
  let c1_1094 : Index := 1#32
  let c16_1095 : Index := 16#32
  let c0_1096 : Index := 0#32
  ![v4477.toNat, 1, 16, 0, 0]
def k0_off69 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4493 : Index := Scalar.indexCast v9
  let c1_1102 : Index := 1#32
  let c24_1103 : Index := 24#32
  let c0_1104 : Index := 0#32
  ![v4493.toNat, 1, 24, 0, 0]
def k0_off70 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4509 : Index := Scalar.indexCast v9
  let c3_1110 : Index := 3#32
  let c0_1111 : Index := 0#32
  let c0_1112 : Index := 0#32
  ![v4509.toNat, 3, 0, 0, 0]
def k0_off71 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4525 : Index := Scalar.indexCast v9
  let c3_1117 : Index := 3#32
  let c8_1118 : Index := 8#32
  let c0_1119 : Index := 0#32
  ![v4525.toNat, 3, 8, 0, 0]
def k0_off72 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4541 : Index := Scalar.indexCast v9
  let c3_1124 : Index := 3#32
  let c16_1125 : Index := 16#32
  let c0_1126 : Index := 0#32
  ![v4541.toNat, 3, 16, 0, 0]
def k0_off73 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4557 : Index := Scalar.indexCast v9
  let c3_1132 : Index := 3#32
  let c24_1133 : Index := 24#32
  let c0_1134 : Index := 0#32
  ![v4557.toNat, 3, 24, 0, 0]
def k0_off74 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4573 : Index := Scalar.indexCast v9
  let c5_1140 : Index := 5#32
  let c0_1141 : Index := 0#32
  let c0_1142 : Index := 0#32
  ![v4573.toNat, 5, 0, 0, 0]
def k0_off75 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4589 : Index := Scalar.indexCast v9
  let c5_1147 : Index := 5#32
  let c8_1148 : Index := 8#32
  let c0_1149 : Index := 0#32
  ![v4589.toNat, 5, 8, 0, 0]
def k0_off76 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4605 : Index := Scalar.indexCast v9
  let c5_1154 : Index := 5#32
  let c16_1155 : Index := 16#32
  let c0_1156 : Index := 0#32
  ![v4605.toNat, 5, 16, 0, 0]
def k0_off77 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4621 : Index := Scalar.indexCast v9
  let c5_1162 : Index := 5#32
  let c24_1163 : Index := 24#32
  let c0_1164 : Index := 0#32
  ![v4621.toNat, 5, 24, 0, 0]
def k0_off78 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4637 : Index := Scalar.indexCast v9
  let c7_1170 : Index := 7#32
  let c0_1171 : Index := 0#32
  let c0_1172 : Index := 0#32
  ![v4637.toNat, 7, 0, 0, 0]
def k0_off79 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4653 : Index := Scalar.indexCast v9
  let c7_1177 : Index := 7#32
  let c8_1178 : Index := 8#32
  let c0_1179 : Index := 0#32
  ![v4653.toNat, 7, 8, 0, 0]
def k0_off80 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4669 : Index := Scalar.indexCast v9
  let c7_1184 : Index := 7#32
  let c16_1185 : Index := 16#32
  let c0_1186 : Index := 0#32
  ![v4669.toNat, 7, 16, 0, 0]
def k0_off81 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4685 : Index := Scalar.indexCast v9
  let c7_1192 : Index := 7#32
  let c24_1193 : Index := 24#32
  let c0_1194 : Index := 0#32
  ![v4685.toNat, 7, 24, 0, 0]
def k0_off82 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5191 : Index := Scalar.indexCast v9
  let c8_1399 : Index := 8#32
  let c0_1400 : Index := 0#32
  let c0_1401 : Index := 0#32
  ![v5191.toNat, 8, 0, 0, 0]
def k0_off83 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5206 : Index := Scalar.indexCast v9
  let c8_1407 : Index := 8#32
  let c8_1408 : Index := 8#32
  let c0_1409 : Index := 0#32
  ![v5206.toNat, 8, 8, 0, 0]
def k0_off84 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5222 : Index := Scalar.indexCast v9
  let c8_1415 : Index := 8#32
  let c16_1416 : Index := 16#32
  let c0_1417 : Index := 0#32
  ![v5222.toNat, 8, 16, 0, 0]
def k0_off85 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5237 : Index := Scalar.indexCast v9
  let c8_1423 : Index := 8#32
  let c24_1424 : Index := 24#32
  let c0_1425 : Index := 0#32
  ![v5237.toNat, 8, 24, 0, 0]
def k0_off86 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5253 : Index := Scalar.indexCast v9
  let c10_1431 : Index := 10#32
  let c0_1432 : Index := 0#32
  let c0_1433 : Index := 0#32
  ![v5253.toNat, 10, 0, 0, 0]
def k0_off87 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5269 : Index := Scalar.indexCast v9
  let c10_1439 : Index := 10#32
  let c8_1440 : Index := 8#32
  let c0_1441 : Index := 0#32
  ![v5269.toNat, 10, 8, 0, 0]
def k0_off88 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5285 : Index := Scalar.indexCast v9
  let c10_1447 : Index := 10#32
  let c16_1448 : Index := 16#32
  let c0_1449 : Index := 0#32
  ![v5285.toNat, 10, 16, 0, 0]
def k0_off89 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5301 : Index := Scalar.indexCast v9
  let c10_1455 : Index := 10#32
  let c24_1456 : Index := 24#32
  let c0_1457 : Index := 0#32
  ![v5301.toNat, 10, 24, 0, 0]
def k0_off90 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5317 : Index := Scalar.indexCast v9
  let c12_1463 : Index := 12#32
  let c0_1464 : Index := 0#32
  let c0_1465 : Index := 0#32
  ![v5317.toNat, 12, 0, 0, 0]
def k0_off91 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5333 : Index := Scalar.indexCast v9
  let c12_1471 : Index := 12#32
  let c8_1472 : Index := 8#32
  let c0_1473 : Index := 0#32
  ![v5333.toNat, 12, 8, 0, 0]
def k0_off92 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5349 : Index := Scalar.indexCast v9
  let c12_1479 : Index := 12#32
  let c16_1480 : Index := 16#32
  let c0_1481 : Index := 0#32
  ![v5349.toNat, 12, 16, 0, 0]
def k0_off93 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5365 : Index := Scalar.indexCast v9
  let c12_1487 : Index := 12#32
  let c24_1488 : Index := 24#32
  let c0_1489 : Index := 0#32
  ![v5365.toNat, 12, 24, 0, 0]
def k0_off94 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5381 : Index := Scalar.indexCast v9
  let c14_1495 : Index := 14#32
  let c0_1496 : Index := 0#32
  let c0_1497 : Index := 0#32
  ![v5381.toNat, 14, 0, 0, 0]
def k0_off95 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5397 : Index := Scalar.indexCast v9
  let c14_1503 : Index := 14#32
  let c8_1504 : Index := 8#32
  let c0_1505 : Index := 0#32
  ![v5397.toNat, 14, 8, 0, 0]
def k0_off96 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5413 : Index := Scalar.indexCast v9
  let c14_1511 : Index := 14#32
  let c16_1512 : Index := 16#32
  let c0_1513 : Index := 0#32
  ![v5413.toNat, 14, 16, 0, 0]
def k0_off97 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5429 : Index := Scalar.indexCast v9
  let c14_1519 : Index := 14#32
  let c24_1520 : Index := 24#32
  let c0_1521 : Index := 0#32
  ![v5429.toNat, 14, 24, 0, 0]
def k0_off98 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5765 : Index := Scalar.indexCast v9
  let c9_1655 : Index := 9#32
  let c0_1656 : Index := 0#32
  let c0_1657 : Index := 0#32
  ![v5765.toNat, 9, 0, 0, 0]
def k0_off99 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5781 : Index := Scalar.indexCast v9
  let c9_1663 : Index := 9#32
  let c8_1664 : Index := 8#32
  let c0_1665 : Index := 0#32
  ![v5781.toNat, 9, 8, 0, 0]
def k0_off100 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5797 : Index := Scalar.indexCast v9
  let c9_1671 : Index := 9#32
  let c16_1672 : Index := 16#32
  let c0_1673 : Index := 0#32
  ![v5797.toNat, 9, 16, 0, 0]
def k0_off101 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5813 : Index := Scalar.indexCast v9
  let c9_1679 : Index := 9#32
  let c24_1680 : Index := 24#32
  let c0_1681 : Index := 0#32
  ![v5813.toNat, 9, 24, 0, 0]
def k0_off102 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5829 : Index := Scalar.indexCast v9
  let c11_1687 : Index := 11#32
  let c0_1688 : Index := 0#32
  let c0_1689 : Index := 0#32
  ![v5829.toNat, 11, 0, 0, 0]
def k0_off103 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5845 : Index := Scalar.indexCast v9
  let c11_1695 : Index := 11#32
  let c8_1696 : Index := 8#32
  let c0_1697 : Index := 0#32
  ![v5845.toNat, 11, 8, 0, 0]
def k0_off104 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5861 : Index := Scalar.indexCast v9
  let c11_1703 : Index := 11#32
  let c16_1704 : Index := 16#32
  let c0_1705 : Index := 0#32
  ![v5861.toNat, 11, 16, 0, 0]
def k0_off105 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5877 : Index := Scalar.indexCast v9
  let c11_1711 : Index := 11#32
  let c24_1712 : Index := 24#32
  let c0_1713 : Index := 0#32
  ![v5877.toNat, 11, 24, 0, 0]
def k0_off106 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5893 : Index := Scalar.indexCast v9
  let c13_1719 : Index := 13#32
  let c0_1720 : Index := 0#32
  let c0_1721 : Index := 0#32
  ![v5893.toNat, 13, 0, 0, 0]
def k0_off107 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5909 : Index := Scalar.indexCast v9
  let c13_1727 : Index := 13#32
  let c8_1728 : Index := 8#32
  let c0_1729 : Index := 0#32
  ![v5909.toNat, 13, 8, 0, 0]
def k0_off108 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5925 : Index := Scalar.indexCast v9
  let c13_1735 : Index := 13#32
  let c16_1736 : Index := 16#32
  let c0_1737 : Index := 0#32
  ![v5925.toNat, 13, 16, 0, 0]
def k0_off109 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5941 : Index := Scalar.indexCast v9
  let c13_1743 : Index := 13#32
  let c24_1744 : Index := 24#32
  let c0_1745 : Index := 0#32
  ![v5941.toNat, 13, 24, 0, 0]
def k0_off110 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5957 : Index := Scalar.indexCast v9
  let c15_1751 : Index := 15#32
  let c0_1752 : Index := 0#32
  let c0_1753 : Index := 0#32
  ![v5957.toNat, 15, 0, 0, 0]
def k0_off111 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5973 : Index := Scalar.indexCast v9
  let c15_1759 : Index := 15#32
  let c8_1760 : Index := 8#32
  let c0_1761 : Index := 0#32
  ![v5973.toNat, 15, 8, 0, 0]
def k0_off112 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5989 : Index := Scalar.indexCast v9
  let c15_1767 : Index := 15#32
  let c16_1768 : Index := 16#32
  let c0_1769 : Index := 0#32
  ![v5989.toNat, 15, 16, 0, 0]
def k0_off113 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6005 : Index := Scalar.indexCast v9
  let c15_1775 : Index := 15#32
  let c24_1776 : Index := 24#32
  let c0_1777 : Index := 0#32
  ![v6005.toNat, 15, 24, 0, 0]
def k0_off114 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6511 : Index := Scalar.indexCast v9
  let c0_1934 : Index := 0#32
  let c32_1935 : Index := 32#32
  let c0_1936 : Index := 0#32
  ![v6511.toNat, 0, 32, 0, 0]
def k0_off115 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6526 : Index := Scalar.indexCast v9
  let c0_1942 : Index := 0#32
  let c40_1943 : Index := 40#32
  let c0_1944 : Index := 0#32
  ![v6526.toNat, 0, 40, 0, 0]
def k0_off116 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6542 : Index := Scalar.indexCast v9
  let c0_1950 : Index := 0#32
  let c48_1951 : Index := 48#32
  let c0_1952 : Index := 0#32
  ![v6542.toNat, 0, 48, 0, 0]
def k0_off117 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6557 : Index := Scalar.indexCast v9
  let c0_1958 : Index := 0#32
  let c56_1959 : Index := 56#32
  let c0_1960 : Index := 0#32
  ![v6557.toNat, 0, 56, 0, 0]
def k0_off118 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6573 : Index := Scalar.indexCast v9
  let c2_1966 : Index := 2#32
  let c32_1967 : Index := 32#32
  let c0_1968 : Index := 0#32
  ![v6573.toNat, 2, 32, 0, 0]
def k0_off119 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6589 : Index := Scalar.indexCast v9
  let c2_1974 : Index := 2#32
  let c40_1975 : Index := 40#32
  let c0_1976 : Index := 0#32
  ![v6589.toNat, 2, 40, 0, 0]
def k0_off120 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6605 : Index := Scalar.indexCast v9
  let c2_1982 : Index := 2#32
  let c48_1983 : Index := 48#32
  let c0_1984 : Index := 0#32
  ![v6605.toNat, 2, 48, 0, 0]
def k0_off121 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6621 : Index := Scalar.indexCast v9
  let c2_1990 : Index := 2#32
  let c56_1991 : Index := 56#32
  let c0_1992 : Index := 0#32
  ![v6621.toNat, 2, 56, 0, 0]
def k0_off122 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6637 : Index := Scalar.indexCast v9
  let c4_1998 : Index := 4#32
  let c32_1999 : Index := 32#32
  let c0_2000 : Index := 0#32
  ![v6637.toNat, 4, 32, 0, 0]
def k0_off123 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6653 : Index := Scalar.indexCast v9
  let c4_2006 : Index := 4#32
  let c40_2007 : Index := 40#32
  let c0_2008 : Index := 0#32
  ![v6653.toNat, 4, 40, 0, 0]
def k0_off124 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6669 : Index := Scalar.indexCast v9
  let c4_2014 : Index := 4#32
  let c48_2015 : Index := 48#32
  let c0_2016 : Index := 0#32
  ![v6669.toNat, 4, 48, 0, 0]
def k0_off125 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6685 : Index := Scalar.indexCast v9
  let c4_2022 : Index := 4#32
  let c56_2023 : Index := 56#32
  let c0_2024 : Index := 0#32
  ![v6685.toNat, 4, 56, 0, 0]
def k0_off126 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6701 : Index := Scalar.indexCast v9
  let c6_2030 : Index := 6#32
  let c32_2031 : Index := 32#32
  let c0_2032 : Index := 0#32
  ![v6701.toNat, 6, 32, 0, 0]
def k0_off127 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6717 : Index := Scalar.indexCast v9
  let c6_2038 : Index := 6#32
  let c40_2039 : Index := 40#32
  let c0_2040 : Index := 0#32
  ![v6717.toNat, 6, 40, 0, 0]
def k0_off128 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6733 : Index := Scalar.indexCast v9
  let c6_2046 : Index := 6#32
  let c48_2047 : Index := 48#32
  let c0_2048 : Index := 0#32
  ![v6733.toNat, 6, 48, 0, 0]
def k0_off129 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6749 : Index := Scalar.indexCast v9
  let c6_2054 : Index := 6#32
  let c56_2055 : Index := 56#32
  let c0_2056 : Index := 0#32
  ![v6749.toNat, 6, 56, 0, 0]
def k0_off130 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7085 : Index := Scalar.indexCast v9
  let c1_2134 : Index := 1#32
  let c32_2135 : Index := 32#32
  let c0_2136 : Index := 0#32
  ![v7085.toNat, 1, 32, 0, 0]
def k0_off131 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7101 : Index := Scalar.indexCast v9
  let c1_2142 : Index := 1#32
  let c40_2143 : Index := 40#32
  let c0_2144 : Index := 0#32
  ![v7101.toNat, 1, 40, 0, 0]
def k0_off132 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7117 : Index := Scalar.indexCast v9
  let c1_2150 : Index := 1#32
  let c48_2151 : Index := 48#32
  let c0_2152 : Index := 0#32
  ![v7117.toNat, 1, 48, 0, 0]
def k0_off133 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7133 : Index := Scalar.indexCast v9
  let c1_2158 : Index := 1#32
  let c56_2159 : Index := 56#32
  let c0_2160 : Index := 0#32
  ![v7133.toNat, 1, 56, 0, 0]
def k0_off134 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7149 : Index := Scalar.indexCast v9
  let c3_2166 : Index := 3#32
  let c32_2167 : Index := 32#32
  let c0_2168 : Index := 0#32
  ![v7149.toNat, 3, 32, 0, 0]
def k0_off135 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7165 : Index := Scalar.indexCast v9
  let c3_2174 : Index := 3#32
  let c40_2175 : Index := 40#32
  let c0_2176 : Index := 0#32
  ![v7165.toNat, 3, 40, 0, 0]
def k0_off136 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7181 : Index := Scalar.indexCast v9
  let c3_2182 : Index := 3#32
  let c48_2183 : Index := 48#32
  let c0_2184 : Index := 0#32
  ![v7181.toNat, 3, 48, 0, 0]
def k0_off137 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7197 : Index := Scalar.indexCast v9
  let c3_2190 : Index := 3#32
  let c56_2191 : Index := 56#32
  let c0_2192 : Index := 0#32
  ![v7197.toNat, 3, 56, 0, 0]
def k0_off138 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7213 : Index := Scalar.indexCast v9
  let c5_2198 : Index := 5#32
  let c32_2199 : Index := 32#32
  let c0_2200 : Index := 0#32
  ![v7213.toNat, 5, 32, 0, 0]
def k0_off139 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7229 : Index := Scalar.indexCast v9
  let c5_2206 : Index := 5#32
  let c40_2207 : Index := 40#32
  let c0_2208 : Index := 0#32
  ![v7229.toNat, 5, 40, 0, 0]
def k0_off140 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7245 : Index := Scalar.indexCast v9
  let c5_2214 : Index := 5#32
  let c48_2215 : Index := 48#32
  let c0_2216 : Index := 0#32
  ![v7245.toNat, 5, 48, 0, 0]
def k0_off141 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7261 : Index := Scalar.indexCast v9
  let c5_2222 : Index := 5#32
  let c56_2223 : Index := 56#32
  let c0_2224 : Index := 0#32
  ![v7261.toNat, 5, 56, 0, 0]
def k0_off142 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7277 : Index := Scalar.indexCast v9
  let c7_2230 : Index := 7#32
  let c32_2231 : Index := 32#32
  let c0_2232 : Index := 0#32
  ![v7277.toNat, 7, 32, 0, 0]
def k0_off143 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7293 : Index := Scalar.indexCast v9
  let c7_2238 : Index := 7#32
  let c40_2239 : Index := 40#32
  let c0_2240 : Index := 0#32
  ![v7293.toNat, 7, 40, 0, 0]
def k0_off144 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7309 : Index := Scalar.indexCast v9
  let c7_2246 : Index := 7#32
  let c48_2247 : Index := 48#32
  let c0_2248 : Index := 0#32
  ![v7309.toNat, 7, 48, 0, 0]
def k0_off145 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7325 : Index := Scalar.indexCast v9
  let c7_2254 : Index := 7#32
  let c56_2255 : Index := 56#32
  let c0_2256 : Index := 0#32
  ![v7325.toNat, 7, 56, 0, 0]
def k0_off146 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7831 : Index := Scalar.indexCast v9
  let c8_2470 : Index := 8#32
  let c32_2471 : Index := 32#32
  let c0_2472 : Index := 0#32
  ![v7831.toNat, 8, 32, 0, 0]
def k0_off147 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7846 : Index := Scalar.indexCast v9
  let c8_2478 : Index := 8#32
  let c40_2479 : Index := 40#32
  let c0_2480 : Index := 0#32
  ![v7846.toNat, 8, 40, 0, 0]
def k0_off148 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7862 : Index := Scalar.indexCast v9
  let c8_2486 : Index := 8#32
  let c48_2487 : Index := 48#32
  let c0_2488 : Index := 0#32
  ![v7862.toNat, 8, 48, 0, 0]
def k0_off149 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7877 : Index := Scalar.indexCast v9
  let c8_2494 : Index := 8#32
  let c56_2495 : Index := 56#32
  let c0_2496 : Index := 0#32
  ![v7877.toNat, 8, 56, 0, 0]
def k0_off150 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7893 : Index := Scalar.indexCast v9
  let c10_2502 : Index := 10#32
  let c32_2503 : Index := 32#32
  let c0_2504 : Index := 0#32
  ![v7893.toNat, 10, 32, 0, 0]
def k0_off151 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7909 : Index := Scalar.indexCast v9
  let c10_2510 : Index := 10#32
  let c40_2511 : Index := 40#32
  let c0_2512 : Index := 0#32
  ![v7909.toNat, 10, 40, 0, 0]
def k0_off152 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7925 : Index := Scalar.indexCast v9
  let c10_2518 : Index := 10#32
  let c48_2519 : Index := 48#32
  let c0_2520 : Index := 0#32
  ![v7925.toNat, 10, 48, 0, 0]
def k0_off153 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7941 : Index := Scalar.indexCast v9
  let c10_2526 : Index := 10#32
  let c56_2527 : Index := 56#32
  let c0_2528 : Index := 0#32
  ![v7941.toNat, 10, 56, 0, 0]
def k0_off154 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7957 : Index := Scalar.indexCast v9
  let c12_2534 : Index := 12#32
  let c32_2535 : Index := 32#32
  let c0_2536 : Index := 0#32
  ![v7957.toNat, 12, 32, 0, 0]
def k0_off155 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7973 : Index := Scalar.indexCast v9
  let c12_2542 : Index := 12#32
  let c40_2543 : Index := 40#32
  let c0_2544 : Index := 0#32
  ![v7973.toNat, 12, 40, 0, 0]
def k0_off156 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7989 : Index := Scalar.indexCast v9
  let c12_2550 : Index := 12#32
  let c48_2551 : Index := 48#32
  let c0_2552 : Index := 0#32
  ![v7989.toNat, 12, 48, 0, 0]
def k0_off157 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8005 : Index := Scalar.indexCast v9
  let c12_2558 : Index := 12#32
  let c56_2559 : Index := 56#32
  let c0_2560 : Index := 0#32
  ![v8005.toNat, 12, 56, 0, 0]
def k0_off158 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8021 : Index := Scalar.indexCast v9
  let c14_2566 : Index := 14#32
  let c32_2567 : Index := 32#32
  let c0_2568 : Index := 0#32
  ![v8021.toNat, 14, 32, 0, 0]
def k0_off159 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8037 : Index := Scalar.indexCast v9
  let c14_2574 : Index := 14#32
  let c40_2575 : Index := 40#32
  let c0_2576 : Index := 0#32
  ![v8037.toNat, 14, 40, 0, 0]
def k0_off160 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8053 : Index := Scalar.indexCast v9
  let c14_2582 : Index := 14#32
  let c48_2583 : Index := 48#32
  let c0_2584 : Index := 0#32
  ![v8053.toNat, 14, 48, 0, 0]
def k0_off161 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8069 : Index := Scalar.indexCast v9
  let c14_2590 : Index := 14#32
  let c56_2591 : Index := 56#32
  let c0_2592 : Index := 0#32
  ![v8069.toNat, 14, 56, 0, 0]
def k0_off162 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8405 : Index := Scalar.indexCast v9
  let c9_2726 : Index := 9#32
  let c32_2727 : Index := 32#32
  let c0_2728 : Index := 0#32
  ![v8405.toNat, 9, 32, 0, 0]
def k0_off163 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8421 : Index := Scalar.indexCast v9
  let c9_2734 : Index := 9#32
  let c40_2735 : Index := 40#32
  let c0_2736 : Index := 0#32
  ![v8421.toNat, 9, 40, 0, 0]
def k0_off164 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8437 : Index := Scalar.indexCast v9
  let c9_2742 : Index := 9#32
  let c48_2743 : Index := 48#32
  let c0_2744 : Index := 0#32
  ![v8437.toNat, 9, 48, 0, 0]
def k0_off165 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8453 : Index := Scalar.indexCast v9
  let c9_2750 : Index := 9#32
  let c56_2751 : Index := 56#32
  let c0_2752 : Index := 0#32
  ![v8453.toNat, 9, 56, 0, 0]
def k0_off166 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8469 : Index := Scalar.indexCast v9
  let c11_2758 : Index := 11#32
  let c32_2759 : Index := 32#32
  let c0_2760 : Index := 0#32
  ![v8469.toNat, 11, 32, 0, 0]
def k0_off167 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8485 : Index := Scalar.indexCast v9
  let c11_2766 : Index := 11#32
  let c40_2767 : Index := 40#32
  let c0_2768 : Index := 0#32
  ![v8485.toNat, 11, 40, 0, 0]
def k0_off168 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8501 : Index := Scalar.indexCast v9
  let c11_2774 : Index := 11#32
  let c48_2775 : Index := 48#32
  let c0_2776 : Index := 0#32
  ![v8501.toNat, 11, 48, 0, 0]
def k0_off169 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8517 : Index := Scalar.indexCast v9
  let c11_2782 : Index := 11#32
  let c56_2783 : Index := 56#32
  let c0_2784 : Index := 0#32
  ![v8517.toNat, 11, 56, 0, 0]
def k0_off170 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8533 : Index := Scalar.indexCast v9
  let c13_2790 : Index := 13#32
  let c32_2791 : Index := 32#32
  let c0_2792 : Index := 0#32
  ![v8533.toNat, 13, 32, 0, 0]
def k0_off171 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8549 : Index := Scalar.indexCast v9
  let c13_2798 : Index := 13#32
  let c40_2799 : Index := 40#32
  let c0_2800 : Index := 0#32
  ![v8549.toNat, 13, 40, 0, 0]
def k0_off172 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8565 : Index := Scalar.indexCast v9
  let c13_2806 : Index := 13#32
  let c48_2807 : Index := 48#32
  let c0_2808 : Index := 0#32
  ![v8565.toNat, 13, 48, 0, 0]
def k0_off173 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8581 : Index := Scalar.indexCast v9
  let c13_2814 : Index := 13#32
  let c56_2815 : Index := 56#32
  let c0_2816 : Index := 0#32
  ![v8581.toNat, 13, 56, 0, 0]
def k0_off174 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8597 : Index := Scalar.indexCast v9
  let c15_2822 : Index := 15#32
  let c32_2823 : Index := 32#32
  let c0_2824 : Index := 0#32
  ![v8597.toNat, 15, 32, 0, 0]
def k0_off175 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8613 : Index := Scalar.indexCast v9
  let c15_2830 : Index := 15#32
  let c40_2831 : Index := 40#32
  let c0_2832 : Index := 0#32
  ![v8613.toNat, 15, 40, 0, 0]
def k0_off176 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8629 : Index := Scalar.indexCast v9
  let c15_2838 : Index := 15#32
  let c48_2839 : Index := 48#32
  let c0_2840 : Index := 0#32
  ![v8629.toNat, 15, 48, 0, 0]
def k0_off177 (i : grid0.Coords) : Fin 5 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8645 : Index := Scalar.indexCast v9
  let c15_2846 : Index := 15#32
  let c56_2847 : Index := 56#32
  let c0_2848 : Index := 0#32
  ![v8645.toNat, 15, 56, 0, 0]
def cc0_transform_0 (i : grid0.Coords) : Fin 3 → Nat :=
  let arg0 : BitVec 32 := BitVec.ofNat 32 (i 0).val
  let c71_i32 : BitVec 32 := 71#32
  let v0 : BitVec 32 := Scalar.minsi arg0 c71_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c71_i32 : BitVec 32 := 71#32
  let v0 : BitVec 32 := Scalar.minsi arg0 c71_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 3 → Nat :=
  let arg0 : BitVec 32 := BitVec.ofNat 32 (i 0).val
  let c71_i32 : BitVec 32 := 71#32
  let v0 : BitVec 32 := Scalar.minsi arg0 c71_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c9_i32_0 : BitVec 32 := 9#32
  let v2 : BitVec 32 := Scalar.divsi v1 c9_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c9_i32_0 c0_i32_3
  let v9 : BitVec 32 := Scalar.extui v8
  let c0_i32_4 : BitVec 32 := 0#32
  let v10 : BitVec 1 := Scalar.cmpi .slt c9_i32_0 c0_i32_4
  let v11 : BitVec 32 := Scalar.extui v10
  let v12 : BitVec 32 := Scalar.subi v9 v11
  let v13 : BitVec 1 := Scalar.cmpi .ne v7 v12
  let v14 : BitVec 32 := Scalar.remsi v1 c9_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c9_i32_6 : BitVec 32 := 9#32
  let c0_i32_7 : BitVec 32 := 0#32
  let v19 : BitVec 1 := Scalar.cmpi .eq c9_i32_6 c0_i32_7
  let c1_i32_8 : BitVec 32 := 1#32
  let v20 : BitVec 32 := Scalar.select v19 c1_i32_8 c9_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_4 (i : grid0.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c9_i32_0 : BitVec 32 := 9#32
  let v2 : BitVec 32 := Scalar.divsi v1 c9_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c9_i32_0 c0_i32_3
  let v9 : BitVec 32 := Scalar.extui v8
  let c0_i32_4 : BitVec 32 := 0#32
  let v10 : BitVec 1 := Scalar.cmpi .slt c9_i32_0 c0_i32_4
  let v11 : BitVec 32 := Scalar.extui v10
  let v12 : BitVec 32 := Scalar.subi v9 v11
  let v13 : BitVec 1 := Scalar.cmpi .ne v7 v12
  let v14 : BitVec 32 := Scalar.remsi v1 c9_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c9_i32_6 : BitVec 32 := 9#32
  let c0_i32_7 : BitVec 32 := 0#32
  let v19 : BitVec 1 := Scalar.cmpi .eq c9_i32_6 c0_i32_7
  let c1_i32_8 : BitVec 32 := 1#32
  let v20 : BitVec 32 := Scalar.select v19 c1_i32_8 c9_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_5 (i : grid0.Coords) : Fin 3 → Nat :=
  let arg0 : BitVec 32 := BitVec.ofNat 32 (i 0).val
  let c71_i32 : BitVec 32 := 71#32
  let v0 : BitVec 32 := Scalar.minsi arg0 c71_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x1152x2048 : Shape := ⟨3, ![8, 1152, 2048]⟩
abbrev S8x1152x256 : Shape := ⟨3, ![8, 1152, 256]⟩
abbrev S8 : Shape := ⟨1, ![8]⟩
abbrev S8x1152x256x1 : Shape := ⟨4, ![8, 1152, 256, 1]⟩
abbrev S1x1x1x8 : Shape := ⟨4, ![1, 1, 1, 8]⟩
abbrev S8x1152x256x8 : Shape := ⟨4, ![8, 1152, 256, 8]⟩
abbrev S_ : Shape := ⟨0, ![]⟩
abbrev S8x9x128x2048 : Shape := ⟨4, ![8, 9, 128, 2048]⟩
abbrev S8x9x128x1024x2x1 : Shape := ⟨6, ![8, 9, 128, 1024, 2, 1]⟩
abbrev S8x9x128x1024x1x1 : Shape := ⟨6, ![8, 9, 128, 1024, 1, 1]⟩
abbrev S8x9x128x1024x1 : Shape := ⟨5, ![8, 9, 128, 1024, 1]⟩
abbrev S8x9x128x512x2x2 : Shape := ⟨6, ![8, 9, 128, 512, 2, 2]⟩
abbrev S8x9x128x512x1x2 : Shape := ⟨6, ![8, 9, 128, 512, 1, 2]⟩
abbrev S8x9x128x512x2 : Shape := ⟨5, ![8, 9, 128, 512, 2]⟩
abbrev S8x9x128x256x2x4 : Shape := ⟨6, ![8, 9, 128, 256, 2, 4]⟩
abbrev S8x9x128x256x1x4 : Shape := ⟨6, ![8, 9, 128, 256, 1, 4]⟩
abbrev S8x9x128x256x4 : Shape := ⟨5, ![8, 9, 128, 256, 4]⟩
abbrev S8x9x128x128x2x8 : Shape := ⟨6, ![8, 9, 128, 128, 2, 8]⟩
abbrev S8x9x128x128x1x8 : Shape := ⟨6, ![8, 9, 128, 128, 1, 8]⟩
abbrev S8x9x128x128x8 : Shape := ⟨5, ![8, 9, 128, 128, 8]⟩
abbrev S8x9x128x64x2x16 : Shape := ⟨6, ![8, 9, 128, 64, 2, 16]⟩
abbrev S8x9x128x64x1x16 : Shape := ⟨6, ![8, 9, 128, 64, 1, 16]⟩
abbrev S8x9x128x64x16 : Shape := ⟨5, ![8, 9, 128, 64, 16]⟩
abbrev S8x9x128x32x2x32 : Shape := ⟨6, ![8, 9, 128, 32, 2, 32]⟩
abbrev S8x9x128x32x1x32 : Shape := ⟨6, ![8, 9, 128, 32, 1, 32]⟩
abbrev S8x9x128x32x32 : Shape := ⟨5, ![8, 9, 128, 32, 32]⟩
abbrev S8x9x128x16x2x64 : Shape := ⟨6, ![8, 9, 128, 16, 2, 64]⟩
abbrev S8x9x128x16x1x64 : Shape := ⟨6, ![8, 9, 128, 16, 1, 64]⟩
abbrev S8x9x128x16x64 : Shape := ⟨5, ![8, 9, 128, 16, 64]⟩
abbrev S8x9x128x8x2x128 : Shape := ⟨6, ![8, 9, 128, 8, 2, 128]⟩
abbrev S8x9x128x8x1x128 : Shape := ⟨6, ![8, 9, 128, 8, 1, 128]⟩
abbrev S8x9x128x8x128 : Shape := ⟨5, ![8, 9, 128, 8, 128]⟩
abbrev S8x9x128x4x2x256 : Shape := ⟨6, ![8, 9, 128, 4, 2, 256]⟩
abbrev S8x9x128x4x1x256 : Shape := ⟨6, ![8, 9, 128, 4, 1, 256]⟩
abbrev S8x9x128x4x256 : Shape := ⟨5, ![8, 9, 128, 4, 256]⟩
abbrev S8x9x128x2x2x512 : Shape := ⟨6, ![8, 9, 128, 2, 2, 512]⟩
abbrev S8x9x128x2x1x512 : Shape := ⟨6, ![8, 9, 128, 2, 1, 512]⟩
abbrev S8x9x128x2x512 : Shape := ⟨5, ![8, 9, 128, 2, 512]⟩
abbrev S8x9x128x1x2x1024 : Shape := ⟨6, ![8, 9, 128, 1, 2, 1024]⟩
abbrev S8x9x128x1x1x1024 : Shape := ⟨6, ![8, 9, 128, 1, 1, 1024]⟩
abbrev S8x9x128x1x1024 : Shape := ⟨5, ![8, 9, 128, 1, 1024]⟩
abbrev S8x9x64x2x1x2048 : Shape := ⟨6, ![8, 9, 64, 2, 1, 2048]⟩
abbrev S8x9x64x1x1x2048 : Shape := ⟨6, ![8, 9, 64, 1, 1, 2048]⟩
abbrev S8x9x64x1x2048 : Shape := ⟨5, ![8, 9, 64, 1, 2048]⟩
abbrev S8x9x32x2x2x2048 : Shape := ⟨6, ![8, 9, 32, 2, 2, 2048]⟩
abbrev S8x9x32x1x2x2048 : Shape := ⟨6, ![8, 9, 32, 1, 2, 2048]⟩
abbrev S8x9x32x2x2048 : Shape := ⟨5, ![8, 9, 32, 2, 2048]⟩
abbrev S8x9x16x2x4x2048 : Shape := ⟨6, ![8, 9, 16, 2, 4, 2048]⟩
abbrev S8x9x16x1x4x2048 : Shape := ⟨6, ![8, 9, 16, 1, 4, 2048]⟩
abbrev S8x9x16x4x2048 : Shape := ⟨5, ![8, 9, 16, 4, 2048]⟩
abbrev S8x9x8x2x8x2048 : Shape := ⟨6, ![8, 9, 8, 2, 8, 2048]⟩
abbrev S8x9x8x1x8x2048 : Shape := ⟨6, ![8, 9, 8, 1, 8, 2048]⟩
abbrev S8x9x8x8x2048 : Shape := ⟨5, ![8, 9, 8, 8, 2048]⟩
abbrev S8x9x4x2x16x2048 : Shape := ⟨6, ![8, 9, 4, 2, 16, 2048]⟩
abbrev S8x9x4x1x16x2048 : Shape := ⟨6, ![8, 9, 4, 1, 16, 2048]⟩
abbrev S8x9x4x16x2048 : Shape := ⟨5, ![8, 9, 4, 16, 2048]⟩
abbrev S8x9x2x2x32x2048 : Shape := ⟨6, ![8, 9, 2, 2, 32, 2048]⟩
abbrev S8x9x2x1x32x2048 : Shape := ⟨6, ![8, 9, 2, 1, 32, 2048]⟩
abbrev S8x9x2x32x2048 : Shape := ⟨5, ![8, 9, 2, 32, 2048]⟩
abbrev S8x9x1x2x64x2048 : Shape := ⟨6, ![8, 9, 1, 2, 64, 2048]⟩
abbrev S8x9x1x1x64x2048 : Shape := ⟨6, ![8, 9, 1, 1, 64, 2048]⟩
abbrev S8x9x1x64x2048 : Shape := ⟨5, ![8, 9, 1, 64, 2048]⟩
abbrev S8x1x1 : Shape := ⟨3, ![8, 1, 1]⟩

abbrev nBuf : Space → Nat
  | .hbm => 471
  | .vmem => 0
  | .smem => 0
  | _ => 0

abbrev hbmTy0_0 (i : Nat) : BufTy := match i % 128 with
  | 0 => ⟨S8x1152x2048, .f32⟩
  | 1 => ⟨S8x1152x256, .i8⟩
  | 2 => ⟨S8x1152x2048, .f32⟩
  | 3 => ⟨S8x1152x2048, .f32⟩
  | 4 => ⟨S8, .i32⟩
  | 5 => ⟨S8x1152x256x1, .i8⟩
  | 6 => ⟨S8x1152x256x1, .i32⟩
  | 7 => ⟨S1x1x1x8, .i32⟩
  | 8 => ⟨S8x1152x256x8, .i32⟩
  | 9 => ⟨S8x1152x256x8, .i32⟩
  | 10 => ⟨S8x1152x256x8, .i32⟩
  | 11 => ⟨S_, .i32⟩
  | 12 => ⟨S8x1152x256x8, .i32⟩
  | 13 => ⟨S8x1152x256x8, .i32⟩
  | 14 => ⟨S8x1152x2048, .i32⟩
  | 15 => ⟨S8x1152x2048, .f32⟩
  | 16 => ⟨S_, .f32⟩
  | 17 => ⟨S8x1152x2048, .f32⟩
  | 18 => ⟨S8x1152x2048, .f32⟩
  | 19 => ⟨S_, .f32⟩
  | 20 => ⟨S8x1152x2048, .f32⟩
  | 21 => ⟨S8x1152x2048, .f32⟩
  | 22 => ⟨S8x1152x2048, .f32⟩
  | 23 => ⟨S8x9x128x2048, .f32⟩
  | 24 => ⟨S8x9x128x1024x2x1, .f32⟩
  | 25 => ⟨S8x9x128x1024x1x1, .f32⟩
  | 26 => ⟨S8x9x128x1024x1, .f32⟩
  | 27 => ⟨S8x9x128x1024x1x1, .f32⟩
  | 28 => ⟨S8x9x128x1024x1, .f32⟩
  | 29 => ⟨S8x9x128x1024x1, .f32⟩
  | 30 => ⟨S8x9x128x1024x1, .f32⟩
  | 31 => ⟨S8x9x128x1024x1x1, .f32⟩
  | 32 => ⟨S8x9x128x1024x1x1, .f32⟩
  | 33 => ⟨S8x9x128x1024x2x1, .f32⟩
  | 34 => ⟨S8x9x128x2048, .f32⟩
  | 35 => ⟨S8x9x128x512x2x2, .f32⟩
  | 36 => ⟨S8x9x128x512x1x2, .f32⟩
  | 37 => ⟨S8x9x128x512x2, .f32⟩
  | 38 => ⟨S8x9x128x512x1x2, .f32⟩
  | 39 => ⟨S8x9x128x512x2, .f32⟩
  | 40 => ⟨S8x9x128x512x2, .f32⟩
  | 41 => ⟨S8x9x128x512x2, .f32⟩
  | 42 => ⟨S8x9x128x512x1x2, .f32⟩
  | 43 => ⟨S8x9x128x512x1x2, .f32⟩
  | 44 => ⟨S8x9x128x512x2x2, .f32⟩
  | 45 => ⟨S8x9x128x2048, .f32⟩
  | 46 => ⟨S8x9x128x256x2x4, .f32⟩
  | 47 => ⟨S8x9x128x256x1x4, .f32⟩
  | 48 => ⟨S8x9x128x256x4, .f32⟩
  | 49 => ⟨S8x9x128x256x1x4, .f32⟩
  | 50 => ⟨S8x9x128x256x4, .f32⟩
  | 51 => ⟨S8x9x128x256x4, .f32⟩
  | 52 => ⟨S8x9x128x256x4, .f32⟩
  | 53 => ⟨S8x9x128x256x1x4, .f32⟩
  | 54 => ⟨S8x9x128x256x1x4, .f32⟩
  | 55 => ⟨S8x9x128x256x2x4, .f32⟩
  | 56 => ⟨S8x9x128x2048, .f32⟩
  | 57 => ⟨S8x9x128x128x2x8, .f32⟩
  | 58 => ⟨S8x9x128x128x1x8, .f32⟩
  | 59 => ⟨S8x9x128x128x8, .f32⟩
  | 60 => ⟨S8x9x128x128x1x8, .f32⟩
  | 61 => ⟨S8x9x128x128x8, .f32⟩
  | 62 => ⟨S8x9x128x128x8, .f32⟩
  | 63 => ⟨S8x9x128x128x8, .f32⟩
  | 64 => ⟨S8x9x128x128x1x8, .f32⟩
  | 65 => ⟨S8x9x128x128x1x8, .f32⟩
  | 66 => ⟨S8x9x128x128x2x8, .f32⟩
  | 67 => ⟨S8x9x128x2048, .f32⟩
  | 68 => ⟨S8x9x128x64x2x16, .f32⟩
  | 69 => ⟨S8x9x128x64x1x16, .f32⟩
  | 70 => ⟨S8x9x128x64x16, .f32⟩
  | 71 => ⟨S8x9x128x64x1x16, .f32⟩
  | 72 => ⟨S8x9x128x64x16, .f32⟩
  | 73 => ⟨S8x9x128x64x16, .f32⟩
  | 74 => ⟨S8x9x128x64x16, .f32⟩
  | 75 => ⟨S8x9x128x64x1x16, .f32⟩
  | 76 => ⟨S8x9x128x64x1x16, .f32⟩
  | 77 => ⟨S8x9x128x64x2x16, .f32⟩
  | 78 => ⟨S8x9x128x2048, .f32⟩
  | 79 => ⟨S8x9x128x32x2x32, .f32⟩
  | 80 => ⟨S8x9x128x32x1x32, .f32⟩
  | 81 => ⟨S8x9x128x32x32, .f32⟩
  | 82 => ⟨S8x9x128x32x1x32, .f32⟩
  | 83 => ⟨S8x9x128x32x32, .f32⟩
  | 84 => ⟨S8x9x128x32x32, .f32⟩
  | 85 => ⟨S8x9x128x32x32, .f32⟩
  | 86 => ⟨S8x9x128x32x1x32, .f32⟩
  | 87 => ⟨S8x9x128x32x1x32, .f32⟩
  | 88 => ⟨S8x9x128x32x2x32, .f32⟩
  | 89 => ⟨S8x9x128x2048, .f32⟩
  | 90 => ⟨S8x9x128x16x2x64, .f32⟩
  | 91 => ⟨S8x9x128x16x1x64, .f32⟩
  | 92 => ⟨S8x9x128x16x64, .f32⟩
  | 93 => ⟨S8x9x128x16x1x64, .f32⟩
  | 94 => ⟨S8x9x128x16x64, .f32⟩
  | 95 => ⟨S8x9x128x16x64, .f32⟩
  | 96 => ⟨S8x9x128x16x64, .f32⟩
  | 97 => ⟨S8x9x128x16x1x64, .f32⟩
  | 98 => ⟨S8x9x128x16x1x64, .f32⟩
  | 99 => ⟨S8x9x128x16x2x64, .f32⟩
  | 100 => ⟨S8x9x128x2048, .f32⟩
  | 101 => ⟨S8x9x128x8x2x128, .f32⟩
  | 102 => ⟨S8x9x128x8x1x128, .f32⟩
  | 103 => ⟨S8x9x128x8x128, .f32⟩
  | 104 => ⟨S8x9x128x8x1x128, .f32⟩
  | 105 => ⟨S8x9x128x8x128, .f32⟩
  | 106 => ⟨S8x9x128x8x128, .f32⟩
  | 107 => ⟨S8x9x128x8x128, .f32⟩
  | 108 => ⟨S8x9x128x8x1x128, .f32⟩
  | 109 => ⟨S8x9x128x8x1x128, .f32⟩
  | 110 => ⟨S8x9x128x8x2x128, .f32⟩
  | 111 => ⟨S8x9x128x2048, .f32⟩
  | 112 => ⟨S8x9x128x4x2x256, .f32⟩
  | 113 => ⟨S8x9x128x4x1x256, .f32⟩
  | 114 => ⟨S8x9x128x4x256, .f32⟩
  | 115 => ⟨S8x9x128x4x1x256, .f32⟩
  | 116 => ⟨S8x9x128x4x256, .f32⟩
  | 117 => ⟨S8x9x128x4x256, .f32⟩
  | 118 => ⟨S8x9x128x4x256, .f32⟩
  | 119 => ⟨S8x9x128x4x1x256, .f32⟩
  | 120 => ⟨S8x9x128x4x1x256, .f32⟩
  | 121 => ⟨S8x9x128x4x2x256, .f32⟩
  | 122 => ⟨S8x9x128x2048, .f32⟩
  | 123 => ⟨S8x9x128x2x2x512, .f32⟩
  | 124 => ⟨S8x9x128x2x1x512, .f32⟩
  | 125 => ⟨S8x9x128x2x512, .f32⟩
  | 126 => ⟨S8x9x128x2x1x512, .f32⟩
  | 127 => ⟨S8x9x128x2x512, .f32⟩
  | _ => ⟨S8x1152x2048, .f32⟩

abbrev hbmTy0_1 (i : Nat) : BufTy := match i % 128 with
  | 0 => ⟨S8x9x128x2x512, .f32⟩
  | 1 => ⟨S8x9x128x2x512, .f32⟩
  | 2 => ⟨S8x9x128x2x1x512, .f32⟩
  | 3 => ⟨S8x9x128x2x1x512, .f32⟩
  | 4 => ⟨S8x9x128x2x2x512, .f32⟩
  | 5 => ⟨S8x9x128x2048, .f32⟩
  | 6 => ⟨S8x9x128x1x2x1024, .f32⟩
  | 7 => ⟨S8x9x128x1x1x1024, .f32⟩
  | 8 => ⟨S8x9x128x1x1024, .f32⟩
  | 9 => ⟨S8x9x128x1x1x1024, .f32⟩
  | 10 => ⟨S8x9x128x1x1024, .f32⟩
  | 11 => ⟨S8x9x128x1x1024, .f32⟩
  | 12 => ⟨S8x9x128x1x1024, .f32⟩
  | 13 => ⟨S8x9x128x1x1x1024, .f32⟩
  | 14 => ⟨S8x9x128x1x1x1024, .f32⟩
  | 15 => ⟨S8x9x128x1x2x1024, .f32⟩
  | 16 => ⟨S8x9x128x2048, .f32⟩
  | 17 => ⟨S8x9x64x2x1x2048, .f32⟩
  | 18 => ⟨S8x9x64x1x1x2048, .f32⟩
  | 19 => ⟨S8x9x64x1x2048, .f32⟩
  | 20 => ⟨S8x9x64x1x1x2048, .f32⟩
  | 21 => ⟨S8x9x64x1x2048, .f32⟩
  | 22 => ⟨S8x9x64x1x2048, .f32⟩
  | 23 => ⟨S8x9x64x1x2048, .f32⟩
  | 24 => ⟨S8x9x64x1x1x2048, .f32⟩
  | 25 => ⟨S8x9x64x1x1x2048, .f32⟩
  | 26 => ⟨S8x9x64x2x1x2048, .f32⟩
  | 27 => ⟨S8x9x128x2048, .f32⟩
  | 28 => ⟨S8x9x32x2x2x2048, .f32⟩
  | 29 => ⟨S8x9x32x1x2x2048, .f32⟩
  | 30 => ⟨S8x9x32x2x2048, .f32⟩
  | 31 => ⟨S8x9x32x1x2x2048, .f32⟩
  | 32 => ⟨S8x9x32x2x2048, .f32⟩
  | 33 => ⟨S8x9x32x2x2048, .f32⟩
  | 34 => ⟨S8x9x32x2x2048, .f32⟩
  | 35 => ⟨S8x9x32x1x2x2048, .f32⟩
  | 36 => ⟨S8x9x32x1x2x2048, .f32⟩
  | 37 => ⟨S8x9x32x2x2x2048, .f32⟩
  | 38 => ⟨S8x9x128x2048, .f32⟩
  | 39 => ⟨S8x9x16x2x4x2048, .f32⟩
  | 40 => ⟨S8x9x16x1x4x2048, .f32⟩
  | 41 => ⟨S8x9x16x4x2048, .f32⟩
  | 42 => ⟨S8x9x16x1x4x2048, .f32⟩
  | 43 => ⟨S8x9x16x4x2048, .f32⟩
  | 44 => ⟨S8x9x16x4x2048, .f32⟩
  | 45 => ⟨S8x9x16x4x2048, .f32⟩
  | 46 => ⟨S8x9x16x1x4x2048, .f32⟩
  | 47 => ⟨S8x9x16x1x4x2048, .f32⟩
  | 48 => ⟨S8x9x16x2x4x2048, .f32⟩
  | 49 => ⟨S8x9x128x2048, .f32⟩
  | 50 => ⟨S8x9x8x2x8x2048, .f32⟩
  | 51 => ⟨S8x9x8x1x8x2048, .f32⟩
  | 52 => ⟨S8x9x8x8x2048, .f32⟩
  | 53 => ⟨S8x9x8x1x8x2048, .f32⟩
  | 54 => ⟨S8x9x8x8x2048, .f32⟩
  | 55 => ⟨S8x9x8x8x2048, .f32⟩
  | 56 => ⟨S8x9x8x8x2048, .f32⟩
  | 57 => ⟨S8x9x8x1x8x2048, .f32⟩
  | 58 => ⟨S8x9x8x1x8x2048, .f32⟩
  | 59 => ⟨S8x9x8x2x8x2048, .f32⟩
  | 60 => ⟨S8x9x128x2048, .f32⟩
  | 61 => ⟨S8x9x4x2x16x2048, .f32⟩
  | 62 => ⟨S8x9x4x1x16x2048, .f32⟩
  | 63 => ⟨S8x9x4x16x2048, .f32⟩
  | 64 => ⟨S8x9x4x1x16x2048, .f32⟩
  | 65 => ⟨S8x9x4x16x2048, .f32⟩
  | 66 => ⟨S8x9x4x16x2048, .f32⟩
  | 67 => ⟨S8x9x4x16x2048, .f32⟩
  | 68 => ⟨S8x9x4x1x16x2048, .f32⟩
  | 69 => ⟨S8x9x4x1x16x2048, .f32⟩
  | 70 => ⟨S8x9x4x2x16x2048, .f32⟩
  | 71 => ⟨S8x9x128x2048, .f32⟩
  | 72 => ⟨S8x9x2x2x32x2048, .f32⟩
  | 73 => ⟨S8x9x2x1x32x2048, .f32⟩
  | 74 => ⟨S8x9x2x32x2048, .f32⟩
  | 75 => ⟨S8x9x2x1x32x2048, .f32⟩
  | 76 => ⟨S8x9x2x32x2048, .f32⟩
  | 77 => ⟨S8x9x2x32x2048, .f32⟩
  | 78 => ⟨S8x9x2x32x2048, .f32⟩
  | 79 => ⟨S8x9x2x1x32x2048, .f32⟩
  | 80 => ⟨S8x9x2x1x32x2048, .f32⟩
  | 81 => ⟨S8x9x2x2x32x2048, .f32⟩
  | 82 => ⟨S8x9x128x2048, .f32⟩
  | 83 => ⟨S8x9x1x2x64x2048, .f32⟩
  | 84 => ⟨S8x9x1x1x64x2048, .f32⟩
  | 85 => ⟨S8x9x1x64x2048, .f32⟩
  | 86 => ⟨S8x9x1x1x64x2048, .f32⟩
  | 87 => ⟨S8x9x1x64x2048, .f32⟩
  | 88 => ⟨S8x9x1x64x2048, .f32⟩
  | 89 => ⟨S8x9x1x64x2048, .f32⟩
  | 90 => ⟨S8x9x1x1x64x2048, .f32⟩
  | 91 => ⟨S8x9x1x1x64x2048, .f32⟩
  | 92 => ⟨S8x9x1x2x64x2048, .f32⟩
  | 93 => ⟨S8x9x128x2048, .f32⟩
  | 94 => ⟨S_, .f32⟩
  | 95 => ⟨S8x9x128x2048, .f32⟩
  | 96 => ⟨S8x9x128x2048, .f32⟩
  | 97 => ⟨S8x1152x2048, .f32⟩
  | 98 => ⟨S8x1152x2048, .f32⟩
  | 99 => ⟨S_, .f32⟩
  | 100 => ⟨S8, .f32⟩
  | 101 => ⟨S8x1152x2048, .f32⟩
  | 102 => ⟨S_, .f32⟩
  | 103 => ⟨S8, .f32⟩
  | 104 => ⟨S8, .f32⟩
  | 105 => ⟨S_, .f32⟩
  | 106 => ⟨S8x1152x2048, .f32⟩
  | 107 => ⟨S8x1152x2048, .i1⟩
  | 108 => ⟨S8x1152x2048, .i32⟩
  | 109 => ⟨S8x1152x256x8, .i32⟩
  | 110 => ⟨S8, .i32⟩
  | 111 => ⟨S1x1x1x8, .i32⟩
  | 112 => ⟨S8x1152x256x8, .i32⟩
  | 113 => ⟨S8x1152x256x8, .i32⟩
  | 114 => ⟨S_, .i32⟩
  | 115 => ⟨S8x1152x256, .i32⟩
  | 116 => ⟨S8x1152x256, .i8⟩
  | 117 => ⟨S8, .i32⟩
  | 118 => ⟨S8x1152x256x1, .i8⟩
  | 119 => ⟨S8x1152x256x1, .i32⟩
  | 120 => ⟨S1x1x1x8, .i32⟩
  | 121 => ⟨S8x1152x256x8, .i32⟩
  | 122 => ⟨S8x1152x256x8, .i32⟩
  | 123 => ⟨S8x1152x256x8, .i32⟩
  | 124 => ⟨S_, .i32⟩
  | 125 => ⟨S8x1152x256x8, .i32⟩
  | 126 => ⟨S8x1152x256x8, .i32⟩
  | 127 => ⟨S8x1152x2048, .i32⟩
  | _ => ⟨S8x1152x2048, .f32⟩

abbrev hbmTy0_2 (i : Nat) : BufTy := match i % 128 with
  | 0 => ⟨S8x1152x2048, .f32⟩
  | 1 => ⟨S_, .f32⟩
  | 2 => ⟨S8x1152x2048, .f32⟩
  | 3 => ⟨S8x1152x2048, .f32⟩
  | 4 => ⟨S_, .f32⟩
  | 5 => ⟨S8x1152x2048, .f32⟩
  | 6 => ⟨S8x1152x2048, .f32⟩
  | 7 => ⟨S8x1x1, .f32⟩
  | 8 => ⟨S8x1152x2048, .f32⟩
  | 9 => ⟨S8x1152x2048, .f32⟩
  | 10 => ⟨S8x9x128x2048, .f32⟩
  | 11 => ⟨S8x9x128x1024x2x1, .f32⟩
  | 12 => ⟨S8x9x128x1024x1x1, .f32⟩
  | 13 => ⟨S8x9x128x1024x1, .f32⟩
  | 14 => ⟨S8x9x128x1024x1x1, .f32⟩
  | 15 => ⟨S8x9x128x1024x1, .f32⟩
  | 16 => ⟨S8x9x128x1024x1, .f32⟩
  | 17 => ⟨S8x9x128x1024x1, .f32⟩
  | 18 => ⟨S8x9x128x1024x1x1, .f32⟩
  | 19 => ⟨S8x9x128x1024x1x1, .f32⟩
  | 20 => ⟨S8x9x128x1024x2x1, .f32⟩
  | 21 => ⟨S8x9x128x2048, .f32⟩
  | 22 => ⟨S8x9x128x512x2x2, .f32⟩
  | 23 => ⟨S8x9x128x512x1x2, .f32⟩
  | 24 => ⟨S8x9x128x512x2, .f32⟩
  | 25 => ⟨S8x9x128x512x1x2, .f32⟩
  | 26 => ⟨S8x9x128x512x2, .f32⟩
  | 27 => ⟨S8x9x128x512x2, .f32⟩
  | 28 => ⟨S8x9x128x512x2, .f32⟩
  | 29 => ⟨S8x9x128x512x1x2, .f32⟩
  | 30 => ⟨S8x9x128x512x1x2, .f32⟩
  | 31 => ⟨S8x9x128x512x2x2, .f32⟩
  | 32 => ⟨S8x9x128x2048, .f32⟩
  | 33 => ⟨S8x9x128x256x2x4, .f32⟩
  | 34 => ⟨S8x9x128x256x1x4, .f32⟩
  | 35 => ⟨S8x9x128x256x4, .f32⟩
  | 36 => ⟨S8x9x128x256x1x4, .f32⟩
  | 37 => ⟨S8x9x128x256x4, .f32⟩
  | 38 => ⟨S8x9x128x256x4, .f32⟩
  | 39 => ⟨S8x9x128x256x4, .f32⟩
  | 40 => ⟨S8x9x128x256x1x4, .f32⟩
  | 41 => ⟨S8x9x128x256x1x4, .f32⟩
  | 42 => ⟨S8x9x128x256x2x4, .f32⟩
  | 43 => ⟨S8x9x128x2048, .f32⟩
  | 44 => ⟨S8x9x128x128x2x8, .f32⟩
  | 45 => ⟨S8x9x128x128x1x8, .f32⟩
  | 46 => ⟨S8x9x128x128x8, .f32⟩
  | 47 => ⟨S8x9x128x128x1x8, .f32⟩
  | 48 => ⟨S8x9x128x128x8, .f32⟩
  | 49 => ⟨S8x9x128x128x8, .f32⟩
  | 50 => ⟨S8x9x128x128x8, .f32⟩
  | 51 => ⟨S8x9x128x128x1x8, .f32⟩
  | 52 => ⟨S8x9x128x128x1x8, .f32⟩
  | 53 => ⟨S8x9x128x128x2x8, .f32⟩
  | 54 => ⟨S8x9x128x2048, .f32⟩
  | 55 => ⟨S8x9x128x64x2x16, .f32⟩
  | 56 => ⟨S8x9x128x64x1x16, .f32⟩
  | 57 => ⟨S8x9x128x64x16, .f32⟩
  | 58 => ⟨S8x9x128x64x1x16, .f32⟩
  | 59 => ⟨S8x9x128x64x16, .f32⟩
  | 60 => ⟨S8x9x128x64x16, .f32⟩
  | 61 => ⟨S8x9x128x64x16, .f32⟩
  | 62 => ⟨S8x9x128x64x1x16, .f32⟩
  | 63 => ⟨S8x9x128x64x1x16, .f32⟩
  | 64 => ⟨S8x9x128x64x2x16, .f32⟩
  | 65 => ⟨S8x9x128x2048, .f32⟩
  | 66 => ⟨S8x9x128x32x2x32, .f32⟩
  | 67 => ⟨S8x9x128x32x1x32, .f32⟩
  | 68 => ⟨S8x9x128x32x32, .f32⟩
  | 69 => ⟨S8x9x128x32x1x32, .f32⟩
  | 70 => ⟨S8x9x128x32x32, .f32⟩
  | 71 => ⟨S8x9x128x32x32, .f32⟩
  | 72 => ⟨S8x9x128x32x32, .f32⟩
  | 73 => ⟨S8x9x128x32x1x32, .f32⟩
  | 74 => ⟨S8x9x128x32x1x32, .f32⟩
  | 75 => ⟨S8x9x128x32x2x32, .f32⟩
  | 76 => ⟨S8x9x128x2048, .f32⟩
  | 77 => ⟨S8x9x128x16x2x64, .f32⟩
  | 78 => ⟨S8x9x128x16x1x64, .f32⟩
  | 79 => ⟨S8x9x128x16x64, .f32⟩
  | 80 => ⟨S8x9x128x16x1x64, .f32⟩
  | 81 => ⟨S8x9x128x16x64, .f32⟩
  | 82 => ⟨S8x9x128x16x64, .f32⟩
  | 83 => ⟨S8x9x128x16x64, .f32⟩
  | 84 => ⟨S8x9x128x16x1x64, .f32⟩
  | 85 => ⟨S8x9x128x16x1x64, .f32⟩
  | 86 => ⟨S8x9x128x16x2x64, .f32⟩
  | 87 => ⟨S8x9x128x2048, .f32⟩
  | 88 => ⟨S8x9x128x8x2x128, .f32⟩
  | 89 => ⟨S8x9x128x8x1x128, .f32⟩
  | 90 => ⟨S8x9x128x8x128, .f32⟩
  | 91 => ⟨S8x9x128x8x1x128, .f32⟩
  | 92 => ⟨S8x9x128x8x128, .f32⟩
  | 93 => ⟨S8x9x128x8x128, .f32⟩
  | 94 => ⟨S8x9x128x8x128, .f32⟩
  | 95 => ⟨S8x9x128x8x1x128, .f32⟩
  | 96 => ⟨S8x9x128x8x1x128, .f32⟩
  | 97 => ⟨S8x9x128x8x2x128, .f32⟩
  | 98 => ⟨S8x9x128x2048, .f32⟩
  | 99 => ⟨S8x9x128x4x2x256, .f32⟩
  | 100 => ⟨S8x9x128x4x1x256, .f32⟩
  | 101 => ⟨S8x9x128x4x256, .f32⟩
  | 102 => ⟨S8x9x128x4x1x256, .f32⟩
  | 103 => ⟨S8x9x128x4x256, .f32⟩
  | 104 => ⟨S8x9x128x4x256, .f32⟩
  | 105 => ⟨S8x9x128x4x256, .f32⟩
  | 106 => ⟨S8x9x128x4x1x256, .f32⟩
  | 107 => ⟨S8x9x128x4x1x256, .f32⟩
  | 108 => ⟨S8x9x128x4x2x256, .f32⟩
  | 109 => ⟨S8x9x128x2048, .f32⟩
  | 110 => ⟨S8x9x128x2x2x512, .f32⟩
  | 111 => ⟨S8x9x128x2x1x512, .f32⟩
  | 112 => ⟨S8x9x128x2x512, .f32⟩
  | 113 => ⟨S8x9x128x2x1x512, .f32⟩
  | 114 => ⟨S8x9x128x2x512, .f32⟩
  | 115 => ⟨S8x9x128x2x512, .f32⟩
  | 116 => ⟨S8x9x128x2x512, .f32⟩
  | 117 => ⟨S8x9x128x2x1x512, .f32⟩
  | 118 => ⟨S8x9x128x2x1x512, .f32⟩
  | 119 => ⟨S8x9x128x2x2x512, .f32⟩
  | 120 => ⟨S8x9x128x2048, .f32⟩
  | 121 => ⟨S8x9x128x1x2x1024, .f32⟩
  | 122 => ⟨S8x9x128x1x1x1024, .f32⟩
  | 123 => ⟨S8x9x128x1x1024, .f32⟩
  | 124 => ⟨S8x9x128x1x1x1024, .f32⟩
  | 125 => ⟨S8x9x128x1x1024, .f32⟩
  | 126 => ⟨S8x9x128x1x1024, .f32⟩
  | 127 => ⟨S8x9x128x1x1024, .f32⟩
  | _ => ⟨S8x1152x2048, .f32⟩

abbrev hbmTy0_3 (i : Nat) : BufTy := match i % 128 with
  | 0 => ⟨S8x9x128x1x1x1024, .f32⟩
  | 1 => ⟨S8x9x128x1x1x1024, .f32⟩
  | 2 => ⟨S8x9x128x1x2x1024, .f32⟩
  | 3 => ⟨S8x9x128x2048, .f32⟩
  | 4 => ⟨S8x9x64x2x1x2048, .f32⟩
  | 5 => ⟨S8x9x64x1x1x2048, .f32⟩
  | 6 => ⟨S8x9x64x1x2048, .f32⟩
  | 7 => ⟨S8x9x64x1x1x2048, .f32⟩
  | 8 => ⟨S8x9x64x1x2048, .f32⟩
  | 9 => ⟨S8x9x64x1x2048, .f32⟩
  | 10 => ⟨S8x9x64x1x2048, .f32⟩
  | 11 => ⟨S8x9x64x1x1x2048, .f32⟩
  | 12 => ⟨S8x9x64x1x1x2048, .f32⟩
  | 13 => ⟨S8x9x64x2x1x2048, .f32⟩
  | 14 => ⟨S8x9x128x2048, .f32⟩
  | 15 => ⟨S8x9x32x2x2x2048, .f32⟩
  | 16 => ⟨S8x9x32x1x2x2048, .f32⟩
  | 17 => ⟨S8x9x32x2x2048, .f32⟩
  | 18 => ⟨S8x9x32x1x2x2048, .f32⟩
  | 19 => ⟨S8x9x32x2x2048, .f32⟩
  | 20 => ⟨S8x9x32x2x2048, .f32⟩
  | 21 => ⟨S8x9x32x2x2048, .f32⟩
  | 22 => ⟨S8x9x32x1x2x2048, .f32⟩
  | 23 => ⟨S8x9x32x1x2x2048, .f32⟩
  | 24 => ⟨S8x9x32x2x2x2048, .f32⟩
  | 25 => ⟨S8x9x128x2048, .f32⟩
  | 26 => ⟨S8x9x16x2x4x2048, .f32⟩
  | 27 => ⟨S8x9x16x1x4x2048, .f32⟩
  | 28 => ⟨S8x9x16x4x2048, .f32⟩
  | 29 => ⟨S8x9x16x1x4x2048, .f32⟩
  | 30 => ⟨S8x9x16x4x2048, .f32⟩
  | 31 => ⟨S8x9x16x4x2048, .f32⟩
  | 32 => ⟨S8x9x16x4x2048, .f32⟩
  | 33 => ⟨S8x9x16x1x4x2048, .f32⟩
  | 34 => ⟨S8x9x16x1x4x2048, .f32⟩
  | 35 => ⟨S8x9x16x2x4x2048, .f32⟩
  | 36 => ⟨S8x9x128x2048, .f32⟩
  | 37 => ⟨S8x9x8x2x8x2048, .f32⟩
  | 38 => ⟨S8x9x8x1x8x2048, .f32⟩
  | 39 => ⟨S8x9x8x8x2048, .f32⟩
  | 40 => ⟨S8x9x8x1x8x2048, .f32⟩
  | 41 => ⟨S8x9x8x8x2048, .f32⟩
  | 42 => ⟨S8x9x8x8x2048, .f32⟩
  | 43 => ⟨S8x9x8x8x2048, .f32⟩
  | 44 => ⟨S8x9x8x1x8x2048, .f32⟩
  | 45 => ⟨S8x9x8x1x8x2048, .f32⟩
  | 46 => ⟨S8x9x8x2x8x2048, .f32⟩
  | 47 => ⟨S8x9x128x2048, .f32⟩
  | 48 => ⟨S8x9x4x2x16x2048, .f32⟩
  | 49 => ⟨S8x9x4x1x16x2048, .f32⟩
  | 50 => ⟨S8x9x4x16x2048, .f32⟩
  | 51 => ⟨S8x9x4x1x16x2048, .f32⟩
  | 52 => ⟨S8x9x4x16x2048, .f32⟩
  | 53 => ⟨S8x9x4x16x2048, .f32⟩
  | 54 => ⟨S8x9x4x16x2048, .f32⟩
  | 55 => ⟨S8x9x4x1x16x2048, .f32⟩
  | 56 => ⟨S8x9x4x1x16x2048, .f32⟩
  | 57 => ⟨S8x9x4x2x16x2048, .f32⟩
  | 58 => ⟨S8x9x128x2048, .f32⟩
  | 59 => ⟨S8x9x2x2x32x2048, .f32⟩
  | 60 => ⟨S8x9x2x1x32x2048, .f32⟩
  | 61 => ⟨S8x9x2x32x2048, .f32⟩
  | 62 => ⟨S8x9x2x1x32x2048, .f32⟩
  | 63 => ⟨S8x9x2x32x2048, .f32⟩
  | 64 => ⟨S8x9x2x32x2048, .f32⟩
  | 65 => ⟨S8x9x2x32x2048, .f32⟩
  | 66 => ⟨S8x9x2x1x32x2048, .f32⟩
  | 67 => ⟨S8x9x2x1x32x2048, .f32⟩
  | 68 => ⟨S8x9x2x2x32x2048, .f32⟩
  | 69 => ⟨S8x9x128x2048, .f32⟩
  | 70 => ⟨S8x9x1x2x64x2048, .f32⟩
  | 71 => ⟨S8x9x1x1x64x2048, .f32⟩
  | 72 => ⟨S8x9x1x64x2048, .f32⟩
  | 73 => ⟨S8x9x1x1x64x2048, .f32⟩
  | 74 => ⟨S8x9x1x64x2048, .f32⟩
  | 75 => ⟨S8x9x1x64x2048, .f32⟩
  | 76 => ⟨S8x9x1x64x2048, .f32⟩
  | 77 => ⟨S8x9x1x1x64x2048, .f32⟩
  | 78 => ⟨S8x9x1x1x64x2048, .f32⟩
  | 79 => ⟨S8x9x1x2x64x2048, .f32⟩
  | 80 => ⟨S8x9x128x2048, .f32⟩
  | 81 => ⟨S_, .f32⟩
  | 82 => ⟨S8x9x128x2048, .f32⟩
  | 83 => ⟨S8x9x128x2048, .f32⟩
  | 84 => ⟨S8x1152x2048, .f32⟩
  | 85 => ⟨S8x1152x2048, .f32⟩
  | 86 => ⟨S8x1152x2048, .f32⟩
  | _ => ⟨S8x1152x2048, .f32⟩

abbrev hbmTy (i : Nat) : BufTy := match i / 128 with
  | 0 => hbmTy0_0 i
  | 1 => hbmTy0_1 i
  | 2 => hbmTy0_2 i
  | 3 => hbmTy0_3 i
  | _ => ⟨S8x1152x2048, .f32⟩

abbrev bufTy : (tb : Table) → Fin (tcTables nBuf tb) → BufTy
  | .hbm, ⟨i, _⟩ => hbmTy i
  | _, _ => ⟨S8x1152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_cst_1 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_cst_2 : Ref sig .tc := ⟨.hbm, 227, rfl⟩
abbrev main_v220 : Ref sig .tc := ⟨.hbm, 228, rfl⟩
abbrev main_v221 : Ref sig .tc := ⟨.hbm, 229, rfl⟩
abbrev main_cst_3 : Ref sig .tc := ⟨.hbm, 230, rfl⟩
abbrev main_v222 : Ref sig .tc := ⟨.hbm, 231, rfl⟩
abbrev main_v223 : Ref sig .tc := ⟨.hbm, 232, rfl⟩
abbrev main_cst_4 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_c_5 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_c_6 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_cst_7 : Ref sig .tc := ⟨.hbm, 257, rfl⟩
abbrev main_v245 : Ref sig .tc := ⟨.hbm, 258, rfl⟩
abbrev main_v246 : Ref sig .tc := ⟨.hbm, 259, rfl⟩
abbrev main_cst_8 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_v262 : Ref sig .tc := ⟨.hbm, 276, rfl⟩
abbrev main_v263 : Ref sig .tc := ⟨.hbm, 277, rfl⟩
abbrev main_v264 : Ref sig .tc := ⟨.hbm, 278, rfl⟩
abbrev main_v265 : Ref sig .tc := ⟨.hbm, 279, rfl⟩
abbrev main_v266 : Ref sig .tc := ⟨.hbm, 280, rfl⟩
abbrev main_v267 : Ref sig .tc := ⟨.hbm, 281, rfl⟩
abbrev main_v268 : Ref sig .tc := ⟨.hbm, 282, rfl⟩
abbrev main_v269 : Ref sig .tc := ⟨.hbm, 283, rfl⟩
abbrev main_v270 : Ref sig .tc := ⟨.hbm, 284, rfl⟩
abbrev main_v271 : Ref sig .tc := ⟨.hbm, 285, rfl⟩
abbrev main_v272 : Ref sig .tc := ⟨.hbm, 286, rfl⟩
abbrev main_v273 : Ref sig .tc := ⟨.hbm, 287, rfl⟩
abbrev main_v274 : Ref sig .tc := ⟨.hbm, 288, rfl⟩
abbrev main_v275 : Ref sig .tc := ⟨.hbm, 289, rfl⟩
abbrev main_v276 : Ref sig .tc := ⟨.hbm, 290, rfl⟩
abbrev main_v277 : Ref sig .tc := ⟨.hbm, 291, rfl⟩
abbrev main_v278 : Ref sig .tc := ⟨.hbm, 292, rfl⟩
abbrev main_v279 : Ref sig .tc := ⟨.hbm, 293, rfl⟩
abbrev main_v280 : Ref sig .tc := ⟨.hbm, 294, rfl⟩
abbrev main_v281 : Ref sig .tc := ⟨.hbm, 295, rfl⟩
abbrev main_v282 : Ref sig .tc := ⟨.hbm, 296, rfl⟩
abbrev main_v283 : Ref sig .tc := ⟨.hbm, 297, rfl⟩
abbrev main_v284 : Ref sig .tc := ⟨.hbm, 298, rfl⟩
abbrev main_v285 : Ref sig .tc := ⟨.hbm, 299, rfl⟩
abbrev main_v286 : Ref sig .tc := ⟨.hbm, 300, rfl⟩
abbrev main_v287 : Ref sig .tc := ⟨.hbm, 301, rfl⟩
abbrev main_v288 : Ref sig .tc := ⟨.hbm, 302, rfl⟩
abbrev main_v289 : Ref sig .tc := ⟨.hbm, 303, rfl⟩
abbrev main_v290 : Ref sig .tc := ⟨.hbm, 304, rfl⟩
abbrev main_v291 : Ref sig .tc := ⟨.hbm, 305, rfl⟩
abbrev main_v292 : Ref sig .tc := ⟨.hbm, 306, rfl⟩
abbrev main_v293 : Ref sig .tc := ⟨.hbm, 307, rfl⟩
abbrev main_v294 : Ref sig .tc := ⟨.hbm, 308, rfl⟩
abbrev main_v295 : Ref sig .tc := ⟨.hbm, 309, rfl⟩
abbrev main_v296 : Ref sig .tc := ⟨.hbm, 310, rfl⟩
abbrev main_v297 : Ref sig .tc := ⟨.hbm, 311, rfl⟩
abbrev main_v298 : Ref sig .tc := ⟨.hbm, 312, rfl⟩
abbrev main_v299 : Ref sig .tc := ⟨.hbm, 313, rfl⟩
abbrev main_v300 : Ref sig .tc := ⟨.hbm, 314, rfl⟩
abbrev main_v301 : Ref sig .tc := ⟨.hbm, 315, rfl⟩
abbrev main_v302 : Ref sig .tc := ⟨.hbm, 316, rfl⟩
abbrev main_v303 : Ref sig .tc := ⟨.hbm, 317, rfl⟩
abbrev main_v304 : Ref sig .tc := ⟨.hbm, 318, rfl⟩
abbrev main_v305 : Ref sig .tc := ⟨.hbm, 319, rfl⟩
abbrev main_v306 : Ref sig .tc := ⟨.hbm, 320, rfl⟩
abbrev main_v307 : Ref sig .tc := ⟨.hbm, 321, rfl⟩
abbrev main_v308 : Ref sig .tc := ⟨.hbm, 322, rfl⟩
abbrev main_v309 : Ref sig .tc := ⟨.hbm, 323, rfl⟩
abbrev main_v310 : Ref sig .tc := ⟨.hbm, 324, rfl⟩
abbrev main_v311 : Ref sig .tc := ⟨.hbm, 325, rfl⟩
abbrev main_v312 : Ref sig .tc := ⟨.hbm, 326, rfl⟩
abbrev main_v313 : Ref sig .tc := ⟨.hbm, 327, rfl⟩
abbrev main_v314 : Ref sig .tc := ⟨.hbm, 328, rfl⟩
abbrev main_v315 : Ref sig .tc := ⟨.hbm, 329, rfl⟩
abbrev main_v316 : Ref sig .tc := ⟨.hbm, 330, rfl⟩
abbrev main_v317 : Ref sig .tc := ⟨.hbm, 331, rfl⟩
abbrev main_v318 : Ref sig .tc := ⟨.hbm, 332, rfl⟩
abbrev main_v319 : Ref sig .tc := ⟨.hbm, 333, rfl⟩
abbrev main_v320 : Ref sig .tc := ⟨.hbm, 334, rfl⟩
abbrev main_v321 : Ref sig .tc := ⟨.hbm, 335, rfl⟩
abbrev main_v322 : Ref sig .tc := ⟨.hbm, 336, rfl⟩
abbrev main_v323 : Ref sig .tc := ⟨.hbm, 337, rfl⟩
abbrev main_v324 : Ref sig .tc := ⟨.hbm, 338, rfl⟩
abbrev main_v325 : Ref sig .tc := ⟨.hbm, 339, rfl⟩
abbrev main_v326 : Ref sig .tc := ⟨.hbm, 340, rfl⟩
abbrev main_v327 : Ref sig .tc := ⟨.hbm, 341, rfl⟩
abbrev main_v328 : Ref sig .tc := ⟨.hbm, 342, rfl⟩
abbrev main_v329 : Ref sig .tc := ⟨.hbm, 343, rfl⟩
abbrev main_v330 : Ref sig .tc := ⟨.hbm, 344, rfl⟩
abbrev main_v331 : Ref sig .tc := ⟨.hbm, 345, rfl⟩
abbrev main_v332 : Ref sig .tc := ⟨.hbm, 346, rfl⟩
abbrev main_v333 : Ref sig .tc := ⟨.hbm, 347, rfl⟩
abbrev main_v334 : Ref sig .tc := ⟨.hbm, 348, rfl⟩
abbrev main_v335 : Ref sig .tc := ⟨.hbm, 349, rfl⟩
abbrev main_v336 : Ref sig .tc := ⟨.hbm, 350, rfl⟩
abbrev main_v337 : Ref sig .tc := ⟨.hbm, 351, rfl⟩
abbrev main_v338 : Ref sig .tc := ⟨.hbm, 352, rfl⟩
abbrev main_v339 : Ref sig .tc := ⟨.hbm, 353, rfl⟩
abbrev main_v340 : Ref sig .tc := ⟨.hbm, 354, rfl⟩
abbrev main_v341 : Ref sig .tc := ⟨.hbm, 355, rfl⟩
abbrev main_v342 : Ref sig .tc := ⟨.hbm, 356, rfl⟩
abbrev main_v343 : Ref sig .tc := ⟨.hbm, 357, rfl⟩
abbrev main_v344 : Ref sig .tc := ⟨.hbm, 358, rfl⟩
abbrev main_v345 : Ref sig .tc := ⟨.hbm, 359, rfl⟩
abbrev main_v346 : Ref sig .tc := ⟨.hbm, 360, rfl⟩
abbrev main_v347 : Ref sig .tc := ⟨.hbm, 361, rfl⟩
abbrev main_v348 : Ref sig .tc := ⟨.hbm, 362, rfl⟩
abbrev main_v349 : Ref sig .tc := ⟨.hbm, 363, rfl⟩
abbrev main_v350 : Ref sig .tc := ⟨.hbm, 364, rfl⟩
abbrev main_v351 : Ref sig .tc := ⟨.hbm, 365, rfl⟩
abbrev main_v352 : Ref sig .tc := ⟨.hbm, 366, rfl⟩
abbrev main_v353 : Ref sig .tc := ⟨.hbm, 367, rfl⟩
abbrev main_v354 : Ref sig .tc := ⟨.hbm, 368, rfl⟩
abbrev main_v355 : Ref sig .tc := ⟨.hbm, 369, rfl⟩
abbrev main_v356 : Ref sig .tc := ⟨.hbm, 370, rfl⟩
abbrev main_v357 : Ref sig .tc := ⟨.hbm, 371, rfl⟩
abbrev main_v358 : Ref sig .tc := ⟨.hbm, 372, rfl⟩
abbrev main_v359 : Ref sig .tc := ⟨.hbm, 373, rfl⟩
abbrev main_v360 : Ref sig .tc := ⟨.hbm, 374, rfl⟩
abbrev main_v361 : Ref sig .tc := ⟨.hbm, 375, rfl⟩
abbrev main_v362 : Ref sig .tc := ⟨.hbm, 376, rfl⟩
abbrev main_v363 : Ref sig .tc := ⟨.hbm, 377, rfl⟩
abbrev main_v364 : Ref sig .tc := ⟨.hbm, 378, rfl⟩
abbrev main_v365 : Ref sig .tc := ⟨.hbm, 379, rfl⟩
abbrev main_v366 : Ref sig .tc := ⟨.hbm, 380, rfl⟩
abbrev main_v367 : Ref sig .tc := ⟨.hbm, 381, rfl⟩
abbrev main_v368 : Ref sig .tc := ⟨.hbm, 382, rfl⟩
abbrev main_v369 : Ref sig .tc := ⟨.hbm, 383, rfl⟩
abbrev main_v370 : Ref sig .tc := ⟨.hbm, 384, rfl⟩
abbrev main_v371 : Ref sig .tc := ⟨.hbm, 385, rfl⟩
abbrev main_v372 : Ref sig .tc := ⟨.hbm, 386, rfl⟩
abbrev main_v373 : Ref sig .tc := ⟨.hbm, 387, rfl⟩
abbrev main_v374 : Ref sig .tc := ⟨.hbm, 388, rfl⟩
abbrev main_v375 : Ref sig .tc := ⟨.hbm, 389, rfl⟩
abbrev main_v376 : Ref sig .tc := ⟨.hbm, 390, rfl⟩
abbrev main_v377 : Ref sig .tc := ⟨.hbm, 391, rfl⟩
abbrev main_v378 : Ref sig .tc := ⟨.hbm, 392, rfl⟩
abbrev main_v379 : Ref sig .tc := ⟨.hbm, 393, rfl⟩
abbrev main_v380 : Ref sig .tc := ⟨.hbm, 394, rfl⟩
abbrev main_v381 : Ref sig .tc := ⟨.hbm, 395, rfl⟩
abbrev main_v382 : Ref sig .tc := ⟨.hbm, 396, rfl⟩
abbrev main_v383 : Ref sig .tc := ⟨.hbm, 397, rfl⟩
abbrev main_v384 : Ref sig .tc := ⟨.hbm, 398, rfl⟩
abbrev main_v385 : Ref sig .tc := ⟨.hbm, 399, rfl⟩
abbrev main_v386 : Ref sig .tc := ⟨.hbm, 400, rfl⟩
abbrev main_v387 : Ref sig .tc := ⟨.hbm, 401, rfl⟩
abbrev main_v388 : Ref sig .tc := ⟨.hbm, 402, rfl⟩
abbrev main_v389 : Ref sig .tc := ⟨.hbm, 403, rfl⟩
abbrev main_v390 : Ref sig .tc := ⟨.hbm, 404, rfl⟩
abbrev main_v391 : Ref sig .tc := ⟨.hbm, 405, rfl⟩
abbrev main_v392 : Ref sig .tc := ⟨.hbm, 406, rfl⟩
abbrev main_v393 : Ref sig .tc := ⟨.hbm, 407, rfl⟩
abbrev main_v394 : Ref sig .tc := ⟨.hbm, 408, rfl⟩
abbrev main_v395 : Ref sig .tc := ⟨.hbm, 409, rfl⟩
abbrev main_v396 : Ref sig .tc := ⟨.hbm, 410, rfl⟩
abbrev main_v397 : Ref sig .tc := ⟨.hbm, 411, rfl⟩
abbrev main_v398 : Ref sig .tc := ⟨.hbm, 412, rfl⟩
abbrev main_v399 : Ref sig .tc := ⟨.hbm, 413, rfl⟩
abbrev main_v400 : Ref sig .tc := ⟨.hbm, 414, rfl⟩
abbrev main_v401 : Ref sig .tc := ⟨.hbm, 415, rfl⟩
abbrev main_v402 : Ref sig .tc := ⟨.hbm, 416, rfl⟩
abbrev main_v403 : Ref sig .tc := ⟨.hbm, 417, rfl⟩
abbrev main_v404 : Ref sig .tc := ⟨.hbm, 418, rfl⟩
abbrev main_v405 : Ref sig .tc := ⟨.hbm, 419, rfl⟩
abbrev main_v406 : Ref sig .tc := ⟨.hbm, 420, rfl⟩
abbrev main_v407 : Ref sig .tc := ⟨.hbm, 421, rfl⟩
abbrev main_v408 : Ref sig .tc := ⟨.hbm, 422, rfl⟩
abbrev main_v409 : Ref sig .tc := ⟨.hbm, 423, rfl⟩
abbrev main_v410 : Ref sig .tc := ⟨.hbm, 424, rfl⟩
abbrev main_v411 : Ref sig .tc := ⟨.hbm, 425, rfl⟩
abbrev main_v412 : Ref sig .tc := ⟨.hbm, 426, rfl⟩
abbrev main_v413 : Ref sig .tc := ⟨.hbm, 427, rfl⟩
abbrev main_v414 : Ref sig .tc := ⟨.hbm, 428, rfl⟩
abbrev main_v415 : Ref sig .tc := ⟨.hbm, 429, rfl⟩
abbrev main_v416 : Ref sig .tc := ⟨.hbm, 430, rfl⟩
abbrev main_v417 : Ref sig .tc := ⟨.hbm, 431, rfl⟩
abbrev main_v418 : Ref sig .tc := ⟨.hbm, 432, rfl⟩
abbrev main_v419 : Ref sig .tc := ⟨.hbm, 433, rfl⟩
abbrev main_v420 : Ref sig .tc := ⟨.hbm, 434, rfl⟩
abbrev main_v421 : Ref sig .tc := ⟨.hbm, 435, rfl⟩
abbrev main_v422 : Ref sig .tc := ⟨.hbm, 436, rfl⟩
abbrev main_v423 : Ref sig .tc := ⟨.hbm, 437, rfl⟩
abbrev main_v424 : Ref sig .tc := ⟨.hbm, 438, rfl⟩
abbrev main_v425 : Ref sig .tc := ⟨.hbm, 439, rfl⟩
abbrev main_v426 : Ref sig .tc := ⟨.hbm, 440, rfl⟩
abbrev main_v427 : Ref sig .tc := ⟨.hbm, 441, rfl⟩
abbrev main_v428 : Ref sig .tc := ⟨.hbm, 442, rfl⟩
abbrev main_v429 : Ref sig .tc := ⟨.hbm, 443, rfl⟩
abbrev main_v430 : Ref sig .tc := ⟨.hbm, 444, rfl⟩
abbrev main_v431 : Ref sig .tc := ⟨.hbm, 445, rfl⟩
abbrev main_v432 : Ref sig .tc := ⟨.hbm, 446, rfl⟩
abbrev main_v433 : Ref sig .tc := ⟨.hbm, 447, rfl⟩
abbrev main_v434 : Ref sig .tc := ⟨.hbm, 448, rfl⟩
abbrev main_v435 : Ref sig .tc := ⟨.hbm, 449, rfl⟩
abbrev main_v436 : Ref sig .tc := ⟨.hbm, 450, rfl⟩
abbrev main_v437 : Ref sig .tc := ⟨.hbm, 451, rfl⟩
abbrev main_v438 : Ref sig .tc := ⟨.hbm, 452, rfl⟩
abbrev main_v439 : Ref sig .tc := ⟨.hbm, 453, rfl⟩
abbrev main_v440 : Ref sig .tc := ⟨.hbm, 454, rfl⟩
abbrev main_v441 : Ref sig .tc := ⟨.hbm, 455, rfl⟩
abbrev main_v442 : Ref sig .tc := ⟨.hbm, 456, rfl⟩
abbrev main_v443 : Ref sig .tc := ⟨.hbm, 457, rfl⟩
abbrev main_v444 : Ref sig .tc := ⟨.hbm, 458, rfl⟩
abbrev main_v445 : Ref sig .tc := ⟨.hbm, 459, rfl⟩
abbrev main_v446 : Ref sig .tc := ⟨.hbm, 460, rfl⟩
abbrev main_v447 : Ref sig .tc := ⟨.hbm, 461, rfl⟩
abbrev main_v448 : Ref sig .tc := ⟨.hbm, 462, rfl⟩
abbrev main_v449 : Ref sig .tc := ⟨.hbm, 463, rfl⟩
abbrev main_v450 : Ref sig .tc := ⟨.hbm, 464, rfl⟩
abbrev main_cst_9 : Ref sig .tc := ⟨.hbm, 465, rfl⟩
abbrev main_v451 : Ref sig .tc := ⟨.hbm, 466, rfl⟩
abbrev main_v452 : Ref sig .tc := ⟨.hbm, 467, rfl⟩
abbrev main_v453 : Ref sig .tc := ⟨.hbm, 468, rfl⟩
abbrev main_v454 : Ref sig .tc := ⟨.hbm, 469, rfl⟩
abbrev main_v455 : Ref sig .tc := ⟨.hbm, 470, rfl⟩

abbrev nD : Nat := 1
abbrev τ : Topo := Topo.v7x

variable {F : FTy → Type} [FloatOps F]
-- ==== Proof.Eval.lean ====
/-
  Running a straight-line kernel body on a family of buffers. The body of a grid point loads and stores rectangles of
  a fixed family of memrefs and does nothing else; `T` is the statement that a program, started with the family at
  contents `st`, runs to an answer and contents related by `Q`. One rule per step: a load, a store, a bind, a loop.
-/
module

public import Idealize.ShloMosaic.Lib.Memref
public import Idealize.ShloMosaic.Rules.Step
public import Idealize.ShloMosaic.Lib.Tactic

@[expose] public section

noncomputable section

namespace Bit.Eval

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The kinds of a family of buffers: each one's memory space, shape and element type. -/
structure Fam (I : Type) where
  sp : I → CoreSpace
  sh : I → Shape
  el : I → EltTy

variable {I : Type}

/-- A family of memrefs of those kinds. -/
abbrev Fam.Mems (Φ : Fam I) (sig : RefSig) : Type := ∀ a : I, Memref sig .tc (Φ.sp a) (Φ.sh a) (Φ.el a)

/-- The contents of such a family. -/
abbrev Fam.St (Φ : Fam I) (Val : EltTy → Type) : Type := ∀ a : I, (Φ.sh a).Idx → Val (Φ.el a)

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

/-- The contents of a memref after `G` is stored at the rectangle `r`. -/
def put {sh : Shape} {α : Type} (r : Rect sh) (X : sh.Idx → α) (G : r.shape.Idx → α) : sh.Idx → α := r.overlay X G

/-- A buffer read after a store through a rectangle is the overlay of the stored value. -/
theorem read_store {κ : Kind} {sp : Space} {s : Shape} {e : EltTy} (m : Memref sig κ sp s e) (r : Rect s) (f : m.view.ty.Contents Val)
    (w : r.shape.Idx → Val e) :
    m.view.read Val ((m.access r).write Val f w Finset.univ) = put r (m.view.read Val f) w := by
  funext y
  by_cases hy : y ∈ Finset.univ.map r.emb
  · obtain ⟨x, -, rfl⟩ := Finset.mem_map.mp hy
    rw [put, Rect.overlay_emb]
    exact View.read_slice_write_emb (v := m.view) r f w (Finset.mem_univ x)
  · rw [put, Rect.overlay_of_not_mem _ _ _ (by rwa [← Rect.map_emb_univ])]
    exact View.read_slice_write_of_not_mem (v := m.view) r f w Finset.univ hy

variable [Fintype I] [DecidableEq I] {Φ : Fam I} (M : Φ.Mems sig) (defs : Defs nD τ sig Val Λ) (𝒱 : Variants) (c : Dev nD)

/-- Every buffer of the family held whole, at contents `st`. -/
def Own (st : Φ.St Val) : sProp 𝕄 := bigSep Finset.univ fun a => owns (c.tc : Thread nD τ) (M a) fullShare (st a)

/-- From contents `st` the program `p` runs to an answer `a` and contents `st'` with `Q a st'`. -/
def T {α : Type} (Ix : Type) [DecidableEq Ix] (Name : Type) [DecidableEq Name] (U : Type) [URA U] (Lvl : Type) [Preorder Lvl]
    (st : Φ.St Val) (p : Prog (TpuEff nD τ sig Val Λ .tc) α) (Q : α → Φ.St Val → Prop) : Prop :=
  (Own M c st : sProp (MT nD τ sig Ix Val Name U Lvl)) ⊢ wp frame (wpE defs 𝒱 (c.tc : Thread nD τ) none) Set.univ p fun a => iprop(∃ st', ⌜Q a st'⌝ ∗ Own M c st')

variable {M defs 𝒱 c}

/-- A program that returns at once meets what already holds of its value. -/
theorem T.ret {α : Type} {st : Φ.St Val} {x : α} {Q : α → Φ.St Val → Prop} (h : Q x st) : T M defs 𝒱 c Ix Name U Lvl st (.ret x) Q := by
  unfold T
  rw [wp_ret]
  refine BIBase.Entails.trans ?_ fupd_intro
  iintro H; iexists st; isplitr
  · ipureintro; exact h
  · iexact H

/-- A postcondition may be weakened. -/
theorem T.mono {α : Type} {st : Φ.St Val} {p : Prog (TpuEff nD τ sig Val Λ .tc) α} {Q Q' : α → Φ.St Val → Prop}
    (h : T M defs 𝒱 c Ix Name U Lvl st p Q) (hQ : ∀ a st', Q a st' → Q' a st') : T M defs 𝒱 c Ix Name U Lvl st p Q' := by
  refine BIBase.Entails.trans h (wp_mono _ _ _ fun a => ?_)
  iintro ⟨%st', %hq, H⟩
  iexists st'; isplitr
  · ipureintro; exact hQ a st' hq
  · iexact H

/-- Two programs in sequence, the second from wherever the first ends. -/
theorem T.bind {α β : Type} {st : Φ.St Val} {p : Prog (TpuEff nD τ sig Val Λ .tc) α} {k : α → Prog (TpuEff nD τ sig Val Λ .tc) β}
    {Q : α → Φ.St Val → Prop} {Q' : β → Φ.St Val → Prop}
    (h : T M defs 𝒱 c Ix Name U Lvl st p Q) (hk : ∀ a st', Q a st' → T M defs 𝒱 c Ix Name U Lvl st' (k a) Q') : T M defs 𝒱 c Ix Name U Lvl st (p >>= k) Q' := by
  unfold T at *
  rw [wp_bind]
  refine BIBase.Entails.trans h (wp_mono _ _ _ fun a => ?_)
  iintro ⟨%st', %hq, H⟩
  ihave H := hk a st' hq $$ H
  iexact H

/-- The ownership of one buffer, apart from the rest. -/
theorem Own.take (st : Φ.St Val) (a : I) : (Own M c st : sProp 𝕄)
    = iprop(owns (c.tc : Thread nD τ) (M a) fullShare (st a) ∗ bigSep (Finset.univ.erase a) fun b => owns (c.tc : Thread nD τ) (M b) fullShare (st b)) :=
  bigSep_erase (Finset.mem_univ a)

/-- One buffer's ownership, joined to the rest, is the ownership of the updated state. -/
theorem Own.put (st : Φ.St Val) (a : I) (X : (Φ.sh a).Idx → Val (Φ.el a)) :
    iprop(owns (c.tc : Thread nD τ) (M a) fullShare X ∗ bigSep (Finset.univ.erase a) fun b => owns (c.tc : Thread nD τ) (M b) fullShare (st b))
      = (Own M c (Function.update st a X) : sProp 𝕄) := by
  rw [Own.take _ a, Function.update_self]
  congr 1
  exact bigSep_congr fun b hb => by rw [Function.update_of_ne (Finset.ne_of_mem_erase hb)]

/-- A load gives the entries of the state under its rectangle. -/
theorem T.load {α : Type} {st : Φ.St Val} (a : I) {r : LoadRect (Φ.sh a)} {hl : (M a).view.LoadsAt r}
    {k : (r.shape.Idx → Val (Φ.el a)) → Prog (TpuEff nD τ sig Val Λ .tc) α} {Q : α → Φ.St Val → Prop}
    (h : T M defs 𝒱 c Ix Name U Lvl st (k fun x => st a (r.idx x)) Q) : T M defs 𝒱 c Ix Name U Lvl st (.op (.load (M a) r hl) k) Q := by
  unfold T at *
  rw [Own.take st a] at h ⊢
  unfold owns
  iintro ⟨⟨%f, %hf, H⟩, Hr⟩
  iapply wp_load (defs := defs) 𝒱 (c.tc : Thread nD τ) none Set.univ (m := M a) (r := r) (hl := hl) (k := k) (f := f)
    (S := (M a).view.set) (View.setOn_subset_set _ _) $$ [H]
  · iexact H
  iintro H
  have e : (M a).view.readAt Val r f = fun x => st a (r.idx x) := by rw [← hf]; rfl
  rw [e]
  iapply h
  isplitl [H]
  · unfold owns; iexists f; isplitr
    · ipureintro; exact hf
    · iexact H
  · iexact Hr

/-- A store updates the state under its rectangle. -/
theorem T.store {α : Type} {st : Φ.St Val} (a : I) {r : Rect (Φ.sh a)} {w : r.shape.Idx → Val (Φ.el a)}
    {hx : ((M a).access r).Stores Finset.univ} {hm : Finset.univ = Finset.univ ∨ ∀ i, r.stride i = 1}
    {k : PUnit → Prog (TpuEff nD τ sig Val Λ .tc) α} {Q : α → Φ.St Val → Prop}
    (h : T M defs 𝒱 c Ix Name U Lvl (Function.update st a (Eval.put r (st a) w)) (k ⟨⟩) Q) : T M defs 𝒱 c Ix Name U Lvl st (.op (.store (M a) r w Finset.univ hx hm) k) Q := by
  unfold T at *
  rw [← Own.put st a] at h
  rw [Own.take st a]
  unfold owns
  iintro ⟨⟨%f, %hf, H⟩, Hr⟩
  iapply wp_store (defs := defs) 𝒱 (c.tc : Thread nD τ) none Set.univ (m := M a) (r := r) (w := w) (Mk := Finset.univ) (hx := hx) (hm := hm) (k := k) (f := f)
    (S := (M a).view.set) (View.set_slice_subset _ _) $$ [H]
  · iexact H
  iintro H
  iapply h
  isplitl [H]
  · unfold owns; iexists _; isplitr
    · ipureintro; rw [← hf]; exact read_store (M a) r f w
    · iexact H
  · iexact Hr

/-- A load followed by a continuation. -/
theorem T.loadK {α : Type} {st : Φ.St Val} (a : I) {r : LoadRect (Φ.sh a)} {hl : (M a).view.LoadsAt r}
    {k : (r.shape.Idx → Val (Φ.el a)) → Prog (TpuEff nD τ sig Val Λ .tc) α} {Q : α → Φ.St Val → Prop}
    (h : T M defs 𝒱 c Ix Name U Lvl st (k fun x => st a (r.idx x)) Q) : T M defs 𝒱 c Ix Name U Lvl st (Prog.lift (.load (M a) r hl) >>= k) Q := T.load a h

/-- A store followed by a continuation. -/
theorem T.storeK {α : Type} {st : Φ.St Val} (a : I) {r : Rect (Φ.sh a)} {w : r.shape.Idx → Val (Φ.el a)}
    {hx : ((M a).access r).Stores Finset.univ} {hm : Finset.univ = Finset.univ ∨ ∀ i, r.stride i = 1}
    {k : PUnit → Prog (TpuEff nD τ sig Val Λ .tc) α} {Q : α → Φ.St Val → Prop}
    (h : T M defs 𝒱 c Ix Name U Lvl (Function.update st a (Eval.put r (st a) w)) (k ⟨⟩) Q) : T M defs 𝒱 c Ix Name U Lvl st (Prog.lift (.store (M a) r w Finset.univ hx hm) >>= k) Q := T.store a h

/-- A store in last position. -/
theorem T.storeL {st : Φ.St Val} (a : I) {r : Rect (Φ.sh a)} {w : r.shape.Idx → Val (Φ.el a)}
    {hx : ((M a).access r).Stores Finset.univ} {hm : Finset.univ = Finset.univ ∨ ∀ i, r.stride i = 1} {Q : PUnit → Φ.St Val → Prop}
    (h : Q ⟨⟩ (Function.update st a (Eval.put r (st a) w))) : T M defs 𝒱 c Ix Name U Lvl st (Prog.lift (.store (M a) r w Finset.univ hx hm)) Q := T.store a (T.ret h)

/-- `n` steps of a loop, the counter given to each as an index below `n`, with a carried value. -/
def loopFrom {E : Type → Type} {σ : Type} {n : ℕ} (f : Fin n → σ → Prog E σ) : (rem k : ℕ) → k + rem = n → σ → Prog E σ
  | 0, _, _, s => .ret s
  | rem + 1, k, h, s => f ⟨k, by omega⟩ s >>= loopFrom f rem (k + 1) (by omega)

/-- The loop from zero. -/
def loop {E : Type → Type} {σ : Type} (n : ℕ) (s : σ) (f : Fin n → σ → Prog E σ) : Prog E σ := loopFrom f n 0 (Nat.zero_add n) s

/-- An invariant kept by every step holds after the remaining steps of a loop. -/
theorem T.loopFrom {σ : Type} {n : ℕ} {f : Fin n → σ → Prog (TpuEff nD τ sig Val Λ .tc) σ} (J : ℕ → σ → Φ.St Val → Prop)
    (hJ : ∀ (k : Fin n) s st, J k s st → T M defs 𝒱 c Ix Name U Lvl st (f k s) (J (k + 1))) :
    ∀ (rem k : ℕ) (h : k + rem = n) (s : σ) (st : Φ.St Val), J k s st → T M defs 𝒱 c Ix Name U Lvl st (Eval.loopFrom f rem k h s) (J n)
  | 0, k, h, s, st, hs => T.ret (by obtain rfl : k = n := h; exact hs)
  | rem + 1, k, h, s, st, hs => T.bind (hJ ⟨k, by omega⟩ s st hs) fun a st' hq => T.loopFrom J hJ rem (k + 1) (by omega) a st' hq

/-- A loop runs by an invariant of the number of steps made, the carried value and the contents. -/
theorem T.loop {σ : Type} {n : ℕ} {s : σ} {f : Fin n → σ → Prog (TpuEff nD τ sig Val Λ .tc) σ} {st : Φ.St Val} (J : ℕ → σ → Φ.St Val → Prop)
    (h0 : J 0 s st) (hJ : ∀ (k : Fin n) s st, J k s st → T M defs 𝒱 c Ix Name U Lvl st (f k s) (J (k + 1))) : T M defs 𝒱 c Ix Name U Lvl st (Eval.loop n s f) (J n) :=
  T.loopFrom J hJ n 0 (Nat.zero_add n) s st h0

variable (M defs 𝒱 c) in
/-- A program runs from any contents. -/
def Safe {α : Type} (Ix : Type) [DecidableEq Ix] (Name : Type) [DecidableEq Name] (U : Type) [URA U] (Lvl : Type) [Preorder Lvl] (p : Prog (TpuEff nD τ sig Val Λ .tc) α) : Prop :=
  ∀ st : Φ.St Val, T M defs 𝒱 c Ix Name U Lvl st p fun _ _ => True

/-- A program that returns at once is safe. -/
theorem Safe.ret {α : Type} {x : α} : Safe M defs 𝒱 c Ix Name U Lvl (.ret x) := fun _ => T.ret trivial
/-- Safe programs in sequence are safe. -/
theorem Safe.bind {α β : Type} {p : Prog (TpuEff nD τ sig Val Λ .tc) α} {k : α → Prog (TpuEff nD τ sig Val Λ .tc) β} (h : Safe M defs 𝒱 c Ix Name U Lvl p) (hk : ∀ a, Safe M defs 𝒱 c Ix Name U Lvl (k a)) :
    Safe M defs 𝒱 c Ix Name U Lvl (p >>= k) := fun st => T.bind (h st) fun a st' _ => hk a st'
/-- A load is safe. -/
theorem Safe.load (a : I) {r : LoadRect (Φ.sh a)} {hl : (M a).view.LoadsAt r} : Safe M defs 𝒱 c Ix Name U Lvl (Prog.lift (.load (M a) r hl)) := fun _ => T.load a (T.ret trivial)
/-- A store is safe. -/
theorem Safe.store (a : I) {r : Rect (Φ.sh a)} {w : r.shape.Idx → Val (Φ.el a)}
    {hx : ((M a).access r).Stores Finset.univ} {hm : Finset.univ = Finset.univ ∨ ∀ i, r.stride i = 1} : Safe M defs 𝒱 c Ix Name U Lvl (Prog.lift (.store (M a) r w Finset.univ hx hm)) :=
  fun _ => T.store a (T.ret trivial)
/-- A loop of safe steps is safe. -/
theorem Safe.loop {σ : Type} {n : ℕ} {s : σ} {f : Fin n → σ → Prog (TpuEff nD τ sig Val Λ .tc) σ} (hf : ∀ k s, Safe M defs 𝒱 c Ix Name U Lvl (f k s)) : Safe M defs 𝒱 c Ix Name U Lvl (Eval.loop n s f) :=
  fun _ => (T.loop (J := fun _ _ _ => True) trivial fun k s st _ => hf k s st).mono fun _ _ h => h

end Bit.Eval

end
-- ==== Proof.Body.lean ====
/-
  The kernel's body as loops. The body is printed unrolled (some fifteen thousand lines); this file writes the same
  program with its loops, over a record of the buffers it works on and, for the steps whose two printings differ, a record of those
  steps (`Dial`): the split into a high part, the packing of a pair of rows, and the loads and stores of the sign scratch.
-/
module

public import proofs.«01_k».proof.KernelIdeal
public import proofs.«01_k».proof.Proof.Eval

@[expose] public section

noncomputable section

namespace Bit

open Idealize.ShloMosaic Idealize.SL.Sem
open Cert.KernelIdeal Cert.KernelIdeal.Facts₀ Cert.KernelIdeal.Facts
open Bit.Eval (loop loopFrom)

/-- A step of the counter loop on values only. -/
def foldFrom {σ : Type} (f : ℕ → σ → σ) : (rem k : ℕ) → σ → σ
  | 0, _, s => s
  | rem + 1, k, s => foldFrom f rem (k + 1) (f k s)

/-- `f` with its value at `n` replaced. -/
def setAt {α : Type} (f : ℕ → α) (n : ℕ) (v : α) : ℕ → α := fun j => bif Nat.beq j n then v else f j

variable {F : FTy → Type} [FloatOps F] [Cert.KernelIdeal.Facts]
variable {nD : Nat} {τ : Topo} {sig : RefSig} {Λ : Labels}

/-- A program of a TensorCore. -/
abbrev Pg (F : FTy → Type) [FloatOps F] (nD : Nat) (τ : Topo) (sig : RefSig) (Λ : Labels) (α : Type) : Type 1 := Prog (TpuEff nD τ sig (Elt F) Λ .tc) α

/-- One stage of a butterfly: the items at distance `2 ^ b` become sum and difference. -/
def stage {s : Shape} {φ : FTy} (b : ℕ) (v : ℕ → FVec F s φ) : ℕ → FVec F s φ := fun i =>
  bif Nat.testBit i b then subf (v (i - 2 ^ b)) (v i) else addf (v i) (v (i + 2 ^ b))

/-- A butterfly over the low `n` bits of the item's number, lowest bit first. -/
def bfly {s : Shape} {φ : FTy} (n : ℕ) (v : ℕ → FVec F s φ) : ℕ → FVec F s φ := foldFrom stage n 0 v

/-- The buffers of a grid point but the sign scratch. -/
structure Args (sig : RefSig) where
  x : Memref sig .tc .vmem S1x128x2048 .f32
  b : Memref sig .tc .vmem S1x128x256 .i8
  e : Memref sig .tc .vmem S1x128x2048 .f32
  xh : Memref sig .tc .vmem S1x128x2048 .f32
  ne : Memref sig .tc .vmem S1x128x2048 .f32
  code : Memref sig .tc .vmem S1x128x256 .i8
  scale : Memref sig .tc .smem S8 .f32
  g : Memref sig .tc .vmem S9x16x128x128 .f32
  m : Memref sig .tc .vmem S9x16x128x128 .i32
  wq : Memref sig .tc .vmem S2x128x128 .i32
  y : Memref sig .tc .vmem S4352x128 .f32
  cw : Memref sig .tc .vmem S64x128 .i32
  h : Memref sig .tc .vmem S256x256 .f32
  hr : Memref sig .tc .vmem S256x256 .bf16
  acc : Memref sig .tc .vmem S16x128 .f32
  sc : Memref sig .tc .vmem S8x128 .f32
  code_whole : code.IsWhole
  hr_whole : hr.IsWhole

/-- The steps the two printings write differently. -/
structure Dial (F : FTy → Type) [FloatOps F] (nD : Nat) (τ : Topo) (sig : RefSig) (Λ : Labels) where
  hi : FVec F S128x256 .f32 → FVec F S128x256 .f32
  pack : FVec F S8x128 .f32 → FVec F S8x128 .f32 → FVec F S16x128 .bf16
  ldS : (sl : ℕ) → sl < 9 → (cb : Fin 16) → Prog (TpuEff nD τ sig (Elt F) Λ .tc) (FVec F S128x128 .bf16)
  stS : (sl : ℕ) → sl < 9 → (cb : Fin 16) → (r : Fin 8) → FVec F S16x128 .bf16 → Prog (TpuEff nD τ sig (Elt F) Λ .tc) PUnit

/-- A load from vector memory. -/
def ld {s : Shape} {e : EltTy} (m : Memref sig .tc .vmem s e) (r : LoadRect s) (h : 0 < r.shape.numel) : Pg F nD τ sig Λ (r.shape.Idx → Elt F e) :=
  Prog.lift (.load m r (View.loadsAt_vmem h))

/-- An unmasked store of 32-bit elements to vector memory. -/
def st {s : Shape} {e : EltTy} (m : Memref sig .tc .vmem s e) (r : Rect s) (w : r.shape.Idx → Elt F e) (h : 0 < r.shape.numel) (he : e.bits = 32) : Pg F nD τ sig Λ PUnit :=
  Prog.lift (.store m r w Finset.univ (View.stores_vmem_bits_univ h he) (.inl rfl))

/-! ### The rectangles -/

/-- Columns `128 cb …` of a 2048-wide block. -/
def rX (cb : ℕ) (h : cb < 16) : Rect S1x128x2048 := Rect.unit (s := S1x128x2048) ![0, 0, 128 * cb] S1x128x128.size (by
  intro a; fin_cases a <;> simp [S1x128x128, S1x128x2048] <;> omega)
/-- Columns `128 p …` of a 256-wide block. -/
def rB (p : ℕ) (h : p < 2) : Rect S1x128x256 := Rect.unit (s := S1x128x256) ![0, 0, 128 * p] S1x128x128.size (by
  intro a; fin_cases a <;> simp [S1x128x128, S1x128x256] <;> omega)
/-- Column block `cb` of slot `sl`. -/
def rS (sl : ℕ) (hs : sl < 9) (cb : ℕ) (h : cb < 16) : Rect S9x16x128x128 := Rect.unit (s := S9x16x128x128) ![sl, cb, 0, 0] S1x1x128x128.size (by
  intro a; fin_cases a <;> simp [S1x1x128x128, S9x16x128x128] <;> omega)
/-- Eight rows of half `hb` of the unpacked words. -/
def rWq (hb q : ℕ) (h : hb < 2) (h' : q < 16) : Rect S2x128x128 := Rect.unit (s := S2x128x128) ![hb, 8 * q, 0] S1x8x128.size (by
  intro a; fin_cases a <;> simp [S1x8x128, S2x128x128] <;> omega)
/-- Half `hb` of the unpacked words. -/
def rWh (hb : ℕ) (h : hb < 2) : Rect S2x128x128 := Rect.unit (s := S2x128x128) ![hb, 0, 0] S1x128x128.size (by
  intro a; fin_cases a <;> simp [S1x128x128, S2x128x128] <;> omega)
/-- Eight rows two apart of the transposition scratch. -/
def rYw (base : ℕ) (h : base + 14 < 4352) : Rect S4352x128 := ⟨⟨![base, 0], S8x128.size, ![2, 1], by
  intro a; fin_cases a <;> simp [S8x128, S4352x128] <;> omega⟩, spos_2_1⟩
/-- Eight rows seventeen apart of the transposition scratch. -/
def rYr (base : ℕ) (h : base + 119 < 4352) : LoadRect S4352x128 := ⟨![base, 0], S8x128.size, ![17, 1], by
  intro a; fin_cases a <;> simp [S8x128, S4352x128] <;> omega⟩
/-- Eight rows two apart of the code words. -/
def rC (base : ℕ) (h : base + 14 < 64) : Rect S64x128 := ⟨⟨![base, 0], S8x128.size, ![2, 1], by
  intro a; fin_cases a <;> simp [S8x128, S64x128] <;> omega⟩, spos_2_1⟩
/-- Half of the code words. -/
def rCh (p : ℕ) (h : p < 2) : Rect S64x128 := Rect.unit (s := S64x128) ![32 * p, 0] S32x128.size (by
  intro a; fin_cases a <;> simp [S32x128, S64x128] <;> omega)
/-- The whole of a 256 × 256 matrix. -/
def rH : Rect S256x256 := Rect.unit (s := S256x256) ![0, 0] S256x256.size inb_S256x256_S256x256_0_0
/-- The whole of the accumulator. -/
def rAcc : Rect S16x128 := Rect.unit (s := S16x128) ![0, 0] S16x128.size inb_S16x128_S16x128_0_0
/-- Half `k` of the two sums. -/
def rAh (k : ℕ) (h : k < 2) : Rect S16x128 := Rect.unit (s := S16x128) ![8 * k, 0] S8x128.size (by
  intro a; fin_cases a <;> simp [S8x128, S16x128] <;> omega)
/-- The whole of the scale scratch. -/
def rSc : Rect S8x128 := Rect.unit (s := S8x128) ![0, 0] S8x128.size (by intro a; fin_cases a <;> simp [S8x128])
/-- The first row of the scale scratch. -/
def rSc1 : Rect S8x128 := Rect.unit (s := S8x128) ![0, 0] S1x128.size (by intro a; fin_cases a <;> simp [S8x128, S1x128])

/-- Rows `8q … 8q+7` lie within a block of 128 rows. -/
theorem slices16 (q : ℕ) (h : q < 16) : S128x128.Slices ![8 * q, 0] S8x128 :=
  (by decide : ∀ q : Fin 16, S128x128.Slices ![8 * q.val, 0] S8x128) ⟨q, h⟩
/-- Eight rows of half `k` of the lanes lie within a block of 128 rows. -/
theorem slices32 (k : ℕ) (hk : k < 2) (q : ℕ) (h : q < 16) : S128x256.Slices ![8 * q, 128 * k] S8x128 :=
  (by decide : ∀ k : Fin 2, ∀ q : Fin 16, S128x256.Slices ![8 * q.val, 128 * k.val] S8x128) ⟨k, hk⟩ ⟨q, h⟩
/-- Row `q` lies within the 32 rows of words. -/
theorem slicesW (q : ℕ) (h : q < 32) : S32x128.Slices ![q, 0] S1x128 :=
  (by decide : ∀ q : Fin 32, S32x128.Slices ![q.val, 0] S1x128) ⟨q, h⟩
/-- Half `k` of the lanes lies within a block of 256 lanes. -/
theorem slicesU (k : ℕ) (h : k < 2) : S128x256.Slices ![0, 128 * k] S128x128 :=
  (by decide : ∀ k : Fin 2, S128x256.Slices ![0, 128 * k.val] S128x128) ⟨k, h⟩

variable (A : Args sig) (D : Dial F nD τ sig Λ)

/-- Sixteen blocks of eight rows, one above the other. -/
def cat16 {α : Type} (v : ℕ → S8x128.Idx → α) : S128x128.Idx → α :=
  concatenate S128x128 0 [⟨S8x128, v 0⟩, ⟨S8x128, v 1⟩, ⟨S8x128, v 2⟩, ⟨S8x128, v 3⟩, ⟨S8x128, v 4⟩, ⟨S8x128, v 5⟩, ⟨S8x128, v 6⟩, ⟨S8x128, v 7⟩,
    ⟨S8x128, v 8⟩, ⟨S8x128, v 9⟩, ⟨S8x128, v 10⟩, ⟨S8x128, v 11⟩, ⟨S8x128, v 12⟩, ⟨S8x128, v 13⟩, ⟨S8x128, v 14⟩, ⟨S8x128, v 15⟩]
    concatenates_S8x128_S8x128_S8x128_S8x128_S8x128_S8x128_S8x128_S8x128_S8x128_S8x128_S8x128_S8x128_S8x128_S8x128_S8x128_S8x128_S128x128_d0

/-! ### The first point: the two Hadamard matrices and the sums' zero -/

/-- Plus or minus one by the parity of the common bits of two index arrays. -/
def hsign (i j : IVec S256x256 32) : FVec F S256x256 .f32 :=
  sitofp .f32 (subi (broadcast S256x256 1#32) (muli (broadcast S256x256 2#32) (andi (ctpop (andi i j)) (broadcast S256x256 1#32))))

/-- The row number at each place of the matrix. -/
def hRow : IVec S256x256 32 := iota .tc S256x256 32 [0] iota_S256x256_d0_w32
/-- The column number at each place of the matrix. -/
def hCol : IVec S256x256 32 := iota .tc S256x256 32 [1] iota_S256x256_d1_w32

/-- The bucket row of a row of the sign scratch. -/
def rowOf (k : IVec S256x256 32) : IVec S256x256 32 :=
  let k4 := shrsi k (broadcast S256x256 4#32)
  let kp := andi k4 (broadcast S256x256 3#32)
  addi (addi (addi (addi (muli (broadcast S256x256 64#32) (shrsi k4 (broadcast S256x256 2#32)))
      (muli (broadcast S256x256 8#32) (andi (shrsi k (broadcast S256x256 1#32)) (broadcast S256x256 7#32))))
      (muli (broadcast S256x256 4#32) (shrsi kp (broadcast S256x256 1#32))))
      (andi kp (broadcast S256x256 1#32)))
    (muli (broadcast S256x256 2#32) (andi k (broadcast S256x256 1#32)))

/-- The Hadamard matrix of the row transform, its columns in the scratch's row order. -/
def hrMat : FVec F S256x256 .f32 :=
  hsign (addi (andi hRow (broadcast S256x256 128#32)) (andi hRow (broadcast S256x256 127#32)))
    (addi (andi hCol (broadcast S256x256 128#32)) (rowOf (andi hCol (broadcast S256x256 127#32))))

/-- The 32-bit float zero. -/
def zero32 : F .f32 := Scalar.ofBits .f32 0x00000000#32

/-- Clears the accumulator. -/
def zeroAcc : Pg F nD τ sig Λ PUnit := do
  let _ ← ld A.acc rAcc.toLoadRect h_S16x128
  st A.acc rAcc (shapeCast S16x128 (broadcast S16x128 (zero32 (F := F))) shapeCasts_S16x128_S16x128) h_S16x128 rfl

/-- Writes both sign matrices and clears the accumulator. -/
def init : Pg F nD τ sig Λ PUnit := do
  let _ ← ld A.h rH.toLoadRect h_S256x256
  st A.h rH (shapeCast S256x256 (hsign (F := F) hRow hCol) shapeCasts_S256x256_S256x256) h_S256x256 rfl
  let _ ← ld A.hr rH.toLoadRect h_S256x256
  Prog.lift (.store A.hr rH (shapeCast S256x256 (truncf .bf16 (hrMat (F := F)) bitsLt_bf16_f32 : FVec F S256x256 .bf16) shapeCasts_S256x256_S256x256) Finset.univ
    (View.stores_vmem h_S256x256 (A.hr_whole.storeExact_slice rfl _ packedbf16_S256x256_S256x256_0_0) (fun _ => rfl)) (.inl rfl))
  zeroAcc A

/-! ### The first point of a batch but the first: the scale -/

/-- The sum of all the entries of a block. -/
def sum8 (v : FVec F S8x128 .f32) : FVec F S1x1 .f32 :=
  broadcast S1x1 (extractAt ![0, 0, 0] (shapeCast S1x1x1 (multiReduction .add [1, 2] S1 (shapeCast S1x8x128 v shapeCasts_S8x128_S1x8x128) 0x00000000#32 reduces_S1x8x128_S1 (.inl rfl) rfl) shapeCasts_S1_S1x1x1)
    inpos_S1x1x1_p0_0_0)

/-- The constant 2⁻⁹, by which the transform is normalized. -/
def cNorm : FVec F S1x1 .f32 := broadcast S1x1 (Scalar.ofBits .f32 0x3B000000#32)

/-- The scale of the batch, from its two sums. -/
def scaleOf (num den : FVec F S8x128 .f32) : FVec F S1x1 .f32 := divf (sum8 num) (mulf cNorm (sum8 den))

/-- Writes the scale of the batch just ended and clears the accumulator. -/
def scaleStep (off : Fin 1 → ℕ) (ho : ∀ a, off a + S1.size a ≤ S8.size a) : Pg F nD τ sig Λ PUnit := do
  let num : FVec F S8x128 .f32 ← ld A.acc (rAh 0 (by decide)).toLoadRect h_S8x128
  let den : FVec F S8x128 .f32 ← ld A.acc (rAh 1 (by decide)).toLoadRect h_S8x128
  let _ ← ld A.sc rSc.toLoadRect h_S8x128
  st A.sc rSc (shapeCast S8x128 (broadcastTo S8x128 (shapeCast S1x1 (mulf (scaleOf num den) cNorm) shapeCasts_S1x1_S1x1) broadcasts_S1x1_S8x128) shapeCasts_S8x128_S8x128) h_S8x128 rfl
  let _ ← smemLoad A.scale (Rect.unit (s := S8) off S1.size ho) numel1_S1 rfl
  Prog.lift (.store A.scale (Rect.unit (s := S8) off S1.size ho) (fun _ => extractAt ![0, 0] (scaleOf num den) inpos_S1x1_p0_0) Finset.univ (View.stores_smem_one rfl numel1_S1) (.inl rfl))
  zeroAcc A

/-! ### The inverse rotation of the bucket nine points back -/

/-- Two column blocks of stored signs side by side. -/
def ldS2 (sl : ℕ) (hs : sl < 9) (c : ℕ) (h : c < 8) : Pg F nD τ sig Λ (FVec F S128x256 .bf16) := do
  let a ← D.ldS sl hs ⟨2 * c, by omega⟩
  let b ← D.ldS sl hs ⟨2 * c + 1, by omega⟩
  pure (concatenate S128x256 1 [⟨S128x128, a⟩, ⟨S128x128, b⟩] concatenates_S128x128_S128x128_S128x256_d1)

/-- The row transform of two stacked blocks. -/
def rowDot (hr : FVec F S256x256 .bf16) (lo hi : FVec F S128x256 .bf16) : FVec F S256x256 .f32 :=
  matmul dot_S256x256_S256x256_S256x256_1_0_0_1_n_n none hr (concatenate S256x256 0 [⟨S128x256, lo⟩, ⟨S128x256, hi⟩] concatenates_S128x256_S128x256_S256x256_d0)
    (constant S256x256 .f32 0x00000000#32)

/-- The first 128 rows of a product. -/
def topRows (v : FVec F S256x256 .f32) : FVec F S128x256 .f32 := extractStridedSlice S128x256 ![0, 0] v slices_S256x256_o0_0_S128x256
/-- The last 128 rows of a product. -/
def botRows (v : FVec F S256x256 .f32) : FVec F S128x256 .f32 := extractStridedSlice S128x256 ![128, 0] v slices_S256x256_o128_0_S128x256

/-- The row stage of the inverse transform, over the signs of a slot. -/
def invRows (hr : FVec F S256x256 .bf16) (sl : ℕ) (hs : sl < 9) : Pg F nD τ sig Λ (ℕ → FVec F S128x256 .f32) :=
  loop (σ := ℕ → FVec F S128x256 .f32) 2 (fun _ _ => zero32) fun j p => do
    let lo0 ← ldS2 D sl hs j (by omega)
    let lo1 ← ldS2 D sl hs (j + 2) (by omega)
    let hi0 ← ldS2 D sl hs (j + 4) (by omega)
    let hi1 ← ldS2 D sl hs (j + 6) (by omega)
    let o0 := rowDot hr (addf lo0 lo1) (addf hi0 hi1)
    let o1 := rowDot hr (subf lo0 lo1) (subf hi0 hi1)
    pure (setAt (setAt (setAt (setAt p j (topRows o0)) (j + 4) (botRows o0)) (j + 2) (topRows o1)) (j + 6) (botRows o1))

/-- A product with the column Hadamard matrix. -/
def colDot (v : FVec F S128x256 .f32) (h : FVec F S256x256 .f32) : FVec F S128x256 .f32 :=
  matmul dot_S128x256_S256x256_S128x256_1_0_0_1_n_n none v h (constant S128x256 .f32 0x00000000#32)

/-- A block with the signs of the mask `m`. -/
def flip (m : IVec S128x128 32) (v : FVec F S128x128 .f32) : FVec F S128x128 .f32 :=
  select (cmpi .slt m (broadcast S128x128 0#32)) (subf (broadcast S128x128 zero32) v) v

/-- Writes a column block of the result and of the new error. -/
def invOut (sc : FVec F S128x128 .f32) (u : FVec F S128x256 .f32) (sl : ℕ) (hs : sl < 9) (cb : ℕ) (h : ℕ) (hcb : cb < 16) (hh : h < 2) : Pg F nD τ sig Λ PUnit := do
  let v : FVec F S128x128 .f32 := mulf (extractStridedSlice S128x128 ![0, 128 * h] u (slicesU h hh)) sc
  let m : Vec F S1x1x128x128 .i32 ← ld A.m (rS sl hs cb hcb).toLoadRect h_S1x1x128x128
  let o := flip (shapeCast S128x128 m shapeCasts_S1x1x128x128_S128x128) v
  let _ ← ld (F := F) A.xh (rX cb hcb).toLoadRect h_S1x128x128
  st A.xh (rX cb hcb) (shapeCast S1x128x128 o shapeCasts_S128x128_S1x128x128) h_S1x128x128 rfl
  let g : Vec F S1x1x128x128 .f32 ← ld A.g (rS sl hs cb hcb).toLoadRect h_S1x1x128x128
  let e : FVec F S128x128 .f32 := subf (shapeCast S128x128 g shapeCasts_S1x1x128x128_S128x128) o
  let _ ← ld (F := F) A.ne (rX cb hcb).toLoadRect h_S1x128x128
  st A.ne (rX cb hcb) (shapeCast S1x128x128 e shapeCasts_S128x128_S1x128x128) h_S1x128x128 rfl

/-- The inverse transform of a slot, with its two results. -/
def inverse (sl : ℕ) (hs : sl < 9) : Pg F nD τ sig Λ PUnit := do
  let s1 : Vec F S1x128 .f32 ← ld A.sc rSc1.toLoadRect h_S1x128
  let sc : FVec F S128x128 .f32 := broadcastTo S128x128 (shapeCast S1x128 s1 shapeCasts_S1x128_S1x128) broadcasts_S1x128_S128x128
  let hr : Vec F S256x256 .bf16 ← ld A.hr rH.toLoadRect h_S256x256
  let p ← invRows D hr sl hs
  loop 4 PUnit.unit fun k _ => do
    let h0 : Vec F S256x256 .f32 ← ld A.h rH.toLoadRect h_S256x256
    let u0 := colDot (p (2 * k)) h0
    let h1 : Vec F S256x256 .f32 ← ld A.h rH.toLoadRect h_S256x256
    let u1 := colDot (p (2 * k + 1)) h1
    invOut A sc (addf u0 u1) sl hs (4 * k) 0 (by omega) (by decide)
    invOut A sc (addf u0 u1) sl hs (4 * k + 1) 1 (by omega) (by decide)
    invOut A sc (subf u0 u1) sl hs (4 * k + 2) 0 (by omega) (by decide)
    invOut A sc (subf u0 u1) sl hs (4 * k + 3) 1 (by omega) (by decide)

/-! ### The forward rotation -/

/-- The lane number at each place of eight rows. -/
def vLane : IVec S8x128 32 := iota .tc S8x128 32 [1] iota_S8x128_d1_w32
/-- The row number at each place of eight rows. -/
def vSub : IVec S8x128 32 := iota .tc S8x128 32 [0] iota_S8x128_d0_w32

/-- Row `q` of the words, repeated over eight rows. -/
def wordRow (words : IVec S32x128 32) (q : ℕ) (h : q < 32) : IVec S8x128 32 :=
  broadcastTo S8x128 (shapeCast S1x128 (extractStridedSlice S1x128 ![q, 0] words (slicesW q h)) shapeCasts_S1x128_S1x128) broadcasts_S1x128_S8x128

/-- The sign words, each row of four bytes spread over the rows that read it. -/
def fwdWords : Pg F nD τ sig Λ PUnit :=
  loop 2 PUnit.unit fun hb _ => do
    let v : Vec F S1x128x128 .i8 ← ld A.b (rB hb hb.2).toLoadRect h_S1x128x128
    let words : IVec S32x128 32 := bitcast S32x128 32 (shapeCast S128x128 v shapeCasts_S1x128x128_S128x128) bitcasts_S128x128_w8_S32x128_w32
    loop 16 PUnit.unit fun q _ => do
      let w := select (cmpi .slt vSub (broadcast S8x128 4#32)) (wordRow words (2 * q) (by omega)) (wordRow words (2 * q + 1) (by omega))
      let _ ← ld (F := F) A.wq (rWq hb q hb.2 q.2).toLoadRect h_S1x8x128
      st A.wq (rWq hb q hb.2 q.2) (shapeCast S1x8x128 w shapeCasts_S8x128_S1x8x128 : Vec F S1x8x128 .i32) h_S1x8x128 rfl

/-- How far left a word is shifted to bring a lane's bit to the top. -/
def vShift : IVec S128x128 32 :=
  cat16 fun _ => subi (subi (broadcast S8x128 31#32) (muli (broadcast S8x128 8#32) (andi vSub (broadcast S8x128 3#32)))) (andi vLane (broadcast S8x128 7#32))

/-- Lane by lane, the word of lane `idx` of the same row. -/
def gather (w idx : IVec S128x128 32) : IVec S128x128 32 :=
  dynamicGather 1 w (shapeCast S128x128 (shapeCast S128x128x1 (select (cmpi .slt idx (broadcast S128x128 0#32)) (addi idx (broadcast S128x128 128#32)) idx) shapeCasts_S128x128_S128x128x1) shapeCasts_S128x128x1_S128x128)

/-- The mask of a block: its top bit is the lane's sign bit. -/
def maskOf (w : IVec S128x128 32) (k : ℕ) : IVec S128x128 32 :=
  andi (shli (gather w (cat16 fun _ => addi (broadcast S8x128 (BitVec.ofNat 32 k)) (shrsi vLane (broadcast S8x128 3#32)))) vShift) (broadcast S128x128 2147483648#32)

/-- Column block `2 c + h`: the sum, its mask, its squares added up, and its rows' first four butterfly stages. -/
def fwdHalf (sl : ℕ) (hs : sl < 9) (c h : ℕ) (hc : c < 8) (hh : h < 2) (acc : FVec F S8x128 .f32) :
    Pg F nD τ sig Λ (FVec F S8x128 .f32 × FVec F S128x128 .f32) := do
  let x : Vec F S1x128x128 .f32 ← ld A.x (rX (2 * c + h) (by omega)).toLoadRect h_S1x128x128
  let e : Vec F S1x128x128 .f32 ← ld A.e (rX (2 * c + h) (by omega)).toLoadRect h_S1x128x128
  let g : FVec F S128x128 .f32 := addf (shapeCast S128x128 x shapeCasts_S1x128x128_S128x128) (shapeCast S128x128 e shapeCasts_S1x128x128_S128x128)
  let _ ← ld (F := F) A.g (rS sl hs (2 * c + h) (by omega)).toLoadRect h_S1x1x128x128
  st A.g (rS sl hs (2 * c + h) (by omega)) (shapeCast S1x1x128x128 g shapeCasts_S128x128_S1x1x128x128) h_S1x1x128x128 rfl
  let w : Vec F S1x128x128 .i32 ← ld A.wq (rWh (c / 4) (by omega)).toLoadRect h_S1x128x128
  let m := maskOf (shapeCast S128x128 w shapeCasts_S1x128x128_S128x128) (32 * (c % 4) + 16 * h)
  let _ ← ld (F := F) A.m (rS sl hs (2 * c + h) (by omega)).toLoadRect h_S1x1x128x128
  st A.m (rS sl hs (2 * c + h) (by omega)) (shapeCast S1x1x128x128 m shapeCasts_S128x128_S1x1x128x128 : Vec F S1x1x128x128 .i32) h_S1x1x128x128 rfl
  let acc' := addf acc (multiReduction .add [0] S8x128 (shapeCast S16x8x128 (mulf g g) shapeCasts_S128x128_S16x8x128) 0x00000000#32 reduces_S16x8x128_S8x128 (.inl rfl) rfl)
  let v := flip m g
  let t := bfly 4 fun q => if h : q < 16 then extractStridedSlice S8x128 ![8 * q, 0] v (slices16 q h) else fun _ => zero32
  pure (acc', cat16 t)

/-- Two column blocks: their product with the Hadamard matrix, written to the transposition scratch. -/
def fwdCol (sl : ℕ) (hs : sl < 9) (c : Fin 8) (acc : FVec F S8x128 .f32) : Pg F nD τ sig Λ (FVec F S8x128 .f32) := do
  let r0 ← fwdHalf A sl hs c 0 c.2 (by decide) acc
  let r1 ← fwdHalf A sl hs c 1 c.2 (by decide) r0.1
  let v : FVec F S128x256 .f32 := concatenate S128x256 1 [⟨S128x128, r0.2⟩, ⟨S128x128, r1.2⟩] concatenates_S128x128_S128x128_S128x256_d1
  let hi := D.hi v
  let r := subf v hi
  let mid := D.hi r
  let lo := subf r mid
  let h0 : Vec F S256x256 .f32 ← ld A.h rH.toLoadRect h_S256x256
  let o0 := colDot hi h0
  let h1 : Vec F S256x256 .f32 ← ld A.h rH.toLoadRect h_S256x256
  let o1 := addf o0 (colDot mid h1)
  let h2 : Vec F S256x256 .f32 ← ld A.h rH.toLoadRect h_S256x256
  let out := addf o1 (colDot lo h2)
  loop 2 PUnit.unit fun h _ => loop 16 PUnit.unit fun q _ => do
    let _ ← ld (F := F) A.y (rYw (272 * (2 * c + h) + 17 * q) (by omega)).toLoadRect h_S8x128
    st A.y (rYw (272 * (2 * c + h) + 17 * q) (by omega))
      (shapeCast S8x128 (extractStridedSlice S8x128 ![8 * q.val, 128 * h.val] out (slices32 h h.2 q q.2)) shapeCasts_S8x128_S8x128) h_S8x128 rfl
  pure r1.1

/-- A round of the bit transposition across lanes. -/
def trRound (z : IVec S8x128 32) (h : ℕ) (low : BitVec 32) : IVec S8x128 32 :=
  let up := dynamicRotate 1 (BitVec.ofNat 32 (128 - h)) none z rotates_S8x128_d1
  let down := dynamicRotate 1 (BitVec.ofNat 32 h) none z rotates_S8x128_d1
  let first := ori (andi z (broadcast S8x128 low)) (shli (andi up (broadcast S8x128 low)) (broadcast S8x128 (BitVec.ofNat 32 h)))
  let second := ori (andi z (broadcast S8x128 (Scalar.xori low 4294967295#32))) (andi (shrui down (broadcast S8x128 (BitVec.ofNat 32 h))) (broadcast S8x128 low))
  select (cmpi .eq (andi vLane (broadcast S8x128 (BitVec.ofNat 32 h))) (broadcast S8x128 0#32)) first second

/-- Transposes the bits of each byte across eight lanes. -/
def trBits (z : IVec S8x128 32) : IVec S8x128 32 :=
  trRound (trRound (trRound z 1 1431655765#32) 2 858993459#32) 4 252645135#32

/-- The code words of eight rows: their bits transposed, their lanes put in order. -/
def codeWord (w : IVec S16x128 16) : IVec S8x128 32 :=
  let idx := addi (muli (broadcast S8x128 8#32) (andi vLane (broadcast S8x128 15#32))) (shrsi vLane (broadcast S8x128 4#32))
  dynamicGather 1 (trBits (bitcast S8x128 32 w bitcasts_S16x128_w16_S8x128_w32))
    (shapeCast S8x128 (shapeCast S8x128x1 (select (cmpi .slt idx (broadcast S8x128 0#32)) (addi idx (broadcast S8x128 128#32)) idx) shapeCasts_S8x128_S8x128x1) shapeCasts_S8x128x1_S8x128)

/-- The last column stage's sum or difference, thirty-two vectors of it. -/
def fwdLoad (qh p h : ℕ) (hq : qh < 2) (hh : h < 2) : Pg F nD τ sig Λ (ℕ → FVec F S8x128 .f32) :=
  loop (σ := ℕ → FVec F S8x128 .f32) 4 (fun _ _ => zero32) fun c v => loop 8 v fun k v => do
    let a : Vec F S8x128 .f32 ← ld A.y (rYr (272 * (2 * c + h) + 136 * qh + 2 * k) (by omega)) h_S8x128
    let b : Vec F S8x128 .f32 ← ld A.y (rYr (272 * (2 * (c + 4) + h) + 136 * qh + 2 * k) (by omega)) h_S8x128
    pure (setAt v (8 * c + k) (bif Nat.beq p 0 then addf a b else subf a b))

/-- The half-width float 1. -/
def one16 : F .bf16 := Scalar.ofBits .bf16 0x3F80#16
/-- The half-width float -1. -/
def mone16 : F .bf16 := Scalar.ofBits .bf16 0xBF80#16
/-- The half-width float 0. -/
def zero16 : F .bf16 := Scalar.ofBits .bf16 0x0000#16

/-- The sign of each of a pair of rows, and its bits of the code words. -/
def fwdSigns (sl : ℕ) (hs : sl < 9) (qh p h : ℕ) (hq : qh < 2) (hp : p < 2) (hh : h < 2) (y : ℕ → FVec F S8x128 .f32) (w : ℕ → IVec S16x128 16) : Pg F nD τ sig Λ (ℕ → IVec S16x128 16) :=
  loop 4 w fun c w => loop 4 w fun kp w => do
    let k := 4 * (kp.val / 2) + kp.val % 2
    let neg := cmpf .olt (D.pack (y (8 * c + k)) (y (8 * c + k + 2))) (broadcast S16x128 zero16)
    D.stS sl hs ⟨2 * (c + 4 * p) + h, by omega⟩ ⟨4 * qh + kp, by omega⟩ (select neg (broadcast S16x128 mone16) (broadcast S16x128 one16))
    let word : IVec S16x128 16 := select neg (broadcast S16x128 (BitVec.ofNat 16 (2 ^ (8 * (kp.val % 2) + 2 * c + h)))) (broadcast S16x128 0#16)
    pure (setAt w (kp.val / 2) (bif Nat.beq (c.val + kp.val % 2 + h) 0 then word else ori (w (kp.val / 2)) word))

/-- The last stages of the forward transform, the signs and the bits for a quarter of the rows. -/
def fwdQuarter (sl : ℕ) (hs : sl < 9) (qh p : ℕ) (hq : qh < 2) (hp : p < 2) (acc : FVec F S8x128 .f32) : Pg F nD τ sig Λ (FVec F S8x128 .f32) := do
  let r ← loop (σ := FVec F S8x128 .f32 × (ℕ → IVec S16x128 16)) 2 (acc, fun _ _ => 0#16) fun h s => do
    let v ← fwdLoad A qh p h hq h.2
    let y := bfly 5 v
    let w ← fwdSigns D sl hs qh p h hq hp h.2 y s.2
    pure (foldFrom (fun k a => addf a (absf (y k))) 32 0 s.1, w)
  loop 2 PUnit.unit fun kk _ => do
    let z := codeWord (r.2 kk)
    let _ ← ld (F := F) A.cw (rC (32 * p + 16 * qh + kk) (by omega)).toLoadRect h_S8x128
    st A.cw (rC (32 * p + 16 * qh + kk) (by omega)) (shapeCast S8x128 z shapeCasts_S8x128_S8x128 : Vec F S8x128 .i32) h_S8x128 rfl
  pure r.1

/-- Half of the codes written out. -/
def fwdCode (p : ℕ) (hp : p < 2) (hk : (rB p hp).PackedRows (EltTy.packing .i8)) : Pg F nD τ sig Λ PUnit := do
  let v : Vec F S32x128 .i32 ← ld A.cw (rCh p hp).toLoadRect h_S32x128
  let _ ← ld (F := F) A.code (rB p hp).toLoadRect h_S1x128x128
  Prog.lift (.store A.code (rB p hp) (shapeCast S1x128x128 (bitcast S128x128 8 v bitcasts_S32x128_w32_S128x128_w8) shapeCasts_S128x128_S1x128x128 : Vec F S1x128x128 .i8) Finset.univ
    (View.stores_vmem h_S1x128x128 (A.code_whole.storeExact_slice rfl _ hk) (fun _ => rfl)) (.inl rfl))

/-- The forward transform of a bucket: its sums, its signs and its codes. -/
def forward (sl : ℕ) (hs : sl < 9) : Pg F nD τ sig Λ PUnit := do
  fwdWords (F := F) A
  let a0 : Vec F S8x128 .f32 ← ld A.acc (rAh 0 (by decide)).toLoadRect h_S8x128
  let a1 ← loop 8 a0 fun c a => fwdCol A D sl hs c a
  let _ ← ld (F := F) A.acc (rAh 0 (by decide)).toLoadRect h_S8x128
  st A.acc (rAh 0 (by decide)) (shapeCast S8x128 a1 shapeCasts_S8x128_S8x128) h_S8x128 rfl
  let b0 : Vec F S8x128 .f32 ← ld A.acc (rAh 1 (by decide)).toLoadRect h_S8x128
  let b1 ← loop 2 b0 fun qh b => loop 2 b fun p b => fwdQuarter A D sl hs qh p qh.2 p.2 b
  let _ ← ld (F := F) A.acc (rAh 1 (by decide)).toLoadRect h_S8x128
  st A.acc (rAh 1 (by decide)) (shapeCast S8x128 b1 shapeCasts_S8x128_S8x128) h_S8x128 rfl
  fwdCode (F := F) A 0 (by decide) packedi8_S1x128x256_S1x128x128_0_0_0
  fwdCode (F := F) A 1 (by decide) packedi8_S1x128x256_S1x128x128_0_0_128

/-! ### The body of a grid point -/

/-- The grid point's number. -/
def pt (i : grid0.Coords) : BitVec 32 := BitVec.ofNat 32 (i 0).val

/-- The slot of the nine-deep ring: the point's number modulo nine. -/
def slotW (t : BitVec 32) : BitVec 32 :=
  let n := Scalar.select (Scalar.cmpi .eq 9#32 0#32) 1#32 9#32
  let r := Scalar.remsi t n
  Scalar.select (Scalar.andi (Scalar.xori (Scalar.cmpi .slt r 0#32) (Scalar.cmpi .slt n 0#32)) (Scalar.cmpi .ne r 0#32)) (Scalar.addi r n) r

/-- The ring slot of a grid point. -/
def slot (i : grid0.Coords) : ℕ := (slotW (pt i)).toNat

/-- The slot of point `t` is the remainder of `t` by 9. -/
theorem slotW_eq (t : Fin 81) : (slotW (BitVec.ofNat 32 t)).toNat = t.val % 9 := by
  revert t; decide

/-- A slot is one of nine. -/
theorem slot_lt (i : grid0.Coords) : slot i < 9 := by
  have h := slotW_eq (i 0)
  have : slot i = (i 0).val % 9 := h
  rw [this]; exact Nat.mod_lt _ (by decide)

/-- Whether a grid point is the first. -/
def isFirst (i : grid0.Coords) : BitVec 1 := Scalar.cmpi .ne (Scalar.extui (Scalar.cmpi .eq (pt i) 0#32) : BitVec 32) 0#32

/-- The body of a grid point. -/
def body (i : grid0.Coords) : Pg F nD τ sig Λ PUnit := do
  if h1 : isFirst i = 1#1 then init (F := F) A else pure ⟨⟩
  if h2 : k0_cond2 i = 1#1 then scaleStep A (k0_off1 i) (k0_off1_inb i h2) else pure ⟨⟩
  if h3 : k0_cond3 i = 1#1 then inverse A D (slot i) (slot_lt i) else pure ⟨⟩
  if h4 : k0_cond4 i = 1#1 then forward A D (slot i) (slot_lt i) else pure ⟨⟩

end Bit

end
-- ==== Proof.Safe.lean ====
/-
  The body of a grid point runs from any contents of its buffers. The buffers are a family indexed by `Buf`: the seven windows'
  staging buffers and the ten scratch buffers.
-/
module

public import proofs.«01_k».proof.Proof.Body

@[expose] public section

noncomputable section

namespace Bit

open Idealize.ShloMosaic Idealize.ShloMosaic.TcCoe
open Idealize.SL Idealize.SL.RA Idealize.SL.BI Idealize.SL.Sem
open Cert.KernelIdeal Cert.KernelIdeal.Facts₀ Cert.KernelIdeal.Facts
open Bit.Eval

/-- The buffers of a grid point: staging buffers, then scratch. -/
inductive Buf | x | b | e | xh | ne | code | scale | g | m | s | wq | y | cw | h | hr | acc | sc
  deriving DecidableEq

/-- There are seventeen buffers. -/
instance : Fintype Buf := ⟨{.x, .b, .e, .xh, .ne, .code, .scale, .g, .m, .s, .wq, .y, .cw, .h, .hr, .acc, .sc}, fun a => by cases a <;> decide⟩

/-- Their kinds; the sign scratch's shape and element type differ between the two printings. -/
abbrev fam (ss : Shape) (se : EltTy) : Fam Buf where
  sp | .scale => .smem | _ => .vmem
  sh | .x | .e | .xh | .ne => S1x128x2048 | .b | .code => S1x128x256 | .scale => S8 | .g | .m => S9x16x128x128 | .s => ss | .wq => S2x128x128
     | .y => S4352x128 | .cw => S64x128 | .h | .hr => S256x256 | .acc => S16x128 | .sc => S8x128
  el | .b | .code => .i8 | .m | .wq | .cw => .i32 | .s => se | .hr => .bf16 | _ => .f32

variable {F : FTy → Type} [FloatOps F] [Cert.KernelIdeal.Facts]
variable {nD : Nat} {τ : Topo} {sig : RefSig} {Λ : Labels}
variable {ss : Shape} {se : EltTy}

/-- The family of a record of buffers and a sign scratch. -/
abbrev mems (A : Args sig) (S : Memref sig .tc .vmem ss se) : (fam ss se).Mems sig
  | .x => A.x | .b => A.b | .e => A.e | .xh => A.xh | .ne => A.ne | .code => A.code | .scale => A.scale | .g => A.g | .m => A.m | .s => S | .wq => A.wq
  | .y => A.y | .cw => A.cw | .h => A.h | .hr => A.hr | .acc => A.acc | .sc => A.sc

variable (A : Args sig) (S : Memref sig .tc .vmem ss se) (D : Dial F nD τ sig Λ)
variable (defs : Defs nD τ sig (Elt F) Λ) (𝒱 : Variants) (c : Dev nD)
variable {Ix : Type} [DecidableEq Ix] {Name : Type} [DecidableEq Name] {U : Type} [URA U] {Lvl : Type} [Preorder Lvl]

variable {A S D defs 𝒱 c}

/-! One rule per buffer: a load, a store (whatever its evidence). -/

/-- A load of the first input window is safe. -/
theorem ld_x {r h} : Safe (mems A S) defs 𝒱 c Ix Name U Lvl (ld (F := F) A.x r h) := Safe.load (M := mems A S) Buf.x
/-- A store to the first input window is safe. -/
theorem st_x {r w hx hm} : Safe (mems A S) defs 𝒱 c Ix Name U Lvl (Prog.lift (.store A.x r w Finset.univ hx hm)) := Safe.store (M := mems A S) Buf.x
/-- A load of the sign byte window is safe. -/
theorem ld_b {r h} : Safe (mems A S) defs 𝒱 c Ix Name U Lvl (ld (F := F) A.b r h) := Safe.load (M := mems A S) Buf.b
/-- A store to the sign byte window is safe. -/
theorem st_b {r w hx hm} : Safe (mems A S) defs 𝒱 c Ix Name U Lvl (Prog.lift (.store A.b r w Finset.univ hx hm)) := Safe.store (M := mems A S) Buf.b
/-- A load of the error window is safe. -/
theorem ld_e {r h} : Safe (mems A S) defs 𝒱 c Ix Name U Lvl (ld (F := F) A.e r h) := Safe.load (M := mems A S) Buf.e
/-- A store to the error window is safe. -/
theorem st_e {r w hx hm} : Safe (mems A S) defs 𝒱 c Ix Name U Lvl (Prog.lift (.store A.e r w Finset.univ hx hm)) := Safe.store (M := mems A S) Buf.e
/-- A load of the result window is safe. -/
theorem ld_xh {r h} : Safe (mems A S) defs 𝒱 c Ix Name U Lvl (ld (F := F) A.xh r h) := Safe.load (M := mems A S) Buf.xh
/-- A store to the result window is safe. -/
theorem st_xh {r w hx hm} : Safe (mems A S) defs 𝒱 c Ix Name U Lvl (Prog.lift (.store A.xh r w Finset.univ hx hm)) := Safe.store (M := mems A S) Buf.xh
/-- A load of the new error window is safe. -/
theorem ld_ne {r h} : Safe (mems A S) defs 𝒱 c Ix Name U Lvl (ld (F := F) A.ne r h) := Safe.load (M := mems A S) Buf.ne
/-- A store to the new error window is safe. -/
theorem st_ne {r w hx hm} : Safe (mems A S) defs 𝒱 c Ix Name U Lvl (Prog.lift (.store A.ne r w Finset.univ hx hm)) := Safe.store (M := mems A S) Buf.ne
/-- A load of the code window is safe. -/
theorem ld_code {r h} : Safe (mems A S) defs 𝒱 c Ix Name U Lvl (ld (F := F) A.code r h) := Safe.load (M := mems A S) Buf.code
/-- A store to the code window is safe. -/
theorem st_code {r w hx hm} : Safe (mems A S) defs 𝒱 c Ix Name U Lvl (Prog.lift (.store A.code r w Finset.univ hx hm)) := Safe.store (M := mems A S) Buf.code
/-- A store to the scale window is safe. -/
theorem st_scale {r w hx hm} : Safe (mems A S) defs 𝒱 c Ix Name U Lvl (Prog.lift (.store A.scale r w Finset.univ hx hm)) := Safe.store (M := mems A S) Buf.scale
/-- A load of the ring of sums is safe. -/
theorem ld_g {r h} : Safe (mems A S) defs 𝒱 c Ix Name U Lvl (ld (F := F) A.g r h) := Safe.load (M := mems A S) Buf.g
/-- A store to the ring of sums is safe. -/
theorem st_g {r w hx hm} : Safe (mems A S) defs 𝒱 c Ix Name U Lvl (Prog.lift (.store A.g r w Finset.univ hx hm)) := Safe.store (M := mems A S) Buf.g
/-- A load of the ring of sign masks is safe. -/
theorem ld_m {r h} : Safe (mems A S) defs 𝒱 c Ix Name U Lvl (ld (F := F) A.m r h) := Safe.load (M := mems A S) Buf.m
/-- A store to the ring of sign masks is safe. -/
theorem st_m {r w hx hm} : Safe (mems A S) defs 𝒱 c Ix Name U Lvl (Prog.lift (.store A.m r w Finset.univ hx hm)) := Safe.store (M := mems A S) Buf.m
/-- A load of the ring of rotated signs is safe. -/
theorem ld_s {r h} : Safe (mems A S) defs 𝒱 c Ix Name U Lvl (ld (F := F) S r h) := Safe.load (M := mems A S) Buf.s
/-- A store to the ring of rotated signs is safe. -/
theorem st_s {r w hx hm} : Safe (mems A S) defs 𝒱 c Ix Name U Lvl (Prog.lift (.store S r w Finset.univ hx hm)) := Safe.store (M := mems A S) Buf.s
/-- A load of the word scratch is safe. -/
theorem ld_wq {r h} : Safe (mems A S) defs 𝒱 c Ix Name U Lvl (ld (F := F) A.wq r h) := Safe.load (M := mems A S) Buf.wq
/-- A store to the word scratch is safe. -/
theorem st_wq {r w hx hm} : Safe (mems A S) defs 𝒱 c Ix Name U Lvl (Prog.lift (.store A.wq r w Finset.univ hx hm)) := Safe.store (M := mems A S) Buf.wq
/-- A load of the transposing scratch is safe. -/
theorem ld_y {r h} : Safe (mems A S) defs 𝒱 c Ix Name U Lvl (ld (F := F) A.y r h) := Safe.load (M := mems A S) Buf.y
/-- A store to the transposing scratch is safe. -/
theorem st_y {r w hx hm} : Safe (mems A S) defs 𝒱 c Ix Name U Lvl (Prog.lift (.store A.y r w Finset.univ hx hm)) := Safe.store (M := mems A S) Buf.y
/-- A load of the code word scratch is safe. -/
theorem ld_cw {r h} : Safe (mems A S) defs 𝒱 c Ix Name U Lvl (ld (F := F) A.cw r h) := Safe.load (M := mems A S) Buf.cw
/-- A store to the code word scratch is safe. -/
theorem st_cw {r w hx hm} : Safe (mems A S) defs 𝒱 c Ix Name U Lvl (Prog.lift (.store A.cw r w Finset.univ hx hm)) := Safe.store (M := mems A S) Buf.cw
/-- A load of the first matrix is safe. -/
theorem ld_h {r h} : Safe (mems A S) defs 𝒱 c Ix Name U Lvl (ld (F := F) A.h r h) := Safe.load (M := mems A S) Buf.h
/-- A store to the first matrix is safe. -/
theorem st_h {r w hx hm} : Safe (mems A S) defs 𝒱 c Ix Name U Lvl (Prog.lift (.store A.h r w Finset.univ hx hm)) := Safe.store (M := mems A S) Buf.h
/-- A load of the second matrix is safe. -/
theorem ld_hr {r h} : Safe (mems A S) defs 𝒱 c Ix Name U Lvl (ld (F := F) A.hr r h) := Safe.load (M := mems A S) Buf.hr
/-- A store to the second matrix is safe. -/
theorem st_hr {r w hx hm} : Safe (mems A S) defs 𝒱 c Ix Name U Lvl (Prog.lift (.store A.hr r w Finset.univ hx hm)) := Safe.store (M := mems A S) Buf.hr
/-- A load of the accumulator is safe. -/
theorem ld_acc {r h} : Safe (mems A S) defs 𝒱 c Ix Name U Lvl (ld (F := F) A.acc r h) := Safe.load (M := mems A S) Buf.acc
/-- A store to the accumulator is safe. -/
theorem st_acc {r w hx hm} : Safe (mems A S) defs 𝒱 c Ix Name U Lvl (Prog.lift (.store A.acc r w Finset.univ hx hm)) := Safe.store (M := mems A S) Buf.acc
/-- A load of the scale scratch is safe. -/
theorem ld_sc {r h} : Safe (mems A S) defs 𝒱 c Ix Name U Lvl (ld (F := F) A.sc r h) := Safe.load (M := mems A S) Buf.sc
/-- A store to the scale scratch is safe. -/
theorem st_sc {r w hx hm} : Safe (mems A S) defs 𝒱 c Ix Name U Lvl (Prog.lift (.store A.sc r w Finset.univ hx hm)) := Safe.store (M := mems A S) Buf.sc
/-- A load of the scale window is safe. -/
theorem ld_scale {r hl} : Safe (mems A S) defs 𝒱 c Ix Name U Lvl (Prog.lift (.load A.scale r hl)) := Safe.load (M := mems A S) Buf.scale

/-- Clearing the accumulator is safe. -/
theorem zeroAcc_safe : Safe (mems A S) defs 𝒱 c Ix Name U Lvl (zeroAcc (F := F) A) := .bind ld_acc fun _ => st_acc

/-- The first point's preparation is safe. -/
theorem init_safe : Safe (mems A S) defs 𝒱 c Ix Name U Lvl (init (F := F) A) :=
  .bind ld_h fun _ => .bind st_h fun _ => .bind ld_hr fun _ => .bind st_hr fun _ => zeroAcc_safe

/-- Writing a batch's scale is safe. -/
theorem scaleStep_safe (off : Fin 1 → ℕ) (ho : ∀ a, off a + S1.size a ≤ S8.size a) : Safe (mems A S) defs 𝒱 c Ix Name U Lvl (scaleStep (F := F) A off ho) :=
  .bind ld_acc fun _ => .bind ld_acc fun _ => .bind ld_sc fun _ => .bind st_sc fun _ =>
    .bind (.bind ld_scale fun _ => .ret) fun _ => .bind st_scale fun _ => zeroAcc_safe

/-- The steps the two printings write differently run from any contents. -/
structure DialSafe (A : Args sig) (S : Memref sig .tc .vmem ss se) (D : Dial F nD τ sig Λ) (defs : Defs nD τ sig (Elt F) Λ) (𝒱 : Variants) (c : Dev nD)
    (Ix : Type) [DecidableEq Ix] (Name : Type) [DecidableEq Name] (U : Type) [URA U] (Lvl : Type) [Preorder Lvl] : Prop where
  ldS : ∀ sl hs cb, Safe (mems A S) defs 𝒱 c Ix Name U Lvl (D.ldS sl hs cb)
  stS : ∀ sl hs cb r v, Safe (mems A S) defs 𝒱 c Ix Name U Lvl (D.stS sl hs cb r v)

variable (hD : DialSafe A S D defs 𝒱 c Ix Name U Lvl)
include hD

/-- Loading a pair of sign blocks is safe. -/
theorem ldS2_safe (sl : ℕ) (hs : sl < 9) (k : ℕ) (h : k < 8) : Safe (mems A S) defs 𝒱 c Ix Name U Lvl (ldS2 D sl hs k h) :=
  .bind (hD.ldS _ _ _) fun _ => .bind (hD.ldS _ _ _) fun _ => .ret

/-- The row stage of the inverse is safe. -/
theorem invRows_safe (hr : FVec F S256x256 .bf16) (sl : ℕ) (hs : sl < 9) : Safe (mems A S) defs 𝒱 c Ix Name U Lvl (invRows D hr sl hs) :=
  .loop fun _ _ => .bind (ldS2_safe hD _ _ _ _) fun _ => .bind (ldS2_safe hD _ _ _ _) fun _ => .bind (ldS2_safe hD _ _ _ _) fun _ => .bind (ldS2_safe hD _ _ _ _) fun _ => .ret

omit hD in
/-- Writing a block of results is safe. -/
theorem invOut_safe (sc : FVec F S128x128 .f32) (u : FVec F S128x256 .f32) (sl : ℕ) (hs : sl < 9) (cb h : ℕ) (hcb : cb < 16) (hh : h < 2) :
    Safe (mems A S) defs 𝒱 c Ix Name U Lvl (invOut A sc u sl hs cb h hcb hh) :=
  .bind ld_m fun _ => .bind ld_xh fun _ => .bind st_xh fun _ => .bind ld_g fun _ => .bind ld_ne fun _ => st_ne

/-- The inverse transform is safe. -/
theorem inverse_safe (sl : ℕ) (hs : sl < 9) : Safe (mems A S) defs 𝒱 c Ix Name U Lvl (inverse A D sl hs) :=
  .bind ld_sc fun _ => .bind ld_hr fun _ => .bind (invRows_safe hD _ _ _) fun _ => .loop fun _ _ =>
    .bind ld_h fun _ => .bind ld_h fun _ => .bind (invOut_safe _ _ _ _ _ _ _ _) fun _ => .bind (invOut_safe _ _ _ _ _ _ _ _) fun _ =>
      .bind (invOut_safe _ _ _ _ _ _ _ _) fun _ => invOut_safe _ _ _ _ _ _ _ _

omit hD in
/-- Spreading the sign bytes into words is safe. -/
theorem fwdWords_safe : Safe (mems A S) defs 𝒱 c Ix Name U Lvl (fwdWords (F := F) A) :=
  .loop fun _ _ => .bind ld_b fun _ => .loop fun _ _ => .bind ld_wq fun _ => st_wq

omit hD in
/-- Half of a column step is safe. -/
theorem fwdHalf_safe (sl : ℕ) (hs : sl < 9) (k h : ℕ) (hk : k < 8) (hh : h < 2) (acc : FVec F S8x128 .f32) : Safe (mems A S) defs 𝒱 c Ix Name U Lvl (fwdHalf A sl hs k h hk hh acc) :=
  .bind ld_x fun _ => .bind ld_e fun _ => .bind ld_g fun _ => .bind st_g fun _ => .bind ld_wq fun _ =>
    .bind ld_m fun _ => .bind st_m fun _ => .ret

omit hD in
/-- A column step is safe. -/
theorem fwdCol_safe (sl : ℕ) (hs : sl < 9) (k : Fin 8) (acc : FVec F S8x128 .f32) : Safe (mems A S) defs 𝒱 c Ix Name U Lvl (fwdCol A D sl hs k acc) :=
  .bind (fwdHalf_safe _ _ _ _ _ _ _) fun _ => .bind (fwdHalf_safe _ _ _ _ _ _ _) fun _ => .bind ld_h fun _ => .bind ld_h fun _ => .bind ld_h fun _ =>
    .bind (.loop fun _ _ => .loop fun _ _ => .bind ld_y fun _ => st_y) fun _ => .ret

omit hD in
/-- Loading a quarter of the rows is safe. -/
theorem fwdLoad_safe (qh p h : ℕ) (hq : qh < 2) (hh : h < 2) : Safe (mems A S) defs 𝒱 c Ix Name U Lvl (fwdLoad (F := F) A qh p h hq hh) :=
  .loop fun _ _ => .loop fun _ _ => .bind ld_y fun _ => .bind ld_y fun _ => .ret

/-- Writing a pair of rows of signs is safe. -/
theorem fwdSigns_safe (sl : ℕ) (hs : sl < 9) (qh p h : ℕ) (hq : qh < 2) (hp : p < 2) (hh : h < 2) (y : ℕ → FVec F S8x128 .f32) (w : ℕ → IVec S16x128 16) :
    Safe (mems A S) defs 𝒱 c Ix Name U Lvl (fwdSigns D sl hs qh p h hq hp hh y w) :=
  .loop fun _ _ => .loop fun _ _ => .bind (hD.stS _ _ _ _ _) fun _ => .ret

/-- A quarter of the rows is safe. -/
theorem fwdQuarter_safe (sl : ℕ) (hs : sl < 9) (qh p : ℕ) (hq : qh < 2) (hp : p < 2) (acc : FVec F S8x128 .f32) : Safe (mems A S) defs 𝒱 c Ix Name U Lvl (fwdQuarter A D sl hs qh p hq hp acc) :=
  .bind (.loop fun _ _ => .bind (fwdLoad_safe _ _ _ _ _) fun _ => .bind (fwdSigns_safe hD _ _ _ _ _ _ _ _ _ _) fun _ => .ret) fun _ =>
    .bind (.loop fun _ _ => .bind ld_cw fun _ => st_cw) fun _ => .ret

omit hD in
/-- Writing half of the codes is safe. -/
theorem fwdCode_safe (p : ℕ) (hp : p < 2) (hk : (rB p hp).PackedRows (EltTy.packing .i8)) : Safe (mems A S) defs 𝒱 c Ix Name U Lvl (fwdCode (F := F) A p hp hk) :=
  .bind ld_cw fun _ => .bind ld_code fun _ => st_code

/-- The forward transform is safe. -/
theorem forward_safe (sl : ℕ) (hs : sl < 9) : Safe (mems A S) defs 𝒱 c Ix Name U Lvl (forward A D sl hs) :=
  .bind fwdWords_safe fun _ => .bind ld_acc fun _ => .bind (.loop fun _ _ => fwdCol_safe _ _ _ _) fun _ => .bind ld_acc fun _ => .bind st_acc fun _ =>
    .bind ld_acc fun _ => .bind (.loop fun _ _ => .loop fun _ _ => fwdQuarter_safe hD _ _ _ _ _ _ _) fun _ => .bind ld_acc fun _ => .bind st_acc fun _ =>
      .bind (fwdCode_safe _ _ _) fun _ => fwdCode_safe _ _ _

omit hD in
/-- A branch that goes on into the rest in both its arms is the branch, then the rest. -/
theorem branch_then {c : Prop} [Decidable c] (a : c → Pg F nD τ sig Λ PUnit) (k : PUnit → Pg F nD τ sig Λ PUnit) :
    (if h : c then (a h >>= k) else k ⟨⟩) = ((if h : c then a h else pure ⟨⟩) >>= k) := by
  split <;> rfl

omit hD in
/-- The body is its four branches one after the other. -/
theorem body_seq (i : grid0.Coords) : body A D i =
    ((if h1 : isFirst i = 1#1 then init (F := F) A else pure ⟨⟩) >>= fun _ =>
    ((if h2 : k0_cond2 i = 1#1 then scaleStep A (k0_off1 i) (k0_off1_inb i h2) else pure ⟨⟩) >>= fun _ =>
    ((if h3 : k0_cond3 i = 1#1 then inverse A D (slot i) (slot_lt i) else pure ⟨⟩) >>= fun _ =>
      (if h4 : k0_cond4 i = 1#1 then forward A D (slot i) (slot_lt i) else pure ⟨⟩)))) := by
  unfold body
  refine (branch_then (fun _ => init (F := F) A) _).trans (congrArg _ (funext fun _ => ?_))
  refine (branch_then (fun h2 => scaleStep A (k0_off1 i) (k0_off1_inb i h2)) _).trans (congrArg _ (funext fun _ => ?_))
  exact branch_then (fun _ => inverse A D (slot i) (slot_lt i)) _

omit hD in
/-- A conditional is safe if its branch is. -/
theorem branch_safe {c' : Prop} [Decidable c'] {a : c' → Pg F nD τ sig Λ PUnit} (h : ∀ x, Safe (mems A S) defs 𝒱 c Ix Name U Lvl (a x)) : Safe (mems A S) defs 𝒱 c Ix Name U Lvl (if h : c' then a h else pure ⟨⟩) := by
  split
  · exact h _
  · exact .ret

/-- The body runs from any contents. -/
theorem body_safe (i : grid0.Coords) : Safe (mems A S) defs 𝒱 c Ix Name U Lvl (body A D i) := by
  rw [body_seq]
  exact .bind (branch_safe fun _ => init_safe) fun _ => .bind (branch_safe fun _ => scaleStep_safe _ _) fun _ =>
    .bind (branch_safe fun _ => inverse_safe hD _ _) fun _ => branch_safe fun _ => forward_safe hD _ _

end Bit
end
-- ==== Proof.MatchBits.lean ====
/-
  The kernel's printed body is the body written with loops. Its sign scratch holds 32-bit words, a word the bits of a pair of rows;
  the high part of a number is its upper sixteen bits.
-/
module

public import proofs.«01_k».proof.Kernel
public import proofs.«01_k».proof.Proof.Body

@[expose] public section

noncomputable section

namespace Bit.Bits

open Idealize.ShloMosaic Idealize.SL.Sem Idealize.ShloMosaic.Tactic
open Cert.Kernel Cert.Kernel.Facts₀ Cert.Kernel.Facts

variable {F : FTy → Type} [BitOps F] [Cert.Kernel.Facts] [Cert.KernelIdeal.Facts]

/-- The signs of a column block of a slot. -/
def rSg (sl : ℕ) (hs : sl < 9) (cb : Fin 16) : Rect S9x16x64x128 := Rect.unit (s := S9x16x64x128) ![sl, cb, 0, 0] S1x1x64x128.size (by
  intro a; fin_cases a <;> simp [S1x1x64x128, S9x16x64x128] <;> omega)
/-- Eight rows of signs of a column block of a slot. -/
def rSr (sl : ℕ) (hs : sl < 9) (cb : Fin 16) (r : Fin 8) : Rect S9x16x64x128 := Rect.unit (s := S9x16x64x128) ![sl, cb, 8 * r, 0] S1x1x8x128.size (by
  intro a; fin_cases a <;> simp [S1x1x8x128, S9x16x64x128] <;> omega)

/-- The steps as the kernel writes them, over its sign scratch. -/
def dial (M : Memref sig .tc .vmem S9x16x64x128 .i32) : Dial F nD τ sig Λ₀ where
  hi v := bitcastToFloat .f32 (andi (bitcastToInt v) (broadcast S128x256 4294901760#32))
  pack a b := bitcastToFloat .bf16 (bitcast S16x128 16 (packElementwise a b) bitcasts_S8x128_w32_S16x128_w16)
  ldS sl hs cb := do
    let raw : Vec F S1x1x64x128 .i32 ← ld M (rSg sl hs cb).toLoadRect h_S1x1x64x128
    pure (bitcastToFloat .bf16 (bitcast S128x128 16 (shapeCast S64x128 raw shapeCasts_S1x1x64x128_S64x128) bitcasts_S64x128_w32_S128x128_w16))
  stS sl hs cb r v := do
    let _ ← ld (F := F) M (rSr sl hs cb r).toLoadRect h_S1x1x8x128
    st M (rSr sl hs cb r) (shapeCast S1x1x8x128 (bitcast S8x128 32 (bitcastToInt v) bitcasts_S16x128_w16_S8x128_w32) shapeCasts_S8x128_S1x1x8x128 : Vec F S1x1x8x128 .i32) h_S1x1x8x128 rfl

/-- The printed body is the body written with loops. -/
theorem body_eq (i : grid0.Coords) (arg1 : Memref sig .tc .vmem S1x128x2048 .f32) (harg1 : arg1.IsWhole) (arg2 : Memref sig .tc .vmem S1x128x256 .i8) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x256 .i8) (harg6 : arg6.IsWhole) (arg7 : Memref sig .tc .smem S8 .f32) (harg7 : arg7.IsWhole) (arg8 : Memref sig .tc .vmem S9x16x128x128 .f32) (harg8 : arg8.IsWhole) (arg9 : Memref sig .tc .vmem S9x16x128x128 .i32) (harg9 : arg9.IsWhole) (arg10 : Memref sig .tc .vmem S9x16x64x128 .i32) (harg10 : arg10.IsWhole) (arg11 : Memref sig .tc .vmem S2x128x128 .i32) (harg11 : arg11.IsWhole) (arg12 : Memref sig .tc .vmem S4352x128 .f32) (harg12 : arg12.IsWhole) (arg13 : Memref sig .tc .vmem S64x128 .i32) (harg13 : arg13.IsWhole) (arg14 : Memref sig .tc .vmem S256x256 .f32) (harg14 : arg14.IsWhole) (arg15 : Memref sig .tc .vmem S256x256 .bf16) (harg15 : arg15.IsWhole) (arg16 : Memref sig .tc .vmem S16x128 .f32) (harg16 : arg16.IsWhole) (arg17 : Memref sig .tc .vmem S8x128 .f32) (harg17 : arg17.IsWhole) :
    cc0_drive_one_bit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = Bit.body (⟨arg1, arg2, arg3, arg4, arg5, arg6, arg7, arg8, arg9, arg11, arg12, arg13, arg14, arg15, arg16, arg17, harg6, harg15⟩ : Bit.Args sig) (dial arg10) i := by
  sl_kernel_rfl

end Bit.Bits
end
-- ==== Proof.RunBits.lean ====
/-
  The kernel's run from what one grid point does: an invariant of the scratch buffers carried from point to point, and for
  each window a relation between what its staging buffer held before a point and what it holds after.
-/
module

public import proofs.«01_k».proof.Proof.Safe
public import proofs.«01_k».proof.Proof.MatchBits
public import proofs.«01_k».proof.Proof.Gen.Kernel.Frame
public import Idealize.ShloMosaic.Lib.Pipeline.Dat

@[expose] public section

set_option maxRecDepth 16384

noncomputable section

namespace Bit.Bits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Bit.Eval
open Idealize.ShloMosaic.Pipeline (RDat Cfg)

variable {F : FTy → Type} [BitOps F] [Cert.Kernel.Facts] [Cert.KernelIdeal.Facts]

local notation "𝕄" => MT nD τ sig Unit (Elt F) ℕ (UR sig nD τ) ℕ

/-- The family of the kernel's buffers. -/
abbrev fm : Fam Buf := fam S9x16x64x128 .i32

/-- Contents of all the buffers of a grid point. -/
abbrev State (F : FTy → Type) [BitOps F] := fm.St (Elt F)

/-- The buffers the body works on at point `t`. -/
abbrev argsAt (t : Fin cfg0.N) : Bit.Args sig :=
  ⟨st0_0 t, st0_1 t, st0_2 t, st0_3 t, st0_4 t, st0_5 t, st0_6 t, Memref.whole cc0_scratch0, Memref.whole cc0_scratch1, Memref.whole cc0_scratch3, Memref.whole cc0_scratch4,
    Memref.whole cc0_scratch5, Memref.whole cc0_scratch6, Memref.whole cc0_scratch7, Memref.whole cc0_scratch8, Memref.whole cc0_scratch9,
    hstage0_5 ((cfg0.slots t 5).cast nbuf0_5), Memref.isWhole_whole _⟩

/-- The kernel's way of writing the steps that differ. -/
abbrev dialAt : Bit.Dial F nD τ sig Λ₀ := dial (F := F) (Memref.whole cc0_scratch2)

/-- Its buffers at point `t`. -/
abbrev memsAt (t : Fin cfg0.N) : fm.Mems sig := mems (argsAt t) (Memref.whole cc0_scratch2)

/-- What the windows' staging buffers hold. -/
abbrev Wins (F : FTy → Type) [BitOps F] := (w : Fin cfg0.W) → (cfg0.win w).block.Idx → Elt F (cfg0.win w).elt

/-- The contents of the windows put beside the scratch contents of `st`. -/
def comb (Y : Wins F) (st : State F) : State F
  | .x => Y 0 | .b => Y 1 | .e => Y 2 | .xh => Y 3 | .ne => Y 4 | .code => Y 5 | .scale => Y 6
  | .g => st .g | .m => st .m | .s => st .s | .wq => st .wq | .y => st .y | .cw => st .cw | .h => st .h | .hr => st .hr | .acc => st .acc | .sc => st .sc

/-- The windows' part of the contents. -/
def wins (st : State F) : Wins F
  | 0 => st .x | 1 => st .b | 2 => st .e | 3 => st .xh | 4 => st .ne | 5 => st .code | 6 => st .scale

/-- Ownership of the scratch buffers at the contents of `st`. -/
def Scratch (c : Dev nD) (st : State F) : sProp 𝕄 :=
  iprop(owns (c : Thread nD τ) (Memref.whole cc0_scratch0) fullShare (st .g) ∗ owns (c : Thread nD τ) (Memref.whole cc0_scratch1) fullShare (st .m)
    ∗ owns (c : Thread nD τ) (Memref.whole cc0_scratch2) fullShare (st .s) ∗ owns (c : Thread nD τ) (Memref.whole cc0_scratch3) fullShare (st .wq)
    ∗ owns (c : Thread nD τ) (Memref.whole cc0_scratch4) fullShare (st .y) ∗ owns (c : Thread nD τ) (Memref.whole cc0_scratch5) fullShare (st .cw)
    ∗ owns (c : Thread nD τ) (Memref.whole cc0_scratch6) fullShare (st .h) ∗ owns (c : Thread nD τ) (Memref.whole cc0_scratch7) fullShare (st .hr)
    ∗ owns (c : Thread nD τ) (Memref.whole cc0_scratch8) fullShare (st .acc) ∗ owns (c : Thread nD τ) (Memref.whole cc0_scratch9) fullShare (st .sc))

/-- All the buffers owned, as the windows one by one and the scratch. -/
theorem own_eq (t : Fin cfg0.N) (c : Dev nD) (st : State F) :
    (Own (memsAt t) c st : sProp 𝕄) = iprop(owns (c : Thread nD τ) (st0_0 t) fullShare (st .x) ∗ owns (c : Thread nD τ) (st0_1 t) fullShare (st .b)
      ∗ owns (c : Thread nD τ) (st0_2 t) fullShare (st .e) ∗ owns (c : Thread nD τ) (st0_3 t) fullShare (st .xh) ∗ owns (c : Thread nD τ) (st0_4 t) fullShare (st .ne)
      ∗ owns (c : Thread nD τ) (st0_5 t) fullShare (st .code) ∗ owns (c : Thread nD τ) (st0_6 t) fullShare (st .scale) ∗ Scratch c st) :=
  bigSep_univ_eq_bigSepL [Buf.x, .b, .e, .xh, .ne, .code, .scale, .g, .m, .s, .wq, .y, .cw, .h, .hr, .acc, .sc] (by decide) (by decide)
    (fun a => owns (c : Thread nD τ) (memsAt t a) fullShare (st a))

/-- The body table's row at point `t` is the body written with loops. -/
theorem row_eq (t : Fin cfg0.N) :
    defs₀ (F := F) .tc cfg0.body (cfg0.bodyArgs t (cfg0.slots t)) = Bit.body (argsAt t) (dialAt (F := F)) (grid0.coords t) := by
  unfold defs₀; rw [Defs.onTc_tc]
  exact body_eq _ _ _ _ _ _ _ _ _ _ _ _ _ _ _ _ _ _ _ _ _ _ _ _ _ _ _ _ _ _ _ _ _ _ _

variable (m : (ℓ : Loc nD τ sig) → Idealize.ShloMosaic.Buf (Elt F) ℓ) (ρ : Dev nD → PrngReg)
variable (Inv : Dev nD → ℕ → State F → Prop) (aft : Dev nD → (w : Fin cfg0.W) → Fin cfg0.N → (Y X : (cfg0.win w).block.Idx → Elt F (cfg0.win w).elt) → Prop)

/-- The proof data of the run: before point `t` the scratch buffers hold contents with the invariant. -/
def rdat (c : Dev nD) : RDat τ (Elt F) Unit ℕ (UR sig nD τ) ℕ cfg0 c where
  A w := V m c (Pipeline.arrRef spec0 w)
  after := aft c
  Φ t := iprop(∃ st, ⌜Inv c t.val st⌝ ∗ Scratch c st ∗ ∃ r, prngReg c r)
  q _ := fullShare
  owed _ := 0

/-- What has to be known of the body at every point. -/
def Point (c : Dev nD) : Prop := ∀ (t : Fin cfg0.N) (Y : Wins F) (st : State F), (∀ w, (rdat m Inv aft c).Finds w t (Y w)) → Inv c t.val st →
  Bit.Eval.T (memsAt t) (defs₀ (F := F)) Variants.none c Unit ℕ (UR sig nD τ) ℕ (comb Y st) (Bit.body (argsAt t) (dialAt (F := F)) (grid0.coords t))
    fun _ st' => Inv c (t.val + 1) st' ∧ ∀ w, aft c w t (Y w) (wins st' w)

variable {m Inv aft}

/-- The library's obligation of the body. -/
theorem obligation {c : Dev nD} (h : Point m Inv aft c) : (rdat m Inv aft c).BodyObligation (defs₀ (F := F)) Variants.none () Set.univ := by
  intro t Y hY
  rw [row_eq, bigSep_W0, bigSep_W0, show (rdat m Inv aft c).Φ t.castSucc = iprop(∃ st, ⌜Inv c t.val st⌝ ∗ Scratch c st ∗ ∃ r, prngReg c r) from rfl,
    show (rdat m Inv aft c).Φ t.succ = iprop(∃ st, ⌜Inv c (t.val + 1) st⌝ ∗ Scratch c st ∗ ∃ r, prngReg c r) from rfl]
  iintro ⟨⟨%st, %hI, Hs, Hg⟩, Ho, H0, H1, H2, H3, H4, H5, H6⟩
  have hT := h t Y st hY hI
  unfold Bit.Eval.T at hT
  rw [own_eq] at hT
  iapply (wp_wand_r frame (wpE (defs₀ (F := F)) Variants.none (c : Thread nD τ) none) Set.univ)
  isplitl [H0 H1 H2 H3 H4 H5 H6 Hs]
  · iapply hT
    isplitl [H0]; · iexact H0
    isplitl [H1]; · iexact H1
    isplitl [H2]; · iexact H2
    isplitl [H3]; · iexact H3
    isplitl [H4]; · iexact H4
    isplitl [H5]; · iexact H5
    isplitl [H6]; · iexact H6
    iexact Hs
  iintro %_ ⟨%st', %hQ, H⟩
  ihave H := (BIBase.Entails.of_eq (own_eq t c st')) $$ H
  icases H with ⟨H0, H1, H2, H3, H4, H5, H6, Hs⟩
  isplitl [Hs Hg]
  · iexists st'; isplitr; · ipureintro; exact hQ.1
    isplitl [Hs]; · iexact Hs
    iexact Hg
  isplitl [Ho]; · iexact Ho
  isplitl [H0]; · iexists (st' .x); isplitr; · ipureintro; exact hQ.2 0
                  iexact H0
  isplitl [H1]; · iexists (st' .b); isplitr; · ipureintro; exact hQ.2 1
                  iexact H1
  isplitl [H2]; · iexists (st' .e); isplitr; · ipureintro; exact hQ.2 2
                  iexact H2
  isplitl [H3]; · iexists (st' .xh); isplitr; · ipureintro; exact hQ.2 3
                  iexact H3
  isplitl [H4]; · iexists (st' .ne); isplitr; · ipureintro; exact hQ.2 4
                  iexact H4
  isplitl [H5]; · iexists (st' .code); isplitr; · ipureintro; exact hQ.2 5
                  iexact H5
  iexists (st' .scale); isplitr; · ipureintro; exact hQ.2 6
  iexact H6

/-- Scratch buffers at any contents are the scratch buffers as the region hands them out. -/
theorem scratch_in (c : Dev nD) : Pipeline.scopedRest (Ix := Unit) (Name := ℕ) (U := UR sig nD τ) (Lvl := ℕ) (Val := Elt F) spec0 c ⊢ iprop(∃ st : State F, Scratch c st) := by
  rw [scopedRest0_eq]
  unfold Scratch
  simp only [owns_whole]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩
  iexists (fun | .x => fun _ => (Scalar.ofBits .f32 0#32 : F .f32) | .b => fun _ => (0#8 : BitVec 8) | .e => fun _ => (Scalar.ofBits .f32 0#32 : F .f32) | .xh => fun _ => (Scalar.ofBits .f32 0#32 : F .f32) | .ne => fun _ => (Scalar.ofBits .f32 0#32 : F .f32) | .code => fun _ => (0#8 : BitVec 8) | .scale => fun _ => (Scalar.ofBits .f32 0#32 : F .f32)
               | .g => f0 | .m => f1 | .s => f2 | .wq => f3 | .y => f4 | .cw => f5 | .h => f6 | .hr => f7 | .acc => f8 | .sc => f9 : State F)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The scratch buffers go back to the launch, whatever they hold. -/
theorem scratch_out (c : Dev nD) (st : State F) : Scratch c st ⊢ Pipeline.scopedRest (Ix := Unit) (Name := ℕ) (U := UR sig nD τ) (Lvl := ℕ) (Val := Elt F) spec0 c := by
  rw [scopedRest0_eq]
  unfold Scratch
  simp only [owns_whole]
  iintro ⟨H0, H1, H2, H3, H4, H5, H6, H7, H8, H9⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

set_option backward.isDefEq.respectTransparency.types false in
/-- The run of the whole program from what is known of every point. -/
theorem run (h : ∀ c, Point m Inv aft c) (h0 : ∀ c st, Inv c 0 st) :
    θ_run defs (onTc (τ := τ) (main (F := F))) ⟨m, fun _ => 0, ρ⟩ (fun r => RDat.FramePost cfg0 (rdat m Inv aft) (V m) r ∧ r.2.sem = fun _ => 0) :=
  RDat.θ_run_frame_track (Q' := _) cfgs (0 : Fin 1) launch0 defs₀ Variants.none (rdat m Inv aft) m ρ main
    (hbody := fun c => obligation (h c)) (hshare := fun c w => by unfold RDat.share; split <;> rfl)
    (howed := fun _ _ => rfl) (V := V m) (hmain := hmain m Variants.none) (hA := fun _ _ => rfl)
    (hin := fun c => by
      show Pipeline.ΦA spec0 c ⊢ iprop(∃ st, ⌜Inv c 0 st⌝ ∗ Scratch c st ∗ ∃ r, prngReg c r)
      unfold Pipeline.ΦA
      iintro ⟨H, Hg⟩
      ihave H := scratch_in c $$ H
      icases H with ⟨%st, H⟩
      iexists st; isplitr; · ipureintro; exact h0 c st
      isplitl [H]; · iexact H
      iexact Hg)
    (hout := fun c => by
      show iprop(∃ st, ⌜Inv c _ st⌝ ∗ Scratch c st ∗ ∃ r, prngReg c r) ⊢ Pipeline.ΦA spec0 c
      unfold Pipeline.ΦA
      iintro ⟨%st, -, H, Hg⟩
      isplitl [H]; · iapply scratch_out c st; iexact H
      iexact Hg)

/-- The arguments end as they began. -/
theorem args_kept {r : PUnit × MemSt nD τ sig (Elt F)} (h : RDat.FramePost cfg0 (rdat m Inv aft) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(congrFun ((rdat m Inv aft c).ArrAt_in 0 rfl _) _).mp ((h c).1 0), (congrFun ((rdat m Inv aft c).ArrAt_in 1 rfl _) _).mp ((h c).1 1), (congrFun ((rdat m Inv aft c).ArrAt_in 2 rfl _) _).mp ((h c).1 2)⟩

/-- The steps written differently run from any contents. -/
theorem dialSafe (t : Fin cfg0.N) (c : Dev nD) :
    DialSafe (argsAt t) (Memref.whole cc0_scratch2) (dialAt (F := F)) (defs₀ (F := F)) Variants.none c Unit ℕ (UR sig nD τ) ℕ :=
  ⟨fun _ _ _ => .bind ld_s fun _ => .ret, fun _ _ _ _ _ => .bind ld_s fun _ => st_s⟩

/-- The frame: the program runs, its arguments end unchanged, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept h.1, h.2⟩)
    (run (Inv := fun _ _ _ => True) (aft := fun _ _ _ _ _ => True) ρ
      (fun c t Y st _ _ => (body_safe (dialSafe t c) _ _).mono fun _ _ _ => ⟨trivial, fun _ => trivial⟩) fun _ _ => trivial)

end Bit.Bits
end
-- ==== Proof.MatchIdeal.lean ====
/-
  The idealized kernel's printed body is the body written with loops.
-/
module

public import proofs.«01_k».proof.Proof.Body

@[expose] public section

noncomputable section

namespace Bit.Ideal

open Idealize.ShloMosaic Idealize.SL.Sem Idealize.ShloMosaic.Tactic
open Cert.KernelIdeal Cert.KernelIdeal.Facts₀ Cert.KernelIdeal.Facts

variable {F : FTy → Type} [FloatOps F] [Cert.KernelIdeal.Facts]

/-- The signs of a column block of a slot. -/
def rSg (sl : ℕ) (hs : sl < 9) (cb : Fin 16) : Rect S9x16x64x2x128 := Rect.unit (s := S9x16x64x2x128) ![sl, cb, 0, 0, 0] S1x1x64x2x128.size (by
  intro a; fin_cases a <;> simp [S1x1x64x2x128, S9x16x64x2x128] <;> omega)
/-- Eight rows of signs of a column block of a slot. -/
def rSr (sl : ℕ) (hs : sl < 9) (cb : Fin 16) (r : Fin 8) : Rect S9x16x64x2x128 := Rect.unit (s := S9x16x64x2x128) ![sl, cb, 8 * r, 0, 0] S1x1x8x2x128.size (by
  intro a; fin_cases a <;> simp [S1x1x8x2x128, S9x16x64x2x128] <;> omega)

/-- Both rows of a pair put back at their places in eight rows of pairs. -/
def joinRows (v : FVec F S16x128 .bf16) : FVec F S1x1x8x2x128 .bf16 :=
  interleaveRows S1x1x8x2x128 (shapeCast S1x1x8x1x128 (shapeCast S1x1x8x128 (rowsOfParity 0 S8x128 v bitcasts_S16x128_w16_S8x128_w32) shapeCasts_S8x128_S1x1x8x128) shapeCasts_S1x1x8x128_S1x1x8x1x128)
    (shapeCast S1x1x8x1x128 (shapeCast S1x1x8x128 (rowsOfParity 1 S8x128 v bitcasts_S16x128_w16_S8x128_w32) shapeCasts_S8x128_S1x1x8x128) shapeCasts_S1x1x8x128_S1x1x8x1x128) bitcasts_S1x1x8x2x128_w16_S1x1x8x1x128_w32

/-- A block of stored signs, its rows in order. -/
def readRows (raw : FVec F S1x1x64x2x128 .bf16) : FVec F S128x128 .bf16 :=
  interleaveRows S128x128
    (shapeCast S64x128 (shapeCast S1x1x64x128 (rowsOfParity 0 S1x1x64x1x128 raw bitcasts_S1x1x64x2x128_w16_S1x1x64x1x128_w32) shapeCasts_S1x1x64x1x128_S1x1x64x128) shapeCasts_S1x1x64x128_S64x128)
    (shapeCast S64x128 (shapeCast S1x1x64x128 (rowsOfParity 1 S1x1x64x1x128 raw bitcasts_S1x1x64x2x128_w16_S1x1x64x1x128_w32) shapeCasts_S1x1x64x1x128_S1x1x64x128) shapeCasts_S1x1x64x128_S64x128) bitcasts_S128x128_w16_S64x128_w32

/-- The steps as the idealized kernel writes them, over its sign scratch. -/
def dial (M : Memref sig .tc .vmem S9x16x64x2x128 .bf16) (hM : M.IsWhole) : Dial F nD τ sig Λ₀ where
  hi v := extf .f32 (truncf .bf16 v bitsLt_bf16_f32) bitsLt_bf16_f32
  pack a b := interleaveRows S16x128 (truncf .bf16 a bitsLt_bf16_f32) (truncf .bf16 b bitsLt_bf16_f32) bitcasts_S16x128_w16_S8x128_w32
  ldS sl hs cb := do
    let raw : Vec F S1x1x64x2x128 .bf16 ← ld M (rSg sl hs cb).toLoadRect h_S1x1x64x2x128
    pure (readRows raw)
  stS sl hs cb r v := do
    let _ ← ld (F := F) M (rSr sl hs cb r).toLoadRect h_S1x1x8x2x128
    Prog.lift (.store M (rSr sl hs cb r) (joinRows v) Finset.univ
      (View.stores_vmem h_S1x1x8x2x128 ((hM.pairWhole rank2_S9x16x64x2x128).storeExact_slice rfl _ (Rect.wholeRows_unit rank2_S9x16x64x2x128 rfl rfl) pairs_S9x16x64x2x128_bf16) (fun _ => rfl)) (.inl rfl))

/-- The printed body is the body written with loops. -/
theorem body_eq (i : grid0.Coords) (arg1 : Memref sig .tc .vmem S1x128x2048 .f32) (harg1 : arg1.IsWhole) (arg2 : Memref sig .tc .vmem S1x128x256 .i8) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x256 .i8) (harg6 : arg6.IsWhole) (arg7 : Memref sig .tc .smem S8 .f32) (harg7 : arg7.IsWhole) (arg8 : Memref sig .tc .vmem S9x16x128x128 .f32) (harg8 : arg8.IsWhole) (arg9 : Memref sig .tc .vmem S9x16x128x128 .i32) (harg9 : arg9.IsWhole) (arg10 : Memref sig .tc .vmem S9x16x64x2x128 .bf16) (harg10 : arg10.IsWhole) (arg11 : Memref sig .tc .vmem S2x128x128 .i32) (harg11 : arg11.IsWhole) (arg12 : Memref sig .tc .vmem S4352x128 .f32) (harg12 : arg12.IsWhole) (arg13 : Memref sig .tc .vmem S64x128 .i32) (harg13 : arg13.IsWhole) (arg14 : Memref sig .tc .vmem S256x256 .f32) (harg14 : arg14.IsWhole) (arg15 : Memref sig .tc .vmem S256x256 .bf16) (harg15 : arg15.IsWhole) (arg16 : Memref sig .tc .vmem S16x128 .f32) (harg16 : arg16.IsWhole) (arg17 : Memref sig .tc .vmem S8x128 .f32) (harg17 : arg17.IsWhole) :
    cc0_drive_one_bit (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      = body (⟨arg1, arg2, arg3, arg4, arg5, arg6, arg7, arg8, arg9, arg11, arg12, arg13, arg14, arg15, arg16, arg17, harg6, harg15⟩ : Args sig) (dial arg10 harg10) i := by
  sl_kernel_rfl

end Bit.Ideal
end
-- ==== Proof.RunIdeal.lean ====
/-
  The idealized kernel's run from what one grid point does: an invariant of the scratch buffers carried from point to point, and for
  each window a relation between what its staging buffer held before a point and what it holds after.
-/
module

public import proofs.«01_k».proof.Proof.Safe
public import proofs.«01_k».proof.Proof.MatchIdeal
public import proofs.«01_k».proof.Proof.Gen.KernelIdeal.Frame
public import Idealize.ShloMosaic.Lib.Pipeline.Dat

@[expose] public section

set_option maxRecDepth 16384

noncomputable section

namespace Bit.Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Bit.Eval
open Idealize.ShloMosaic.Pipeline (RDat Cfg)

variable {F : FTy → Type} [FloatOps F] [Cert.KernelIdeal.Facts]

local notation "𝕄" => MT nD τ sig Unit (Elt F) ℕ (UR sig nD τ) ℕ

/-- The family of the idealized kernel's buffers. -/
abbrev fm : Fam Buf := fam S9x16x64x2x128 .bf16

/-- Contents of all the buffers of a grid point. -/
abbrev State (F : FTy → Type) [FloatOps F] := fm.St (Elt F)

/-- The buffers the body works on at point `t`. -/
abbrev argsAt (t : Fin cfg0.N) : Args sig :=
  ⟨st0_0 t, st0_1 t, st0_2 t, st0_3 t, st0_4 t, st0_5 t, st0_6 t, Memref.whole cc0_scratch0, Memref.whole cc0_scratch1, Memref.whole cc0_scratch3, Memref.whole cc0_scratch4,
    Memref.whole cc0_scratch5, Memref.whole cc0_scratch6, Memref.whole cc0_scratch7, Memref.whole cc0_scratch8, Memref.whole cc0_scratch9,
    hstage0_5 ((cfg0.slots t 5).cast nbuf0_5), Memref.isWhole_whole _⟩

/-- The idealized kernel's way of writing the steps that differ. -/
abbrev dialAt : Dial F nD τ sig Λ₀ := dial (F := F) (Memref.whole cc0_scratch2) (Memref.isWhole_whole _)

/-- Its buffers at point `t`. -/
abbrev memsAt (t : Fin cfg0.N) : fm.Mems sig := mems (argsAt t) (Memref.whole cc0_scratch2)

/-- What the windows' staging buffers hold. -/
abbrev Wins (F : FTy → Type) [FloatOps F] := (w : Fin cfg0.W) → (cfg0.win w).block.Idx → Elt F (cfg0.win w).elt

/-- The contents of the windows put beside the scratch contents of `st`. -/
def comb (Y : Wins F) (st : State F) : State F
  | .x => Y 0 | .b => Y 1 | .e => Y 2 | .xh => Y 3 | .ne => Y 4 | .code => Y 5 | .scale => Y 6
  | .g => st .g | .m => st .m | .s => st .s | .wq => st .wq | .y => st .y | .cw => st .cw | .h => st .h | .hr => st .hr | .acc => st .acc | .sc => st .sc

/-- The windows' part of the contents. -/
def wins (st : State F) : Wins F
  | 0 => st .x | 1 => st .b | 2 => st .e | 3 => st .xh | 4 => st .ne | 5 => st .code | 6 => st .scale

/-- Ownership of the scratch buffers at the contents of `st`. -/
def Scratch (c : Dev nD) (st : State F) : sProp 𝕄 :=
  iprop(owns (c : Thread nD τ) (Memref.whole cc0_scratch0) fullShare (st .g) ∗ owns (c : Thread nD τ) (Memref.whole cc0_scratch1) fullShare (st .m)
    ∗ owns (c : Thread nD τ) (Memref.whole cc0_scratch2) fullShare (st .s) ∗ owns (c : Thread nD τ) (Memref.whole cc0_scratch3) fullShare (st .wq)
    ∗ owns (c : Thread nD τ) (Memref.whole cc0_scratch4) fullShare (st .y) ∗ owns (c : Thread nD τ) (Memref.whole cc0_scratch5) fullShare (st .cw)
    ∗ owns (c : Thread nD τ) (Memref.whole cc0_scratch6) fullShare (st .h) ∗ owns (c : Thread nD τ) (Memref.whole cc0_scratch7) fullShare (st .hr)
    ∗ owns (c : Thread nD τ) (Memref.whole cc0_scratch8) fullShare (st .acc) ∗ owns (c : Thread nD τ) (Memref.whole cc0_scratch9) fullShare (st .sc))

/-- All the buffers owned, as the windows one by one and the scratch. -/
theorem own_eq (t : Fin cfg0.N) (c : Dev nD) (st : State F) :
    (Own (memsAt t) c st : sProp 𝕄) = iprop(owns (c : Thread nD τ) (st0_0 t) fullShare (st .x) ∗ owns (c : Thread nD τ) (st0_1 t) fullShare (st .b)
      ∗ owns (c : Thread nD τ) (st0_2 t) fullShare (st .e) ∗ owns (c : Thread nD τ) (st0_3 t) fullShare (st .xh) ∗ owns (c : Thread nD τ) (st0_4 t) fullShare (st .ne)
      ∗ owns (c : Thread nD τ) (st0_5 t) fullShare (st .code) ∗ owns (c : Thread nD τ) (st0_6 t) fullShare (st .scale) ∗ Scratch c st) :=
  bigSep_univ_eq_bigSepL [Buf.x, .b, .e, .xh, .ne, .code, .scale, .g, .m, .s, .wq, .y, .cw, .h, .hr, .acc, .sc] (by decide) (by decide)
    (fun a => owns (c : Thread nD τ) (memsAt t a) fullShare (st a))

/-- The body table's row at point `t` is the body written with loops. -/
theorem row_eq (t : Fin cfg0.N) :
    defs₀ (F := F) .tc cfg0.body (cfg0.bodyArgs t (cfg0.slots t)) = body (argsAt t) (dialAt (F := F)) (grid0.coords t) := by
  unfold defs₀; rw [Defs.onTc_tc]
  exact body_eq _ _ _ _ _ _ _ _ _ _ _ _ _ _ _ _ _ _ _ _ _ _ _ _ _ _ _ _ _ _ _ _ _ _ _

variable (m : (ℓ : Loc nD τ sig) → Idealize.ShloMosaic.Buf (Elt F) ℓ) (ρ : Dev nD → PrngReg)
variable (Inv : Dev nD → ℕ → State F → Prop) (aft : Dev nD → (w : Fin cfg0.W) → Fin cfg0.N → (Y X : (cfg0.win w).block.Idx → Elt F (cfg0.win w).elt) → Prop)

/-- The proof data of the run: before point `t` the scratch buffers hold contents with the invariant. -/
def rdat (c : Dev nD) : RDat τ (Elt F) Unit ℕ (UR sig nD τ) ℕ cfg0 c where
  A w := V m c (Pipeline.arrRef spec0 w)
  after := aft c
  Φ t := iprop(∃ st, ⌜Inv c t.val st⌝ ∗ Scratch c st ∗ ∃ r, prngReg c r)
  q _ := fullShare
  owed _ := 0

/-- What has to be known of the body at every point. -/
def Point (c : Dev nD) : Prop := ∀ (t : Fin cfg0.N) (Y : Wins F) (st : State F), (∀ w, (rdat m Inv aft c).Finds w t (Y w)) → Inv c t.val st →
  Eval.T (memsAt t) (defs₀ (F := F)) Variants.none c Unit ℕ (UR sig nD τ) ℕ (comb Y st) (body (argsAt t) (dialAt (F := F)) (grid0.coords t))
    fun _ st' => Inv c (t.val + 1) st' ∧ ∀ w, aft c w t (Y w) (wins st' w)

variable {m Inv aft}

/-- The library's obligation of the body. -/
theorem obligation {c : Dev nD} (h : Point m Inv aft c) : (rdat m Inv aft c).BodyObligation (defs₀ (F := F)) Variants.none () Set.univ := by
  intro t Y hY
  rw [row_eq, bigSep_W0, bigSep_W0, show (rdat m Inv aft c).Φ t.castSucc = iprop(∃ st, ⌜Inv c t.val st⌝ ∗ Scratch c st ∗ ∃ r, prngReg c r) from rfl,
    show (rdat m Inv aft c).Φ t.succ = iprop(∃ st, ⌜Inv c (t.val + 1) st⌝ ∗ Scratch c st ∗ ∃ r, prngReg c r) from rfl]
  iintro ⟨⟨%st, %hI, Hs, Hg⟩, Ho, H0, H1, H2, H3, H4, H5, H6⟩
  have hT := h t Y st hY hI
  unfold Eval.T at hT
  rw [own_eq] at hT
  iapply (wp_wand_r frame (wpE (defs₀ (F := F)) Variants.none (c : Thread nD τ) none) Set.univ)
  isplitl [H0 H1 H2 H3 H4 H5 H6 Hs]
  · iapply hT
    isplitl [H0]; · iexact H0
    isplitl [H1]; · iexact H1
    isplitl [H2]; · iexact H2
    isplitl [H3]; · iexact H3
    isplitl [H4]; · iexact H4
    isplitl [H5]; · iexact H5
    isplitl [H6]; · iexact H6
    iexact Hs
  iintro %_ ⟨%st', %hQ, H⟩
  ihave H := (BIBase.Entails.of_eq (own_eq t c st')) $$ H
  icases H with ⟨H0, H1, H2, H3, H4, H5, H6, Hs⟩
  isplitl [Hs Hg]
  · iexists st'; isplitr; · ipureintro; exact hQ.1
    isplitl [Hs]; · iexact Hs
    iexact Hg
  isplitl [Ho]; · iexact Ho
  isplitl [H0]; · iexists (st' .x); isplitr; · ipureintro; exact hQ.2 0
                  iexact H0
  isplitl [H1]; · iexists (st' .b); isplitr; · ipureintro; exact hQ.2 1
                  iexact H1
  isplitl [H2]; · iexists (st' .e); isplitr; · ipureintro; exact hQ.2 2
                  iexact H2
  isplitl [H3]; · iexists (st' .xh); isplitr; · ipureintro; exact hQ.2 3
                  iexact H3
  isplitl [H4]; · iexists (st' .ne); isplitr; · ipureintro; exact hQ.2 4
                  iexact H4
  isplitl [H5]; · iexists (st' .code); isplitr; · ipureintro; exact hQ.2 5
                  iexact H5
  iexists (st' .scale); isplitr; · ipureintro; exact hQ.2 6
  iexact H6

/-- Scratch buffers at any contents are the scratch buffers as the region hands them out. -/
theorem scratch_in (c : Dev nD) : Pipeline.scopedRest (Ix := Unit) (Name := ℕ) (U := UR sig nD τ) (Lvl := ℕ) (Val := Elt F) spec0 c ⊢ iprop(∃ st : State F, Scratch c st) := by
  rw [scopedRest0_eq]
  unfold Scratch
  simp only [owns_whole]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩
  iexists (fun | .x => fun _ => (Scalar.ofBits .f32 0#32 : F .f32) | .b => fun _ => (0#8 : BitVec 8) | .e => fun _ => (Scalar.ofBits .f32 0#32 : F .f32) | .xh => fun _ => (Scalar.ofBits .f32 0#32 : F .f32) | .ne => fun _ => (Scalar.ofBits .f32 0#32 : F .f32) | .code => fun _ => (0#8 : BitVec 8) | .scale => fun _ => (Scalar.ofBits .f32 0#32 : F .f32)
               | .g => f0 | .m => f1 | .s => f2 | .wq => f3 | .y => f4 | .cw => f5 | .h => f6 | .hr => f7 | .acc => f8 | .sc => f9 : State F)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The scratch buffers go back to the launch, whatever they hold. -/
theorem scratch_out (c : Dev nD) (st : State F) : Scratch c st ⊢ Pipeline.scopedRest (Ix := Unit) (Name := ℕ) (U := UR sig nD τ) (Lvl := ℕ) (Val := Elt F) spec0 c := by
  rw [scopedRest0_eq]
  unfold Scratch
  simp only [owns_whole]
  iintro ⟨H0, H1, H2, H3, H4, H5, H6, H7, H8, H9⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

set_option backward.isDefEq.respectTransparency.types false in
/-- The run of the whole program from what is known of every point. -/
theorem run (h : ∀ c, Point m Inv aft c) (h0 : ∀ c st, Inv c 0 st) :
    θ_run defs (onTc (τ := τ) (main (F := F))) ⟨m, fun _ => 0, ρ⟩ (fun r => RDat.FramePost cfg0 (rdat m Inv aft) (V m) r ∧ r.2.sem = fun _ => 0) :=
  RDat.θ_run_frame_track (Q' := _) cfgs (0 : Fin 1) launch0 defs₀ Variants.none (rdat m Inv aft) m ρ main
    (hbody := fun c => obligation (h c)) (hshare := fun c w => by unfold RDat.share; split <;> rfl)
    (howed := fun _ _ => rfl) (V := V m) (hmain := hmain m Variants.none) (hA := fun _ _ => rfl)
    (hin := fun c => by
      show Pipeline.ΦA spec0 c ⊢ iprop(∃ st, ⌜Inv c 0 st⌝ ∗ Scratch c st ∗ ∃ r, prngReg c r)
      unfold Pipeline.ΦA
      iintro ⟨H, Hg⟩
      ihave H := scratch_in c $$ H
      icases H with ⟨%st, H⟩
      iexists st; isplitr; · ipureintro; exact h0 c st
      isplitl [H]; · iexact H
      iexact Hg)
    (hout := fun c => by
      show iprop(∃ st, ⌜Inv c _ st⌝ ∗ Scratch c st ∗ ∃ r, prngReg c r) ⊢ Pipeline.ΦA spec0 c
      unfold Pipeline.ΦA
      iintro ⟨%st, -, H, Hg⟩
      isplitl [H]; · iapply scratch_out c st; iexact H
      iexact Hg)

/-- The arguments end as they began. -/
theorem args_kept {r : PUnit × MemSt nD τ sig (Elt F)} (h : RDat.FramePost cfg0 (rdat m Inv aft) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨(congrFun ((rdat m Inv aft c).ArrAt_in 0 rfl _) _).mp ((h c).1 0), (congrFun ((rdat m Inv aft c).ArrAt_in 1 rfl _) _).mp ((h c).1 1), (congrFun ((rdat m Inv aft c).ArrAt_in 2 rfl _) _).mp ((h c).1 2)⟩

/-- The steps written differently run from any contents. -/
theorem dialSafe (t : Fin cfg0.N) (c : Dev nD) :
    DialSafe (argsAt t) (Memref.whole cc0_scratch2) (dialAt (F := F)) (defs₀ (F := F)) Variants.none c Unit ℕ (UR sig nD τ) ℕ :=
  ⟨fun _ _ _ => .bind ld_s fun _ => .ret, fun _ _ _ _ _ => .bind ld_s fun _ => st_s⟩

/-- The frame: the program runs, its arguments end unchanged, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept h.1, h.2⟩)
    (run (Inv := fun _ _ _ => True) (aft := fun _ _ _ _ _ => True) ρ
      (fun c t Y st _ _ => (body_safe (dialSafe t c) _ _).mono fun _ _ _ => ⟨trivial, fun _ => trivial⟩) fun _ _ => trivial)

end Bit.Ideal
end
-- ==== Proof.Ledger.lean ====
/-
  Every rewrite of the idealized kernel keeps what the kernel says.
-/
module

public import proofs.«01_k».proof.Defs
public import Idealize.ShloMosaic.Lib.Bf16Pair
public import Idealize.ShloMosaic.Lib.Bf16PairInverse

@[expose] public section

noncomputable section

namespace Bit

open Idealize.ShloMosaic

/-- The rewrites between the kernel and its idealization, each by its rule. -/
theorem preserves : Cert.preserves_Kernel_KernelIdeal :=
  ⟨IdealRules.bf16_pair.bufferStatement _ _, IdealRules.bf16_pair.statement _ _, IdealRules.bf16_pair.statement _ _, IdealRules.bf16_pack.statement _,
    IdealRules.bf16_pair.packStatement _, IdealRules.bf16_pair.statement _ _, IdealRules.bf16_pair.statement _ _⟩

end Bit
end
-- ==== Proof.Wht.lean ====
/-
  The Walsh–Hadamard transform on the reals. A stage at bit `b` turns each pair of positions that differ in that bit into its sum
  and difference. Stages commute, so a transform is the list of its bits in any order; the stages on the low bits are one product
  with a Hadamard matrix.
-/
module

public import Mathlib.Data.Real.Basic
public import Mathlib.Algebra.BigOperators.Intervals
public import Mathlib.Data.List.Perm.Basic
public import Mathlib.Data.Nat.Bitwise
public import Mathlib.Tactic.Ring
public import Mathlib.Tactic.Linarith

@[expose] public section

noncomputable section

namespace Bit

/-- A stage of the transform: positions at distance `2 ^ b` become sum and difference. -/
def rstage (b : ℕ) (f : ℕ → ℝ) : ℕ → ℝ := fun i => if i.testBit b then f (i - 2 ^ b) - f i else f i + f (i + 2 ^ b)

/-- Several stages, one after the other. -/
def wht (L : List ℕ) (f : ℕ → ℝ) : ℕ → ℝ := L.foldl (fun f b => rstage b f) f

/-- The transform over a joined list of bits is one after the other. -/
theorem wht_append (L L' : List ℕ) (f : ℕ → ℝ) : wht (L ++ L') f = wht L' (wht L f) := List.foldl_append

/-- Adding an absent power of two flips its bit. -/
theorem add_two_pow_eq (i b : ℕ) (h : i.testBit b = false) : i + 2 ^ b = i ^^^ 2 ^ b := by
  have hd : i / 2 ^ b % 2 = 0 := by
    rw [Nat.testBit_eq_decide_div_mod_eq] at h
    have := of_decide_eq_false h; omega
  obtain ⟨m, l, hl, rfl⟩ : ∃ m l, l < 2 ^ b ∧ i = 2 ^ b * (2 * m) + l := by
    refine ⟨i / 2 ^ b / 2, i % 2 ^ b, Nat.mod_lt _ (by positivity), ?_⟩
    have : 2 * (i / 2 ^ b / 2) = i / 2 ^ b := by omega
    rw [this]; exact (Nat.div_add_mod _ _).symm
  have e : 2 ^ b * (2 * m) + l + 2 ^ b = 2 ^ b * (2 * m + 1) + l := by ring
  rw [e]
  refine Nat.eq_of_testBit_eq fun j => ?_
  rw [Nat.testBit_xor, Nat.testBit_two_pow_mul_add _ hl, Nat.testBit_two_pow_mul_add _ hl, Nat.testBit_two_pow]
  by_cases hj : j < b
  · simp [hj, show ¬ b = j by omega]
  · rw [if_neg hj, if_neg hj]
    rcases Nat.eq_zero_or_eq_succ_pred (j - b) with h0 | h0
    · have : b = j := by omega
      simp [this, Nat.testBit_zero]
    · rw [h0, Nat.testBit_succ, Nat.testBit_succ]
      have : ¬ b = j := by omega
      simp [this, show (2 * m + 1) / 2 = m by omega]

/-- Taking off a present power of two flips its bit. -/
theorem sub_two_pow_eq (i b : ℕ) (h : i.testBit b = true) : i - 2 ^ b = i ^^^ 2 ^ b := by
  have hd : (i ^^^ 2 ^ b).testBit b = false := by simp [Nat.testBit_xor, h, Nat.testBit_two_pow]
  have := add_two_pow_eq (i ^^^ 2 ^ b) b hd
  rw [Nat.xor_assoc, Nat.xor_self, Nat.xor_zero] at this
  omega

/-- One stage, as a signed term plus the term with the bit flipped. -/
theorem rstage_eq (b : ℕ) (f : ℕ → ℝ) (i : ℕ) : rstage b f i = (if i.testBit b then -1 else 1) * f i + f (i ^^^ 2 ^ b) := by
  unfold rstage
  by_cases h : i.testBit b = true
  · rw [if_pos h, if_pos h, sub_two_pow_eq i b h]; ring
  · rw [if_neg h, if_neg h, add_two_pow_eq i b (by simpa using h)]; ring

/-- Stages commute. -/
theorem rstage_comm (a b : ℕ) (f : ℕ → ℝ) : rstage a (rstage b f) = rstage b (rstage a f) := by
  by_cases hab : a = b
  · rw [hab]
  funext i
  simp only [rstage_eq, Nat.testBit_xor, Nat.testBit_two_pow, Nat.xor_assoc]
  rw [Nat.xor_comm (2 ^ a) (2 ^ b)]
  simp only [hab, Ne.symm hab, decide_false, Bool.xor_false]
  ring

/-- The order of the stages does not matter. -/
theorem wht_perm {L L' : List ℕ} (h : L.Perm L') (f : ℕ → ℝ) : wht L f = wht L' f :=
  List.Perm.foldl_eq' h (fun x _ y _ z => rstage_comm y x z) f

/-- A stage at a bit does not see a change of the index that keeps its bits. -/
theorem wht_reindex (n : ℕ) (φ β : ℕ → ℕ) (f : ℕ → ℝ)
    (hb : ∀ b < n, ∀ i < 2 ^ n, (φ i).testBit (β b) = i.testBit b)
    (hp : ∀ b < n, ∀ i < 2 ^ n, i.testBit b = false → φ (i + 2 ^ b) = φ i + 2 ^ β b) :
    ∀ (L : List ℕ) (hL : ∀ b ∈ L, b < n) (g : ℕ → ℝ) (f : ℕ → ℝ) (hg : ∀ i < 2 ^ n, g i = f (φ i)),
      ∀ i < 2 ^ n, wht L g i = wht (L.map β) f (φ i) := by
  intro L
  induction L with
  | nil => intro _ g f hg; exact hg
  | cons b L ih =>
    intro hL g f hg
    have hbn : b < n := hL b (by simp)
    refine ih (fun c hc => hL c (by simp [hc])) (rstage b g) (rstage (β b) f) fun i hi => ?_
    unfold rstage
    rw [hb b hbn i hi]
    by_cases h : i.testBit b = true
    · have hle : 2 ^ b ≤ i := Nat.ge_two_pow_of_testBit h
      have hlt : i - 2 ^ b < 2 ^ n := lt_of_le_of_lt (Nat.sub_le _ _) hi
      have hf : (i - 2 ^ b).testBit b = false := by rw [sub_two_pow_eq i b h]; simp [Nat.testBit_xor, h, Nat.testBit_two_pow]
      have e := hp b hbn (i - 2 ^ b) hlt hf
      rw [Nat.sub_add_cancel hle] at e
      rw [if_pos h, if_pos h, hg i hi, hg _ hlt, e, Nat.add_sub_cancel]
    · have hf : i.testBit b = false := by simpa using h
      have hlt : i + 2 ^ b < 2 ^ n := by
        rw [add_two_pow_eq i b hf]
        exact Nat.xor_lt_two_pow hi (Nat.pow_lt_pow_right (by decide) hbn)
      rw [if_neg h, if_neg h, hg i hi, hg _ hlt, hp b hbn i hi hf]

/-- Plus or minus one by the parity of the common low bits. -/
def had (n k l : ℕ) : ℝ := ∏ b ∈ Finset.range n, if k.testBit b && l.testBit b then -1 else 1

/-- The sign matrix depends only on the low bits of its indices. -/
theorem had_congr {n k k' l l' : ℕ} (hk : ∀ b < n, k.testBit b = k'.testBit b) (hl : ∀ b < n, l.testBit b = l'.testBit b) : had n k l = had n k' l' :=
  Finset.prod_congr rfl fun b hb => by rw [hk b (Finset.mem_range.mp hb), hl b (Finset.mem_range.mp hb)]

/-- The sign matrix is symmetric. -/
theorem had_comm (n k l : ℕ) : had n k l = had n l k := Finset.prod_congr rfl fun b _ => by rw [Bool.and_comm]

/-- The stages on the low bits are a product with the Hadamard matrix. -/
theorem wht_range (n : ℕ) (f : ℕ → ℝ) (i : ℕ) :
    wht (List.range n) f i = ∑ k ∈ Finset.range (2 ^ n), had n k i * f (i / 2 ^ n * 2 ^ n + k) := by
  induction n generalizing i with
  | zero => simp [wht, had]
  | succ n ih =>
    have hw : wht (List.range (n + 1)) f = rstage n (wht (List.range n) f) := by rw [List.range_succ, wht_append]; rfl
    rw [hw]
    unfold rstage
    rw [ih, ih, ih, show 2 ^ (n + 1) = 2 ^ n + 2 ^ n by ring, Finset.sum_range_add]
    have hlow : ∀ k ∈ Finset.range (2 ^ n), had (n + 1) k i = had n k i := fun k hk => by
      unfold had; rw [Finset.prod_range_succ, Nat.testBit_lt_two_pow (Finset.mem_range.mp hk)]; simp
    have hhigh : ∀ k ∈ Finset.range (2 ^ n), had (n + 1) (2 ^ n + k) i = (if i.testBit n then -1 else 1) * had n k i := fun k hk => by
      unfold had; rw [Finset.prod_range_succ, mul_comm]
      congr 1
      · rw [Nat.testBit_two_pow_add_eq, Nat.testBit_lt_two_pow (Finset.mem_range.mp hk)]; simp
      · refine Finset.prod_congr rfl fun b hb => ?_
        rw [Nat.testBit_two_pow_add_gt (Finset.mem_range.mp hb)]
    have hL : ∀ q : ℕ → ℝ, ∑ k ∈ Finset.range (2 ^ n), had (n + 1) k i * q k = ∑ k ∈ Finset.range (2 ^ n), had n k i * q k :=
      fun q => Finset.sum_congr rfl fun k hk => by rw [hlow k hk]
    have hH : ∀ q : ℕ → ℝ, ∑ k ∈ Finset.range (2 ^ n), had (n + 1) (2 ^ n + k) i * q k
        = ∑ k ∈ Finset.range (2 ^ n), (if i.testBit n then -1 else 1) * had n k i * q k :=
      fun q => Finset.sum_congr rfl fun k hk => by rw [hhigh k hk]
    rw [hL, hH]
    have hpos : 0 < 2 ^ n := by positivity
    have hflip : ∀ b < n, (i ^^^ 2 ^ n).testBit b = i.testBit b := fun b hb => by
      simp [Nat.testBit_xor, Nat.testBit_two_pow, show ¬ n = b by omega]
    have hdd : i / (2 ^ n + 2 ^ n) = i / 2 ^ n / 2 := by rw [Nat.div_div_eq_div_mul]; ring_nf
    by_cases h : i.testBit n = true
    · have hle : 2 ^ n ≤ i := Nat.ge_two_pow_of_testBit h
      have h2 : i / 2 ^ n % 2 = 1 := by rw [Nat.testBit_eq_decide_div_mod_eq] at h; exact of_decide_eq_true h
      have hq : (i - 2 ^ n) / 2 ^ n = i / 2 ^ n - 1 := by
        have := Nat.sub_mul_div i (2 ^ n) 1; rw [Nat.mul_one] at this; exact this
      have e1 : (i - 2 ^ n) / 2 ^ n * 2 ^ n = i / (2 ^ n + 2 ^ n) * (2 ^ n + 2 ^ n) := by
        rw [hq, hdd, show i / 2 ^ n - 1 = i / 2 ^ n / 2 * 2 by omega]; ring
      have e2 : ∀ k, i / 2 ^ n * 2 ^ n + k = i / (2 ^ n + 2 ^ n) * (2 ^ n + 2 ^ n) + (2 ^ n + k) := fun k => by
        rw [hdd]
        have : i / 2 ^ n = i / 2 ^ n / 2 * 2 + 1 := by omega
        conv_lhs => rw [this]
        ring
      rw [if_pos h, if_pos h, e1, sub_eq_add_neg, ← Finset.sum_neg_distrib]
      congr 1
      · refine Finset.sum_congr rfl fun k _ => ?_
        rw [had_congr (n := n) (k := k) (k' := k) (l := i - 2 ^ n) (l' := i) (fun _ _ => rfl) (fun b hb => by rw [sub_two_pow_eq i n h, hflip b hb])]
      · refine Finset.sum_congr rfl fun k _ => ?_
        rw [e2 k]; ring
    · have hf : i.testBit n = false := by simpa using h
      have h2 : i / 2 ^ n % 2 = 0 := by rw [Nat.testBit_eq_decide_div_mod_eq] at hf; have := of_decide_eq_false hf; omega
      have hq : (i + 2 ^ n) / 2 ^ n = i / 2 ^ n + 1 := Nat.add_div_right i hpos
      have e1 : i / 2 ^ n * 2 ^ n = i / (2 ^ n + 2 ^ n) * (2 ^ n + 2 ^ n) := by
        rw [hdd]
        have : i / 2 ^ n = i / 2 ^ n / 2 * 2 := by omega
        conv_lhs => rw [this]
        ring
      rw [if_neg h, if_neg h, hq]
      congr 1
      · rw [e1]
      · refine Finset.sum_congr rfl fun k _ => ?_
        rw [had_congr (n := n) (k := k) (k' := k) (l := i + 2 ^ n) (l' := i) (fun _ _ => rfl) (fun b hb => by rw [add_two_pow_eq i n hf, hflip b hb]), one_mul, Nat.add_mul, e1]
        congr 2; ring

/-- A sum over numbers by their quotient and remainder. -/
theorem sum_digits {M : Type} [AddCommMonoid M] (a b : ℕ) (f : ℕ → M) :
    ∑ x ∈ Finset.range (a * b), f x = ∑ i ∈ Finset.range a, ∑ j ∈ Finset.range b, f (i * b + j) := by
  induction a with
  | zero => simp
  | succ a ih => rw [Nat.succ_mul, Finset.sum_range_add, ih, Finset.sum_range_succ]

end Bit

end
-- ==== Proof.RefStage.lean ====
/-
  A stage of the reference's transform read on row-major positions. The reference reshapes so that one axis of extent two pairs the
  positions at distance `2 ^ b`, takes sum and difference of the two halves, and stacks them again: on row-major positions this is the
  stage `rstage b`, whichever axis is transformed.
-/
module

public import Idealize.ShloMosaic.Lib.Pointwise
public import Idealize.ShloMosaic.Lib.Pipeline.Value
public import Idealize.ShloMosaic.PureOps.Ideal
public import proofs.«01_k».proof.Proof.Wht

@[expose] public section

noncomputable section

namespace Bit

open Idealize.ShloMosaic

/-- An array whose entries are the reals `f` of their row-major positions. -/
def Lin {s : Shape} (x : s.Idx → EReal) (f : ℕ → ℝ) : Prop := ∀ j, x j = ((f (s.rowMajor j).val : ℝ) : EReal)

/-- A reshape does not move row-major positions. -/
theorem Lin.cast {s t : Shape} {x : s.Idx → EReal} {f : ℕ → ℝ} (h : Lin x f) (hc : s.ShapeCasts t) : Lin (shapeCast t x hc) f := by
  intro j
  unfold shapeCast
  rw [h, Shape.rowMajor_reshapeEquiv]

/-- The position of a pair's entry: its bit `b` is the entry's number in the pair. -/
theorem pair_bit {b H P q r : ℕ} (hH : H = 2 ^ b) (hr : r < H) (hq : q < 2) :
    (P * (2 * H) + q * H + r).testBit b = decide (q = 1) := by
  subst hH
  have e : P * (2 * 2 ^ b) + q * 2 ^ b + r = 2 ^ b * (2 * P + q) + r := by ring
  rw [e, Nat.testBit_two_pow_mul_add _ hr, if_neg (lt_irrefl b), Nat.sub_self, Nat.testBit_zero]
  have : (2 * P + q) % 2 = q := by omega
  rw [this]

/-- Sum and difference of the two entries of a pair, as a stage. -/
theorem pair_stage {b H P q r : ℕ} (hH : H = 2 ^ b) (hr : r < H) (hq : q < 2) (f : ℕ → ℝ) :
    rstage b f (P * (2 * H) + q * H + r)
      = if q = 0 then f (P * (2 * H) + 0 * H + r) + f (P * (2 * H) + 1 * H + r) else f (P * (2 * H) + 0 * H + r) - f (P * (2 * H) + 1 * H + r) := by
  unfold rstage
  rw [pair_bit hH hr hq]
  rcases (by omega : q = 0 ∨ q = 1) with rfl | rfl
  · simp only [show (0 : ℕ) ≠ 1 by decide, decide_false, Bool.false_eq_true, if_false, if_true]
    congr 2; subst hH; ring
  · simp only [decide_true, if_true, show (1 : ℕ) ≠ 0 by decide, if_false]
    congr 2; subst hH; omega

section Axis4

variable {A B C N H b : ℕ}

/-- A half of the pairs, as the reference takes it. -/
theorem half4 {α : Type} (v : (⟨6, ![A, B, C, N, 2, H]⟩ : Shape).Idx → α) (p : Fin 2)
    (hs : (⟨6, ![A, B, C, N, 2, H]⟩ : Shape).Slices ![0, 0, 0, 0, p.val, 0] (⟨6, ![A, B, C, N, 1, H]⟩ : Shape))
    (hc : (⟨6, ![A, B, C, N, 1, H]⟩ : Shape).ShapeCasts (⟨5, ![A, B, C, N, H]⟩ : Shape)) (i0 : Fin A) (i1 : Fin B) (i2 : Fin C) (i3 : Fin N) (i5 : Fin H) :
    shapeCast (⟨5, ![A, B, C, N, H]⟩ : Shape) (extractStridedSlice (⟨6, ![A, B, C, N, 1, H]⟩ : Shape) ![0, 0, 0, 0, p.val, 0] v hs) hc (ix5 i0 i1 i2 i3 i5) = v (ix6 i0 i1 i2 i3 p i5) := by
  refine (shapeCast_apply _ hc _ (ix6 i0 i1 i2 i3 0 i5) ?_).trans ?_
  · rw [rowMajor_val6 _ _ _ _ _ _ rfl rfl rfl rfl rfl, rowMajor_val5 _ _ _ _ _ rfl rfl rfl rfl]
    show i0.val * (B * (C * (N * (1 * H)))) + i1.val * (C * (N * (1 * H))) + i2.val * (N * (1 * H)) + i3.val * (1 * H) + 0 * H + i5.val = i0.val * (B * (C * (N * H))) + i1.val * (C * (N * H)) + i2.val * (N * H) + i3.val * H + i5.val
    ring
  · refine extractStridedSlice_apply _ _ _ _ _ fun a => ?_
    fin_cases a
    all_goals first | exact (Nat.zero_add _).symm | rfl

/-- A stage along the last axis. -/
theorem Lin.stage4 (hH : H = 2 ^ b) {v : FVec Ideal (⟨6, ![A, B, C, N, 2, H]⟩ : Shape) .f32} {f : ℕ → ℝ} (hv : Lin v f)
    (hs0 : (⟨6, ![A, B, C, N, 2, H]⟩ : Shape).Slices ![0, 0, 0, 0, 0, 0] (⟨6, ![A, B, C, N, 1, H]⟩ : Shape))
    (hs1 : (⟨6, ![A, B, C, N, 2, H]⟩ : Shape).Slices ![0, 0, 0, 0, 1, 0] (⟨6, ![A, B, C, N, 1, H]⟩ : Shape))
    (hc : (⟨6, ![A, B, C, N, 1, H]⟩ : Shape).ShapeCasts (⟨5, ![A, B, C, N, H]⟩ : Shape))
    (hb : (⟨5, ![A, B, C, N, H]⟩ : Shape).BroadcastsInDim (⟨6, ![A, B, C, N, 1, H]⟩ : Shape) ![0, 1, 2, 3, 5])
    (hk : Shape.Concatenates [(⟨6, ![A, B, C, N, 1, H]⟩ : Shape), (⟨6, ![A, B, C, N, 1, H]⟩ : Shape)] (⟨6, ![A, B, C, N, 2, H]⟩ : Shape) 4) :
    Lin (concatenate (⟨6, ![A, B, C, N, 2, H]⟩ : Shape) 4
      [⟨(⟨6, ![A, B, C, N, 1, H]⟩ : Shape), broadcastInDim (⟨6, ![A, B, C, N, 1, H]⟩ : Shape) ![0, 1, 2, 3, 5] hb
          (addf (shapeCast (⟨5, ![A, B, C, N, H]⟩ : Shape) (extractStridedSlice (⟨6, ![A, B, C, N, 1, H]⟩ : Shape) ![0, 0, 0, 0, 0, 0] v hs0) hc : FVec Ideal _ .f32)
            (shapeCast (⟨5, ![A, B, C, N, H]⟩ : Shape) (extractStridedSlice (⟨6, ![A, B, C, N, 1, H]⟩ : Shape) ![0, 0, 0, 0, 1, 0] v hs1) hc))⟩,
        ⟨(⟨6, ![A, B, C, N, 1, H]⟩ : Shape), broadcastInDim (⟨6, ![A, B, C, N, 1, H]⟩ : Shape) ![0, 1, 2, 3, 5] hb
          (subf (shapeCast (⟨5, ![A, B, C, N, H]⟩ : Shape) (extractStridedSlice (⟨6, ![A, B, C, N, 1, H]⟩ : Shape) ![0, 0, 0, 0, 0, 0] v hs0) hc : FVec Ideal _ .f32)
            (shapeCast (⟨5, ![A, B, C, N, H]⟩ : Shape) (extractStridedSlice (⟨6, ![A, B, C, N, 1, H]⟩ : Shape) ![0, 0, 0, 0, 1, 0] v hs1) hc))⟩] hk) (rstage b f) := by
  intro j
  obtain ⟨i0, i1, i2, i3, i4, i5, rfl⟩ : ∃ i0 i1 i2 i3 i4 i5, j = ix6 i0 i1 i2 i3 i4 i5 := ⟨_, _, _, _, _, _, eq_ix6 j⟩
  have hbr : ∀ (x : (⟨5, ![A, B, C, N, H]⟩ : Shape).Idx → EReal) (k : (⟨6, ![A, B, C, N, 1, H]⟩ : Shape).Idx),
      (k 0).val = i0.val → (k 1).val = i1.val → (k 2).val = i2.val → (k 3).val = i3.val → (k 5).val = i5.val →
      broadcastInDim (⟨6, ![A, B, C, N, 1, H]⟩ : Shape) ![0, 1, 2, 3, 5] hb x k = x (ix5 i0 i1 i2 i3 i5) := by
    intro x k h0 h1 h2 h3 h5
    refine broadcastInDim_apply _ hb x k _ fun a => ?_
    split
    · rename_i hone
      have : ((ix5 i0 i1 i2 i3 i5 : (⟨5, ![A, B, C, N, H]⟩ : Shape).Idx) a).val < (⟨5, ![A, B, C, N, H]⟩ : Shape).size a := (_ : Fin _).isLt
      omega
    · fin_cases a
      exacts [h0.symm, h1.symm, h2.symm, h3.symm, h5.symm]
  have h0 := half4 v 0 hs0 hc i0 i1 i2 i3 i5
  have h1 := half4 v 1 hs1 hc i0 i1 i2 i3 i5
  have hpos : ∀ p : Fin 2, ((⟨6, ![A, B, C, N, 2, H]⟩ : Shape).rowMajor (ix6 i0 i1 i2 i3 p i5)).val
      = (((i0.val * B + i1.val) * C + i2.val) * N + i3.val) * (2 * (H)) + p.val * (H) + (i5.val) := fun p => by
    rw [rowMajor_val6 _ _ _ _ _ _ rfl rfl rfl rfl rfl]
    show i0.val * (B * (C * (N * (2 * H)))) + i1.val * (C * (N * (2 * H))) + i2.val * (N * (2 * H)) + i3.val * (2 * H) + p.val * H + i5.val = _
    ring
  have hr : i5.val < H := i5.isLt
  have hst := pair_stage (P := ((i0.val * B + i1.val) * C + i2.val) * N + i3.val) hH hr i4.isLt f
  rw [← hpos i4] at hst
  rw [hst, concatenate_pair_apply]
  have e0 : v (ix6 i0 i1 i2 i3 0 i5) = _ := hv _
  have e1 : v (ix6 i0 i1 i2 i3 1 i5) = _ := hv _
  rw [hpos] at e0 e1
  split
  · rename_i hlt
    have hz : i4.val = 0 := Nat.lt_one_iff.mp hlt
    rw [if_pos hz, hbr _ _ rfl rfl rfl rfl rfl]
    exact ((congrArg₂ (· + ·) (h0.trans e0) (h1.trans e1)).trans (EReal.coe_add _ _).symm)
  · rename_i hlt
    have hz : ¬ i4.val = 0 := fun h => hlt (Nat.lt_one_iff.mpr h)
    rw [if_neg hz, hbr _ _ rfl rfl rfl rfl rfl]
    exact ((congrArg₂ (· - ·) (h0.trans e0) (h1.trans e1)).trans (EReal.coe_sub _ _).symm)

end Axis4

section Axis3

variable {A B N H D b : ℕ}

/-- A half of the pairs, as the reference takes it. -/
theorem half3 {α : Type} (v : (⟨6, ![A, B, N, 2, H, D]⟩ : Shape).Idx → α) (p : Fin 2)
    (hs : (⟨6, ![A, B, N, 2, H, D]⟩ : Shape).Slices ![0, 0, 0, p.val, 0, 0] (⟨6, ![A, B, N, 1, H, D]⟩ : Shape))
    (hc : (⟨6, ![A, B, N, 1, H, D]⟩ : Shape).ShapeCasts (⟨5, ![A, B, N, H, D]⟩ : Shape)) (i0 : Fin A) (i1 : Fin B) (i2 : Fin N) (i4 : Fin H) (i5 : Fin D) :
    shapeCast (⟨5, ![A, B, N, H, D]⟩ : Shape) (extractStridedSlice (⟨6, ![A, B, N, 1, H, D]⟩ : Shape) ![0, 0, 0, p.val, 0, 0] v hs) hc (ix5 i0 i1 i2 i4 i5) = v (ix6 i0 i1 i2 p i4 i5) := by
  refine (shapeCast_apply _ hc _ (ix6 i0 i1 i2 0 i4 i5) ?_).trans ?_
  · rw [rowMajor_val6 _ _ _ _ _ _ rfl rfl rfl rfl rfl, rowMajor_val5 _ _ _ _ _ rfl rfl rfl rfl]
    show i0.val * (B * (N * (1 * (H * D)))) + i1.val * (N * (1 * (H * D))) + i2.val * (1 * (H * D)) + 0 * (H * D) + i4.val * D + i5.val = i0.val * (B * (N * (H * D))) + i1.val * (N * (H * D)) + i2.val * (H * D) + i4.val * D + i5.val
    ring
  · refine extractStridedSlice_apply _ _ _ _ _ fun a => ?_
    fin_cases a
    all_goals first | exact (Nat.zero_add _).symm | rfl

/-- A stage along the axis before the last. -/
theorem Lin.stage3 (hH : H * D = 2 ^ b) {v : FVec Ideal (⟨6, ![A, B, N, 2, H, D]⟩ : Shape) .f32} {f : ℕ → ℝ} (hv : Lin v f)
    (hs0 : (⟨6, ![A, B, N, 2, H, D]⟩ : Shape).Slices ![0, 0, 0, 0, 0, 0] (⟨6, ![A, B, N, 1, H, D]⟩ : Shape))
    (hs1 : (⟨6, ![A, B, N, 2, H, D]⟩ : Shape).Slices ![0, 0, 0, 1, 0, 0] (⟨6, ![A, B, N, 1, H, D]⟩ : Shape))
    (hc : (⟨6, ![A, B, N, 1, H, D]⟩ : Shape).ShapeCasts (⟨5, ![A, B, N, H, D]⟩ : Shape))
    (hb : (⟨5, ![A, B, N, H, D]⟩ : Shape).BroadcastsInDim (⟨6, ![A, B, N, 1, H, D]⟩ : Shape) ![0, 1, 2, 4, 5])
    (hk : Shape.Concatenates [(⟨6, ![A, B, N, 1, H, D]⟩ : Shape), (⟨6, ![A, B, N, 1, H, D]⟩ : Shape)] (⟨6, ![A, B, N, 2, H, D]⟩ : Shape) 3) :
    Lin (concatenate (⟨6, ![A, B, N, 2, H, D]⟩ : Shape) 3
      [⟨(⟨6, ![A, B, N, 1, H, D]⟩ : Shape), broadcastInDim (⟨6, ![A, B, N, 1, H, D]⟩ : Shape) ![0, 1, 2, 4, 5] hb
          (addf (shapeCast (⟨5, ![A, B, N, H, D]⟩ : Shape) (extractStridedSlice (⟨6, ![A, B, N, 1, H, D]⟩ : Shape) ![0, 0, 0, 0, 0, 0] v hs0) hc : FVec Ideal _ .f32)
            (shapeCast (⟨5, ![A, B, N, H, D]⟩ : Shape) (extractStridedSlice (⟨6, ![A, B, N, 1, H, D]⟩ : Shape) ![0, 0, 0, 1, 0, 0] v hs1) hc))⟩,
        ⟨(⟨6, ![A, B, N, 1, H, D]⟩ : Shape), broadcastInDim (⟨6, ![A, B, N, 1, H, D]⟩ : Shape) ![0, 1, 2, 4, 5] hb
          (subf (shapeCast (⟨5, ![A, B, N, H, D]⟩ : Shape) (extractStridedSlice (⟨6, ![A, B, N, 1, H, D]⟩ : Shape) ![0, 0, 0, 0, 0, 0] v hs0) hc : FVec Ideal _ .f32)
            (shapeCast (⟨5, ![A, B, N, H, D]⟩ : Shape) (extractStridedSlice (⟨6, ![A, B, N, 1, H, D]⟩ : Shape) ![0, 0, 0, 1, 0, 0] v hs1) hc))⟩] hk) (rstage b f) := by
  intro j
  obtain ⟨i0, i1, i2, i3, i4, i5, rfl⟩ : ∃ i0 i1 i2 i3 i4 i5, j = ix6 i0 i1 i2 i3 i4 i5 := ⟨_, _, _, _, _, _, eq_ix6 j⟩
  have hbr : ∀ (x : (⟨5, ![A, B, N, H, D]⟩ : Shape).Idx → EReal) (k : (⟨6, ![A, B, N, 1, H, D]⟩ : Shape).Idx),
      (k 0).val = i0.val → (k 1).val = i1.val → (k 2).val = i2.val → (k 4).val = i4.val → (k 5).val = i5.val →
      broadcastInDim (⟨6, ![A, B, N, 1, H, D]⟩ : Shape) ![0, 1, 2, 4, 5] hb x k = x (ix5 i0 i1 i2 i4 i5) := by
    intro x k h0 h1 h2 h4 h5
    refine broadcastInDim_apply _ hb x k _ fun a => ?_
    split
    · rename_i hone
      have : ((ix5 i0 i1 i2 i4 i5 : (⟨5, ![A, B, N, H, D]⟩ : Shape).Idx) a).val < (⟨5, ![A, B, N, H, D]⟩ : Shape).size a := (_ : Fin _).isLt
      omega
    · fin_cases a
      exacts [h0.symm, h1.symm, h2.symm, h4.symm, h5.symm]
  have h0 := half3 v 0 hs0 hc i0 i1 i2 i4 i5
  have h1 := half3 v 1 hs1 hc i0 i1 i2 i4 i5
  have hpos : ∀ p : Fin 2, ((⟨6, ![A, B, N, 2, H, D]⟩ : Shape).rowMajor (ix6 i0 i1 i2 p i4 i5)).val
      = ((i0.val * B + i1.val) * N + i2.val) * (2 * (H * D)) + p.val * (H * D) + (i4.val * D + i5.val) := fun p => by
    rw [rowMajor_val6 _ _ _ _ _ _ rfl rfl rfl rfl rfl]
    show i0.val * (B * (N * (2 * (H * D)))) + i1.val * (N * (2 * (H * D))) + i2.val * (2 * (H * D)) + p.val * (H * D) + i4.val * D + i5.val = _
    ring
  have hr : i4.val * D + i5.val < H * D :=
    calc i4.val * D + i5.val < i4.val * D + D := Nat.add_lt_add_left i5.isLt _
      _ = (i4.val + 1) * D := by ring
      _ ≤ H * D := Nat.mul_le_mul_right D i4.isLt
  have hst := pair_stage (P := (i0.val * B + i1.val) * N + i2.val) hH hr i3.isLt f
  rw [← hpos i3] at hst
  rw [hst, concatenate_pair_apply]
  have e0 : v (ix6 i0 i1 i2 0 i4 i5) = _ := hv _
  have e1 : v (ix6 i0 i1 i2 1 i4 i5) = _ := hv _
  rw [hpos] at e0 e1
  split
  · rename_i hlt
    have hz : i3.val = 0 := Nat.lt_one_iff.mp hlt
    rw [if_pos hz, hbr _ _ rfl rfl rfl rfl rfl]
    exact ((congrArg₂ (· + ·) (h0.trans e0) (h1.trans e1)).trans (EReal.coe_add _ _).symm)
  · rename_i hlt
    have hz : ¬ i3.val = 0 := fun h => hlt (Nat.lt_one_iff.mpr h)
    rw [if_neg hz, hbr _ _ rfl rfl rfl rfl rfl]
    exact ((congrArg₂ (· - ·) (h0.trans e0) (h1.trans e1)).trans (EReal.coe_sub _ _).symm)

end Axis3

end Bit

end
-- ==== Proof.RefY.lean ====
/-
  The reference's rotated array: its eighteen stages, one per bit of the position in a block, are one Walsh–Hadamard transform on
  row-major positions; and the array it sums for the scale.
-/
module

public import proofs.«01_k».proof.Proof.Gen.ReferenceIdeal.Run
public import proofs.«01_k».proof.Proof.RefStage

@[expose] public section

noncomputable section

namespace Bit

open Idealize.ShloMosaic Cert.ReferenceIdeal Cert.ReferenceIdeal.Facts Cert.ReferenceIdeal.Facts₀

variable [Cert.ReferenceIdeal.Facts]

/-- The normalisation both rotations carry. -/
theorem norm_const : (Ideal.ofBits .f32 0x3B000000#32 : EReal) = ((1 / 512 : ℝ) : EReal) := by
  simp only [Ideal.ofBits, Ideal.ieee]
  norm_num [Nat.shiftRight_eq_div_pow, show BitVec.extractLsb' 31 1 989855744#32 = 0#1 by decide, zpow_neg]

/-- An array times the normalisation. -/
theorem Lin.norm {s : Shape} {x : FVec Ideal s .f32} {f : ℕ → ℝ} (h : Lin x f) (hb : (⟨0, ![]⟩ : Shape).BroadcastsInDim s ![]) :
    Lin (mulf (broadcastInDim s ![] hb (constant (⟨0, ![]⟩ : Shape) .f32 0x3B000000#32) : FVec Ideal s .f32) x) (fun i => 1 / 512 * f i) := by
  intro j
  show Ideal.ofBits .f32 0x3B000000#32 * x j = _
  rw [norm_const, h j, ← EReal.coe_mul]

/-- One more stage extends the transform by one bit. -/
theorem whtS (k : ℕ) (u : ℕ → ℝ) : rstage k (wht (List.range k) u) = wht (List.range (k + 1)) u := by
  rw [List.range_succ, wht_append]; rfl

/-- The first rotation. -/
theorem ref_forward (V : Valuation τ sig (Elt Ideal)) (u : ℕ → ℝ) (h : Lin (mulf (Value.res_main_v15 V) (Value.res_main_v0 V) : FVec Ideal S8x1152x2048 .f32) u) :
    Lin (Value.res_main_v218 V) (fun i => 1 / 512 * wht (List.range 18) u i) := by
  have h0 : Lin (Value.res_main_v18 V) u := (h.cast _).cast _
  have h1 : Lin (Value.res_main_v29 V) (wht (List.range 1) u) :=
    (whtS 0 u).subst (motive := fun f => Lin (Value.res_main_v29 V) f) (((h0.stage4 (b := 0) (by norm_num) _ _ _ _ _).cast _).cast _)
  have h2 : Lin (Value.res_main_v40 V) (wht (List.range 2) u) :=
    (whtS 1 u).subst (motive := fun f => Lin (Value.res_main_v40 V) f) (((h1.stage4 (b := 1) (by norm_num) _ _ _ _ _).cast _).cast _)
  have h3 : Lin (Value.res_main_v51 V) (wht (List.range 3) u) :=
    (whtS 2 u).subst (motive := fun f => Lin (Value.res_main_v51 V) f) (((h2.stage4 (b := 2) (by norm_num) _ _ _ _ _).cast _).cast _)
  have h4 : Lin (Value.res_main_v62 V) (wht (List.range 4) u) :=
    (whtS 3 u).subst (motive := fun f => Lin (Value.res_main_v62 V) f) (((h3.stage4 (b := 3) (by norm_num) _ _ _ _ _).cast _).cast _)
  have h5 : Lin (Value.res_main_v73 V) (wht (List.range 5) u) :=
    (whtS 4 u).subst (motive := fun f => Lin (Value.res_main_v73 V) f) (((h4.stage4 (b := 4) (by norm_num) _ _ _ _ _).cast _).cast _)
  have h6 : Lin (Value.res_main_v84 V) (wht (List.range 6) u) :=
    (whtS 5 u).subst (motive := fun f => Lin (Value.res_main_v84 V) f) (((h5.stage4 (b := 5) (by norm_num) _ _ _ _ _).cast _).cast _)
  have h7 : Lin (Value.res_main_v95 V) (wht (List.range 7) u) :=
    (whtS 6 u).subst (motive := fun f => Lin (Value.res_main_v95 V) f) (((h6.stage4 (b := 6) (by norm_num) _ _ _ _ _).cast _).cast _)
  have h8 : Lin (Value.res_main_v106 V) (wht (List.range 8) u) :=
    (whtS 7 u).subst (motive := fun f => Lin (Value.res_main_v106 V) f) (((h7.stage4 (b := 7) (by norm_num) _ _ _ _ _).cast _).cast _)
  have h9 : Lin (Value.res_main_v117 V) (wht (List.range 9) u) :=
    (whtS 8 u).subst (motive := fun f => Lin (Value.res_main_v117 V) f) (((h8.stage4 (b := 8) (by norm_num) _ _ _ _ _).cast _).cast _)
  have h10 : Lin (Value.res_main_v128 V) (wht (List.range 10) u) :=
    (whtS 9 u).subst (motive := fun f => Lin (Value.res_main_v128 V) f) (((h9.stage4 (b := 9) (by norm_num) _ _ _ _ _).cast _).cast _)
  have h11 : Lin (Value.res_main_v139 V) (wht (List.range 11) u) :=
    (whtS 10 u).subst (motive := fun f => Lin (Value.res_main_v139 V) f) (((h10.stage4 (b := 10) (by norm_num) _ _ _ _ _).cast _).cast _)
  have h12 : Lin (Value.res_main_v150 V) (wht (List.range 12) u) :=
    (whtS 11 u).subst (motive := fun f => Lin (Value.res_main_v150 V) f) (((h11.stage3 (b := 11) (by norm_num) _ _ _ _ _).cast _).cast _)
  have h13 : Lin (Value.res_main_v161 V) (wht (List.range 13) u) :=
    (whtS 12 u).subst (motive := fun f => Lin (Value.res_main_v161 V) f) (((h12.stage3 (b := 12) (by norm_num) _ _ _ _ _).cast _).cast _)
  have h14 : Lin (Value.res_main_v172 V) (wht (List.range 14) u) :=
    (whtS 13 u).subst (motive := fun f => Lin (Value.res_main_v172 V) f) (((h13.stage3 (b := 13) (by norm_num) _ _ _ _ _).cast _).cast _)
  have h15 : Lin (Value.res_main_v183 V) (wht (List.range 15) u) :=
    (whtS 14 u).subst (motive := fun f => Lin (Value.res_main_v183 V) f) (((h14.stage3 (b := 14) (by norm_num) _ _ _ _ _).cast _).cast _)
  have h16 : Lin (Value.res_main_v194 V) (wht (List.range 16) u) :=
    (whtS 15 u).subst (motive := fun f => Lin (Value.res_main_v194 V) f) (((h15.stage3 (b := 15) (by norm_num) _ _ _ _ _).cast _).cast _)
  have h17 : Lin (Value.res_main_v205 V) (wht (List.range 17) u) :=
    (whtS 16 u).subst (motive := fun f => Lin (Value.res_main_v205 V) f) (((h16.stage3 (b := 16) (by norm_num) _ _ _ _ _).cast _).cast _)
  rw [show (fun i => 1 / 512 * wht (List.range 18) u i) = fun i => 1 / 512 * rstage 17 (wht (List.range 17) u) i from by rw [whtS]]
  exact (((h17.stage3 (b := 17) (by norm_num) _ _ _ _ _).cast _).norm _).cast _

end Bit

end
-- ==== Proof.RefZ.lean ====
/-
  The reference's second rotation: the same eighteen stages, of the scaled signs.
-/
module

public import proofs.«01_k».proof.Proof.RefY

@[expose] public section

noncomputable section

namespace Bit

open Idealize.ShloMosaic Cert.ReferenceIdeal Cert.ReferenceIdeal.Facts Cert.ReferenceIdeal.Facts₀

variable [Cert.ReferenceIdeal.Facts]

/-- The second rotation's array. -/
abbrev rotated2 (V : Valuation τ sig (Elt Ideal)) : FVec Ideal S8x1152x2048 .f32 :=
  shapeCast _ (mulf (broadcastInDim S8x9x128x2048 ![] bcast_S_S8x9x128x2048 (constant S_ .f32 0x3B000000#32)) (shapeCast _ (concatenate S8x9x1x2x64x2048 3 [⟨S8x9x1x1x64x2048, (broadcastInDim S8x9x1x1x64x2048 ![0, 1, 2, 4, 5] bcast_S8x9x1x64x2048_S8x9x1x1x64x2048_0_1_2_4_5 (addf (Value.res_main_v442 V) (Value.res_main_v444 V)))⟩, ⟨S8x9x1x1x64x2048, (broadcastInDim S8x9x1x1x64x2048 ![0, 1, 2, 4, 5] bcast_S8x9x1x64x2048_S8x9x1x1x64x2048_0_1_2_4_5 (subf (Value.res_main_v442 V) (Value.res_main_v444 V)))⟩] concatenates_S8x9x1x1x64x2048_S8x9x1x1x64x2048_S8x9x1x2x64x2048_d3) shapeCasts_S8x9x1x2x64x2048_S8x9x128x2048)) shapeCasts_S8x9x128x2048_S8x1152x2048

/-- The second rotation. -/
theorem ref_inverse (V : Valuation τ sig (Elt Ideal)) (u : ℕ → ℝ) (h0 : Lin (Value.res_main_v253 V) u) :
    Lin (rotated2 V) (fun i => 1 / 512 * wht (List.range 18) u i) := by
  have h1 : Lin (Value.res_main_v264 V) (wht (List.range 1) u) :=
    (whtS 0 u).subst (motive := fun f => Lin (Value.res_main_v264 V) f) (((h0.stage4 (b := 0) (by norm_num) _ _ _ _ _).cast _).cast _)
  have h2 : Lin (Value.res_main_v275 V) (wht (List.range 2) u) :=
    (whtS 1 u).subst (motive := fun f => Lin (Value.res_main_v275 V) f) (((h1.stage4 (b := 1) (by norm_num) _ _ _ _ _).cast _).cast _)
  have h3 : Lin (Value.res_main_v286 V) (wht (List.range 3) u) :=
    (whtS 2 u).subst (motive := fun f => Lin (Value.res_main_v286 V) f) (((h2.stage4 (b := 2) (by norm_num) _ _ _ _ _).cast _).cast _)
  have h4 : Lin (Value.res_main_v297 V) (wht (List.range 4) u) :=
    (whtS 3 u).subst (motive := fun f => Lin (Value.res_main_v297 V) f) (((h3.stage4 (b := 3) (by norm_num) _ _ _ _ _).cast _).cast _)
  have h5 : Lin (Value.res_main_v308 V) (wht (List.range 5) u) :=
    (whtS 4 u).subst (motive := fun f => Lin (Value.res_main_v308 V) f) (((h4.stage4 (b := 4) (by norm_num) _ _ _ _ _).cast _).cast _)
  have h6 : Lin (Value.res_main_v319 V) (wht (List.range 6) u) :=
    (whtS 5 u).subst (motive := fun f => Lin (Value.res_main_v319 V) f) (((h5.stage4 (b := 5) (by norm_num) _ _ _ _ _).cast _).cast _)
  have h7 : Lin (Value.res_main_v330 V) (wht (List.range 7) u) :=
    (whtS 6 u).subst (motive := fun f => Lin (Value.res_main_v330 V) f) (((h6.stage4 (b := 6) (by norm_num) _ _ _ _ _).cast _).cast _)
  have h8 : Lin (Value.res_main_v341 V) (wht (List.range 8) u) :=
    (whtS 7 u).subst (motive := fun f => Lin (Value.res_main_v341 V) f) (((h7.stage4 (b := 7) (by norm_num) _ _ _ _ _).cast _).cast _)
  have h9 : Lin (Value.res_main_v352 V) (wht (List.range 9) u) :=
    (whtS 8 u).subst (motive := fun f => Lin (Value.res_main_v352 V) f) (((h8.stage4 (b := 8) (by norm_num) _ _ _ _ _).cast _).cast _)
  have h10 : Lin (Value.res_main_v363 V) (wht (List.range 10) u) :=
    (whtS 9 u).subst (motive := fun f => Lin (Value.res_main_v363 V) f) (((h9.stage4 (b := 9) (by norm_num) _ _ _ _ _).cast _).cast _)
  have h11 : Lin (Value.res_main_v374 V) (wht (List.range 11) u) :=
    (whtS 10 u).subst (motive := fun f => Lin (Value.res_main_v374 V) f) (((h10.stage4 (b := 10) (by norm_num) _ _ _ _ _).cast _).cast _)
  have h12 : Lin (Value.res_main_v385 V) (wht (List.range 12) u) :=
    (whtS 11 u).subst (motive := fun f => Lin (Value.res_main_v385 V) f) (((h11.stage3 (b := 11) (by norm_num) _ _ _ _ _).cast _).cast _)
  have h13 : Lin (Value.res_main_v396 V) (wht (List.range 13) u) :=
    (whtS 12 u).subst (motive := fun f => Lin (Value.res_main_v396 V) f) (((h12.stage3 (b := 12) (by norm_num) _ _ _ _ _).cast _).cast _)
  have h14 : Lin (Value.res_main_v407 V) (wht (List.range 14) u) :=
    (whtS 13 u).subst (motive := fun f => Lin (Value.res_main_v407 V) f) (((h13.stage3 (b := 13) (by norm_num) _ _ _ _ _).cast _).cast _)
  have h15 : Lin (Value.res_main_v418 V) (wht (List.range 15) u) :=
    (whtS 14 u).subst (motive := fun f => Lin (Value.res_main_v418 V) f) (((h14.stage3 (b := 14) (by norm_num) _ _ _ _ _).cast _).cast _)
  have h16 : Lin (Value.res_main_v429 V) (wht (List.range 16) u) :=
    (whtS 15 u).subst (motive := fun f => Lin (Value.res_main_v429 V) f) (((h15.stage3 (b := 15) (by norm_num) _ _ _ _ _).cast _).cast _)
  have h17 : Lin (Value.res_main_v440 V) (wht (List.range 17) u) :=
    (whtS 16 u).subst (motive := fun f => Lin (Value.res_main_v440 V) f) (((h16.stage3 (b := 16) (by norm_num) _ _ _ _ _).cast _).cast _)
  rw [show (fun i => 1 / 512 * wht (List.range 18) u i) = fun i => 1 / 512 * rstage 17 (wht (List.range 17) u) i from by rw [whtS]]
  exact (((h17.stage3 (b := 17) (by norm_num) _ _ _ _ _).cast _).norm _).cast _

end Bit

end
-- ==== Proof.RefBits.lean ====
/-
  The reference's bytes: unpacking a byte array into signs, and packing signs into a byte array.
-/
module

public import proofs.«01_k».proof.Proof.Gen.ReferenceIdeal.Run
public import proofs.«01_k».proof.Proof.RefStage

@[expose] public section

set_option maxRecDepth 16384

noncomputable section

namespace Bit

open Idealize.ShloMosaic Cert.ReferenceIdeal Cert.ReferenceIdeal.Facts Cert.ReferenceIdeal.Facts₀

/-- A byte's bit, shifted down and masked. -/
theorem byte_bit : ∀ (x : Fin 256) (k : Fin 8),
    (IntOp.andi (IntOp.shrsi .host ((BitVec.ofFin x : BitVec 8).setWidth 32) (BitVec.ofNat 32 k.val)) 1#32).toInt = if (BitVec.ofFin x : BitVec 8).getLsbD k.val then 1 else 0 := by
  decide +kernel

/-- Eight shifted bits, summed: the byte with those bits. -/
theorem byte_pack : ∀ (v : Fin 8 → Bool) (k : Fin 8),
    (((Finset.univ : Finset (Fin 8)).fold IntOp.addi 0#32 (fun i => IntOp.shli .host (if v i then 1#32 else 0#32) (BitVec.ofNat 32 i.val))).setWidth 8).getLsbD k.val = v k := by
  decide +kernel

/-- Row-major positions in the arrays' shapes. -/
theorem rm3 (i : Fin 8) (j : Fin 1152) (k : Fin 2048) : (S8x1152x2048.rowMajor (ix3 i j k)).val = (i.val * 1152 + j.val) * 2048 + k.val :=
  (rowMajor_val3 _ (1152 * 2048) 2048 rfl rfl).trans (by show i.val * (1152 * 2048) + j.val * 2048 + k.val = _; ring)

/-- The row-major position of an index of four axes. -/
theorem rm4 (i : Fin 8) (j : Fin 1152) (k : Fin 256) (l : Fin 8) : (S8x1152x256x8.rowMajor (ix4 i j k l)).val = ((i.val * 1152 + j.val) * 256 + k.val) * 8 + l.val :=
  (rowMajor_val4 _ (1152 * (256 * 8)) (256 * 8) 8 rfl rfl rfl).trans (by show i.val * (1152 * (256 * 8)) + j.val * (256 * 8) + k.val * 8 + l.val = _; ring)

variable [Cert.ReferenceIdeal.Facts]

/-- The signs of a byte array's bits. -/
abbrev signsOf (b : IVec S8x1152x256 8) : FVec Ideal S8x1152x2048 .f32 :=
  subf (broadcastInDim S8x1152x2048 ![] bcast_S_S8x1152x2048 (constant S_ .f32 0x3F800000#32)) (mulf (broadcastInDim S8x1152x2048 ![] bcast_S_S8x1152x2048 (constant S_ .f32 0x40000000#32)) (sitofp .f32 (shapeCast _ (andi (Host.shrsi (broadcastInDim S8x1152x256x8 ![0, 1, 2, 3] bcast_S8x1152x256x1_S8x1152x256x8_0_1_2_3 (extui 32 (broadcastInDim S8x1152x256x1 ![0, 1, 2] bcast_S8x1152x256_S8x1152x256x1_0_1_2 b) natLt_8_32)) (broadcastInDim S8x1152x256x8 ![0, 1, 2, 3] bcast_S1x1x1x8_S8x1152x256x8_0_1_2_3 (broadcastInDim S1x1x1x8 ![3] bcast_S8_S1x1x1x8_3 (iotaInDim S8 32 0)))) (broadcastInDim S8x1152x256x8 ![] bcast_S_S8x1152x256x8 (constantI S_ 32 1#32))) shapeCasts_S8x1152x256x8_S8x1152x2048)))

/-- The bits of the 32-bit float 2 read as 2. -/
theorem ofBits_two_f32 : (Ideal.ofBits .f32 0x40000000#32 : EReal) = ((2 : ℝ) : EReal) := by
  simp only [Ideal.ofBits, Ideal.ieee]
  norm_num [Nat.shiftRight_eq_div_pow, show BitVec.extractLsb' 31 1 1073741824#32 = 0#1 by decide]

/-- Unpacked signs: `-1` where the bit is set. -/
theorem signsOf_val (b : IVec S8x1152x256 8) (sg : ℕ → Bool)
    (hb : ∀ (i : Fin 8) (j : Fin 1152) (cb : Fin 256) (k : ℕ), k < 8 → (b (ix3 i j cb)).getLsbD k = sg ((i.val * 1152 + j.val) * 2048 + 8 * cb.val + k)) :
    Lin (signsOf b) (fun n => if sg n then -1 else 1) := by
  intro q
  obtain ⟨i, j, k, rfl⟩ : ∃ (i : Fin 8) (j : Fin 1152) (k : Fin 2048), q = ix3 i j k := ⟨_, _, _, eq_ix3 q⟩
  have hk := k.isLt
  have e := byte_bit (b (ix3 i j (⟨k.val / 8, by omega⟩ : Fin 256))).toFin (⟨k.val % 8, by omega⟩ : Fin 8)
  rw [BitVec.ofFin_toFin] at e
  rw [hb i j _ _ (by show k.val % 8 < 8; omega)] at e
  have hp : (i.val * 1152 + j.val) * 2048 + 8 * (k.val / 8) + k.val % 8 = (i.val * 1152 + j.val) * 2048 + k.val := by omega
  have hp' : ((⟨k.val / 8, by omega⟩ : Fin 256) : ℕ) = k.val / 8 := rfl
  have hp'' : ((⟨k.val % 8, by omega⟩ : Fin 8) : ℕ) = k.val % 8 := rfl
  rw [hp', hp'', hp] at e
  rw [rm3]
  show Ideal.ofBits .f32 0x3F800000#32 - Ideal.ofBits .f32 0x40000000#32 * ((((shapeCast S8x1152x2048 (andi (Host.shrsi (broadcastInDim S8x1152x256x8 ![0, 1, 2, 3] bcast_S8x1152x256x1_S8x1152x256x8_0_1_2_3 (extui 32 (broadcastInDim S8x1152x256x1 ![0, 1, 2] bcast_S8x1152x256_S8x1152x256x1_0_1_2 b) natLt_8_32)) (broadcastInDim S8x1152x256x8 ![0, 1, 2, 3] bcast_S1x1x1x8_S8x1152x256x8_0_1_2_3 (broadcastInDim S1x1x1x8 ![3] bcast_S8_S1x1x1x8_3 (iotaInDim S8 32 0)))) (broadcastInDim S8x1152x256x8 ![] bcast_S_S8x1152x256x8 (constantI S_ 32 1#32))) shapeCasts_S8x1152x256x8_S8x1152x2048 (ix3 i j k)).toInt : ℝ)) : EReal) = _
  rw [shapeCast_apply _ _ _ (ix4 i j (⟨k.val / 8, by omega⟩ : Fin 256) (⟨k.val % 8, by omega⟩ : Fin 8)) (by rw [rm3, rm4]; dsimp only; omega)]
  rw [show (andi (Host.shrsi (broadcastInDim S8x1152x256x8 ![0, 1, 2, 3] bcast_S8x1152x256x1_S8x1152x256x8_0_1_2_3 (extui 32 (broadcastInDim S8x1152x256x1 ![0, 1, 2] bcast_S8x1152x256_S8x1152x256x1_0_1_2 b) natLt_8_32)) (broadcastInDim S8x1152x256x8 ![0, 1, 2, 3] bcast_S1x1x1x8_S8x1152x256x8_0_1_2_3 (broadcastInDim S1x1x1x8 ![3] bcast_S8_S1x1x1x8_3 (iotaInDim S8 32 0)))) (broadcastInDim S8x1152x256x8 ![] bcast_S_S8x1152x256x8 (constantI S_ 32 1#32)) (ix4 i j (⟨k.val / 8, by omega⟩ : Fin 256) (⟨k.val % 8, by omega⟩ : Fin 8))).toInt = (if sg ((i.val * 1152 + j.val) * 2048 + k.val) then 1 else 0 : ℤ) from by
    rw [← e]
    simp only [andi, Host.shrsi, broadcastInDim, extui, iotaInDim, constantI]
    congr 4
    refine congrArg b (funext fun a => ?_)
    fin_cases a <;> rfl]
  rw [ofBits_two_f32, Ideal.ofBits_one_f32]
  show _ = (((if sg ((i.val * 1152 + j.val) * 2048 + k.val) then -1 else 1 : ℝ)) : EReal)
  rw [← EReal.coe_one, ← EReal.coe_mul, ← EReal.coe_sub]
  refine congrArg (fun x : ℝ => (x : EReal)) ?_
  split_ifs <;> norm_num

/-- The bytes of the bits of an array's entries below zero. -/
abbrev codesOf (y : FVec Ideal S8x1152x2048 .f32) : IVec S8x1152x256 8 :=
  trunci 8 (Host.reduce IntOp.addi (Host.shli (shapeCast _ (extui 32 (cmpf .olt y (broadcastInDim S8x1152x2048 ![] bcast_S_S8x1152x2048 (constant S_ .f32 0x00000000#32))) natLt_1_32) shapeCasts_S8x1152x2048_S8x1152x256x8) (broadcastInDim S8x1152x256x8 ![0, 1, 2, 3] bcast_S1x1x1x8_S8x1152x256x8_0_1_2_3 (broadcastInDim S1x1x1x8 ![3] bcast_S8_S1x1x1x8_3 (iotaInDim S8 32 0)))) (constantI S_ 32 0#32) reducesTo_S8x1152x256x8_S8x1152x256_d3 h_S_) natLt_8_32

/-- The packed bytes' bits. -/
theorem codesOf_val (y : FVec Ideal S8x1152x2048 .f32) (f : ℕ → ℝ) (hy : Lin y f) (i : Fin 8) (j : Fin 1152) (cb : Fin 256) (k : ℕ) (hk : k < 8) :
    (codesOf y (ix3 i j cb)).getLsbD k = decide (f ((i.val * 1152 + j.val) * 2048 + 8 * cb.val + k) < 0) := by
  have e := byte_pack (fun q => decide (f ((i.val * 1152 + j.val) * 2048 + 8 * cb.val + q.val) < 0)) ⟨k, hk⟩
  dsimp only at e
  rw [← e]
  refine congrArg (fun w : BitVec 32 => (w.setWidth 8).getLsbD k) ?_
  refine (Host.reduce_eq_fold IntOp.addi _ _ _ _ (ix3 i j cb)).trans ?_
  rw [Shape.ReducesTo.fold_fiber_r4_a3]
  refine congrArg (fun v => (Finset.univ : Finset (Fin 8)).fold IntOp.addi 0#32 v) (funext fun l => ?_)
  show IntOp.shli .host (shapeCast S8x1152x256x8 (extui 32 (cmpf .olt y (broadcastInDim S8x1152x2048 ![] bcast_S_S8x1152x2048 (constant S_ .f32 0x00000000#32))) natLt_1_32) shapeCasts_S8x1152x2048_S8x1152x256x8 (ix4 i j cb l)) (BitVec.ofNat 32 l.val) = _
  refine congrArg (fun w => IntOp.shli .host w (BitVec.ofNat 32 l.val)) ?_
  have hl := l.isLt
  have hcb := cb.isLt
  rw [shapeCast_apply _ _ _ (ix3 i j (⟨8 * cb.val + l.val, by omega⟩ : Fin 2048)) (by rw [rm3, rm4]; dsimp only; omega)]
  have h := hy (ix3 i j (⟨8 * cb.val + l.val, by omega⟩ : Fin 2048))
  rw [rm3] at h
  show BitVec.setWidth 32 (BitVec.ofBool (decide ((y (ix3 i j (⟨8 * cb.val + l.val, by omega⟩ : Fin 2048)) : EReal) < Ideal.ofBits .f32 0x00000000#32))) = _
  rw [h, Ideal.ofBits_zero_f32, show (i.val * 1152 + j.val) * 2048 + ((⟨8 * cb.val + l.val, by omega⟩ : Fin 2048) : ℕ) = (i.val * 1152 + j.val) * 2048 + 8 * cb.val + l.val from by dsimp only; omega]
  by_cases hx : f ((i.val * 1152 + j.val) * 2048 + 8 * cb.val + l.val) < 0
  · rw [decide_eq_true hx, decide_eq_true (show ((f ((i.val * 1152 + j.val) * 2048 + 8 * cb.val + l.val) : ℝ) : EReal) < 0 from by rw [← EReal.coe_zero]; exact EReal.coe_lt_coe_iff.mpr hx)]; rfl
  · rw [decide_eq_false hx, decide_eq_false (show ¬((f ((i.val * 1152 + j.val) * 2048 + 8 * cb.val + l.val) : ℝ) : EReal) < 0 from by rw [← EReal.coe_zero]; exact fun h => hx (EReal.coe_lt_coe_iff.mp h))]; rfl

end Bit

end
-- ==== Proof.Grid.lean ====
/-
  The grid of the idealized kernel: which parts of the body run at a point, and where each window's block lies.
-/
module

public import proofs.«01_k».proof.Proof.RunIdeal
public import proofs.«01_k».proof.Proof.Gen.KernelIdeal.Points
public import Idealize.ShloMosaic.Lib.Pipeline.ArrRel
public import Idealize.ShloMosaic.Lib.Pipeline.ValueKit.Geometry

@[expose] public section

noncomputable section

namespace Bit.Ideal

open Idealize.ShloMosaic Idealize.ShloMosaic.TcCoe
open Cert.KernelIdeal Cert.KernelIdeal.Gen

/-- The coordinate of a grid point is its number. -/
theorem coord_eq : ∀ t : Fin grid0.N, (grid0.coords t 0).val = t.val := by decide +kernel
/-- The first point is number 0. -/
theorem first_iff : ∀ t : Fin grid0.N, isFirst (grid0.coords t) = 1#1 ↔ t.val = 0 := by decide +kernel
/-- A batch's scale is written at the later multiples of 9. -/
theorem cond2_iff : ∀ t : Fin grid0.N, k0_cond2 (grid0.coords t) = 1#1 ↔ t.val ≠ 0 ∧ t.val % 9 = 0 := by decide +kernel
/-- The inverse runs from point 9 on. -/
theorem cond3_iff : ∀ t : Fin grid0.N, k0_cond3 (grid0.coords t) = 1#1 ↔ 9 ≤ t.val := by decide +kernel
/-- The forward transform runs before point 72. -/
theorem cond4_iff : ∀ t : Fin grid0.N, k0_cond4 (grid0.coords t) = 1#1 ↔ t.val < 72 := by decide +kernel
/-- The slot of a point is its number's remainder by 9. -/
theorem slot_eq : ∀ t : Fin grid0.N, slot (grid0.coords t) = t.val % 9 := by decide +kernel
/-- The scale written at a point is that of the batch before. -/
theorem off1_eq : ∀ t : Fin grid0.N, k0_cond2 (grid0.coords t) = 1#1 → k0_off1 (grid0.coords t) 0 = t.val / 9 - 1 := by decide +kernel

section Closed

attribute [local instance] Cert.KernelIdeal.Gen.facts

/-- The block that the first input window has at a point, over the closed configuration. -/
theorem closed_index0 : ∀ t : Fin cfg0.N, win0_0.index t = ![min t.val 71 / 9, min t.val 71 % 9, 0] := (by decide +kernel : ∀ t : Fin grid0.N, _)
/-- The block that the sign byte window has at a point, over the closed configuration. -/
theorem closed_index1 : ∀ t : Fin cfg0.N, win0_1.index t = ![min t.val 71 / 9, min t.val 71 % 9, 0] := (by decide +kernel : ∀ t : Fin grid0.N, _)
/-- The block that the error window has at a point, over the closed configuration. -/
theorem closed_index2 : ∀ t : Fin cfg0.N, win0_2.index t = ![min t.val 71 / 9, min t.val 71 % 9, 0] := (by decide +kernel : ∀ t : Fin grid0.N, _)
/-- The block that the result window has at a point, over the closed configuration. -/
theorem closed_index3 : ∀ t : Fin cfg0.N, win0_3.index t = ![(t.val - 9) / 9, (t.val - 9) % 9, 0] := (by decide +kernel : ∀ t : Fin grid0.N, _)
/-- The block that the new error window has at a point, over the closed configuration. -/
theorem closed_index4 : ∀ t : Fin cfg0.N, win0_4.index t = ![(t.val - 9) / 9, (t.val - 9) % 9, 0] := (by decide +kernel : ∀ t : Fin grid0.N, _)
/-- The block that the code window has at a point, over the closed configuration. -/
theorem closed_index5 : ∀ t : Fin cfg0.N, win0_5.index t = ![min t.val 71 / 9, min t.val 71 % 9, 0] := (by decide +kernel : ∀ t : Fin grid0.N, _)
/-- When the first input window is fetched, over the closed configuration. -/
theorem closed_fetch0 : ∀ t : Fin cfg0.N, t.val < 72 → win0_0.fetch t = true := (by decide +kernel : ∀ t : Fin grid0.N, _)
/-- When the sign byte window is fetched, over the closed configuration. -/
theorem closed_fetch1 : ∀ t : Fin cfg0.N, t.val < 72 → win0_1.fetch t = true := (by decide +kernel : ∀ t : Fin grid0.N, _)
/-- When the error window is fetched, over the closed configuration. -/
theorem closed_fetch2 : ∀ t : Fin cfg0.N, t.val < 72 → win0_2.fetch t = true := (by decide +kernel : ∀ t : Fin grid0.N, _)
/-- When the result window is written back, over the closed configuration. -/
theorem closed_flush3 : ∀ t : Fin cfg0.N, win0_3.flush t = true ↔ 9 ≤ t.val := (by decide +kernel : ∀ t : Fin grid0.N, _)
/-- When the new error window is written back, over the closed configuration. -/
theorem closed_flush4 : ∀ t : Fin cfg0.N, win0_4.flush t = true ↔ 9 ≤ t.val := (by decide +kernel : ∀ t : Fin grid0.N, _)
/-- When the code window is written back, over the closed configuration. -/
theorem closed_flush5 : ∀ t : Fin cfg0.N, win0_5.flush t = true ↔ t.val < 71 ∨ t.val = 80 := (by decide +kernel : ∀ t : Fin grid0.N, _)
/-- When the code window is fetched, over the closed configuration. -/
theorem closed_fetch5 : ∀ t : Fin cfg0.N, win0_5.fetch t = false := (by decide +kernel : ∀ t : Fin grid0.N, _)
/-- When the scale window is fetched, over the closed configuration. -/
theorem closed_fetch6 : ∀ t : Fin cfg0.N, win0_6.fetch t = false := (by decide +kernel : ∀ t : Fin grid0.N, _)
/-- The scale window is whole at the last point, over the closed configuration. -/
theorem closed_whole6 : win0_6.WholeAt (⟨80, by decide⟩ : Fin grid0.N) := by decide +kernel
/-- The blocks of the result window cover its array, over the closed configuration. -/
theorem closed_covers3 : win0_3.Covers := by decide +kernel
/-- The blocks of the new error window cover its array, over the closed configuration. -/
theorem closed_covers4 : win0_4.Covers := by decide +kernel
/-- The blocks of the code window cover its array, over the closed configuration. -/
theorem closed_covers5 : win0_5.Covers := by decide +kernel

end Closed

variable [Cert.KernelIdeal.Facts]

/-- The block that the first input window has at a point. -/
theorem index0 : ∀ t : Fin cfg0.N, win0_0.index t = ![min t.val 71 / 9, min t.val 71 % 9, 0] := closed_index0
/-- The block that the sign byte window has at a point. -/
theorem index1 : ∀ t : Fin cfg0.N, win0_1.index t = ![min t.val 71 / 9, min t.val 71 % 9, 0] := closed_index1
/-- The block that the error window has at a point. -/
theorem index2 : ∀ t : Fin cfg0.N, win0_2.index t = ![min t.val 71 / 9, min t.val 71 % 9, 0] := closed_index2
/-- The block that the result window has at a point. -/
theorem index3 : ∀ t : Fin cfg0.N, win0_3.index t = ![(t.val - 9) / 9, (t.val - 9) % 9, 0] := closed_index3
/-- The block that the new error window has at a point. -/
theorem index4 : ∀ t : Fin cfg0.N, win0_4.index t = ![(t.val - 9) / 9, (t.val - 9) % 9, 0] := closed_index4
/-- The block that the code window has at a point. -/
theorem index5 : ∀ t : Fin cfg0.N, win0_5.index t = ![min t.val 71 / 9, min t.val 71 % 9, 0] := closed_index5
/-- When the first input window is fetched. -/
theorem fetch0 : ∀ t : Fin cfg0.N, t.val < 72 → win0_0.fetch t = true := closed_fetch0
/-- When the sign byte window is fetched. -/
theorem fetch1 : ∀ t : Fin cfg0.N, t.val < 72 → win0_1.fetch t = true := closed_fetch1
/-- When the error window is fetched. -/
theorem fetch2 : ∀ t : Fin cfg0.N, t.val < 72 → win0_2.fetch t = true := closed_fetch2
/-- When the result window is written back. -/
theorem flush3 : ∀ t : Fin cfg0.N, win0_3.flush t = true ↔ 9 ≤ t.val := closed_flush3
/-- When the new error window is written back. -/
theorem flush4 : ∀ t : Fin cfg0.N, win0_4.flush t = true ↔ 9 ≤ t.val := closed_flush4
/-- When the code window is written back. -/
theorem flush5 : ∀ t : Fin cfg0.N, win0_5.flush t = true ↔ t.val < 71 ∨ t.val = 80 := closed_flush5
/-- When the code window is fetched. -/
theorem fetch5 : ∀ t : Fin cfg0.N, win0_5.fetch t = false := closed_fetch5
/-- When the scale window is fetched. -/
theorem fetch6 : ∀ t : Fin cfg0.N, win0_6.fetch t = false := closed_fetch6
/-- The scale window is whole at the last point. -/
theorem whole6 : win0_6.WholeAt (⟨80, by decide⟩ : Fin grid0.N) := closed_whole6
/-- The blocks of the result window cover its array. -/
theorem covers3 : win0_3.Covers := closed_covers3
/-- The blocks of the new error window cover its array. -/
theorem covers4 : win0_4.Covers := closed_covers4
/-- The blocks of the code window cover its array. -/
theorem covers5 : win0_5.Covers := closed_covers5

end Bit.Ideal

end
-- ==== Proof.Steps.lean ====
/-
  Running the body step by step with the contents of its buffers followed: a rule for a load and a rule for a store of each buffer,
  and how a stored rectangle is read back at one index.
-/
module

public import proofs.«01_k».proof.Proof.Safe

@[expose] public section

noncomputable section

namespace Bit

open Idealize.ShloMosaic Idealize.ShloMosaic.TcCoe
open Idealize.SL Idealize.SL.RA Idealize.SL.BI Idealize.SL.Sem
open Cert.KernelIdeal Cert.KernelIdeal.Facts₀ Cert.KernelIdeal.Facts
open Bit.Eval

/-- A stored rectangle read at one of its indices. -/
theorem put_hit {sh : Shape} {α : Type} (r : Rect sh) (X : sh.Idx → α) (w : r.shape.Idx → α) (y : sh.Idx) (j : r.shape.Idx)
    (h : ∀ a, (y a).val = r.off a + r.stride a * (j a).val) : Eval.put r X w y = w j := by
  have e : y = r.emb j := funext fun a => Fin.ext (h a)
  rw [e]; exact Rect.overlay_emb r X w j

/-- A stored rectangle read elsewhere. -/
theorem put_miss {sh : Shape} {α : Type} (r : Rect sh) (X : sh.Idx → α) (w : r.shape.Idx → α) (y : sh.Idx)
    (h : ∀ j : r.shape.Idx, ∃ a, (y a).val ≠ r.off a + r.stride a * (j a).val) : Eval.put r X w y = X y := by
  refine Rect.overlay_of_not_mem r X w ?_
  rw [← Rect.map_emb_univ]
  intro hm
  obtain ⟨j, -, e⟩ := Finset.mem_map.mp hm
  obtain ⟨a, ha⟩ := h j
  exact ha (by rw [← e]; rfl)

variable {F : FTy → Type} [FloatOps F] [Cert.KernelIdeal.Facts]
variable {nD : Nat} {τ : Topo} {sig : RefSig} {Λ : Labels}
variable {ss : Shape} {se : EltTy}
variable {A : Args sig} {S : Memref sig .tc .vmem ss se}
variable {defs : Defs nD τ sig (Elt F) Λ} {𝒱 : Variants} {c : Dev nD}
variable {Ix : Type} [DecidableEq Ix] {Name : Type} [DecidableEq Name] {U : Type} [URA U] {Lvl : Type} [Preorder Lvl]

variable {st : (fam ss se).St (Elt F)} {α : Type} {Q : α → (fam ss se).St (Elt F) → Prop}

/-! One rule per buffer: a load, a store, a store in last position. -/

/-- A load of the first input window gives its contents to what follows. -/
theorem tl_x {r h} {k : _ → Pg F nD τ sig Λ α} (H : Eval.T (mems A S) defs 𝒱 c Ix Name U Lvl st (k fun x => st .x (r.idx x)) Q) : Eval.T (mems A S) defs 𝒱 c Ix Name U Lvl st (ld (F := F) A.x r h >>= k) Q := T.loadK (M := mems A S) Buf.x H
/-- A store to the first input window updates the state for what follows. -/
theorem ts_x {r w hx hm} {k : _ → Pg F nD τ sig Λ α} (H : Eval.T (mems A S) defs 𝒱 c Ix Name U Lvl (Function.update st .x (Eval.put r (st .x) w)) (k ⟨⟩) Q) : Eval.T (mems A S) defs 𝒱 c Ix Name U Lvl st (Prog.lift (.store A.x r w Finset.univ hx hm) >>= k) Q := T.storeK (M := mems A S) Buf.x H
/-- A store to the first input window that ends a program. -/
theorem te_x {Q : PUnit → (fam ss se).St (Elt F) → Prop} {r w hx hm} (H : Q ⟨⟩ (Function.update st .x (Eval.put r (st .x) w))) : Eval.T (mems A S) defs 𝒱 c Ix Name U Lvl st (Prog.lift (.store A.x r w Finset.univ hx hm)) Q := T.storeL (M := mems A S) Buf.x H
/-- A load of the sign byte window gives its contents to what follows. -/
theorem tl_b {r h} {k : _ → Pg F nD τ sig Λ α} (H : Eval.T (mems A S) defs 𝒱 c Ix Name U Lvl st (k fun x => st .b (r.idx x)) Q) : Eval.T (mems A S) defs 𝒱 c Ix Name U Lvl st (ld (F := F) A.b r h >>= k) Q := T.loadK (M := mems A S) Buf.b H
/-- A store to the sign byte window updates the state for what follows. -/
theorem ts_b {r w hx hm} {k : _ → Pg F nD τ sig Λ α} (H : Eval.T (mems A S) defs 𝒱 c Ix Name U Lvl (Function.update st .b (Eval.put r (st .b) w)) (k ⟨⟩) Q) : Eval.T (mems A S) defs 𝒱 c Ix Name U Lvl st (Prog.lift (.store A.b r w Finset.univ hx hm) >>= k) Q := T.storeK (M := mems A S) Buf.b H
/-- A store to the sign byte window that ends a program. -/
theorem te_b {Q : PUnit → (fam ss se).St (Elt F) → Prop} {r w hx hm} (H : Q ⟨⟩ (Function.update st .b (Eval.put r (st .b) w))) : Eval.T (mems A S) defs 𝒱 c Ix Name U Lvl st (Prog.lift (.store A.b r w Finset.univ hx hm)) Q := T.storeL (M := mems A S) Buf.b H
/-- A load of the error window gives its contents to what follows. -/
theorem tl_e {r h} {k : _ → Pg F nD τ sig Λ α} (H : Eval.T (mems A S) defs 𝒱 c Ix Name U Lvl st (k fun x => st .e (r.idx x)) Q) : Eval.T (mems A S) defs 𝒱 c Ix Name U Lvl st (ld (F := F) A.e r h >>= k) Q := T.loadK (M := mems A S) Buf.e H
/-- A store to the error window updates the state for what follows. -/
theorem ts_e {r w hx hm} {k : _ → Pg F nD τ sig Λ α} (H : Eval.T (mems A S) defs 𝒱 c Ix Name U Lvl (Function.update st .e (Eval.put r (st .e) w)) (k ⟨⟩) Q) : Eval.T (mems A S) defs 𝒱 c Ix Name U Lvl st (Prog.lift (.store A.e r w Finset.univ hx hm) >>= k) Q := T.storeK (M := mems A S) Buf.e H
/-- A store to the error window that ends a program. -/
theorem te_e {Q : PUnit → (fam ss se).St (Elt F) → Prop} {r w hx hm} (H : Q ⟨⟩ (Function.update st .e (Eval.put r (st .e) w))) : Eval.T (mems A S) defs 𝒱 c Ix Name U Lvl st (Prog.lift (.store A.e r w Finset.univ hx hm)) Q := T.storeL (M := mems A S) Buf.e H
/-- A load of the result window gives its contents to what follows. -/
theorem tl_xh {r h} {k : _ → Pg F nD τ sig Λ α} (H : Eval.T (mems A S) defs 𝒱 c Ix Name U Lvl st (k fun x => st .xh (r.idx x)) Q) : Eval.T (mems A S) defs 𝒱 c Ix Name U Lvl st (ld (F := F) A.xh r h >>= k) Q := T.loadK (M := mems A S) Buf.xh H
/-- A store to the result window updates the state for what follows. -/
theorem ts_xh {r w hx hm} {k : _ → Pg F nD τ sig Λ α} (H : Eval.T (mems A S) defs 𝒱 c Ix Name U Lvl (Function.update st .xh (Eval.put r (st .xh) w)) (k ⟨⟩) Q) : Eval.T (mems A S) defs 𝒱 c Ix Name U Lvl st (Prog.lift (.store A.xh r w Finset.univ hx hm) >>= k) Q := T.storeK (M := mems A S) Buf.xh H
/-- A store to the result window that ends a program. -/
theorem te_xh {Q : PUnit → (fam ss se).St (Elt F) → Prop} {r w hx hm} (H : Q ⟨⟩ (Function.update st .xh (Eval.put r (st .xh) w))) : Eval.T (mems A S) defs 𝒱 c Ix Name U Lvl st (Prog.lift (.store A.xh r w Finset.univ hx hm)) Q := T.storeL (M := mems A S) Buf.xh H
/-- A load of the new error window gives its contents to what follows. -/
theorem tl_ne {r h} {k : _ → Pg F nD τ sig Λ α} (H : Eval.T (mems A S) defs 𝒱 c Ix Name U Lvl st (k fun x => st .ne (r.idx x)) Q) : Eval.T (mems A S) defs 𝒱 c Ix Name U Lvl st (ld (F := F) A.ne r h >>= k) Q := T.loadK (M := mems A S) Buf.ne H
/-- A store to the new error window updates the state for what follows. -/
theorem ts_ne {r w hx hm} {k : _ → Pg F nD τ sig Λ α} (H : Eval.T (mems A S) defs 𝒱 c Ix Name U Lvl (Function.update st .ne (Eval.put r (st .ne) w)) (k ⟨⟩) Q) : Eval.T (mems A S) defs 𝒱 c Ix Name U Lvl st (Prog.lift (.store A.ne r w Finset.univ hx hm) >>= k) Q := T.storeK (M := mems A S) Buf.ne H
/-- A store to the new error window that ends a program. -/
theorem te_ne {Q : PUnit → (fam ss se).St (Elt F) → Prop} {r w hx hm} (H : Q ⟨⟩ (Function.update st .ne (Eval.put r (st .ne) w))) : Eval.T (mems A S) defs 𝒱 c Ix Name U Lvl st (Prog.lift (.store A.ne r w Finset.univ hx hm)) Q := T.storeL (M := mems A S) Buf.ne H
/-- A load of the code window gives its contents to what follows. -/
theorem tl_code {r h} {k : _ → Pg F nD τ sig Λ α} (H : Eval.T (mems A S) defs 𝒱 c Ix Name U Lvl st (k fun x => st .code (r.idx x)) Q) : Eval.T (mems A S) defs 𝒱 c Ix Name U Lvl st (ld (F := F) A.code r h >>= k) Q := T.loadK (M := mems A S) Buf.code H
/-- A store to the code window updates the state for what follows. -/
theorem ts_code {r w hx hm} {k : _ → Pg F nD τ sig Λ α} (H : Eval.T (mems A S) defs 𝒱 c Ix Name U Lvl (Function.update st .code (Eval.put r (st .code) w)) (k ⟨⟩) Q) : Eval.T (mems A S) defs 𝒱 c Ix Name U Lvl st (Prog.lift (.store A.code r w Finset.univ hx hm) >>= k) Q := T.storeK (M := mems A S) Buf.code H
/-- A store to the code window that ends a program. -/
theorem te_code {Q : PUnit → (fam ss se).St (Elt F) → Prop} {r w hx hm} (H : Q ⟨⟩ (Function.update st .code (Eval.put r (st .code) w))) : Eval.T (mems A S) defs 𝒱 c Ix Name U Lvl st (Prog.lift (.store A.code r w Finset.univ hx hm)) Q := T.storeL (M := mems A S) Buf.code H
/-- A load of the ring of sums gives its contents to what follows. -/
theorem tl_g {r h} {k : _ → Pg F nD τ sig Λ α} (H : Eval.T (mems A S) defs 𝒱 c Ix Name U Lvl st (k fun x => st .g (r.idx x)) Q) : Eval.T (mems A S) defs 𝒱 c Ix Name U Lvl st (ld (F := F) A.g r h >>= k) Q := T.loadK (M := mems A S) Buf.g H
/-- A store to the ring of sums updates the state for what follows. -/
theorem ts_g {r w hx hm} {k : _ → Pg F nD τ sig Λ α} (H : Eval.T (mems A S) defs 𝒱 c Ix Name U Lvl (Function.update st .g (Eval.put r (st .g) w)) (k ⟨⟩) Q) : Eval.T (mems A S) defs 𝒱 c Ix Name U Lvl st (Prog.lift (.store A.g r w Finset.univ hx hm) >>= k) Q := T.storeK (M := mems A S) Buf.g H
/-- A store to the ring of sums that ends a program. -/
theorem te_g {Q : PUnit → (fam ss se).St (Elt F) → Prop} {r w hx hm} (H : Q ⟨⟩ (Function.update st .g (Eval.put r (st .g) w))) : Eval.T (mems A S) defs 𝒱 c Ix Name U Lvl st (Prog.lift (.store A.g r w Finset.univ hx hm)) Q := T.storeL (M := mems A S) Buf.g H
/-- A load of the ring of sign masks gives its contents to what follows. -/
theorem tl_m {r h} {k : _ → Pg F nD τ sig Λ α} (H : Eval.T (mems A S) defs 𝒱 c Ix Name U Lvl st (k fun x => st .m (r.idx x)) Q) : Eval.T (mems A S) defs 𝒱 c Ix Name U Lvl st (ld (F := F) A.m r h >>= k) Q := T.loadK (M := mems A S) Buf.m H
/-- A store to the ring of sign masks updates the state for what follows. -/
theorem ts_m {r w hx hm} {k : _ → Pg F nD τ sig Λ α} (H : Eval.T (mems A S) defs 𝒱 c Ix Name U Lvl (Function.update st .m (Eval.put r (st .m) w)) (k ⟨⟩) Q) : Eval.T (mems A S) defs 𝒱 c Ix Name U Lvl st (Prog.lift (.store A.m r w Finset.univ hx hm) >>= k) Q := T.storeK (M := mems A S) Buf.m H
/-- A store to the ring of sign masks that ends a program. -/
theorem te_m {Q : PUnit → (fam ss se).St (Elt F) → Prop} {r w hx hm} (H : Q ⟨⟩ (Function.update st .m (Eval.put r (st .m) w))) : Eval.T (mems A S) defs 𝒱 c Ix Name U Lvl st (Prog.lift (.store A.m r w Finset.univ hx hm)) Q := T.storeL (M := mems A S) Buf.m H
/-- A load of the ring of rotated signs gives its contents to what follows. -/
theorem tl_s {r h} {k : _ → Pg F nD τ sig Λ α} (H : Eval.T (mems A S) defs 𝒱 c Ix Name U Lvl st (k fun x => st .s (r.idx x)) Q) : Eval.T (mems A S) defs 𝒱 c Ix Name U Lvl st (ld (F := F) S r h >>= k) Q := T.loadK (M := mems A S) Buf.s H
/-- A store to the ring of rotated signs updates the state for what follows. -/
theorem ts_s {r w hx hm} {k : _ → Pg F nD τ sig Λ α} (H : Eval.T (mems A S) defs 𝒱 c Ix Name U Lvl (Function.update st .s (Eval.put r (st .s) w)) (k ⟨⟩) Q) : Eval.T (mems A S) defs 𝒱 c Ix Name U Lvl st (Prog.lift (.store S r w Finset.univ hx hm) >>= k) Q := T.storeK (M := mems A S) Buf.s H
/-- A store to the ring of rotated signs that ends a program. -/
theorem te_s {Q : PUnit → (fam ss se).St (Elt F) → Prop} {r w hx hm} (H : Q ⟨⟩ (Function.update st .s (Eval.put r (st .s) w))) : Eval.T (mems A S) defs 𝒱 c Ix Name U Lvl st (Prog.lift (.store S r w Finset.univ hx hm)) Q := T.storeL (M := mems A S) Buf.s H
/-- A load of the word scratch gives its contents to what follows. -/
theorem tl_wq {r h} {k : _ → Pg F nD τ sig Λ α} (H : Eval.T (mems A S) defs 𝒱 c Ix Name U Lvl st (k fun x => st .wq (r.idx x)) Q) : Eval.T (mems A S) defs 𝒱 c Ix Name U Lvl st (ld (F := F) A.wq r h >>= k) Q := T.loadK (M := mems A S) Buf.wq H
/-- A store to the word scratch updates the state for what follows. -/
theorem ts_wq {r w hx hm} {k : _ → Pg F nD τ sig Λ α} (H : Eval.T (mems A S) defs 𝒱 c Ix Name U Lvl (Function.update st .wq (Eval.put r (st .wq) w)) (k ⟨⟩) Q) : Eval.T (mems A S) defs 𝒱 c Ix Name U Lvl st (Prog.lift (.store A.wq r w Finset.univ hx hm) >>= k) Q := T.storeK (M := mems A S) Buf.wq H
/-- A store to the word scratch that ends a program. -/
theorem te_wq {Q : PUnit → (fam ss se).St (Elt F) → Prop} {r w hx hm} (H : Q ⟨⟩ (Function.update st .wq (Eval.put r (st .wq) w))) : Eval.T (mems A S) defs 𝒱 c Ix Name U Lvl st (Prog.lift (.store A.wq r w Finset.univ hx hm)) Q := T.storeL (M := mems A S) Buf.wq H
/-- A load of the transposing scratch gives its contents to what follows. -/
theorem tl_y {r h} {k : _ → Pg F nD τ sig Λ α} (H : Eval.T (mems A S) defs 𝒱 c Ix Name U Lvl st (k fun x => st .y (r.idx x)) Q) : Eval.T (mems A S) defs 𝒱 c Ix Name U Lvl st (ld (F := F) A.y r h >>= k) Q := T.loadK (M := mems A S) Buf.y H
/-- A store to the transposing scratch updates the state for what follows. -/
theorem ts_y {r w hx hm} {k : _ → Pg F nD τ sig Λ α} (H : Eval.T (mems A S) defs 𝒱 c Ix Name U Lvl (Function.update st .y (Eval.put r (st .y) w)) (k ⟨⟩) Q) : Eval.T (mems A S) defs 𝒱 c Ix Name U Lvl st (Prog.lift (.store A.y r w Finset.univ hx hm) >>= k) Q := T.storeK (M := mems A S) Buf.y H
/-- A store to the transposing scratch that ends a program. -/
theorem te_y {Q : PUnit → (fam ss se).St (Elt F) → Prop} {r w hx hm} (H : Q ⟨⟩ (Function.update st .y (Eval.put r (st .y) w))) : Eval.T (mems A S) defs 𝒱 c Ix Name U Lvl st (Prog.lift (.store A.y r w Finset.univ hx hm)) Q := T.storeL (M := mems A S) Buf.y H
/-- A load of the code word scratch gives its contents to what follows. -/
theorem tl_cw {r h} {k : _ → Pg F nD τ sig Λ α} (H : Eval.T (mems A S) defs 𝒱 c Ix Name U Lvl st (k fun x => st .cw (r.idx x)) Q) : Eval.T (mems A S) defs 𝒱 c Ix Name U Lvl st (ld (F := F) A.cw r h >>= k) Q := T.loadK (M := mems A S) Buf.cw H
/-- A store to the code word scratch updates the state for what follows. -/
theorem ts_cw {r w hx hm} {k : _ → Pg F nD τ sig Λ α} (H : Eval.T (mems A S) defs 𝒱 c Ix Name U Lvl (Function.update st .cw (Eval.put r (st .cw) w)) (k ⟨⟩) Q) : Eval.T (mems A S) defs 𝒱 c Ix Name U Lvl st (Prog.lift (.store A.cw r w Finset.univ hx hm) >>= k) Q := T.storeK (M := mems A S) Buf.cw H
/-- A store to the code word scratch that ends a program. -/
theorem te_cw {Q : PUnit → (fam ss se).St (Elt F) → Prop} {r w hx hm} (H : Q ⟨⟩ (Function.update st .cw (Eval.put r (st .cw) w))) : Eval.T (mems A S) defs 𝒱 c Ix Name U Lvl st (Prog.lift (.store A.cw r w Finset.univ hx hm)) Q := T.storeL (M := mems A S) Buf.cw H
/-- A load of the first matrix gives its contents to what follows. -/
theorem tl_h {r h} {k : _ → Pg F nD τ sig Λ α} (H : Eval.T (mems A S) defs 𝒱 c Ix Name U Lvl st (k fun x => st .h (r.idx x)) Q) : Eval.T (mems A S) defs 𝒱 c Ix Name U Lvl st (ld (F := F) A.h r h >>= k) Q := T.loadK (M := mems A S) Buf.h H
/-- A store to the first matrix updates the state for what follows. -/
theorem ts_h {r w hx hm} {k : _ → Pg F nD τ sig Λ α} (H : Eval.T (mems A S) defs 𝒱 c Ix Name U Lvl (Function.update st .h (Eval.put r (st .h) w)) (k ⟨⟩) Q) : Eval.T (mems A S) defs 𝒱 c Ix Name U Lvl st (Prog.lift (.store A.h r w Finset.univ hx hm) >>= k) Q := T.storeK (M := mems A S) Buf.h H
/-- A store to the first matrix that ends a program. -/
theorem te_h {Q : PUnit → (fam ss se).St (Elt F) → Prop} {r w hx hm} (H : Q ⟨⟩ (Function.update st .h (Eval.put r (st .h) w))) : Eval.T (mems A S) defs 𝒱 c Ix Name U Lvl st (Prog.lift (.store A.h r w Finset.univ hx hm)) Q := T.storeL (M := mems A S) Buf.h H
/-- A load of the second matrix gives its contents to what follows. -/
theorem tl_hr {r h} {k : _ → Pg F nD τ sig Λ α} (H : Eval.T (mems A S) defs 𝒱 c Ix Name U Lvl st (k fun x => st .hr (r.idx x)) Q) : Eval.T (mems A S) defs 𝒱 c Ix Name U Lvl st (ld (F := F) A.hr r h >>= k) Q := T.loadK (M := mems A S) Buf.hr H
/-- A store to the second matrix updates the state for what follows. -/
theorem ts_hr {r w hx hm} {k : _ → Pg F nD τ sig Λ α} (H : Eval.T (mems A S) defs 𝒱 c Ix Name U Lvl (Function.update st .hr (Eval.put r (st .hr) w)) (k ⟨⟩) Q) : Eval.T (mems A S) defs 𝒱 c Ix Name U Lvl st (Prog.lift (.store A.hr r w Finset.univ hx hm) >>= k) Q := T.storeK (M := mems A S) Buf.hr H
/-- A store to the second matrix that ends a program. -/
theorem te_hr {Q : PUnit → (fam ss se).St (Elt F) → Prop} {r w hx hm} (H : Q ⟨⟩ (Function.update st .hr (Eval.put r (st .hr) w))) : Eval.T (mems A S) defs 𝒱 c Ix Name U Lvl st (Prog.lift (.store A.hr r w Finset.univ hx hm)) Q := T.storeL (M := mems A S) Buf.hr H
/-- A load of the accumulator gives its contents to what follows. -/
theorem tl_acc {r h} {k : _ → Pg F nD τ sig Λ α} (H : Eval.T (mems A S) defs 𝒱 c Ix Name U Lvl st (k fun x => st .acc (r.idx x)) Q) : Eval.T (mems A S) defs 𝒱 c Ix Name U Lvl st (ld (F := F) A.acc r h >>= k) Q := T.loadK (M := mems A S) Buf.acc H
/-- A store to the accumulator updates the state for what follows. -/
theorem ts_acc {r w hx hm} {k : _ → Pg F nD τ sig Λ α} (H : Eval.T (mems A S) defs 𝒱 c Ix Name U Lvl (Function.update st .acc (Eval.put r (st .acc) w)) (k ⟨⟩) Q) : Eval.T (mems A S) defs 𝒱 c Ix Name U Lvl st (Prog.lift (.store A.acc r w Finset.univ hx hm) >>= k) Q := T.storeK (M := mems A S) Buf.acc H
/-- A store to the accumulator that ends a program. -/
theorem te_acc {Q : PUnit → (fam ss se).St (Elt F) → Prop} {r w hx hm} (H : Q ⟨⟩ (Function.update st .acc (Eval.put r (st .acc) w))) : Eval.T (mems A S) defs 𝒱 c Ix Name U Lvl st (Prog.lift (.store A.acc r w Finset.univ hx hm)) Q := T.storeL (M := mems A S) Buf.acc H
/-- A load of the scale scratch gives its contents to what follows. -/
theorem tl_sc {r h} {k : _ → Pg F nD τ sig Λ α} (H : Eval.T (mems A S) defs 𝒱 c Ix Name U Lvl st (k fun x => st .sc (r.idx x)) Q) : Eval.T (mems A S) defs 𝒱 c Ix Name U Lvl st (ld (F := F) A.sc r h >>= k) Q := T.loadK (M := mems A S) Buf.sc H
/-- A store to the scale scratch updates the state for what follows. -/
theorem ts_sc {r w hx hm} {k : _ → Pg F nD τ sig Λ α} (H : Eval.T (mems A S) defs 𝒱 c Ix Name U Lvl (Function.update st .sc (Eval.put r (st .sc) w)) (k ⟨⟩) Q) : Eval.T (mems A S) defs 𝒱 c Ix Name U Lvl st (Prog.lift (.store A.sc r w Finset.univ hx hm) >>= k) Q := T.storeK (M := mems A S) Buf.sc H
/-- A store to the scale scratch that ends a program. -/
theorem te_sc {Q : PUnit → (fam ss se).St (Elt F) → Prop} {r w hx hm} (H : Q ⟨⟩ (Function.update st .sc (Eval.put r (st .sc) w))) : Eval.T (mems A S) defs 𝒱 c Ix Name U Lvl st (Prog.lift (.store A.sc r w Finset.univ hx hm)) Q := T.storeL (M := mems A S) Buf.sc H
/-- A load of the scale window gives its contents to what follows. -/
theorem tl_scale {r hl} {k : _ → Pg F nD τ sig Λ α} (H : Eval.T (mems A S) defs 𝒱 c Ix Name U Lvl st (k fun x => st .scale (r.idx x)) Q) : Eval.T (mems A S) defs 𝒱 c Ix Name U Lvl st (Prog.lift (.load A.scale r hl) >>= k) Q := T.loadK (M := mems A S) Buf.scale H
/-- A store to the scale window updates the state for what follows. -/
theorem ts_scale {r w hx hm} {k : _ → Pg F nD τ sig Λ α} (H : Eval.T (mems A S) defs 𝒱 c Ix Name U Lvl (Function.update st .scale (Eval.put r (st .scale) w)) (k ⟨⟩) Q) : Eval.T (mems A S) defs 𝒱 c Ix Name U Lvl st (Prog.lift (.store A.scale r w Finset.univ hx hm) >>= k) Q := T.storeK (M := mems A S) Buf.scale H

/-- Contents that agree but on some buffers. -/
def Same (L : List Buf) (st st' : (fam ss se).St (Elt F)) : Prop := ∀ a, a ∉ L → st' a = st a

/-- A state agrees with itself. -/
theorem Same.refl (L : List Buf) (st : (fam ss se).St (Elt F)) : Same L st st := fun _ _ => rfl
/-- Agreement outside a list of buffers is transitive. -/
theorem Same.trans {L : List Buf} {s0 s1 s2 : (fam ss se).St (Elt F)} (h : Same L s0 s1) (h' : Same L s1 s2) : Same L s0 s2 :=
  fun a ha => (h' a ha).trans (h a ha)
/-- Agreement outside a list holds outside a longer one. -/
theorem Same.mono {L L' : List Buf} {s0 s1 : (fam ss se).St (Elt F)} (h : Same L s0 s1) (hL : ∀ a, a ∈ L → a ∈ L') : Same L' s0 s1 :=
  fun a ha => h a fun hm => ha (hL a hm)
/-- An update of a listed buffer changes nothing outside the list. -/
theorem Same.upd {L : List Buf} (st : (fam ss se).St (Elt F)) (a : Buf) (v : _) (ha : a ∈ L) : Same L st (Function.update st a v) :=
  fun b hb => Function.update_of_ne (fun e => hb (by rw [e]; exact ha)) _ _

end Bit

end
-- ==== Proof.Vals.lean ====
/-
  The body's values in the ideal instance, read in the reals: the butterflies and the Hadamard products are stages of the
  Walsh–Hadamard transform.
-/
module

public import Idealize.ShloMosaic.Lib.Pointwise
public import Idealize.ShloMosaic.Lib.MatmulPlain
public import Idealize.ShloMosaic.Lib.KernelVsHost
public import proofs.«01_k».proof.Proof.Steps
public import proofs.«01_k».proof.Proof.RefStage

@[expose] public section

noncomputable section

namespace Bit

open Idealize.ShloMosaic
open Cert.KernelIdeal Cert.KernelIdeal.Facts₀ Cert.KernelIdeal.Facts

variable [Cert.KernelIdeal.Facts]

/-- A finite sum of reals, as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A matrix of reals. -/
abbrev R2 {a b : ℕ} {φ : FTy} (x : FVec Ideal ⟨2, ![a, b]⟩ φ) (f : ℕ → ℕ → ℝ) : Prop := ∀ i j, (x (ix2 i j) : EReal) = ((f i.val j.val : ℝ) : EReal)

/-- Stages on vectors of reals. -/
theorem stages_real {s : Shape} (n : ℕ) : ∀ (rem k : ℕ) (_ : k + rem ≤ n) (v : ℕ → FVec Ideal s .f32) (f : ℕ → s.Idx → ℝ)
    (_ : ∀ i < 2 ^ n, ∀ j, (v i j : EReal) = ((f i j : ℝ) : EReal)),
    ∀ i < 2 ^ n, ∀ j, (foldFrom stage rem k v i j : EReal) = ((wht (List.range' k rem) (fun i => f i j) i : ℝ) : EReal)
  | 0, k, _, v, f, h => h
  | rem + 1, k, hk, v, f, h => fun i hi j => by
    have := stages_real n rem (k + 1) (by omega) (stage k v) (fun i j => rstage k (fun i => f i j) i) (fun i hi j => by
      show stage k v i j = ((rstage k (fun i => f i j) i : ℝ) : EReal)
      unfold stage rstage
      cases hb : i.testBit k
      · have hlt : i + 2 ^ k < 2 ^ n := by
          rw [add_two_pow_eq i k hb]; exact Nat.xor_lt_two_pow hi (Nat.pow_lt_pow_right (by decide) (by omega))
        show (v i j : EReal) + v (i + 2 ^ k) j = _
        rw [h i hi, h _ hlt]; simp
      · have hlt : i - 2 ^ k < 2 ^ n := lt_of_le_of_lt (Nat.sub_le _ _) hi
        show (v (i - 2 ^ k) j : EReal) - v i j = _
        rw [h i hi, h _ hlt]; simp) i hi j
    exact this

/-- A butterfly on vectors of reals. -/
theorem bfly_real {s : Shape} (n : ℕ) (v : ℕ → FVec Ideal s .f32) (f : ℕ → s.Idx → ℝ)
    (h : ∀ i < 2 ^ n, ∀ j, (v i j : EReal) = ((f i j : ℝ) : EReal)) (i : ℕ) (hi : i < 2 ^ n) (j : s.Idx) :
    (bfly n v i j : EReal) = ((wht (List.range n) (fun i => f i j) i : ℝ) : EReal) := by
  have := stages_real n n 0 (by omega) v f h i hi j
  rwa [← List.range_eq_range'] at this

/-- The Hadamard matrix's entry. -/
theorem parity_word : ∀ n < 256, (1#32 - 2#32 * ((BitVec.ofNat 32 (((List.range 32).filter fun i => (BitVec.ofNat 32 n).getLsbD i).length)) &&& 1#32)).toInt
    = ∏ b ∈ Finset.range 8, if n.testBit b then (-1 : ℤ) else 1 := by decide +kernel

/-- The sign matrix of two index arrays. -/
theorem hsign_real (a b : IVec S256x256 32) (f g : ℕ → ℕ → ℕ) (hf : ∀ i j : Fin 256, a (ix2 i j) = BitVec.ofNat 32 (f i j))
    (hg : ∀ i j : Fin 256, b (ix2 i j) = BitVec.ofNat 32 (g i j)) (hlt : ∀ i j : Fin 256, f i j < 256) :
    R2 (hsign (F := Ideal) a b) (fun i j => had 8 (f i j) (g i j)) := by
  intro i j
  have hl : f i j &&& g i j < 256 := lt_of_le_of_lt Nat.and_le_left (hlt i j)
  have e : hsign (F := Ideal) a b (ix2 i j)
      = (((1#32 - 2#32 * ((BitVec.ofNat 32 (((List.range 32).filter fun k => (BitVec.ofNat 32 (f i j &&& g i j)).getLsbD k).length)) &&& 1#32)).toInt : ℝ) : EReal) := by
    rw [BitVec.ofNat_and, ← hf, ← hg]; rfl
  rw [e, parity_word _ hl]
  congr 1
  unfold had
  push_cast
  refine Finset.prod_congr rfl fun k _ => ?_
  rw [Nat.testBit_and]

/-- The first sign matrix holds the real sign matrix. -/
theorem hMat_real : R2 (hsign (F := Ideal) hRow hCol) (fun i j => had 8 i j) :=
  hsign_real hRow hCol (fun i _ => i) (fun _ j => j) (fun i j => by rw [show hRow (ix2 i j) = _ from iota_apply _ _ _ _]; simp) (fun i j => by rw [show hCol (ix2 i j) = _ from iota_apply _ _ _ _]; simp) fun i _ => i.isLt

/-- A product with the Hadamard matrix is the stages on the low eight bits. -/
theorem colDot_real (v : FVec Ideal S128x256 .f32) (h : FVec Ideal S256x256 .f32) (f : ℕ → ℕ → ℝ) (hv : R2 v f) (hh : R2 h (fun i j => had 8 i j)) :
    R2 (colDot v h) (fun r l => wht (List.range 8) (f r) l) := by
  intro r l
  have e : colDot v h (ix2 r l) = constant (F := Ideal) S128x256 .f32 0x00000000#32 (ix2 r l) + ∑ k : Fin 256, v (ix2 r k) * h (ix2 k l) :=
    Ideal.matmul_plain_apply none v h _ r l
  have z : (constant (F := Ideal) S128x256 .f32 0x00000000#32 (ix2 r l) : EReal) = 0 := Ideal.ofBits_zero_f32
  show _ = ((wht (List.range 8) (f r) l : ℝ) : EReal)
  rw [e, z, zero_add, wht_range]
  have hl : l.val / 2 ^ 8 = 0 := Nat.div_eq_of_lt l.isLt
  simp only [hl, Nat.zero_mul, Nat.zero_add]
  rw [Finset.sum_congr rfl (g := fun k : Fin 256 => ((f r k * had 8 k l : ℝ) : EReal)) fun k _ => by rw [hv, hh, EReal.coe_mul], coe_sum]
  congr 1
  rw [show (2 : ℕ) ^ 8 = 256 from rfl, Finset.sum_range]
  exact Finset.sum_congr rfl fun k _ => mul_comm _ _

/-- Sixteen blocks one above the other, read at an index. -/
theorem cat16_apply {α : Type} (v : ℕ → S8x128.Idx → α) (r l : Fin 128) :
    cat16 v (ix2 r l) = v (r.val / 8) (ix2 ⟨r.val % 8, Nat.mod_lt _ (by decide)⟩ l) := by
  refine concatenate_ofFn_apply (t := S128x128) (s₁ := S8x128) 0 (N := 16) (fun n => v n.val) _ rfl 8 rfl (ix2 r l) ⟨r.val / 8, by omega⟩ rfl _ rfl fun b hb => ?_
  fin_cases b
  · exact absurd rfl hb
  · rfl

/-- Two blocks side by side. -/
theorem cat2_apply {α : Type} (a b : S128x128.Idx → α) (r : Fin 128) (l : Fin 256) :
    concatenate S128x256 1 [⟨S128x128, a⟩, ⟨S128x128, b⟩] concatenates_S128x128_S128x128_S128x256_d1 (ix2 r l)
      = if h : l.val < 128 then a (ix2 r ⟨l.val, h⟩) else b (ix2 r ⟨l.val - 128, by omega⟩) := by
  rw [concatenate_pair_apply]
  split
  · rename_i h
    rw [dif_pos (show l.val < 128 from h)]
    congr 1; funext x; fin_cases x <;> rfl
  · rename_i h
    rw [dif_neg (show ¬ l.val < 128 from h)]
    congr 1; funext x; fin_cases x <;> rfl

end Bit

end
-- ==== Proof.Words.lean ====
/-
  The sign words: a word of four rows' bytes, and the mask of a block, whose top bit is the lane's sign bit.
-/
module

public import Idealize.ShloMosaic.Lib.BitcastPair
public import proofs.«01_k».proof.Proof.Vals

@[expose] public section

noncomputable section

namespace Bit

open Idealize.ShloMosaic
open Cert.KernelIdeal Cert.KernelIdeal.Facts₀ Cert.KernelIdeal.Facts

variable [Cert.KernelIdeal.Facts]

/-- Byte `j` of a word of the bytes is row `4 R + j`'s. -/
theorem words_bit (v : S128x128.Idx → BitVec 8) (R : Fin 32) (l : Fin 128) (j k : ℕ) (hj : j < 4) (hk : k < 8) :
    (bitcast S32x128 32 v bitcasts_S128x128_w8_S32x128_w32 (ix2 R l)).getLsbD (8 * j + k) = (v (ix2 ⟨4 * R.val + j, by omega⟩ l)).getLsbD k := by
  rw [bitcast_getLsbD _ _ _ _ (by omega) (by norm_num)]
  have hrow : S32x128.row (ix2 R l) = R.val := rfl
  have e2 : (S32x128.row (ix2 R l) * 32 + (8 * j + k)) % 8 = k := by rw [hrow]; omega
  rw [e2]
  congr 2
  funext a
  apply Fin.ext
  fin_cases a
  · show (S32x128.row (ix2 R l) * 32 + (8 * j + k)) / 8 = 4 * R.val + j
    rw [hrow]; omega
  · rfl

/-- The word a row reads: its group of four rows. -/
theorem wordSel_apply (words : IVec S32x128 32) (q : ℕ) (hq : q < 16) (s : Fin 8) (l : Fin 128) :
    select (cmpi .slt vSub (broadcast S8x128 4#32)) (wordRow words (2 * q) (by omega)) (wordRow words (2 * q + 1) (by omega)) (ix2 s l)
      = words (ix2 ⟨2 * q + s.val / 4, by omega⟩ l) := by
  have hw : ∀ (n : ℕ) (h : n < 32), wordRow words n h (ix2 s l) = words (ix2 ⟨n, h⟩ l) := fun n h => by
    unfold wordRow
    rw [broadcastTo_apply _ _ _ (ix2 (0 : Fin 1) l) (by intro a; fin_cases a <;> rfl)]
    rw [shapeCast_apply _ _ _ (ix2 (0 : Fin 1) l) rfl]
    exact extractStridedSlice_apply _ _ _ _ _ (by intro a; fin_cases a <;> simp <;> rfl)
  have e : select (cmpi .slt vSub (broadcast S8x128 4#32)) (wordRow words (2 * q) (by omega)) (wordRow words (2 * q + 1) (by omega)) (ix2 s l)
      = Scalar.select (Scalar.cmpi .slt (BitVec.ofNat 32 (0 * 8 + s.val)) 4#32) (wordRow words (2 * q) (by omega) (ix2 s l)) (wordRow words (2 * q + 1) (by omega) (ix2 s l)) := rfl
  rw [e, hw, hw]
  have d : ∀ s : Fin 8, Scalar.cmpi .slt (BitVec.ofNat 32 (0 * 8 + s.val)) 4#32 = if s.val / 4 = 0 then 1#1 else 0#1 := by decide
  rw [d]
  unfold Scalar.select
  by_cases h : s.val / 4 = 0
  · simp [h]
  · have : s.val / 4 = 1 := by omega
    simp [this]

/-- The lane that the gather of bytes reads from. -/
theorem gatherIdx : ∀ (m : Fin 8) (l : Fin 128), Scalar.select (IntOp.cmpi .slt (IntOp.addi (BitVec.ofNat 32 (16 * m.val)) (IntOp.shrsi .vector (BitVec.ofNat 32 (0 * 128 + l.val)) 3#32)) 0#32)
    (IntOp.addi (IntOp.addi (BitVec.ofNat 32 (16 * m.val)) (IntOp.shrsi .vector (BitVec.ofNat 32 (0 * 128 + l.val)) 3#32)) 128#32)
    (IntOp.addi (BitVec.ofNat 32 (16 * m.val)) (IntOp.shrsi .vector (BitVec.ofNat 32 (0 * 128 + l.val)) 3#32)) = BitVec.ofNat 32 (16 * m.val + l.val / 8) := by decide +kernel

/-- The shift that brings a sign bit to the top of its word. -/
theorem shiftIdx : ∀ (s : Fin 8) (l : Fin 128), IntOp.subi (IntOp.subi 31#32 (IntOp.muli 8#32 (IntOp.andi (BitVec.ofNat 32 (0 * 8 + s.val)) 3#32))) (IntOp.andi (BitVec.ofNat 32 (0 * 128 + l.val)) 7#32)
    = BitVec.ofNat 32 (31 - (8 * (s.val % 4) + l.val % 8)) := by decide +kernel

/-- A bit brought to the top. -/
theorem topBit (x : BitVec 32) (n : ℕ) (hn : n < 32) :
    IntOp.andi (IntOp.shli .vector x (BitVec.ofNat 32 (31 - n))) 2147483648#32 = if x.getLsbD n then 2147483648#32 else 0#32 := by
  unfold IntOp.andi IntOp.shli
  have hm : (BitVec.ofNat 32 (31 - n)).toNat = 31 - n := by rw [BitVec.toNat_ofNat]; omega
  rw [if_pos (by omega)]
  have h2 : (2147483648#32 : BitVec 32) = BitVec.twoPow 32 31 := by decide
  rw [h2]
  have hb : (x <<< BitVec.ofNat 32 (31 - n)).getLsbD 31 = x.getLsbD n := by
    rw [BitVec.shiftLeft_eq', hm, BitVec.getLsbD_shiftLeft, show 31 - (31 - n) = n by omega]
    simp
  rw [BitVec.and_twoPow, hb]

/-- The mask of a block. -/
theorem maskOf_apply (w : IVec S128x128 32) (m : ℕ) (hm : m < 8) (r l : Fin 128) :
    maskOf w (16 * m) (ix2 r l) = if (w (ix2 r ⟨16 * m + l.val / 8, by omega⟩)).getLsbD (8 * (r.val % 4) + l.val % 8) then 2147483648#32 else 0#32 := by
  have hs : vShift (ix2 r l) = BitVec.ofNat 32 (31 - (8 * (r.val % 4) + l.val % 8)) := by
    unfold vShift
    rw [cat16_apply]
    refine (shiftIdx ⟨r.val % 8, Nat.mod_lt _ (by decide)⟩ l).trans ?_
    rw [show r.val % 8 % 4 = r.val % 4 by omega]
  have hg : gather w (cat16 fun _ => addi (broadcast S8x128 (BitVec.ofNat 32 (16 * m))) (shrsi vLane (broadcast S8x128 3#32))) (ix2 r l)
      = w (ix2 r ⟨16 * m + l.val / 8, by omega⟩) := by
    unfold gather
    rw [dynamicGather_apply]
    have hi : shapeCast S128x128 (shapeCast S128x128x1 (select (cmpi .slt (cat16 fun _ => addi (broadcast S8x128 (BitVec.ofNat 32 (16 * m))) (shrsi vLane (broadcast S8x128 3#32))) (broadcast S128x128 0#32))
        (addi (cat16 fun _ => addi (broadcast S8x128 (BitVec.ofNat 32 (16 * m))) (shrsi vLane (broadcast S8x128 3#32))) (broadcast S128x128 128#32))
        (cat16 fun _ => addi (broadcast S8x128 (BitVec.ofNat 32 (16 * m))) (shrsi vLane (broadcast S8x128 3#32)))) shapeCasts_S128x128_S128x128x1) shapeCasts_S128x128x1_S128x128 (ix2 r l)
        = BitVec.ofNat 32 (16 * m + l.val / 8) := by
      rw [shapeCast_apply _ _ _ (ix3 r l (0 : Fin 1)) (by simp [rowMajor_val2, rowMajor_val3]), shapeCast_apply _ _ _ (ix2 r l) (by simp [rowMajor_val2, rowMajor_val3])]
      show Scalar.select (IntOp.cmpi .slt (cat16 _ (ix2 r l)) 0#32) (IntOp.addi (cat16 _ (ix2 r l)) 128#32) (cat16 _ (ix2 r l)) = _
      rw [cat16_apply]
      exact gatherIdx ⟨m, hm⟩ l
    rw [hi]
    congr 1
    funext a
    fin_cases a
    · rfl
    · apply Fin.ext
      show (BitVec.ofNat 32 (16 * m + l.val / 8)).toNat % 128 = 16 * m + l.val / 8
      rw [BitVec.toNat_ofNat]; omega
  show IntOp.andi (IntOp.shli .vector (gather w _ (ix2 r l)) (vShift (ix2 r l))) 2147483648#32 = _
  rw [hg, hs, topBit _ _ (by omega)]

/-- A block of reals with the signs of a mask. -/
theorem flip_apply (m : IVec S128x128 32) (v : FVec Ideal S128x128 .f32) (r l : Fin 128) (b : Bool) (x : ℝ)
    (hm : m (ix2 r l) = if b then 2147483648#32 else 0#32) (hv : (v (ix2 r l) : EReal) = (x : EReal)) :
    (flip m v (ix2 r l) : EReal) = ((if b then -x else x : ℝ) : EReal) := by
  have e : flip m v (ix2 r l) = Scalar.select (IntOp.cmpi .slt (m (ix2 r l)) 0#32) ((zero32 (F := Ideal) : EReal) - v (ix2 r l)) (v (ix2 r l)) := rfl
  have z : (zero32 (F := Ideal) : EReal) = 0 := Ideal.ofBits_zero_f32
  rw [e, hm, hv, z]
  cases b
  · rw [show (IntOp.cmpi .slt (if false = true then 2147483648#32 else 0#32) 0#32) = 0#1 by decide]; simp [Scalar.select]
  · rw [show (IntOp.cmpi .slt (if true = true then 2147483648#32 else 0#32) 0#32) = 1#1 by decide]; simp [Scalar.select]

end Bit

end
-- ==== Proof.Index.lean ====
/-
  The order in which the kernel rotates a bucket: which bits of an element's place in the bucket each of its steps works on, and the
  sums over a bucket in the kernel's order.
-/
module

public import Mathlib.Tactic.IntervalCases
public import proofs.«01_k».proof.Proof.Wht

@[expose] public section

noncomputable section

namespace Bit

/-- The butterfly over the sixteen groups of eight rows is the stages on bits 14 to 17. -/
theorem rows_stage (f : ℕ → ℝ) (s col : ℕ) (hs : s < 8) (hc : col < 2048) (q : ℕ) (hq : q < 2 ^ 4) :
    wht (List.range 4) (fun q => f ((8 * q + s) * 2048 + col)) q = wht [14, 15, 16, 17] f ((8 * q + s) * 2048 + col) :=
  wht_reindex 4 (fun q => (8 * q + s) * 2048 + col) (fun b => b + 14) f
    (fun b hb i hi => by
      simp only [Nat.testBit_eq_decide_div_mod_eq]
      interval_cases b <;> exact decide_eq_decide.mpr (by norm_num at *; omega))
    (fun b hb i hi _ => by interval_cases b <;> norm_num <;> ring) (List.range 4) (fun b hb => List.mem_range.mp hb) _ f (fun _ _ => rfl) q hq

/-- The product with the Hadamard matrix is the stages on bits 0 to 7. -/
theorem cols_stage (f : ℕ → ℝ) (n l : ℕ) (hl : l < 2 ^ 8) :
    wht (List.range 8) (fun l => f (n * 256 + l)) l = wht (List.range 8) f (n * 256 + l) := by
  have := wht_reindex 8 (fun l => n * 256 + l) (fun b => b) f
    (fun b hb i hi => by
      simp only [Nat.testBit_eq_decide_div_mod_eq]
      interval_cases b <;> exact decide_eq_decide.mpr (by norm_num at *; omega))
    (fun b hb i hi _ => by ring) (List.range 8) (fun b hb => List.mem_range.mp hb) _ f (fun _ _ => rfl) l hl
  simpa using this

/-- The place in the bucket of vector `i`'s sublane `j` and lane: `m = 8 qh + j`, `L = 128 h + lane`. -/
def placeY (m p L i : ℕ) : ℕ := (8 * m + i % 8) * 2048 + 1024 * p + 256 * (i / 8) + L

/-- The last butterfly is the stages on bits 11, 12, 13, 8 and 9. -/
theorem last_stage (f : ℕ → ℝ) (m p L : ℕ) (hp : p < 2) (hL : L < 256) (i : ℕ) (hi : i < 2 ^ 5) :
    wht (List.range 5) (fun i => f (placeY m p L i)) i = wht [11, 12, 13, 8, 9] f (placeY m p L i) :=
  wht_reindex 5 (placeY m p L) (fun b => if b < 3 then b + 11 else b + 5) f
    (fun b hb i hi => by
      simp only [Nat.testBit_eq_decide_div_mod_eq]
      unfold placeY
      obtain ⟨c, k, hc, hk, rfl⟩ : ∃ c k, c < 4 ∧ k < 8 ∧ i = 8 * c + k := ⟨i / 8, i % 8, by omega, by omega, by omega⟩
      rw [show (8 * c + k) % 8 = k by omega, show (8 * c + k) / 8 = c by omega]
      obtain ⟨X, hX⟩ : ∃ X, X = (8 * m + k) * 2048 + 1024 * p + 256 * c + L := ⟨_, rfl⟩
      have q1 : X / 2048 = 8 * m + k := by omega
      have q2 : X / 256 = (8 * m + k) * 8 + 4 * p + c := by omega
      have q3 := Nat.div_div_eq_div_mul X 2048 2
      have q4 := Nat.div_div_eq_div_mul X 2048 4
      have q5 := Nat.div_div_eq_div_mul X 256 2
      rw [← hX]
      rw [q1] at q3 q4
      rw [q2] at q5
      have q6 : (8 * c + k) / 8 = c := by omega
      have q7 := Nat.div_div_eq_div_mul (8 * c + k) 8 2
      rw [q6] at q7
      clear hX hi
      interval_cases b <;> refine decide_eq_decide.mpr ?_ <;> norm_num at q1 q2 q3 q4 q5 q6 q7 ⊢ <;>
        [rw [q1]; rw [← q3]; rw [← q4]; rw [q2, q6]; rw [← q5, ← q7]] <;> clear q1 q2 q3 q4 q5 q6 q7 <;> omega)
    (fun b hb i hi h0 => by
      unfold placeY
      rw [Nat.testBit_eq_decide_div_mod_eq] at h0
      have := of_decide_eq_false h0
      interval_cases b <;> norm_num at * <;> omega) (List.range 5) (fun b hb => List.mem_range.mp hb) _ f (fun _ _ => rfl) i hi

/-- The kernel's stages, all of them, are the whole transform. -/
theorem kernel_order (f : ℕ → ℝ) :
    wht [11, 12, 13, 8, 9] (rstage 10 (wht (List.range 8) (wht [14, 15, 16, 17] f))) = wht (List.range 18) f := by
  have h : wht [11, 12, 13, 8, 9] (rstage 10 (wht (List.range 8) (wht [14, 15, 16, 17] f))) = wht ([14, 15, 16, 17] ++ (List.range 8 ++ ([10] ++ [11, 12, 13, 8, 9]))) f := by
    rw [wht_append, wht_append, wht_append]; rfl
  rw [h]
  exact wht_perm (by decide) f

/-- The sum over a bucket, column block by column block. -/
theorem sum_blocks (f : ℕ → ℝ) : ∑ c ∈ Finset.range 8, ∑ h ∈ Finset.range 2, ∑ r ∈ Finset.range 128, ∑ l ∈ Finset.range 128, f (r * 2048 + 128 * (2 * c + h) + l)
    = ∑ p ∈ Finset.range (2 ^ 18), f p := by
  simp only [← Finset.sum_product']
  refine Finset.sum_nbij' (fun x => x.2.2.1 * 2048 + 128 * (2 * x.1 + x.2.1) + x.2.2.2)
    (fun p => (p / 256 % 8, p / 128 % 2, p / 2048, p % 128)) ?_ ?_ ?_ ?_ ?_
  · rintro ⟨c, h, r, l⟩ hx; simp only [Finset.mem_product, Finset.mem_range] at hx ⊢; omega
  · intro p hp; simp only [Finset.mem_product, Finset.mem_range] at hp ⊢; omega
  · rintro ⟨c, h, r, l⟩ hx; simp only [Finset.mem_product, Finset.mem_range] at hx; simp only [Prod.mk.injEq]; omega
  · intro p hp; simp only [Finset.mem_range] at hp; simp only; omega
  · rintro ⟨c, h, r, l⟩ hx; rfl

/-- The sum over a bucket in the order of the last butterfly's vectors. -/
theorem sum_vectors (f : ℕ → ℝ) : ∑ qh ∈ Finset.range 2, ∑ p ∈ Finset.range 2, ∑ h ∈ Finset.range 2, ∑ i ∈ Finset.range 32, ∑ j ∈ Finset.range 8, ∑ l ∈ Finset.range 128,
      f (placeY (8 * qh + j) p (128 * h + l) i)
    = ∑ p ∈ Finset.range (2 ^ 18), f p := by
  simp only [← Finset.sum_product']
  refine Finset.sum_nbij' (fun x => placeY (8 * x.1 + x.2.2.2.2.1) x.2.1 (128 * x.2.2.1 + x.2.2.2.2.2) x.2.2.2.1)
    (fun p => (p / 131072, p / 1024 % 2, p / 128 % 2, 8 * (p / 256 % 4) + p / 2048 % 8, p / 16384 % 8, p % 128)) ?_ ?_ ?_ ?_ ?_
  · rintro ⟨a, b, h, i, j, l⟩ hx; simp only [Finset.mem_product, Finset.mem_range, placeY] at hx ⊢; omega
  · intro p hp; simp only [Finset.mem_product, Finset.mem_range] at hp ⊢; omega
  · rintro ⟨a, b, h, i, j, l⟩ hx; simp only [Finset.mem_product, Finset.mem_range] at hx; simp only [Prod.mk.injEq]
    obtain ⟨c, k, hc, hk, rfl⟩ : ∃ c k, c < 4 ∧ k < 8 ∧ i = 8 * c + k := ⟨i / 8, i % 8, by omega, by omega, by omega⟩
    obtain ⟨X, hX⟩ : ∃ X, X = placeY (8 * a + j) b (128 * h + l) (8 * c + k) := ⟨_, rfl⟩
    rw [← hX]
    unfold placeY at hX
    rw [show (8 * c + k) % 8 = k by omega, show (8 * c + k) / 8 = c by omega] at hX
    have q1 : X / 131072 = a := by omega
    have q2 : X / 16384 = 8 * a + j := by omega
    have q3 : X / 2048 = 8 * (8 * a + j) + k := by omega
    have q4 : X / 1024 = (8 * (8 * a + j) + k) * 2 + b := by omega
    have q5 : X / 256 = (8 * (8 * a + j) + k) * 8 + 4 * b + c := by omega
    have q6 : X / 128 = ((8 * (8 * a + j) + k) * 8 + 4 * b + c) * 2 + h := by omega
    have q7 : X % 128 = l := by omega
    rw [q1, q2, q3, q4, q5, q6, q7]
    clear q1 q2 q3 q4 q5 q6 q7 hX
    omega
  · intro p hp; simp only [Finset.mem_range] at hp; simp only [placeY]
    rw [show (8 * (p / 256 % 4) + p / 2048 % 8) % 8 = p / 2048 % 8 by omega, show (8 * (p / 256 % 4) + p / 2048 % 8) / 8 = p / 256 % 4 by omega]
    have e1 := Nat.div_div_eq_div_mul p 128 2
    have e2 := Nat.div_div_eq_div_mul p 256 4
    have e3 := Nat.div_div_eq_div_mul p 1024 2
    have e4 := Nat.div_div_eq_div_mul p 2048 8
    have e5 := Nat.div_div_eq_div_mul p 16384 8
    norm_num at e1 e2 e3 e4 e5
    rw [← e5, ← e4, ← e3, ← e2, ← e1]
    clear e1 e2 e3 e4 e5
    omega
  · rintro ⟨a, b, h, i, j, l⟩ hx; rfl

end Bit

end
-- ==== Proof.Rects.lean ====
/-
  The body's rectangles read at an index: what a load reads there, and what a store leaves there.
-/
module

public import Idealize.ShloMosaic.Lib.Pointwise
public import proofs.«01_k».proof.Proof.Steps
public import proofs.«01_k».proof.Proof.MatchIdeal

@[expose] public section

noncomputable section

namespace Bit

open Idealize.ShloMosaic
open Cert.KernelIdeal Cert.KernelIdeal.Facts₀ Cert.KernelIdeal.Facts

variable [Cert.KernelIdeal.Facts]

/-! ### Loads -/

/-- Where a column block of an input is read from. -/
theorem idx_rX (cb : ℕ) (h : cb < 16) (r l : Fin 128) : (rX cb h).toLoadRect.idx (ix3 (0 : Fin 1) r l) = ix3 (0 : Fin 1) r (⟨128 * cb + l.val, by omega⟩ : Fin 2048) := by
  funext a; apply Fin.ext; fin_cases a
  · rfl
  · show 0 + 1 * r.val = r.val; omega
  · show 128 * cb + 1 * l.val = 128 * cb + l.val; omega

/-- Where a half of the bytes is read from. -/
theorem idx_rB (p : ℕ) (h : p < 2) (r l : Fin 128) : (rB p h).toLoadRect.idx (ix3 (0 : Fin 1) r l) = ix3 (0 : Fin 1) r (⟨128 * p + l.val, by omega⟩ : Fin 256) := by
  funext a; apply Fin.ext; fin_cases a
  · rfl
  · show 0 + 1 * r.val = r.val; omega
  · show 128 * p + 1 * l.val = 128 * p + l.val; omega

/-- Where a column block of a slot is read from. -/
theorem idx_rS (sl : ℕ) (hs : sl < 9) (cb : ℕ) (h : cb < 16) (r l : Fin 128) :
    (rS sl hs cb h).toLoadRect.idx (ix4 (0 : Fin 1) (0 : Fin 1) r l) = ix4 (⟨sl, hs⟩ : Fin 9) (⟨cb, h⟩ : Fin 16) r l := by
  funext a; apply Fin.ext; fin_cases a
  · rfl
  · rfl
  · show 0 + 1 * r.val = r.val; omega
  · show 0 + 1 * l.val = l.val; omega

/-- Where a half of the words is read from. -/
theorem idx_rWh (hb : ℕ) (h : hb < 2) (r l : Fin 128) : (rWh hb h).toLoadRect.idx (ix3 (0 : Fin 1) r l) = ix3 (⟨hb, h⟩ : Fin 2) r l := by
  funext a; apply Fin.ext; fin_cases a
  · rfl
  · show 0 + 1 * r.val = r.val; omega
  · show 0 + 1 * l.val = l.val; omega

/-- Where rows 17 apart of the transposing scratch are read from. -/
theorem idx_rYr (base : ℕ) (h : base + 119 < 4352) (j : Fin 8) (l : Fin 128) : (rYr base h).idx (ix2 j l) = ix2 (⟨base + 17 * j.val, by omega⟩ : Fin 4352) l := by
  funext a; apply Fin.ext; fin_cases a
  · rfl
  · show 0 + 1 * l.val = l.val; omega

/-- A whole matrix is read where it stands. -/
theorem idx_rH (i j : Fin 256) : rH.toLoadRect.idx (ix2 i j) = ix2 i j := by
  funext a; apply Fin.ext; fin_cases a
  · show 0 + 1 * i.val = i.val; omega
  · show 0 + 1 * j.val = j.val; omega

/-- Where one of the two sums is read from. -/
theorem idx_rAh (k : ℕ) (h : k < 2) (j : Fin 8) (l : Fin 128) : (rAh k h).toLoadRect.idx (ix2 j l) = ix2 (⟨8 * k + j.val, by omega⟩ : Fin 16) l := by
  funext a; apply Fin.ext; fin_cases a
  · show 8 * k + 1 * j.val = _; simp
  · show 0 + 1 * l.val = l.val; omega

/-- Where the scale is read from. -/
theorem idx_rSc1 (l : Fin 128) : rSc1.toLoadRect.idx (ix2 (0 : Fin 1) l) = ix2 (0 : Fin 8) l := by
  funext a; apply Fin.ext; fin_cases a
  · rfl
  · show 0 + 1 * l.val = l.val; omega

/-- Where the signs of a column block are read from. -/
theorem idx_rSg (sl : ℕ) (hs : sl < 9) (cb : Fin 16) (p : Fin 64) (q : Fin 2) (l : Fin 128) :
    (Ideal.rSg sl hs cb).toLoadRect.idx (ix5 (0 : Fin 1) (0 : Fin 1) p q l) = ix5 (⟨sl, hs⟩ : Fin 9) cb p q l := by
  funext a; apply Fin.ext; fin_cases a
  · rfl
  · rfl
  · show 0 + 1 * p.val = p.val; omega
  · show 0 + 1 * q.val = q.val; omega
  · show 0 + 1 * l.val = l.val; omega

/-! ### Stores -/

variable {α : Type}

/-- A store of a column block of a window, read anywhere. -/
theorem put_rX (cb : ℕ) (h : cb < 16) (X : S1x128x2048.Idx → α) (w : S1x128x128.Idx → α) (r : Fin 128) (c : Fin 2048) :
    Eval.put (rX cb h) X w (ix3 (0 : Fin 1) r c) = if c.val / 128 = cb then w (ix3 (0 : Fin 1) r (⟨c.val % 128, Nat.mod_lt _ (by decide)⟩ : Fin 128)) else X (ix3 (0 : Fin 1) r c) := by
  split
  · rename_i e
    refine put_hit (rX cb h) X w _ _ fun a => ?_
    fin_cases a
    · rfl
    · show r.val = 0 + 1 * r.val; omega
    · show c.val = 128 * cb + 1 * (c.val % 128); omega
  · rename_i e
    refine put_miss (rX cb h) X w _ fun j => ⟨2, ?_⟩
    have hj : (j 2).val < 128 := (j 2).isLt
    show c.val ≠ 128 * cb + 1 * (j 2).val
    omega

/-- A store of a column block of a slot, read anywhere. -/
theorem put_rS (sl : ℕ) (hs : sl < 9) (cb : ℕ) (h : cb < 16) (X : S9x16x128x128.Idx → α) (w : S1x1x128x128.Idx → α) (a : Fin 9) (b : Fin 16) (r l : Fin 128) :
    Eval.put (rS sl hs cb h) X w (ix4 a b r l) = if a.val = sl ∧ b.val = cb then w (ix4 (0 : Fin 1) (0 : Fin 1) r l) else X (ix4 a b r l) := by
  split
  · rename_i e
    refine put_hit (rS sl hs cb h) X w _ _ fun x => ?_
    fin_cases x
    · exact e.1
    · exact e.2
    · show r.val = 0 + 1 * r.val; omega
    · show l.val = 0 + 1 * l.val; omega
  · rename_i e
    refine put_miss (rS sl hs cb h) X w _ fun j => ?_
    by_cases e1 : a.val = sl
    · refine ⟨1, ?_⟩
      have hj : (j 1).val < 1 := (j 1).isLt
      show b.val ≠ cb + 1 * (j 1).val
      omega
    · refine ⟨0, ?_⟩
      have hj : (j 0).val < 1 := (j 0).isLt
      show a.val ≠ sl + 1 * (j 0).val
      omega

/-- A store of eight rows of words, read anywhere. -/
theorem put_rWq (hb q : ℕ) (h : hb < 2) (h' : q < 16) (X : S2x128x128.Idx → α) (w : S1x8x128.Idx → α) (a : Fin 2) (r l : Fin 128) :
    Eval.put (rWq hb q h h') X w (ix3 a r l) = if a.val = hb ∧ r.val / 8 = q then w (ix3 (0 : Fin 1) (⟨r.val % 8, Nat.mod_lt _ (by decide)⟩ : Fin 8) l) else X (ix3 a r l) := by
  split
  · rename_i e
    refine put_hit (rWq hb q h h') X w _ _ fun x => ?_
    fin_cases x
    · exact e.1
    · show r.val = 8 * q + 1 * (r.val % 8); omega
    · show l.val = 0 + 1 * l.val; omega
  · rename_i e
    refine put_miss (rWq hb q h h') X w _ fun j => ?_
    by_cases e1 : a.val = hb
    · refine ⟨1, ?_⟩
      have hj : (j 1).val < 8 := (j 1).isLt
      show r.val ≠ 8 * q + 1 * (j 1).val
      omega
    · refine ⟨0, ?_⟩
      have hj : (j 0).val < 1 := (j 0).isLt
      show a.val ≠ hb + 1 * (j 0).val
      omega

/-- A row of the transposition scratch: column block `cb`, rows `8 q + s`. -/
def yRow (cb : Fin 16) (q : Fin 16) (s : Fin 8) : Fin 4352 := ⟨272 * cb.val + 17 * q.val + 2 * s.val, by omega⟩

/-- A store of eight rows of the transposing scratch, read at any of its used rows. -/
theorem put_rYw (cb' q' : Fin 16) (h) (X : S4352x128.Idx → α) (w : S8x128.Idx → α) (cb q : Fin 16) (s : Fin 8) (l : Fin 128) :
    Eval.put (rYw (272 * cb'.val + 17 * q'.val) h) X w (ix2 (yRow cb q s) l) = if cb = cb' ∧ q = q' then w (ix2 s l) else X (ix2 (yRow cb q s) l) := by
  split
  · rename_i e
    obtain ⟨rfl, rfl⟩ := e
    refine put_hit (rYw (272 * cb.val + 17 * q.val) h) X w _ _ fun x => ?_
    fin_cases x
    · rfl
    · show l.val = 0 + 1 * l.val; omega
  · rename_i e
    refine put_miss (rYw (272 * cb'.val + 17 * q'.val) h) X w _ fun j => ⟨0, ?_⟩
    have hj : (j 0).val < 8 := (j 0).isLt
    show 272 * cb.val + 17 * q.val + 2 * s.val ≠ 272 * cb'.val + 17 * q'.val + 2 * (j 0).val
    intro hx
    exact e ⟨Fin.ext (by omega), Fin.ext (by omega)⟩

/-- A store of a whole matrix is the value stored. -/
theorem put_rH (X : S256x256.Idx → α) (w : S256x256.Idx → α) : Eval.put rH X w = w := by
  funext y
  refine put_hit rH X w y y fun a => ?_
  fin_cases a
  · show (y 0).val = 0 + 1 * (y 0).val; omega
  · show (y 1).val = 0 + 1 * (y 1).val; omega

/-- A store of the whole accumulator is the value stored. -/
theorem put_rAcc (X : S16x128.Idx → α) (w : S16x128.Idx → α) : Eval.put rAcc X w = w := by
  funext y
  refine put_hit rAcc X w y y fun a => ?_
  fin_cases a
  · show (y 0).val = 0 + 1 * (y 0).val; omega
  · show (y 1).val = 0 + 1 * (y 1).val; omega

/-- A store of the whole scale scratch is the value stored. -/
theorem put_rSc (X : S8x128.Idx → α) (w : S8x128.Idx → α) : Eval.put rSc X w = w := by
  funext y
  refine put_hit rSc X w y y fun a => ?_
  fin_cases a
  · show (y 0).val = 0 + 1 * (y 0).val; omega
  · show (y 1).val = 0 + 1 * (y 1).val; omega

/-- A store of one of the two sums, read anywhere. -/
theorem put_rAh (k : ℕ) (h : k < 2) (X : S16x128.Idx → α) (w : S8x128.Idx → α) (i : Fin 16) (l : Fin 128) :
    Eval.put (rAh k h) X w (ix2 i l) = if i.val / 8 = k then w (ix2 (⟨i.val % 8, Nat.mod_lt _ (by decide)⟩ : Fin 8) l) else X (ix2 i l) := by
  split
  · rename_i e
    refine put_hit (rAh k h) X w _ _ fun x => ?_
    fin_cases x
    · show i.val = 8 * k + 1 * (i.val % 8); omega
    · show l.val = 0 + 1 * l.val; omega
  · rename_i e
    refine put_miss (rAh k h) X w _ fun j => ⟨0, ?_⟩
    have hj : (j 0).val < 8 := (j 0).isLt
    show i.val ≠ 8 * k + 1 * (j 0).val
    omega

/-- A store of eight rows of signs, read anywhere. -/
theorem put_rSr (sl : ℕ) (hs : sl < 9) (cb : Fin 16) (r : Fin 8) (X : S9x16x64x2x128.Idx → α) (w : S1x1x8x2x128.Idx → α) (a : Fin 9) (b : Fin 16) (p : Fin 64) (q : Fin 2) (l : Fin 128) :
    Eval.put (Ideal.rSr sl hs cb r) X w (ix5 a b p q l)
      = if a.val = sl ∧ b = cb ∧ p.val / 8 = r.val then w (ix5 (0 : Fin 1) (0 : Fin 1) (⟨p.val % 8, Nat.mod_lt _ (by decide)⟩ : Fin 8) q l) else X (ix5 a b p q l) := by
  split
  · rename_i e
    refine put_hit (Ideal.rSr sl hs cb r) X w _ _ fun x => ?_
    fin_cases x
    · exact e.1
    · show b.val = cb.val + 1 * 0; rw [e.2.1]; omega
    · show p.val = 8 * r.val + 1 * (p.val % 8); omega
    · show q.val = 0 + 1 * q.val; omega
    · show l.val = 0 + 1 * l.val; omega
  · rename_i e
    refine put_miss (Ideal.rSr sl hs cb r) X w _ fun j => ?_
    by_cases e1 : a.val = sl
    · by_cases e2 : b = cb
      · refine ⟨2, ?_⟩
        have hj : (j 2).val < 8 := (j 2).isLt
        show p.val ≠ 8 * r.val + 1 * (j 2).val
        intro hx
        exact e ⟨e1, e2, by omega⟩
      · refine ⟨1, ?_⟩
        have hj : (j 1).val < 1 := (j 1).isLt
        show b.val ≠ cb.val + 1 * (j 1).val
        intro hx
        exact e2 (Fin.ext (by omega))
    · refine ⟨0, ?_⟩
      have hj : (j 0).val < 1 := (j 0).isLt
      show a.val ≠ sl + 1 * (j 0).val
      omega

end Bit

end
-- ==== Proof.FwdCol.lean ====
/-
  The first half of the forward rotation at a grid point: what a column block's values are, and what the transposition scratch
  holds after all of them.
-/
module

public import proofs.«01_k».proof.Proof.Vals
public import proofs.«01_k».proof.Proof.Words
public import proofs.«01_k».proof.Proof.Index
public import proofs.«01_k».proof.Proof.Rects
public import proofs.«01_k».proof.Proof.RunIdeal

@[expose] public section

noncomputable section

namespace Bit

open Idealize.ShloMosaic Idealize.ShloMosaic.TcCoe
open Idealize.SL Idealize.SL.RA Idealize.SL.BI Idealize.SL.Sem
open Cert.KernelIdeal Cert.KernelIdeal.Facts₀ Cert.KernelIdeal.Facts
open Bit.Eval

variable [Cert.KernelIdeal.Facts]

section Casts
variable {α : Type}

/-- A leading axis of size one dropped, read at an index. -/
theorem cast32 (x : S1x128x128.Idx → α) (h) (r l : Fin 128) : shapeCast S128x128 x h (ix2 r l) = x (ix3 (0 : Fin 1) r l) :=
  shapeCast_apply _ _ _ _ (by simp [rowMajor_val2, rowMajor_val3])
/-- A leading axis of size one added, read at an index. -/
theorem cast23 (x : S128x128.Idx → α) (h) (r l : Fin 128) : shapeCast S1x128x128 x h (ix3 (0 : Fin 1) r l) = x (ix2 r l) :=
  shapeCast_apply _ _ _ _ (by simp [rowMajor_val2, rowMajor_val3])
/-- Two leading axes of size one dropped, read at an index. -/
theorem cast42 (x : S1x1x128x128.Idx → α) (h) (r l : Fin 128) : shapeCast S128x128 x h (ix2 r l) = x (ix4 (0 : Fin 1) (0 : Fin 1) r l) :=
  shapeCast_apply _ _ _ _ (by simp [rowMajor_val2, rowMajor_val4])
/-- Two leading axes of size one added, read at an index. -/
theorem cast24 (x : S128x128.Idx → α) (h) (r l : Fin 128) : shapeCast S1x1x128x128 x h (ix4 (0 : Fin 1) (0 : Fin 1) r l) = x (ix2 r l) :=
  shapeCast_apply _ _ _ _ (by simp [rowMajor_val2, rowMajor_val4])
/-- Eight rows with a leading axis of size one added, read at an index. -/
theorem cast8 (x : S8x128.Idx → α) (h) (s : Fin 8) (l : Fin 128) : shapeCast S1x8x128 x h (ix3 (0 : Fin 1) s l) = x (ix2 s l) :=
  shapeCast_apply _ _ _ _ (by simp [rowMajor_val2, rowMajor_val3])
/-- A cast to the same shape changes nothing. -/
theorem castSelf {s : Shape} (x : s.Idx → α) (h) : shapeCast s x h = x := funext fun j => shapeCast_apply _ _ _ _ rfl

end Casts

/-- The rows of a block added up by eights. -/
theorem rowSum_apply (v : FVec Ideal S128x128 .f32) (f : ℕ → ℕ → ℝ) (hv : R2 v f) (s : Fin 8) (l : Fin 128) :
    (multiReduction .add [0] S8x128 (shapeCast S16x8x128 v shapeCasts_S128x128_S16x8x128) 0x00000000#32 reduces_S16x8x128_S8x128 (.inl rfl) rfl (ix2 s l) : EReal)
      = ((∑ q ∈ Finset.range 16, f (8 * q + s.val) l.val : ℝ) : EReal) := by
  refine (Ideal.reduceAdd_r3_a0 reduces_S16x8x128_S8x128 (shapeCast S16x8x128 v shapeCasts_S128x128_S16x8x128) (ix2 s l)).trans ?_
  rw [Finset.sum_congr rfl (g := fun q : Fin 16 => ((f (8 * q.val + s.val) l.val : ℝ) : EReal)) fun q _ => ?_]
  · rw [coe_sum, Finset.sum_range]
  · refine (shapeCast_apply _ _ _ (ix2 (⟨8 * q.val + s.val, by omega⟩ : Fin 128) l) ?_).trans (hv _ _)
    simp [rowMajor_val2, rowMajor_val3]; ring

/-- The signed input. -/
def sgnd (G : ℕ → ℝ) (sg : ℕ → Bool) (p : ℕ) : ℝ := if sg p then -G p else G p

/-- The rows' butterfly of a column block. -/
theorem rowsFly_apply (v : FVec Ideal S128x128 .f32) (U : ℕ → ℝ) (c0 : ℕ) (hc : c0 + 128 ≤ 2048) (hv : R2 v fun r l => U (r * 2048 + (c0 + l))) :
    R2 (cat16 (bfly 4 fun q => if h : q < 16 then extractStridedSlice S8x128 ![8 * q, 0] v (slices16 q h) else fun _ => zero32))
      fun r l => wht [14, 15, 16, 17] U (r * 2048 + (c0 + l)) := by
  intro r l
  rw [cat16_apply]
  rw [bfly_real (s := S8x128) 4 _ (fun i j => U ((8 * i + (j 0).val) * 2048 + (c0 + (j 1).val))) (fun i hi j => ?_) (r.val / 8) (by have := r.isLt; norm_num; omega)]
  · have := rows_stage U (r.val % 8) (c0 + l.val) (by omega) (by have := l.isLt; omega) (r.val / 8) (by have := r.isLt; norm_num; omega)
    rw [show 8 * (r.val / 8) + r.val % 8 = r.val by omega] at this
    exact congrArg _ this
  · have hi' : i < 16 := hi
    obtain ⟨s, l, rfl⟩ : ∃ (s : Fin 8) (l : Fin 128), j = ix2 s l := ⟨_, _, eq_ix2 j⟩
    dsimp only
    rw [dif_pos hi', extractStridedSlice_apply _ _ _ _ (ix2 (⟨8 * i + s.val, by omega⟩ : Fin 128) l) (by intro a; fin_cases a <;> simp <;> rfl)]
    exact hv _ _

variable {nD : Nat} {τ : Topo} {sig : RefSig} {Λ : Labels}
variable {A : Args sig} {S : Memref sig .tc .vmem S9x16x64x2x128 .bf16}
variable {defs : Defs nD τ sig (Elt Ideal) Λ} {𝒱 : Variants} {c : Dev nD}
variable {Ix : Type} [DecidableEq Ix] {Name : Type} [DecidableEq Name] {U : Type} [URA U] {Lvl : Type} [Preorder Lvl]

/-- Contents of the buffers in the ideal instance. -/
abbrev IState : Type := (fam S9x16x64x2x128 .bf16).St (Elt Ideal)

/-- The bucket at a grid point: the two inputs' sum and the sign bits. -/
structure Input (st : IState) (G : ℕ → ℝ) (sg : ℕ → Bool) : Prop where
  sum : ∀ (r : Fin 128) (c : Fin 2048), ((st .x (ix3 (0 : Fin 1) r c) : EReal) + (st .e (ix3 (0 : Fin 1) r c) : EReal)) = ((G (r.val * 2048 + c.val) : ℝ) : EReal)
  bits : ∀ (r : Fin 128) (cb : Fin 256) (k : ℕ), k < 8 → (st .b (ix3 (0 : Fin 1) r cb) : BitVec 8).getLsbD k = sg (r.val * 2048 + 8 * cb.val + k)

/-- The inputs of a point persist while their three windows are not written. -/
theorem Input.same {L : List Buf} {st st' : IState} {G : ℕ → ℝ} {sg : ℕ → Bool} (h : Input st G sg) (hs : Same L st st') (hx : Buf.x ∉ L) (hb : Buf.b ∉ L) (he : Buf.e ∉ L) :
    Input st' G sg := by
  refine ⟨fun r c => ?_, fun r cb k hk => ?_⟩
  · rw [hs _ hx, hs _ he]; exact h.sum r c
  · rw [hs _ hb]; exact h.bits r cb k hk

/-- The spread words. -/
def Spread (st : IState) (sg : ℕ → Bool) (ok : ℕ → ℕ → Prop) : Prop := ∀ (hb : Fin 2) (r L : Fin 128), ok hb.val (r.val / 8) → ∀ k < 8,
  (st .wq (ix3 hb r L) : BitVec 32).getLsbD (8 * (r.val % 4) + k) = sg (r.val * 2048 + 8 * (128 * hb.val + L.val) + k)

/-- What the sign words are after they are spread. -/
theorem fwdWords_val {st : IState} {G : ℕ → ℝ} {sg : ℕ → Bool} (hin : Input st G sg) :
    Eval.T (mems A S) defs 𝒱 c Ix Name U Lvl st (fwdWords (F := Ideal) A) fun _ st' => Spread st' sg (fun _ _ => True) ∧ Same [.wq] st st' := by
  refine T.mono (T.loop (J := fun n _ st' => Spread st' sg (fun a _ => a < n) ∧ Same [.wq] st st') ⟨fun _ _ _ h => absurd h (Nat.not_lt_zero _), .refl _ _⟩ ?_)
    fun _ st' h => ⟨fun hb r L _ => h.1 hb r L hb.isLt, h.2⟩
  rintro hb - s0 ⟨h0, hs0⟩
  refine tl_b ?_
  refine T.mono (T.loop (J := fun n _ st' => Spread st' sg (fun a q => a < hb.val ∨ a = hb.val ∧ q < n) ∧ Same [.wq] st st') ⟨fun a r L h => h0 a r L (by omega), hs0⟩ ?_)
    fun _ st' h => ⟨fun a r L ha => h.1 a r L (by have := r.isLt; omega), h.2⟩
  rintro q - s1 ⟨h1, hs1⟩
  refine tl_wq (te_wq ⟨?_, hs1.trans (.upd _ _ _ (by simp))⟩)
  intro a r L hok k hk
  rw [Function.update_self, put_rWq]
  split
  · rename_i e
    rw [cast8, wordSel_apply _ _ q.2]
    have hr : r.val % 4 = (r.val % 8) % 4 := by omega
    rw [words_bit _ _ _ _ _ (Nat.mod_lt _ (by decide)) hk]
    refine (congrArg (fun z => BitVec.getLsbD z k) (cast32 (α := BitVec 8) _ _ _ _)).trans ?_
    show (s0 .b _ : BitVec 8).getLsbD k = _
    rw [idx_rB, hs0 _ (by simp), hin.bits _ _ _ hk]
    congr 1
    simp only [e.1]
    have h1 := r.isLt
    have : 4 * (2 * q.val + r.val % 8 / 4) + r.val % 4 = r.val := by omega
    rw [this]
  · rename_i e
    exact h1 a r L (by omega) k hk

/-- The ring's slot `sl` holds the column blocks below `n` of the sum and of the masks; the rest of the ring is as in `st`. -/
def Ring (st st' : IState) (G : ℕ → ℝ) (sg : ℕ → Bool) (sl n : ℕ) : Prop := ∀ (a : Fin 9) (b : Fin 16) (r l : Fin 128),
  (st' .g (ix4 a b r l) : EReal) = (if a.val = sl ∧ b.val < n then ((G (r.val * 2048 + (128 * b.val + l.val)) : ℝ) : EReal) else (st .g (ix4 a b r l) : EReal))
  ∧ (st' .m (ix4 a b r l) : BitVec 32) = (if a.val = sl ∧ b.val < n then (if sg (r.val * 2048 + (128 * b.val + l.val)) then 2147483648#32 else 0#32) else st .m (ix4 a b r l))

/-- What a column block does. -/
theorem fwdHalf_val {st0 st : IState} {G : ℕ → ℝ} {sg : ℕ → Bool} {sl : ℕ} {hs : sl < 9} {cc h : ℕ} {hc : cc < 8} {hh : h < 2} {acc : FVec Ideal S8x128 .f32} {a : ℕ → ℕ → ℝ}
    (hin : Input st G sg) (hw : Spread st sg fun _ _ => True) (ha : R2 acc a) (hr : Ring st0 st G sg sl (2 * cc + h)) :
    Eval.T (mems A S) defs 𝒱 c Ix Name U Lvl st (fwdHalf A sl hs cc h hc hh acc) fun p st' => (R2 p.1 fun j l => a j l + ∑ q ∈ Finset.range 16, G ((8 * q + j) * 2048 + (128 * (2 * cc + h) + l)) ^ 2)
      ∧ (R2 p.2 fun r l => wht [14, 15, 16, 17] (sgnd G sg) (r * 2048 + (128 * (2 * cc + h) + l))) ∧ Ring st0 st' G sg sl (2 * cc + h + 1) ∧ Same [.g, .m] st st' := by
  have hg : R2 (φ := .f32) (addf (F := Ideal) (φ := .f32) (shapeCast S128x128 (fun j => st .x ((rX (2 * cc + h) (by omega)).toLoadRect.idx j) : FVec Ideal S1x128x128 .f32) shapeCasts_S1x128x128_S128x128)
      (shapeCast S128x128 (fun j => st .e ((rX (2 * cc + h) (by omega)).toLoadRect.idx j) : FVec Ideal S1x128x128 .f32) shapeCasts_S1x128x128_S128x128)) fun r l => G (r * 2048 + (128 * (2 * cc + h) + l)) := by
    intro r l
    show (shapeCast S128x128 _ _ (ix2 r l) : EReal) + shapeCast S128x128 _ _ (ix2 r l) = _
    rw [cast32 (α := EReal), cast32 (α := EReal)]
    show (st .x _ : EReal) + (st .e _ : EReal) = _
    rw [idx_rX]
    exact hin.sum _ _
  refine tl_x (tl_e (tl_g (ts_g (tl_wq (tl_m (ts_m ?_))))))
  have hm : ∀ r l : Fin 128, maskOf (shapeCast S128x128 (fun j => st .wq ((rWh (cc / 4) (by omega)).toLoadRect.idx j) : S1x128x128.Idx → BitVec 32) shapeCasts_S1x128x128_S128x128) (32 * (cc % 4) + 16 * h) (ix2 r l)
      = if sg (r.val * 2048 + (128 * (2 * cc + h) + l.val)) then 2147483648#32 else 0#32 := by
    intro r l
    rw [show 32 * (cc % 4) + 16 * h = 16 * (2 * (cc % 4) + h) by ring, maskOf_apply _ _ (by omega), cast32]
    show (if (st .wq _ : BitVec 32).getLsbD _ then _ else _) = _
    rw [idx_rWh, hw _ _ _ trivial _ (Nat.mod_lt _ (by decide))]
    congr 3
    show r.val * 2048 + 8 * (128 * (cc / 4) + (16 * (2 * (cc % 4) + h) + l.val / 8)) + l.val % 8 = _
    omega
  refine T.ret ⟨?_, ?_, ?_, ?_⟩
  · intro j l
    show (acc (ix2 j l) : EReal) + multiReduction .add [0] S8x128 _ _ _ _ _ (ix2 j l) = _
    rw [ha, rowSum_apply _ (fun r l => G (r * 2048 + (128 * (2 * cc + h) + l)) ^ 2) (fun r l => ?_), ← EReal.coe_add]
    · show (addf (F := Ideal) (φ := .f32) _ _ (ix2 r l) : EReal) * addf (F := Ideal) (φ := .f32) _ _ (ix2 r l) = _
      exact (congrArg₂ (fun x y : EReal => x * y) (hg r l) (hg r l)).trans (by rw [← EReal.coe_mul]; simp only [pow_two])
  · refine rowsFly_apply _ _ (128 * (2 * cc + h)) (by omega) fun r l => ?_
    exact flip_apply _ _ r l _ _ (hm r l) (hg r l)
  · intro x b r l
    have e1 : x.val = sl ∧ b.val < 2 * cc + h + 1 ↔ (x.val = sl ∧ b.val = 2 * cc + h) ∨ (x.val = sl ∧ b.val < 2 * cc + h) := by omega
    constructor
    · rw [Function.update_of_ne (by decide), Function.update_self, put_rS]
      by_cases e : x.val = sl ∧ b.val = 2 * cc + h
      · rw [if_pos e, if_pos (e1.mpr (.inl e)), cast24, e.2]; exact hg r l
      · rw [if_neg e, (hr x b r l).1]
        exact if_congr (by tauto) rfl rfl
    · rw [Function.update_self, put_rS]
      by_cases e : x.val = sl ∧ b.val = 2 * cc + h
      · rw [if_pos e, if_pos (e1.mpr (.inl e)), cast24, e.2]; exact hm r l
      · rw [if_neg e, Function.update_of_ne (by decide), (hr x b r l).2]
        exact if_congr (by tauto) rfl rfl
  · exact (Same.upd st .g _ (by simp)).trans (Same.upd _ .m _ (by simp))

end Bit

end
-- ==== Proof.FwdCols.lean ====
/-
  The first half of the forward rotation over all the column blocks: the ring's slot, the transposition scratch and the sum of squares.
-/
module

public import proofs.«01_k».proof.Proof.FwdCol

@[expose] public section

noncomputable section

namespace Bit

open Idealize.ShloMosaic Idealize.ShloMosaic.TcCoe
open Idealize.SL Idealize.SL.RA Idealize.SL.BI Idealize.SL.Sem
open Cert.KernelIdeal Cert.KernelIdeal.Facts₀ Cert.KernelIdeal.Facts
open Bit.Eval

variable [Cert.KernelIdeal.Facts]
variable {A : Args sig} {S : Memref sig .tc .vmem S9x16x64x2x128 .bf16} {hS : S.IsWhole}
variable {defs : Defs nD τ sig (Elt Ideal) Λ₀} {𝒱 : Variants} {c : Dev nD}
variable {Ix : Type} [DecidableEq Ix] {Name : Type} [DecidableEq Name] {U : Type} [URA U] {Lvl : Type} [Preorder Lvl]

/-- The total of an eight-row block. -/
def tot (a : ℕ → ℕ → ℝ) : ℝ := ∑ j ∈ Finset.range 8, ∑ l ∈ Finset.range 128, a j l

/-- A sum of two terms. -/
theorem sum_two (f : ℕ → ℝ) : ∑ h ∈ Finset.range 2, f h = f 0 + f 1 := by rw [Finset.sum_range_succ, Finset.sum_range_one]

/-- The total of an accumulator to which sixteen blocks of eight rows are added. -/
theorem tot_rows (a : ℕ → ℕ → ℝ) (f : ℕ → ℕ → ℝ) :
    tot (fun j l => a j l + ∑ q ∈ Finset.range 16, f (8 * q + j) l) = tot a + ∑ r ∈ Finset.range 128, ∑ l ∈ Finset.range 128, f r l := by
  unfold tot
  simp only [Finset.sum_add_distrib]
  congr 1
  rw [show (128 : ℕ) = 16 * 8 from rfl, sum_digits 16 8 (fun r => ∑ l ∈ Finset.range (16 * 8), f r l), Finset.sum_comm (s := Finset.range 16)]
  refine Finset.sum_congr rfl fun j _ => ?_
  rw [Finset.sum_comm]
  exact Finset.sum_congr rfl fun q _ => by rw [Nat.mul_comm 8 q]

/-- The scratch matrix is the Hadamard matrix. -/
def Had (st : IState) : Prop := ∀ i j : Fin 256, (st .h (ix2 i j) : EReal) = ((had 8 i.val j.val : ℝ) : EReal)

/-- The bucket after the stages on bits 14 to 17 and 0 to 7. -/
def colsOf (G : ℕ → ℝ) (sg : ℕ → Bool) : ℕ → ℝ := wht (List.range 8) (wht [14, 15, 16, 17] (sgnd G sg))

/-- The transform over the lanes, after the column bits, at a lane is the transform over both. -/
theorem colsOf_apply (G : ℕ → ℝ) (sg : ℕ → Bool) (r cc l : ℕ) (hl : l < 2 ^ 8) :
    wht (List.range 8) (fun l => wht [14, 15, 16, 17] (sgnd G sg) (r * 2048 + (256 * cc + l))) l = colsOf G sg (r * 2048 + (256 * cc + l)) := by
  have := cols_stage (wht [14, 15, 16, 17] (sgnd G sg)) (r * 8 + cc) l hl
  have e : ∀ l, r * 2048 + (256 * cc + l) = (r * 8 + cc) * 256 + l := fun l => by ring
  simp only [e]
  exact this

/-- The transposition scratch holds the column blocks that are `ok`. -/
def YOk (st : IState) (V : ℕ → ℝ) (ok : ℕ → ℕ → Prop) : Prop := ∀ (cb q : Fin 16) (s : Fin 8) (l : Fin 128), ok cb.val q.val →
  (st .y (ix2 (yRow cb q s) l) : EReal) = ((V ((8 * q.val + s.val) * 2048 + (128 * cb.val + l.val)) : ℝ) : EReal)

/-- A product with a zero block is zero. -/
theorem colDot_zero (v : FVec Ideal S128x256 .f32) (h : FVec Ideal S256x256 .f32) (hv : ∀ i j, (v (ix2 i j) : EReal) = 0) (hh : R2 h fun i j => had 8 i j) :
    ∀ i j, (colDot v h (ix2 i j) : EReal) = 0 := by
  intro i j
  rw [colDot_real v h (fun _ _ => 0) (fun i j => by rw [hv]; rfl) hh i j]
  show ((wht (List.range 8) (fun _ => 0) j : ℝ) : EReal) = 0
  rw [wht_range]; simp

/-- The product of a pair of column blocks, with its high and low parts. -/
theorem colParts (v : FVec Ideal S128x256 .f32) (h0 h1 h2 : FVec Ideal S256x256 .f32) (f : ℕ → ℕ → ℝ) (hv : R2 v f)
    (e0 : R2 h0 fun i j => had 8 i j) (e1 : R2 h1 fun i j => had 8 i j) (e2 : R2 h2 fun i j => had 8 i j) :
    R2 (addf (addf (colDot ((Ideal.dial (F := Ideal) S hS).hi v) h0) (colDot ((Ideal.dial (F := Ideal) S hS).hi (subf v ((Ideal.dial (F := Ideal) S hS).hi v))) h1))
        (colDot (subf (subf v ((Ideal.dial (F := Ideal) S hS).hi v)) ((Ideal.dial (F := Ideal) S hS).hi (subf v ((Ideal.dial (F := Ideal) S hS).hi v)))) h2))
      fun r l => wht (List.range 8) (f r) l := by
  have hz : ∀ i j, (subf v v (ix2 i j) : EReal) = 0 := fun i j => by
    show (v (ix2 i j) : EReal) - v (ix2 i j) = 0
    rw [hv, ← EReal.coe_sub, sub_self]; rfl
  have hz' : ∀ i j, (subf (subf v v) (subf v v) (ix2 i j) : EReal) = 0 := fun i j => by
    show (subf v v (ix2 i j) : EReal) - subf v v (ix2 i j) = 0
    rw [hz]; simp
  intro i j
  show (colDot v h0 (ix2 i j) : EReal) + colDot (subf v v) h1 (ix2 i j) + colDot (subf (subf v v) (subf v v)) h2 (ix2 i j) = _
  rw [colDot_zero _ _ hz e1, colDot_zero _ _ hz' e2, add_zero, add_zero]
  exact colDot_real v h0 f hv e0 i j

/-- A pair of column blocks written to the transposition scratch. -/
theorem yStore_val {st : IState} {V : ℕ → ℝ} {cc : Fin 8} (out : FVec Ideal S128x256 .f32) (ho : R2 out fun r l => V (r * 2048 + (256 * cc.val + l)))
    (hy : YOk st V fun cb _ => cb < 2 * cc.val) :
    Eval.T (mems A S) defs 𝒱 c Ix Name U Lvl st (loop 2 PUnit.unit fun h _ => loop 16 PUnit.unit fun q _ => do
        let _ ← ld A.y (rYw (272 * (2 * cc.val + h.val) + 17 * q.val) (by omega)).toLoadRect h_S8x128
        _root_.Bit.st A.y (rYw (272 * (2 * cc.val + h.val) + 17 * q.val) (by omega))
          (shapeCast S8x128 (extractStridedSlice S8x128 ![8 * q.val, 128 * h.val] out (slices32 h h.2 q q.2)) shapeCasts_S8x128_S8x128) h_S8x128 rfl)
      fun _ st' => (YOk st' V fun cb _ => cb < 2 * (cc.val + 1)) ∧ Same [.y] st st' := by
  refine T.mono (T.loop (J := fun n _ st' => (YOk st' V fun cb _ => cb < 2 * cc.val + n) ∧ Same [.y] st st') ⟨hy, .refl _ _⟩ ?_)
    fun _ st' h => ⟨fun cb q s l hc => h.1 cb q s l (by omega), h.2⟩
  rintro h - s2 ⟨hy2, hs2⟩
  refine T.mono (T.loop (J := fun n _ st' => (YOk st' V fun cb q => cb < 2 * cc.val + h.val ∨ cb = 2 * cc.val + h.val ∧ q < n) ∧ Same [.y] st st') ⟨fun cb q s l ho => hy2 cb q s l (by omega), hs2⟩ ?_)
    fun _ st' h' => ⟨fun cb q s l ho => h'.1 cb q s l (by omega), h'.2⟩
  rintro q - s3 ⟨hy3, hs3⟩
  refine tl_y (te_y ⟨?_, hs3.trans (.upd _ _ _ (by simp))⟩)
  intro cb q' s l hok
  rw [Function.update_self]
  have hcb : 2 * cc.val + h.val < 16 := by omega
  refine (put_rYw (⟨2 * cc.val + h.val, hcb⟩ : Fin 16) q _ _ _ cb q' s l).trans ?_
  by_cases e : cb = (⟨2 * cc.val + h.val, hcb⟩ : Fin 16) ∧ q' = q
  · rw [if_pos e]
    refine (congrFun (castSelf _ _) _).trans ?_
    refine (extractStridedSlice_apply _ _ _ _ (ix2 (⟨8 * q.val + s.val, by omega⟩ : Fin 128) (⟨128 * h.val + l.val, by omega⟩ : Fin 256)) (by intro a; fin_cases a <;> rfl)).trans ?_
    refine (ho _ _).trans ?_
    have e1 : cb.val = 2 * cc.val + h.val := congrArg Fin.val e.1
    have e2 : q'.val = q.val := congrArg Fin.val e.2
    simp only [e1, e2]
    congr 2
    ring
  · rw [if_neg e]
    refine hy3 cb q' s l ?_
    rcases hok with ho | ho
    · exact .inl ho
    · by_cases hq : q'.val = q.val
      · exact absurd ⟨Fin.ext ho.1, Fin.ext hq⟩ e
      · exact .inr ⟨ho.1, by omega⟩

/-- What a pair of column blocks does. -/
theorem fwdCol_val {st0 st : IState} {G : ℕ → ℝ} {sg : ℕ → Bool} {sl : ℕ} {hs : sl < 9} {cc : Fin 8} {acc : FVec Ideal S8x128 .f32} {a : ℕ → ℕ → ℝ}
    (hin : Input st G sg) (hw : Spread st sg fun _ _ => True) (hH : Had st) (ha : R2 acc a) (hr : Ring st0 st G sg sl (2 * cc.val))
    (hy : YOk st (colsOf G sg) fun cb _ => cb < 2 * cc.val) :
    Eval.T (mems A S) defs 𝒱 c Ix Name U Lvl st (fwdCol A (Ideal.dial (F := Ideal) S hS) sl hs cc acc) fun p st' => (∃ a', R2 p a' ∧ tot a' = tot a + ∑ h ∈ Finset.range 2, ∑ r ∈ Finset.range 128, ∑ l ∈ Finset.range 128, G (r * 2048 + 128 * (2 * cc.val + h) + l) ^ 2)
      ∧ Ring st0 st' G sg sl (2 * (cc.val + 1)) ∧ (YOk st' (colsOf G sg) fun cb _ => cb < 2 * (cc.val + 1)) ∧ Same [.g, .m, .y] st st' := by
  refine T.bind (fwdHalf_val hin hw ha hr) ?_
  rintro ⟨p0, v0⟩ s0 ⟨hp0, hv0, hr0, hs0⟩
  refine T.bind (fwdHalf_val (hin.same hs0 (by simp) (by simp) (by simp)) (by unfold Spread; rw [hs0 .wq (by simp)]; exact hw) hp0 hr0) ?_
  rintro ⟨p1, v1⟩ s1 ⟨hp1, hv1, hr1, hs1⟩
  have hs01 := hs0.trans hs1
  have hH1 : ∀ i j : Fin 256, (s1 .h (ix2 i j) : EReal) = ((had 8 i.val j.val : ℝ) : EReal) := by rw [hs01 .h (by simp)]; exact hH
  refine tl_h (tl_h (tl_h ?_))
  have hv : R2 (φ := .f32) (concatenate S128x256 1 [⟨S128x128, v0⟩, ⟨S128x128, v1⟩] concatenates_S128x128_S128x128_S128x256_d1 : FVec Ideal S128x256 .f32)
      fun r l => wht [14, 15, 16, 17] (sgnd G sg) (r * 2048 + (256 * cc.val + l)) := by
    intro r l
    rw [cat2_apply]
    split
    · rename_i h; refine (hv0 _ _).trans ?_; simp only; congr 3; omega
    · rename_i h; refine (hv1 _ _).trans ?_; simp only; congr 3; omega
  have hh : R2 (φ := .f32) (fun x => s1 .h (rH.toLoadRect.idx x) : FVec Ideal S256x256 .f32) fun i j => had 8 i j := fun i j => by
    show (s1 .h (rH.toLoadRect.idx (ix2 i j)) : EReal) = _
    rw [idx_rH]; exact hH1 i j
  have hout := colParts (S := S) (hS := hS) _ _ _ _ _ hv hh hh hh
  refine T.bind (yStore_val _ (fun r l => ?_) fun cb q s l h => by rw [hs01 .y (by simp)]; exact hy cb q s l h) fun _ s2 h2 => T.ret ⟨⟨_, hp1, ?_⟩, ?_, ?_, ?_⟩
  · exact (hout r l).trans (congrArg (fun z : ℝ => (z : EReal)) (colsOf_apply G sg r.val cc.val l.val l.isLt))
  · rw [tot_rows _ (fun r l => G (r * 2048 + (128 * (2 * cc.val + 1) + l)) ^ 2), tot_rows _ (fun r l => G (r * 2048 + (128 * (2 * cc.val + 0) + l)) ^ 2), sum_two, add_assoc]
    simp only [Nat.add_assoc]
  · have : Ring st0 s2 G sg sl (2 * cc.val + 1 + 1) := by
      unfold Ring; rw [h2.2 .g (by simp), h2.2 .m (by simp)]; exact hr1
    exact this
  · exact fun cb q s l h => h2.1 cb q s l h
  · exact (hs01.mono (by simp)).trans (h2.2.mono (by simp))

/-- What all the column blocks do. -/
theorem fwdCols_val {st : IState} {G : ℕ → ℝ} {sg : ℕ → Bool} {sl : ℕ} {hs : sl < 9} {acc : FVec Ideal S8x128 .f32} {a : ℕ → ℕ → ℝ}
    (hin : Input st G sg) (hw : Spread st sg fun _ _ => True) (hH : Had st) (ha : R2 acc a) :
    Eval.T (mems A S) defs 𝒱 c Ix Name U Lvl st (loop 8 acc fun c a => fwdCol A (Ideal.dial (F := Ideal) S hS) sl hs c a) fun p st' => (∃ a', R2 p a' ∧ tot a' = tot a + ∑ p ∈ Finset.range (2 ^ 18), G p ^ 2)
      ∧ Ring st st' G sg sl 16 ∧ (YOk st' (colsOf G sg) fun _ _ => True) ∧ Same [.g, .m, .y] st st' := by
  refine T.mono (T.loop (J := fun n p st' => (∃ a', R2 (φ := .f32) p a' ∧ tot a' = tot a + ∑ c ∈ Finset.range n, ∑ h ∈ Finset.range 2, ∑ r ∈ Finset.range 128, ∑ l ∈ Finset.range 128, G (r * 2048 + 128 * (2 * c + h) + l) ^ 2)
      ∧ Ring st st' G sg sl (2 * n) ∧ (YOk st' (colsOf G sg) fun cb _ => cb < 2 * n) ∧ Same [.g, .m, .y] st st') ⟨⟨a, ha, by simp⟩, ?_, fun _ _ _ _ h => absurd h (Nat.not_lt_zero _), .refl _ _⟩ ?_) ?_
  · intro x b r l
    simp
  · rintro n p s1 ⟨⟨a1, ha1, ht1⟩, hr1, hy1, hs1⟩
    refine T.mono (fwdCol_val (hin.same hs1 (by simp) (by simp) (by simp)) (by unfold Spread; rw [hs1 .wq (by simp)]; exact hw) (by unfold Had; rw [hs1 .h (by simp)]; exact hH) ha1 hr1 hy1) ?_
    rintro p' s2 ⟨⟨a2, ha2, ht2⟩, hr2, hy2, hs2⟩
    exact ⟨⟨a2, ha2, by rw [ht2, ht1, Finset.sum_range_succ _ n.val, add_assoc]⟩, hr2, hy2, hs1.trans hs2⟩
  · rintro p s1 ⟨⟨a1, ha1, ht1⟩, hr1, hy1, hs1⟩
    exact ⟨⟨a1, ha1, by rw [ht1, sum_blocks fun p => G p ^ 2]⟩, hr1, fun cb q s l _ => hy1 cb q s l cb.isLt, hs1⟩

end Bit

end
-- ==== Proof.Signs.lean ====
/-
  The stored signs: how a pair of rows is packed, put into the sign ring and read at an index.
-/
module

public import proofs.«01_k».proof.Proof.FwdCols

@[expose] public section

noncomputable section

namespace Bit

open Idealize.ShloMosaic Idealize.ShloMosaic.TcCoe
open Idealize.SL Idealize.SL.RA Idealize.SL.BI Idealize.SL.Sem
open Cert.KernelIdeal Cert.KernelIdeal.Facts₀ Cert.KernelIdeal.Facts
open Bit.Eval

variable [Cert.KernelIdeal.Facts]

/-- Eight rows of pairs hold the sixteen rows in order. -/
theorem joinRows_apply (v : FVec Ideal S16x128 .bf16) (p : Fin 8) (q : Fin 2) (l : Fin 128) :
    Ideal.joinRows v (ix5 (0 : Fin 1) (0 : Fin 1) p q l) = v (ix2 (⟨2 * p.val + q.val, by omega⟩ : Fin 16) l) := by
  unfold Ideal.joinRows
  rw [interleaveRows_apply]
  have hc : ∀ (z : FVec Ideal S8x128 .bf16) (i : S1x1x8x1x128.Idx), i = ix5 (0 : Fin 1) (0 : Fin 1) p (0 : Fin 1) l →
      shapeCast S1x1x8x1x128 (shapeCast S1x1x8x128 z shapeCasts_S8x128_S1x1x8x128) shapeCasts_S1x1x8x128_S1x1x8x1x128 i = z (ix2 p l) := by
    rintro z i rfl
    refine (shapeCast_apply _ _ _ (ix4 (0 : Fin 1) (0 : Fin 1) p l) (by simp [rowMajor_val4, rowMajor_val5])).trans ?_
    exact shapeCast_apply _ _ _ _ (by simp [rowMajor_val2, rowMajor_val4])
  have hq : q = 0 ∨ q = 1 := by omega
  rcases hq with rfl | rfl
  · refine (if_pos ?_).trans ((hc _ _ ?_).trans ((rowsOfParity_apply _ _ _ _).trans (congrArg v ?_)))
    · show ((0 : Fin 2).val) % 2 = 0; norm_num
    · funext a; apply Fin.ext; fin_cases a <;> first | rfl | (show ((0 : Fin 2).val) / 2 = 0; norm_num)
    · funext a; apply Fin.ext; fin_cases a <;> rfl
  · refine (if_neg ?_).trans ((hc _ _ ?_).trans ((rowsOfParity_apply _ _ _ _).trans (congrArg v ?_)))
    · show ¬((1 : Fin 2).val) % 2 = 0; norm_num
    · funext a; apply Fin.ext; fin_cases a <;> first | rfl | (show ((1 : Fin 2).val) / 2 = 0; norm_num)
    · funext a; apply Fin.ext; fin_cases a <;> rfl

/-- Minus one below zero, else one. -/
def sgnS (x : ℝ) : ℝ := if x < 0 then -1 else 1

variable {S : Memref sig .tc .vmem S9x16x64x2x128 .bf16} {hS : S.IsWhole}

/-- A packed pair of rows at an index. -/
theorem pack_apply (a b : FVec Ideal S8x128 .f32) (p : Fin 8) (q : Fin 2) (l : Fin 128) :
    ((Ideal.dial (F := Ideal) S hS).pack a b (ix2 (⟨2 * p.val + q.val, by omega⟩ : Fin 16) l) : EReal) = if q = 0 then a (ix2 p l) else b (ix2 p l) := by
  refine (interleaveRows_apply (truncf (F := Ideal) .bf16 a bitsLt_bf16_f32) (truncf (F := Ideal) .bf16 b bitsLt_bf16_f32) bitcasts_S16x128_w16_S8x128_w32 (ix2 (⟨2 * p.val + q.val, by omega⟩ : Fin 16) l)).trans ?_
  have hq : q = 0 ∨ q = 1 := by omega
  rcases hq with rfl | rfl
  · refine (if_pos ?_).trans ((congrArg (a₂ := ix2 p l) (truncf (F := Ideal) .bf16 a bitsLt_bf16_f32) ?_).trans ?_)
    · show (2 * p.val + 0) % 2 = 0; omega
    · funext x; apply Fin.ext; fin_cases x
      · show (2 * p.val + 0) / 2 = p.val; omega
      · rfl
    · rw [if_pos rfl]; rfl
  · refine (if_neg ?_).trans ((congrArg (a₂ := ix2 p l) (truncf (F := Ideal) .bf16 b bitsLt_bf16_f32) ?_).trans ?_)
    · show ¬(2 * p.val + 1) % 2 = 0; omega
    · funext x; apply Fin.ext; fin_cases x
      · show (2 * p.val + 1) / 2 = p.val; omega
      · rfl
    · rw [if_neg (by decide)]; rfl

/-- The compare with zero at an index. -/
theorem neg_apply (v : FVec Ideal S16x128 .bf16) (i : S16x128.Idx) (x : ℝ) (h : (v i : EReal) = ((x : ℝ) : EReal)) :
    cmpf .olt v (broadcast S16x128 (zero16 (F := Ideal))) i = BitVec.ofBool (decide (x < 0)) := by
  show BitVec.ofBool (decide ((v i : EReal) < Ideal.ofBits .bf16 0x0000#16)) = _
  rw [h, Ideal.ofBits_zero_bf16]
  congr 2
  rw [← EReal.coe_zero]
  exact propext EReal.coe_lt_coe_iff

/-- The sign chosen by the compare. -/
theorem sign_apply (v : FVec Ideal S16x128 .bf16) (i : S16x128.Idx) (x : ℝ) (h : (v i : EReal) = ((x : ℝ) : EReal)) :
    (select (cmpf .olt v (broadcast S16x128 (zero16 (F := Ideal)))) (broadcast S16x128 (mone16 (F := Ideal))) (broadcast S16x128 (one16 (F := Ideal))) i : EReal) = ((sgnS x : ℝ) : EReal) := by
  show (Scalar.select (cmpf .olt v (broadcast S16x128 (zero16 (F := Ideal))) i) (Ideal.ofBits .bf16 0xBF80#16) (Ideal.ofBits .bf16 0x3F80#16) : EReal) = _
  rw [neg_apply v i x h, Ideal.ofBits_neg_one_bf16, Ideal.ofBits_one_bf16]
  unfold sgnS
  by_cases hx : x < 0
  · rw [if_pos hx, decide_eq_true hx]; rfl
  · rw [if_neg hx, decide_eq_false hx]; rfl

/-- The bucket row of parity `q` of pair `P` of the sign ring. -/
def prow (P q : ℕ) : ℕ := 64 * (P / 32) + 8 * (P % 8) + 4 * (P / 8 % 4 / 2) + P / 8 % 4 % 2 + 2 * q

/-- Slot `sl` holds the signs of `W` in the rows of pairs that are `ok`. -/
def SOk (st : IState) (W : ℕ → ℝ) (sl : ℕ) (ok : ℕ → ℕ → Prop) : Prop := ∀ (a : Fin 9) (b : Fin 16) (P : Fin 64) (q : Fin 2) (l : Fin 128), a.val = sl → ok b.val (P.val / 8) →
  (st .s (ix5 a b P q l) : EReal) = ((sgnS (W (prow P.val q.val * 2048 + (128 * b.val + l.val))) : ℝ) : EReal)

/-- The other slots are as before. -/
def SKeep (st st' : IState) (sl : ℕ) : Prop := ∀ (a : Fin 9) (b : Fin 16) (P : Fin 64) (q : Fin 2) (l : Fin 128), a.val ≠ sl → (st' .s (ix5 a b P q l) : EReal) = (st .s (ix5 a b P q l) : EReal)

end Bit

end
-- ==== Proof.CodeBits.lean ====
/-
  The code words: three rounds transpose the bits of each word with its lane, and a gather puts the lanes in order.
-/
module

public import Idealize.ShloMosaic.Lib.BitcastPair
public import Idealize.ShloMosaic.Lib.Pointwise
public import proofs.«01_k».proof.Proof.Words

@[expose] public section

noncomputable section

namespace Bit

open Idealize.ShloMosaic
open Cert.KernelIdeal Cert.KernelIdeal.Facts₀ Cert.KernelIdeal.Facts

variable [Cert.KernelIdeal.Facts]

/-- The lane a round takes a bit from. -/
def srcLane (h l b : ℕ) : ℕ := if l / h % 2 = b / h % 2 then l else if l / h % 2 = 0 then l + h else l - h
/-- The bit a round takes it from. -/
def srcBit (h l b : ℕ) : ℕ := if l / h % 2 = b / h % 2 then b else if l / h % 2 = 0 then b - h else b + h

/-- In a lane whose bit is clear, the clear bits stay and the set ones come from above. -/
theorem tr_first (h : ℕ) (hh : h = 1 ∨ h = 2 ∨ h = 4) (low z up : BitVec 32) (hl : ∀ b < 32, low.getLsbD b = decide (b / h % 2 = 0)) (b : ℕ) (hb : b < 32) :
    (IntOp.ori (IntOp.andi z low) (IntOp.shli .vector (IntOp.andi up low) (BitVec.ofNat 32 h))).getLsbD b = if b / h % 2 = 0 then z.getLsbD b else up.getLsbD (b - h) := by
  have hm : (BitVec.ofNat 32 h).toNat = h := by rcases hh with rfl | rfl | rfl <;> rfl
  unfold IntOp.ori IntOp.andi IntOp.shli
  rw [if_pos (by omega), BitVec.getLsbD_or, BitVec.getLsbD_and, BitVec.shiftLeft_eq', hm, BitVec.getLsbD_shiftLeft, BitVec.getLsbD_and, hl b hb, hl (b - h) (by omega)]
  by_cases e : b / h % 2 = 0
  · rw [if_pos e, decide_eq_true e]
    by_cases e2 : b < h
    · simp [e2]
    · have : ¬(b - h) / h % 2 = 0 := by rcases hh with rfl | rfl | rfl <;> omega
      simp [this]
  · rw [if_neg e, decide_eq_false e]
    have e2 : ¬b < h := by rcases hh with rfl | rfl | rfl <;> omega
    have : (b - h) / h % 2 = 0 := by rcases hh with rfl | rfl | rfl <;> omega
    simp [this, e2, hb]

/-- In a lane whose bit is set, the set bits stay and the clear ones come from below. -/
theorem tr_second (h : ℕ) (hh : h = 1 ∨ h = 2 ∨ h = 4) (low z down : BitVec 32) (hl : ∀ b < 32, low.getLsbD b = decide (b / h % 2 = 0)) (b : ℕ) (hb : b < 32) :
    (IntOp.ori (IntOp.andi z (Scalar.xori low 4294967295#32)) (IntOp.andi (IntOp.shrui .vector down (BitVec.ofNat 32 h)) low)).getLsbD b
      = if b / h % 2 = 0 then down.getLsbD (b + h) else z.getLsbD b := by
  have hm : (BitVec.ofNat 32 h).toNat = h := by rcases hh with rfl | rfl | rfl <;> rfl
  have h1 : (4294967295#32 : BitVec 32).getLsbD b = true := by
    rw [show (4294967295#32 : BitVec 32) = BitVec.allOnes 32 by decide, BitVec.getLsbD_allOnes]; simpa using hb
  show (z &&& (low ^^^ 4294967295#32) ||| (IntOp.shrui .vector down (BitVec.ofNat 32 h) &&& low)).getLsbD b = _
  unfold IntOp.shrui
  rw [if_pos (by omega), BitVec.getLsbD_or, BitVec.getLsbD_and, BitVec.getLsbD_xor, BitVec.getLsbD_and, BitVec.ushiftRight_eq', hm, BitVec.getLsbD_ushiftRight, hl b hb, h1]
  by_cases e : b / h % 2 = 0
  · simp [e, Nat.add_comm]
  · simp [e]

/-- A lane number masked by a power of two is zero exactly where that bit of the lane is clear. -/
theorem lane_clear : ∀ (k : Fin 3) (l : Fin 128), IntOp.cmpi .eq (IntOp.andi (BitVec.ofNat 32 (0 * 128 + l.val)) (BitVec.ofNat 32 (2 ^ k.val))) 0#32 = if l.val / 2 ^ k.val % 2 = 0 then 1#1 else 0#1 := by decide +kernel

/-- A round of the transposition. -/
theorem trRound_bit (k : ℕ) (hk : k < 3) (low : BitVec 32) (hl : ∀ b < 32, low.getLsbD b = decide (b / 2 ^ k % 2 = 0)) (z : IVec S8x128 32) (s : Fin 8) (l : Fin 128) (b : ℕ) (hb : b < 32)
    (h1 : srcLane (2 ^ k) l.val b < 128) :
    (trRound z (2 ^ k) low (ix2 s l)).getLsbD b = (z (ix2 s ⟨srcLane (2 ^ k) l.val b, h1⟩)).getLsbD (srcBit (2 ^ k) l.val b) := by
  have hh : 2 ^ k = 1 ∨ 2 ^ k = 2 ∨ 2 ^ k = 4 := by
    have : k = 0 ∨ k = 1 ∨ k = 2 := by omega
    rcases this with rfl | rfl | rfl <;> simp
  have e : trRound z (2 ^ k) low (ix2 s l) = Scalar.select (IntOp.cmpi .eq (IntOp.andi (BitVec.ofNat 32 (0 * 128 + l.val)) (BitVec.ofNat 32 (2 ^ k))) 0#32)
      (IntOp.ori (IntOp.andi (z (ix2 s l)) low) (IntOp.shli .vector (IntOp.andi (dynamicRotate 1 (BitVec.ofNat 32 (128 - 2 ^ k)) none z rotates_S8x128_d1 (ix2 s l)) low) (BitVec.ofNat 32 (2 ^ k))))
      (IntOp.ori (IntOp.andi (z (ix2 s l)) (Scalar.xori low 4294967295#32)) (IntOp.andi (IntOp.shrui .vector (dynamicRotate 1 (BitVec.ofNat 32 (2 ^ k)) none z rotates_S8x128_d1 (ix2 s l)) (BitVec.ofNat 32 (2 ^ k))) low)) := rfl
  have rot : ∀ (n : ℕ) (hn : n < 128) (l' : Fin 128), l'.val = (l.val + 128 - n) % 128 → dynamicRotate 1 (BitVec.ofNat 32 n) none z rotates_S8x128_d1 (ix2 s l) = z (ix2 s l') := by
    intro n hn l' hl'
    rw [Pointwise.dynamicRotate_apply]
    refine congrArg z (funext fun a => Fin.ext ?_)
    fin_cases a
    · rfl
    · show (l.val + 128 - ((BitVec.ofNat 32 n).toNat + 0) % 128) % 128 = l'.val
      rw [BitVec.toNat_ofNat, hl']; omega
  rw [e, lane_clear ⟨k, hk⟩ l]
  show BitVec.getLsbD (Scalar.select (if l.val / 2 ^ k % 2 = 0 then 1#1 else 0#1) _ _) b = _
  have hL := l.isLt
  by_cases e1 : l.val / 2 ^ k % 2 = 0
  · rw [if_pos e1]
    refine (tr_first _ hh low _ _ hl b hb).trans ?_
    by_cases e2 : b / 2 ^ k % 2 = 0
    · rw [if_pos e2]
      have e3 : l.val / 2 ^ k % 2 = b / 2 ^ k % 2 := by omega
      exact congrArg₂ (fun (i : Fin 128) b => (z (ix2 s i)).getLsbD b) (Fin.ext (show l.val = srcLane _ _ _ from (if_pos e3).symm)) (show b = srcBit _ _ _ from (if_pos e3).symm)
    · rw [if_neg e2]
      have e3 : ¬l.val / 2 ^ k % 2 = b / 2 ^ k % 2 := by omega
      refine congrArg₂ (fun (x : BitVec 32) b => x.getLsbD b) (rot _ ?_ _ ?_) (show b - 2 ^ k = srcBit _ _ _ from ((if_neg e3).trans (if_pos e1)).symm)
      · omega
      · show srcLane _ _ _ = _
        unfold srcLane
        rw [if_neg e3, if_pos e1]
        rcases hh with h | h | h <;> rw [h] at e1 ⊢ <;> omega
  · rw [if_neg e1]
    refine (tr_second _ hh low _ _ hl b hb).trans ?_
    by_cases e2 : b / 2 ^ k % 2 = 0
    · rw [if_pos e2]
      have e3 : ¬l.val / 2 ^ k % 2 = b / 2 ^ k % 2 := by omega
      refine congrArg₂ (fun (x : BitVec 32) b => x.getLsbD b) (rot _ ?_ _ ?_) (show b + 2 ^ k = srcBit _ _ _ from ((if_neg e3).trans (if_neg e1)).symm)
      · omega
      · show srcLane _ _ _ = _
        unfold srcLane
        rw [if_neg e3, if_neg e1]
        rcases hh with h | h | h <;> rw [h] at e1 ⊢ <;> omega
    · rw [if_neg e2]
      have e3 : l.val / 2 ^ k % 2 = b / 2 ^ k % 2 := by omega
      exact congrArg₂ (fun (i : Fin 128) b => (z (ix2 s i)).getLsbD b) (Fin.ext (show l.val = srcLane _ _ _ from (if_pos e3).symm)) (show b = srcBit _ _ _ from (if_pos e3).symm)

/-- The first mask has the bits of even number. -/
theorem low1 : ∀ b < 32, (1431655765#32 : BitVec 32).getLsbD b = decide (b / 2 ^ 0 % 2 = 0) := by decide +kernel
/-- The second mask has the bits whose number has bit 1 clear. -/
theorem low2 : ∀ b < 32, (858993459#32 : BitVec 32).getLsbD b = decide (b / 2 ^ 1 % 2 = 0) := by decide +kernel
/-- The third mask has the bits whose number has bit 2 clear. -/
theorem low4 : ∀ b < 32, (252645135#32 : BitVec 32).getLsbD b = decide (b / 2 ^ 2 % 2 = 0) := by decide +kernel

/-- The three swaps stay within range, and together they exchange the low three bits of the lane with those of the bit number. -/
theorem swaps : ∀ (l : Fin 128) (b : Fin 32),
    srcLane 4 l.val b.val < 128 ∧ srcLane 2 (srcLane 4 l.val b.val) (srcBit 4 l.val b.val) < 128 ∧ srcBit 4 l.val b.val < 32 ∧ srcBit 2 (srcLane 4 l.val b.val) (srcBit 4 l.val b.val) < 32
      ∧ srcLane 1 (srcLane 2 (srcLane 4 l.val b.val) (srcBit 4 l.val b.val)) (srcBit 2 (srcLane 4 l.val b.val) (srcBit 4 l.val b.val)) = 8 * (l.val / 8) + b.val % 8
      ∧ srcBit 1 (srcLane 2 (srcLane 4 l.val b.val) (srcBit 4 l.val b.val)) (srcBit 2 (srcLane 4 l.val b.val) (srcBit 4 l.val b.val)) = 8 * (b.val / 8) + l.val % 8 := by decide +kernel

/-- The three rounds: bit `b % 8` of each byte is the lane's eight's bit of that lane. -/
theorem trBits_bit (z : IVec S8x128 32) (s : Fin 8) (l : Fin 128) (b : ℕ) (hb : b < 32) :
    (trBits z (ix2 s l)).getLsbD b = (z (ix2 s ⟨8 * (l.val / 8) + b % 8, by omega⟩)).getLsbD (8 * (b / 8) + l.val % 8) := by
  obtain ⟨a1, a2, a3, a4, a5, a6⟩ := swaps l ⟨b, hb⟩
  dsimp only at a1 a2 a3 a4 a5 a6
  unfold trBits
  refine (trRound_bit 2 (by decide) _ low4 _ s l b hb a1).trans ((trRound_bit 1 (by decide) _ low2 _ s _ _ a3 a2).trans ((trRound_bit 0 (by decide) _ low1 z s _ _ a4 (lt_of_eq_of_lt a5 (by omega))).trans ?_))
  exact congrArg₂ (fun (i : Fin 128) b => (z (ix2 s i)).getLsbD b) (Fin.ext a5) a6

/-- The lane that the lane gather reads from. -/
theorem laneIdx : ∀ l : Fin 128, (Scalar.select (IntOp.cmpi .slt (IntOp.addi (IntOp.muli 8#32 (IntOp.andi (BitVec.ofNat 32 (0 * 128 + l.val)) 15#32)) (IntOp.shrsi .vector (BitVec.ofNat 32 (0 * 128 + l.val)) 4#32)) 0#32)
    (IntOp.addi (IntOp.addi (IntOp.muli 8#32 (IntOp.andi (BitVec.ofNat 32 (0 * 128 + l.val)) 15#32)) (IntOp.shrsi .vector (BitVec.ofNat 32 (0 * 128 + l.val)) 4#32)) 128#32)
    (IntOp.addi (IntOp.muli 8#32 (IntOp.andi (BitVec.ofNat 32 (0 * 128 + l.val)) 15#32)) (IntOp.shrsi .vector (BitVec.ofNat 32 (0 * 128 + l.val)) 4#32))) = BitVec.ofNat 32 (8 * (l.val % 16) + l.val / 16) := by decide +kernel

/-- A bit of a code word: of the half words' pair of rows. -/
theorem codeWord_bit (w : IVec S16x128 16) (s : Fin 8) (l : Fin 128) (b : ℕ) (hb : b < 32) :
    (codeWord w (ix2 s l)).getLsbD b = (w (ix2 ⟨2 * s.val + b / 16, by omega⟩ ⟨8 * (l.val % 16) + b % 8, by omega⟩)).getLsbD (8 * (b / 8 % 2) + l.val / 16) := by
  unfold codeWord
  rw [dynamicGather_apply]
  have hi : ∀ idx : IVec S8x128 32, shapeCast S8x128 (shapeCast S8x128x1 idx shapeCasts_S8x128_S8x128x1) shapeCasts_S8x128x1_S8x128 (ix2 s l) = idx (ix2 s l) := fun idx => by
    rw [shapeCast_apply _ _ _ (ix3 s l (0 : Fin 1)) (by simp [rowMajor_val2, rowMajor_val3]), shapeCast_apply _ _ _ (ix2 s l) (by simp [rowMajor_val2, rowMajor_val3])]
  rw [hi]
  have hidx : (select (cmpi .slt (addi (muli (broadcast S8x128 8#32) (andi vLane (broadcast S8x128 15#32))) (shrsi vLane (broadcast S8x128 4#32))) (broadcast S8x128 0#32))
      (addi (addi (muli (broadcast S8x128 8#32) (andi vLane (broadcast S8x128 15#32))) (shrsi vLane (broadcast S8x128 4#32))) (broadcast S8x128 128#32))
      (addi (muli (broadcast S8x128 8#32) (andi vLane (broadcast S8x128 15#32))) (shrsi vLane (broadcast S8x128 4#32))) : IVec S8x128 32) (ix2 s l) = BitVec.ofNat 32 (8 * (l.val % 16) + l.val / 16) := laneIdx l
  rw [hidx]
  have hl := l.isLt
  refine (congrArg (fun i => (trBits (bitcast S8x128 32 w bitcasts_S16x128_w16_S8x128_w32) i).getLsbD b) (a₂ := ix2 s ⟨8 * (l.val % 16) + l.val / 16, by omega⟩) ?_).trans ?_
  · funext a
    fin_cases a
    · rfl
    · apply Fin.ext
      show (BitVec.ofNat 32 (8 * (l.val % 16) + l.val / 16)).toNat % 128 = 8 * (l.val % 16) + l.val / 16
      rw [BitVec.toNat_ofNat]; omega
  refine (trBits_bit _ s _ b hb).trans ?_
  rw [bitcast_getLsbD _ _ _ _ (by omega) (by norm_num)]
  have e1 : (8 * (l.val % 16) + l.val / 16) % 8 = l.val / 16 := by omega
  have e2 : b / 16 = b / 8 / 2 := by omega
  refine congrArg₂ (fun i b => (w i).getLsbD b) (funext fun a => Fin.ext ?_) ?_
  · fin_cases a
    · show (s.val * 32 + (8 * (b / 8) + (8 * (l.val % 16) + l.val / 16) % 8)) / 16 = 2 * s.val + b / 16
      rw [e1, e2]; omega
    · show 8 * ((8 * (l.val % 16) + l.val / 16) / 8) + b % 8 = 8 * (l.val % 16) + b % 8
      omega
  · show (s.val * 32 + (8 * (b / 8) + (8 * (l.val % 16) + l.val / 16) % 8)) % 16 = 8 * (b / 8 % 2) + l.val / 16
    rw [e1]; omega

/-! ### The stores -/

variable {α : Type}

/-- A store of every other row, read at a row that it wrote. -/
theorem put_rC_hit (base : ℕ) (h : base + 14 < 64) (X : S64x128.Idx → α) (w : S8x128.Idx → α) (R : Fin 64) (s : Fin 8) (l : Fin 128) (e : R.val = base + 2 * s.val) :
    Eval.put (rC base h) X w (ix2 R l) = w (ix2 s l) := by
  refine put_hit (rC base h) X w _ _ fun a => ?_
  fin_cases a
  · exact e
  · show l.val = 0 + 1 * l.val; omega

/-- A store of every other row, read at a row that it did not write. -/
theorem put_rC_miss (base : ℕ) (h : base + 14 < 64) (X : S64x128.Idx → α) (w : S8x128.Idx → α) (R : Fin 64) (l : Fin 128) (e : ∀ s < 8, R.val ≠ base + 2 * s) :
    Eval.put (rC base h) X w (ix2 R l) = X (ix2 R l) := by
  refine put_miss (rC base h) X w _ fun j => ⟨0, ?_⟩
  have hj : (j 0).val < 8 := (j 0).isLt
  exact e _ hj

/-- Where a half of the code words is read from. -/
theorem idx_rCh (p : ℕ) (h : p < 2) (R : Fin 32) (l : Fin 128) : (rCh p h).toLoadRect.idx (ix2 R l) = ix2 (⟨32 * p + R.val, by omega⟩ : Fin 64) l := by
  funext a; apply Fin.ext; fin_cases a
  · show 32 * p + 1 * R.val = _; simp
  · show 0 + 1 * l.val = l.val; omega

/-- A store of half of the code lanes, read anywhere. -/
theorem put_rB (p : ℕ) (h : p < 2) (X : S1x128x256.Idx → α) (w : S1x128x128.Idx → α) (r : Fin 128) (c : Fin 256) :
    Eval.put (rB p h) X w (ix3 (0 : Fin 1) r c) = if c.val / 128 = p then w (ix3 (0 : Fin 1) r (⟨c.val % 128, Nat.mod_lt _ (by decide)⟩ : Fin 128)) else X (ix3 (0 : Fin 1) r c) := by
  split
  · rename_i e
    refine put_hit (rB p h) X w _ _ fun a => ?_
    fin_cases a
    · rfl
    · show r.val = 0 + 1 * r.val; omega
    · show c.val = 128 * p + 1 * (c.val % 128); omega
  · rename_i e
    refine put_miss (rB p h) X w _ fun j => ⟨2, ?_⟩
    have hj : (j 2).val < 128 := (j 2).isLt
    show c.val ≠ 128 * p + 1 * (j 2).val
    omega

/-- A bit of a word's byte. -/
theorem bytes_bit (v : S32x128.Idx → BitVec 32) (r l : Fin 128) (k : ℕ) (hk : k < 8) :
    (shapeCast S1x128x128 (bitcast S128x128 8 v bitcasts_S32x128_w32_S128x128_w8) shapeCasts_S128x128_S1x128x128 (ix3 (0 : Fin 1) r l)).getLsbD k
      = (v (ix2 ⟨r.val / 4, by omega⟩ l)).getLsbD (8 * (r.val % 4) + k) := by
  rw [shapeCast_apply _ _ _ (ix2 r l) (by simp [rowMajor_val2, rowMajor_val3])]
  rw [bitcast_getLsbD _ _ _ _ hk (by norm_num)]
  have hrow : S128x128.row (ix2 r l) = r.val := rfl
  refine congrArg₂ (fun i b => (v i).getLsbD b) (funext fun a => Fin.ext ?_) ?_
  · fin_cases a
    · show (r.val * 8 + k) / 32 = r.val / 4
      omega
    · rfl
  · show (r.val * 8 + k) % 32 = 8 * (r.val % 4) + k
    omega

/-- The only bit of the 16-bit word `2 ^ n` is bit `n`. -/
theorem powBit : ∀ n b : Fin 16, (BitVec.ofNat 16 (2 ^ n.val)).getLsbD b.val = decide (b = n) := by decide +kernel

/-- A bit of a chosen power of two. -/
theorem word_bit (neg : IVec S16x128 1) (i : S16x128.Idx) (x : ℝ) (hn : neg i = BitVec.ofBool (decide (x < 0))) (n : ℕ) (h : n < 16) (b : ℕ) (hb : b < 16) :
    (select neg (broadcast S16x128 (BitVec.ofNat 16 (2 ^ n))) (broadcast S16x128 0#16) i).getLsbD b = true ↔ b = n ∧ x < 0 := by
  show (Scalar.select (neg i) (BitVec.ofNat 16 (2 ^ n)) 0#16).getLsbD b = true ↔ _
  rw [hn]
  by_cases hx : x < 0
  · rw [decide_eq_true hx]
    show (BitVec.ofNat 16 (2 ^ n)).getLsbD b = true ↔ _
    rw [powBit ⟨n, h⟩ ⟨b, hb⟩]
    simp [hx]
  · rw [decide_eq_false hx]
    show (0#16).getLsbD b = true ↔ _
    simp [hx]

end Bit

end
-- ==== Proof.FwdTail.lean ====
/-
  The second half of the forward rotation at a grid point: the last stages, the sum of absolute values, the stored signs and the codes.
-/
module

public import proofs.«01_k».proof.Proof.Signs
public import proofs.«01_k».proof.Proof.CodeBits

@[expose] public section

noncomputable section

namespace Bit

open Idealize.ShloMosaic Idealize.ShloMosaic.TcCoe
open Idealize.SL Idealize.SL.RA Idealize.SL.BI Idealize.SL.Sem
open Cert.KernelIdeal Cert.KernelIdeal.Facts₀ Cert.KernelIdeal.Facts
open Bit.Eval

variable [Cert.KernelIdeal.Facts]
variable {A : Args sig} {S : Memref sig .tc .vmem S9x16x64x2x128 .bf16} {hS : S.IsWhole}
variable {defs : Defs nD τ sig (Elt Ideal) Λ₀} {𝒱 : Variants} {c : Dev nD}
variable {Ix : Type} [DecidableEq Ix] {Name : Type} [DecidableEq Name] {U : Type} [URA U] {Lvl : Type} [Preorder Lvl]

/-- A function set at a place, read there. -/
theorem setAt_self {α : Type} (f : ℕ → α) (n : ℕ) (v : α) : setAt f n v n = v := by simp [setAt]
/-- A function set at a place, read elsewhere. -/
theorem setAt_ne {α : Type} (f : ℕ → α) (n : ℕ) (v : α) {i : ℕ} (h : i ≠ n) : setAt f n v i = f i := by
  unfold setAt
  cases e : Nat.beq i n
  · rfl
  · exact absurd (Nat.eq_of_beq_eq_true e) h

/-- Eight rows read from the transposition scratch. -/
theorem yLoad {st : IState} {V : ℕ → ℝ} (hy : YOk st V fun _ _ => True) (cb : Fin 16) (qh : ℕ) (hq : qh < 2) (k : Fin 8) (b : ℕ) (hb : b + 119 < 4352)
    (e : b = 272 * cb.val + 136 * qh + 2 * k.val) (j : Fin 8) (l : Fin 128) :
    (st .y ((rYr b hb).idx (ix2 j l)) : EReal) = ((V ((8 * (8 * qh + j.val) + k.val) * 2048 + (128 * cb.val + l.val)) : ℝ) : EReal) := by
  rw [idx_rYr]
  refine (congrArg (st .y) (congrArg (fun z => ix2 z l) (Fin.ext ?_))).trans (hy cb (⟨8 * qh + j.val, by omega⟩ : Fin 16) k l trivial)
  show b + 17 * j.val = 272 * cb.val + 17 * (8 * qh + j.val) + 2 * k.val
  omega

/-- The thirty-two vectors of a quarter's half, after the stage on bit 10. -/
theorem fwdLoad_val {st : IState} {V : ℕ → ℝ} {qh p h : ℕ} {hq : qh < 2} (hp : p < 2) {hh : h < 2} (hy : YOk st V fun _ _ => True) :
    Eval.T (mems A S) defs 𝒱 c Ix Name U Lvl st (fwdLoad (F := Ideal) A qh p h hq hh) fun v st' => st' = st ∧ ∀ i < 32, ∀ (j : Fin 8) (l : Fin 128),
      (v i (ix2 j l) : EReal) = ((rstage 10 V (placeY (8 * qh + j.val) p (128 * h + l.val) i) : ℝ) : EReal) := by
  refine T.mono (T.loop (J := fun n v st' => st' = st ∧ ∀ i < 8 * n, ∀ (j : Fin 8) (l : Fin 128),
      ((v : ℕ → FVec Ideal S8x128 .f32) i (ix2 j l) : EReal) = ((rstage 10 V (placeY (8 * qh + j.val) p (128 * h + l.val) i) : ℝ) : EReal)) ⟨rfl, fun i hi => absurd hi (by omega)⟩ ?_) fun _ _ h => h
  rintro c v s ⟨rfl, hv⟩
  refine T.mono (T.loop (J := fun n v st' => st' = s ∧ ∀ i < 8 * c.val + n, ∀ (j : Fin 8) (l : Fin 128),
      ((v : ℕ → FVec Ideal S8x128 .f32) i (ix2 j l) : EReal) = ((rstage 10 V (placeY (8 * qh + j.val) p (128 * h + l.val) i) : ℝ) : EReal)) ⟨rfl, hv⟩ ?_) fun _ _ h => h
  rintro k v s ⟨rfl, hv⟩
  refine tl_y (tl_y (T.ret ⟨rfl, ?_⟩))
  intro i hi j l
  by_cases e : i = 8 * c.val + k.val
  · subst e
    rw [setAt_self]
    have hc := c.isLt
    have ha := yLoad hy (⟨2 * c.val + h, by omega⟩ : Fin 16) qh hq k (272 * (2 * c.val + h) + 136 * qh + 2 * k.val) (by omega) rfl j l
    have hb := yLoad hy (⟨2 * (c.val + 4) + h, by omega⟩ : Fin 16) qh hq k (272 * (2 * (c.val + 4) + h) + 136 * qh + 2 * k.val) (by omega) rfl j l
    have eP : placeY (8 * qh + j.val) p (128 * h + l.val) (8 * c.val + k.val) = (8 * (8 * qh + j.val) + k.val) * 2048 + 1024 * p + 256 * c.val + (128 * h + l.val) := by
      unfold placeY
      rw [show (8 * c.val + k.val) % 8 = k.val by omega, show (8 * c.val + k.val) / 8 = c.val by omega]
    have hl := l.isLt
    rw [eP]
    have h2 : p = 0 ∨ p = 1 := by omega
    rcases h2 with rfl | rfl
    · have hbit : ((8 * (8 * qh + j.val) + k.val) * 2048 + 1024 * 0 + 256 * c.val + (128 * h + l.val)).testBit 10 = false := by
        rw [Nat.testBit_eq_decide_div_mod_eq]; exact decide_eq_false (by norm_num; omega)
      unfold rstage
      rw [if_neg (by rw [hbit]; decide), EReal.coe_add]
      refine (congrArg₂ (fun x y : EReal => x + y) ha hb).trans (congrArg₂ (fun x y : ℝ => (x : EReal) + (y : EReal)) (congrArg V ?_) (congrArg V ?_))
      · show (8 * (8 * qh + j.val) + k.val) * 2048 + (128 * (2 * c.val + h) + l.val) = _; omega
      · show (8 * (8 * qh + j.val) + k.val) * 2048 + (128 * (2 * (c.val + 4) + h) + l.val) = _; norm_num; omega
    · have hbit : ((8 * (8 * qh + j.val) + k.val) * 2048 + 1024 * 1 + 256 * c.val + (128 * h + l.val)).testBit 10 = true := by
        rw [Nat.testBit_eq_decide_div_mod_eq]; exact decide_eq_true (by norm_num; omega)
      unfold rstage
      rw [if_pos hbit, EReal.coe_sub]
      refine (congrArg₂ (fun x y : EReal => x - y) ha hb).trans (congrArg₂ (fun x y : ℝ => (x : EReal) - (y : EReal)) (congrArg V ?_) (congrArg V ?_))
      · show (8 * (8 * qh + j.val) + k.val) * 2048 + (128 * (2 * c.val + h) + l.val) = _; norm_num; omega
      · show (8 * (8 * qh + j.val) + k.val) * 2048 + (128 * (2 * (c.val + 4) + h) + l.val) = _; omega
  · rw [setAt_ne _ _ _ e]
    exact hv i (by omega) j l

/-- The whole transform of the signed bucket. -/
def whole (G : ℕ → ℝ) (sg : ℕ → Bool) : ℕ → ℝ := wht (List.range 18) (sgnd G sg)

/-- The vectors after the last butterfly. -/
theorem last_val {G : ℕ → ℝ} {sg : ℕ → Bool} {qh p h : ℕ} (hp : p < 2) (hh : h < 2) (v : ℕ → FVec Ideal S8x128 .f32)
    (hv : ∀ i < 32, ∀ (j : Fin 8) (l : Fin 128), (v i (ix2 j l) : EReal) = ((rstage 10 (colsOf G sg) (placeY (8 * qh + j.val) p (128 * h + l.val) i) : ℝ) : EReal)) :
    ∀ i < 32, R2 (bfly 5 v i) fun j l => whole G sg (placeY (8 * qh + j) p (128 * h + l) i) := by
  intro i hi j l
  refine (bfly_real (s := S8x128) 5 v (fun i j => rstage 10 (colsOf G sg) (placeY (8 * qh + (j 0).val) p (128 * h + (j 1).val) i)) (fun i hi j => ?_) i hi (ix2 j l)).trans ?_
  · rw [eq_ix2 j]; exact hv i hi _ _
  · refine congrArg (fun z : ℝ => (z : EReal)) ?_
    have := last_stage (rstage 10 (colsOf G sg)) (8 * qh + j.val) p (128 * h + l.val) hp (by have := l.isLt; omega) i hi
    refine this.trans ?_
    unfold whole
    rw [← kernel_order]; rfl

/-- Absolute values added up. -/
theorem absFold (y : ℕ → FVec Ideal S8x128 .f32) (Y : ℕ → ℕ → ℕ → ℝ) : ∀ (rem k : ℕ) (acc : FVec Ideal S8x128 .f32) (a : ℕ → ℕ → ℝ), R2 acc a → (∀ i, k ≤ i → i < k + rem → R2 (y i) (Y i)) →
    R2 (foldFrom (fun k a => addf a (absf (y k))) rem k acc) fun j l => a j l + ∑ i ∈ Finset.range rem, |Y (k + i) j l|
  | 0, k, acc, a, ha, _ => fun j l => by
    simp only [Finset.sum_range_zero, add_zero]; exact ha j l
  | rem + 1, k, acc, a, ha, hy => by
    have := absFold y Y rem (k + 1) (addf acc (absf (y k))) (fun j l => a j l + |Y k j l|) (fun j l => ?_) fun i h1 h2 => hy i (by omega) (by omega)
    · intro j l
      refine (this j l).trans (congrArg (fun z : ℝ => (z : EReal)) ?_)
      have e := Finset.sum_range_succ' (fun i => |Y (k + i) j.val l.val|) rem
      simp only [Nat.add_zero] at e
      simp only [e, Nat.add_assoc, Nat.add_comm 1]
      ring
    · show (acc (ix2 j l) : EReal) + max (y k (ix2 j l) : EReal) (-(y k (ix2 j l) : EReal)) = _
      rw [ha j l, hy k le_rfl (by omega) j l, ← EReal.coe_neg, ← EReal.coe_strictMono.monotone.map_max, ← EReal.coe_add]
      rfl

/-- Where a bit of a half word stands in the bucket. -/
def halfPos (qh p kk r b l : ℕ) : ℕ := (64 * qh + 8 * (r / 2) + 4 * kk + b / 8 + 2 * (r % 2)) * 2048 + (1024 * p + 128 * (b % 8) + l)

/-- The half words' bits that are `ok` say where `W` is negative, and the others are clear. -/
def WOk (w : ℕ → IVec S16x128 16) (W : ℕ → ℝ) (qh p : ℕ) (ok : ℕ → ℕ → Prop) : Prop := ∀ kk < 2, ∀ (r : Fin 16) (l : Fin 128), ∀ b < 16,
  ((w kk (ix2 r l)).getLsbD b = true ↔ ok kk b ∧ W (halfPos qh p kk r.val b l.val) < 0)

/-- Where a bit of a code word stands in the bucket. -/
def cwPos (R l b : ℕ) : ℕ := (4 * (R % 32) + b / 8) * 2048 + (1024 * (R / 32) + 8 * l + b % 8)

/-- The code words' rows that are `ok` hold the bits of `W`'s signs. -/
def CwOk (st : IState) (W : ℕ → ℝ) (ok : ℕ → Prop) : Prop := ∀ (R : Fin 64) (l : Fin 128), ok R.val → ∀ b < 32, ((show BitVec 32 from st .cw (ix2 R l)).getLsbD b = true ↔ W (cwPos R.val l.val b) < 0)

/-- The columns of the codes that are `ok` hold the bits of `W`'s signs. -/
def CodeOk (st : IState) (W : ℕ → ℝ) (ok : ℕ → Prop) : Prop := ∀ (r : Fin 128) (cb : Fin 256), ok cb.val → ∀ k < 8,
  ((show BitVec 8 from st .code (ix3 (0 : Fin 1) r cb)).getLsbD k = true ↔ W (r.val * 2048 + 8 * cb.val + k) < 0)

/-- The compare of a packed pair of rows. -/
theorem neg_pair {W : ℕ → ℝ} {qh p h : ℕ} {y : ℕ → FVec Ideal S8x128 .f32} (hy : ∀ i < 32, R2 (y i) fun j l => W (placeY (8 * qh + j) p (128 * h + l) i)) (hh : h < 2) (c kp : Fin 4) (r : Fin 16) (l : Fin 128) :
    cmpf .olt ((Ideal.dial (F := Ideal) S hS).pack (y (8 * c.val + (4 * (kp.val / 2) + kp.val % 2))) (y (8 * c.val + (4 * (kp.val / 2) + kp.val % 2) + 2))) (broadcast S16x128 zero16) (ix2 r l)
      = BitVec.ofBool (decide (W (halfPos qh p (kp.val / 2) r.val (8 * (kp.val % 2) + 2 * c.val + h) l.val) < 0)) := by
  refine neg_apply _ _ _ ?_
  have hr : r = (⟨2 * (⟨r.val / 2, by omega⟩ : Fin 8).val + (⟨r.val % 2, by omega⟩ : Fin 2).val, by show 2 * (r.val / 2) + r.val % 2 < 16; omega⟩ : Fin 16) := Fin.ext (by show r.val = 2 * (r.val / 2) + r.val % 2; omega)
  refine (congrArg (fun z => ((Ideal.dial (F := Ideal) S hS).pack (y (8 * c.val + (4 * (kp.val / 2) + kp.val % 2))) (y (8 * c.val + (4 * (kp.val / 2) + kp.val % 2) + 2)) (ix2 z l) : EReal)) hr).trans ?_
  refine (pack_apply _ _ _ _ _).trans ?_
  have hk := kp.isLt
  have hc := c.isLt
  by_cases e : r.val % 2 = 0
  · refine (if_pos (Fin.ext e)).trans ((hy _ (by omega) _ _).trans (congrArg (fun z => ((W z : ℝ) : EReal)) ?_))
    unfold placeY halfPos
    rw [show (8 * c.val + (4 * (kp.val / 2) + kp.val % 2)) % 8 = 4 * (kp.val / 2) + kp.val % 2 by omega, show (8 * c.val + (4 * (kp.val / 2) + kp.val % 2)) / 8 = c.val by omega,
      show (8 * (kp.val % 2) + 2 * c.val + h) / 8 = kp.val % 2 by omega, show (8 * (kp.val % 2) + 2 * c.val + h) % 8 = 2 * c.val + h by omega, e]
    show (8 * (8 * qh + r.val / 2) + _) * 2048 + _ + _ + _ = _
    ring
  · refine (if_neg fun h => e (congrArg Fin.val h)).trans ((hy _ (by omega) _ _).trans (congrArg (fun z => ((W z : ℝ) : EReal)) ?_))
    unfold placeY halfPos
    rw [show (8 * c.val + (4 * (kp.val / 2) + kp.val % 2) + 2) % 8 = 4 * (kp.val / 2) + kp.val % 2 + 2 by omega, show (8 * c.val + (4 * (kp.val / 2) + kp.val % 2) + 2) / 8 = c.val by omega,
      show (8 * (kp.val % 2) + 2 * c.val + h) / 8 = kp.val % 2 by omega, show (8 * (kp.val % 2) + 2 * c.val + h) % 8 = 2 * c.val + h by omega, show r.val % 2 = 1 by omega]
    show (8 * (8 * qh + r.val / 2) + _) * 2048 + _ + _ + _ = _
    ring

/-- A pair's bit put into its half word. -/
theorem wOk_step {W : ℕ → ℝ} {qh p h : ℕ} {w : ℕ → IVec S16x128 16} (hh : h < 2) (c kp : Fin 4) (neg : IVec S16x128 1)
    (hn : ∀ (r : Fin 16) (l : Fin 128), neg (ix2 r l) = BitVec.ofBool (decide (W (halfPos qh p (kp.val / 2) r.val (8 * (kp.val % 2) + 2 * c.val + h) l.val) < 0)))
    (hw : WOk w W qh p fun kk b => b % 2 < h ∨ b % 2 = h ∧ (b % 8 / 2 < c.val ∨ b % 8 / 2 = c.val ∧ 2 * kk + b / 8 < kp.val)) :
    WOk (setAt w (kp.val / 2) (bif Nat.beq (c.val + kp.val % 2 + h) 0 then select neg (broadcast S16x128 (BitVec.ofNat 16 (2 ^ (8 * (kp.val % 2) + 2 * c + h)))) (broadcast S16x128 0#16)
        else ori (w (kp.val / 2)) (select neg (broadcast S16x128 (BitVec.ofNat 16 (2 ^ (8 * (kp.val % 2) + 2 * c + h)))) (broadcast S16x128 0#16)))) W qh p
      fun kk b => b % 2 < h ∨ b % 2 = h ∧ (b % 8 / 2 < c.val ∨ b % 8 / 2 = c.val ∧ 2 * kk + b / 8 < kp.val + 1) := by
  intro kk hkk r l b hb
  have hk := kp.isLt
  have hc := c.isLt
  by_cases e : kk = kp.val / 2
  · subst e
    rw [setAt_self]
    have hword := word_bit neg (ix2 r l) _ (hn r l) (8 * (kp.val % 2) + 2 * c.val + h) (by omega) b hb
    cases e2 : Nat.beq (c.val + kp.val % 2 + h) 0
    · show (IntOp.ori (w (kp.val / 2) (ix2 r l)) (select neg _ _ (ix2 r l))).getLsbD b = true ↔ _
      unfold IntOp.ori
      rw [BitVec.getLsbD_or, Bool.or_eq_true, hw _ hkk r l b hb, hword]
      by_cases e3 : b = 8 * (kp.val % 2) + 2 * c.val + h
      · rw [← e3]
        constructor
        · rintro (⟨_, h2⟩ | ⟨_, h2⟩)
          · exact ⟨by omega, h2⟩
          · exact ⟨by omega, h2⟩
        · rintro ⟨_, h2⟩; exact .inr ⟨rfl, h2⟩
      · constructor
        · rintro (⟨h1, h2⟩ | ⟨h1, _⟩)
          · exact ⟨by omega, h2⟩
          · exact absurd h1 e3
        · rintro ⟨h1, h2⟩; exact .inl ⟨by omega, h2⟩
    · have e4 := Nat.eq_of_beq_eq_true e2
      refine hword.trans ?_
      constructor
      · rintro ⟨h1, h2⟩
        rw [← h1] at h2
        exact ⟨by omega, h2⟩
      · rintro ⟨h1, h2⟩
        have h3 : b = 8 * (kp.val % 2) + 2 * c.val + h := by omega
        refine ⟨h3, ?_⟩
        rw [← h3]; exact h2
  · rw [setAt_ne _ _ _ e, hw kk hkk r l b hb]
    refine and_congr_left fun _ => ?_
    omega

/-- Equal conditions. -/
theorem WOk.imp {w : ℕ → IVec S16x128 16} {W : ℕ → ℝ} {qh p : ℕ} {ok ok' : ℕ → ℕ → Prop} (h : WOk w W qh p ok) (e : ∀ kk b, kk < 2 ∧ b < 16 → (ok kk b ↔ ok' kk b)) : WOk w W qh p ok' :=
  fun kk hkk r l b hb => (h kk hkk r l b hb).trans (and_congr_left fun _ => e kk b ⟨hkk, hb⟩)

/-- Where a bit of a half word goes. -/
theorem half_cw {qh p kk s l b : ℕ} (hq : qh < 2) (hp : p < 2) (hk : kk < 2) (hs : s < 8) (hl : l < 128) (hb : b < 32) :
    halfPos qh p kk (2 * s + b / 16) (8 * (b / 8 % 2) + l / 16) (8 * (l % 16) + b % 8) = cwPos (32 * p + 16 * qh + kk + 2 * s) l b := by
  unfold halfPos cwPos
  omega

/-- A code word's rows stored. -/
theorem cwOk_step {st : IState} {w : ℕ → IVec S16x128 16} {W : ℕ → ℝ} {qh p : ℕ} {ok : ℕ → Prop} (hq : qh < 2) (hp : p < 2) (kk : Fin 2) (hb : 32 * p + 16 * qh + kk.val + 14 < 64)
    (hw : WOk w W qh p fun _ _ => True) (h : CwOk st W ok) (ok' : ℕ → Prop) (hok : ∀ R < 64, ok' R → (∀ s < 8, R ≠ 32 * p + 16 * qh + kk.val + 2 * s) → ok R) :
    CwOk (Function.update st Buf.cw (Eval.put (rC (32 * p + 16 * qh + kk.val) hb) (st .cw) (shapeCast S8x128 (codeWord (w kk.val)) shapeCasts_S8x128_S8x128 : Vec Ideal S8x128 .i32))) W ok' := by
  intro R l hR b hb'
  rw [Function.update_self]
  have hk := kk.isLt
  by_cases e : ∃ s : Fin 8, R.val = 32 * p + 16 * qh + kk.val + 2 * s.val
  · obtain ⟨s, e⟩ := e
    have h1 := put_rC_hit (α := BitVec 32) _ hb (st .cw) (shapeCast S8x128 (codeWord (w kk.val)) shapeCasts_S8x128_S8x128) R s l e
    refine (iff_of_eq (congrArg (fun z : BitVec 32 => z.getLsbD b = true) (h1.trans (congrFun (castSelf (α := BitVec 32) _ _) _)))).trans ?_
    have hl := l.isLt
    have hs := s.isLt
    rw [codeWord_bit _ _ _ _ hb', hw kk.val hk _ _ _ (by omega)]
    dsimp only
    rw [half_cw hq hp hk hs hl hb', ← e]
    simp
  · have h1 := put_rC_miss (α := BitVec 32) _ hb (st .cw) (shapeCast S8x128 (codeWord (w kk.val)) shapeCasts_S8x128_S8x128) R l fun s hs e' => e ⟨⟨s, hs⟩, e'⟩
    refine (iff_of_eq (congrArg (fun z : BitVec 32 => z.getLsbD b = true) h1)).trans ?_
    exact h R l (hok _ R.isLt hR fun s hs e' => e ⟨⟨s, hs⟩, e'⟩) b hb'

/-- The signs of a quarter's half, stored. -/
theorem fwdSigns_val {st0 st : IState} {W : ℕ → ℝ} {sl : ℕ} {hs : sl < 9} {qh p h : ℕ} {hq : qh < 2} {hp : p < 2} {hh : h < 2} {y : ℕ → FVec Ideal S8x128 .f32} {w : ℕ → IVec S16x128 16}
    (hy : ∀ i < 32, R2 (y i) fun j l => W (placeY (8 * qh + j) p (128 * h + l) i))
    (hw : WOk w W qh p fun _ b => b % 2 < h)
    (ho : SOk st W sl fun cb r => r / 4 < qh ∨ r / 4 = qh ∧ (cb / 8 < p ∨ cb / 8 = p ∧ cb % 2 < h)) (hk : SKeep st0 st sl) :
    Eval.T (mems A S) defs 𝒱 c Ix Name U Lvl st (fwdSigns (Ideal.dial (F := Ideal) S hS) sl hs qh p h hq hp hh y w) fun w' st' => (WOk w' W qh p fun _ b => b % 2 < h + 1) ∧
      (SOk st' W sl fun cb r => r / 4 < qh ∨ r / 4 = qh ∧ (cb / 8 < p ∨ cb / 8 = p ∧ cb % 2 < h + 1)) ∧ SKeep st0 st' sl ∧ Same [.s] st st' := by
  refine T.mono (T.loop (J := fun n w st' => (WOk (w : ℕ → IVec S16x128 16) W qh p fun _ b => b % 2 < h ∨ b % 2 = h ∧ b % 8 / 2 < n) ∧ (SOk st' W sl fun cb r => r / 4 < qh ∨ r / 4 = qh ∧ (cb / 8 < p ∨ cb / 8 = p ∧ (cb % 2 < h ∨ cb % 2 = h ∧ cb % 8 / 2 < n))) ∧ SKeep st0 st' sl ∧ Same [.s] st st')
    ⟨hw.imp fun _ b _ => by omega, fun a b P q l ha hb => ho a b P q l ha (by omega), hk, .refl _ _⟩ ?_) fun _ st' h' => ⟨h'.1.imp fun _ b _ => by omega, fun a b P q l ha hb => h'.2.1 a b P q l ha (by omega), h'.2.2⟩
  rintro c w s1 ⟨hw1, ho1, hk1, hs1⟩
  refine T.mono (T.loop (J := fun n w st' => (WOk (w : ℕ → IVec S16x128 16) W qh p fun kk b => b % 2 < h ∨ b % 2 = h ∧ (b % 8 / 2 < c.val ∨ b % 8 / 2 = c.val ∧ 2 * kk + b / 8 < n)) ∧ (SOk st' W sl fun cb r => r / 4 < qh ∨ r / 4 = qh ∧ (cb / 8 < p ∨ cb / 8 = p ∧ (cb % 2 < h ∨ cb % 2 = h ∧ (cb % 8 / 2 < c.val ∨ cb % 8 / 2 = c.val ∧ r % 4 < n)))) ∧ SKeep st0 st' sl ∧ Same [.s] st st')
    ⟨hw1.imp fun kk b hkb => by omega, fun a b P q l ha hb => ho1 a b P q l ha (by omega), hk1, hs1⟩ ?_) fun _ st' h' => ⟨h'.1.imp fun kk b hkb => by omega, fun a b P q l ha hb => h'.2.1 a b P q l ha (by omega), h'.2.2⟩
  rintro kp w s2 ⟨hw2, ho2, hk2, hs2⟩
  have hcb : 2 * (c.val + 4 * p) + h < 16 := by omega
  have hr : 4 * qh + kp.val < 8 := by omega
  refine T.bind (Q := fun _ st' => (SOk st' W sl fun cb r => r / 4 < qh ∨ r / 4 = qh ∧ (cb / 8 < p ∨ cb / 8 = p ∧ (cb % 2 < h ∨ cb % 2 = h ∧ (cb % 8 / 2 < c.val ∨ cb % 8 / 2 = c.val ∧ r % 4 < kp.val + 1)))) ∧ SKeep st0 st' sl ∧ Same [.s] st st') ?_
    fun _ s3 h3 => T.ret ⟨wOk_step hh c kp _ (neg_pair hy hh c kp) hw2, h3⟩
  refine tl_s (te_s ⟨?_, ?_, hs2.trans (.upd _ _ _ (by simp))⟩)
  · intro a b P q l ha hok
    rw [Function.update_self]
    refine (put_rSr sl hs (⟨2 * (c.val + 4 * p) + h, hcb⟩ : Fin 16) (⟨4 * qh + kp.val, hr⟩ : Fin 8) _ _ a b P q l).trans ?_
    by_cases e : a.val = sl ∧ b = (⟨2 * (c.val + 4 * p) + h, hcb⟩ : Fin 16) ∧ P.val / 8 = (⟨4 * qh + kp.val, hr⟩ : Fin 8).val
    · rw [if_pos e]
      have e1 : b.val = 2 * (c.val + 4 * p) + h := congrArg Fin.val e.2.1
      have e2 : P.val / 8 = 4 * qh + kp.val := e.2.2
      refine (joinRows_apply _ _ _ _).trans (sign_apply _ _ _ ?_)
      refine (pack_apply _ _ _ _ _).trans ?_
      have hq2 : q = 0 ∨ q = 1 := by omega
      have e3 : P.val / 32 = qh := by omega
      rcases hq2 with rfl | rfl
      · refine (if_pos rfl).trans ((hy _ (by omega) _ _).trans (congrArg (fun z => ((W z : ℝ) : EReal)) ?_))
        unfold placeY prow
        simp only [e1, e2, e3]
        rw [show (4 * qh + kp.val) % 4 = kp.val by omega, show (8 * c.val + (4 * (kp.val / 2) + kp.val % 2)) % 8 = 4 * (kp.val / 2) + kp.val % 2 by omega,
          show (8 * c.val + (4 * (kp.val / 2) + kp.val % 2)) / 8 = c.val by omega]
        show _ = (64 * qh + 8 * (P.val % 8) + 4 * (kp.val / 2) + kp.val % 2 + 2 * 0) * 2048 + _
        ring
      · refine (if_neg (by decide)).trans ((hy _ (by omega) _ _).trans (congrArg (fun z => ((W z : ℝ) : EReal)) ?_))
        unfold placeY prow
        simp only [e1, e2, e3]
        rw [show (4 * qh + kp.val) % 4 = kp.val by omega, show (8 * c.val + (4 * (kp.val / 2) + kp.val % 2) + 2) % 8 = 4 * (kp.val / 2) + kp.val % 2 + 2 by omega,
          show (8 * c.val + (4 * (kp.val / 2) + kp.val % 2) + 2) / 8 = c.val by omega]
        show _ = (64 * qh + 8 * (P.val % 8) + 4 * (kp.val / 2) + kp.val % 2 + 2 * 1) * 2048 + _
        ring
    · rw [if_neg e]
      refine ho2 a b P q l ha ?_
      rcases hok with h1 | ⟨h1, h2 | ⟨h2, h3 | ⟨h3, h4 | ⟨h4, h5⟩⟩⟩⟩
      · exact .inl h1
      · exact .inr ⟨h1, .inl h2⟩
      · exact .inr ⟨h1, .inr ⟨h2, .inl h3⟩⟩
      · exact .inr ⟨h1, .inr ⟨h2, .inr ⟨h3, .inl h4⟩⟩⟩
      · refine .inr ⟨h1, .inr ⟨h2, .inr ⟨h3, .inr ⟨h4, ?_⟩⟩⟩⟩
        by_contra hn
        exact e ⟨ha, Fin.ext (by show b.val = 2 * (c.val + 4 * p) + h; omega), by show P.val / 8 = 4 * qh + kp.val; omega⟩
  · intro a b P q l ha
    rw [Function.update_self]
    refine (put_rSr sl hs (⟨2 * (c.val + 4 * p) + h, hcb⟩ : Fin 16) (⟨4 * qh + kp.val, hr⟩ : Fin 8) _ _ a b P q l).trans ?_
    rw [if_neg fun e => ha e.1]
    exact hk2 a b P q l ha

/-- The total after thirty-two vectors are added. -/
theorem tot_vec (a : ℕ → ℕ → ℝ) (f : ℕ → ℕ → ℕ → ℝ) :
    tot (fun j l => a j l + ∑ i ∈ Finset.range 32, f i j l) = tot a + ∑ i ∈ Finset.range 32, ∑ j ∈ Finset.range 8, ∑ l ∈ Finset.range 128, f i j l := by
  unfold tot
  simp only [Finset.sum_add_distrib]
  congr 1
  symm
  refine Finset.sum_comm.trans (Finset.sum_congr rfl fun j _ => Finset.sum_comm)

/-- A quarter of the second half. -/
theorem fwdQuarter_val {st0 st : IState} {G : ℕ → ℝ} {sg : ℕ → Bool} {sl : ℕ} {hs : sl < 9} {qh p : ℕ} {hq : qh < 2} {hp : p < 2} {acc : FVec Ideal S8x128 .f32} {a : ℕ → ℕ → ℝ}
    (hy : YOk st (colsOf G sg) fun _ _ => True) (ha : R2 acc a) (ho : SOk st (whole G sg) sl fun cb r => r / 4 < qh ∨ r / 4 = qh ∧ cb / 8 < p) (hk : SKeep st0 st sl)
    (hc : CwOk st (whole G sg) fun R => R / 16 % 2 < qh ∨ R / 16 % 2 = qh ∧ R / 32 < p) :
    Eval.T (mems A S) defs 𝒱 c Ix Name U Lvl st (fwdQuarter A (Ideal.dial (F := Ideal) S hS) sl hs qh p hq hp acc) fun b st' =>
      (∃ a', R2 b a' ∧ tot a' = tot a + ∑ h ∈ Finset.range 2, ∑ i ∈ Finset.range 32, ∑ j ∈ Finset.range 8, ∑ l ∈ Finset.range 128, |whole G sg (placeY (8 * qh + j) p (128 * h + l) i)|)
      ∧ (SOk st' (whole G sg) sl fun cb r => r / 4 < qh ∨ r / 4 = qh ∧ cb / 8 < p + 1) ∧ SKeep st0 st' sl ∧ (CwOk st' (whole G sg) fun R => R / 16 % 2 < qh ∨ R / 16 % 2 = qh ∧ R / 32 < p + 1) ∧ Same [.s, .cw] st st' := by
  refine T.bind (T.loop (J := fun n b st' => (WOk b.2 (whole G sg) qh p fun _ b => b % 2 < n) ∧
      (∃ a', R2 (φ := .f32) b.1 a' ∧ tot a' = tot a + ∑ h ∈ Finset.range n, ∑ i ∈ Finset.range 32, ∑ j ∈ Finset.range 8, ∑ l ∈ Finset.range 128, |whole G sg (placeY (8 * qh + j) p (128 * h + l) i)|)
      ∧ (SOk st' (whole G sg) sl fun cb r => r / 4 < qh ∨ r / 4 = qh ∧ (cb / 8 < p ∨ cb / 8 = p ∧ cb % 2 < n)) ∧ SKeep st0 st' sl ∧ Same [.s] st st')
    ⟨fun kk _ r l b _ => by simp, ⟨a, ha, by simp⟩, fun a b P q l ha hb => ho a b P q l ha (by omega), hk, .refl _ _⟩ ?_) ?_
  · rintro h ⟨b, w⟩ s1 ⟨hw1, ⟨a1, ha1, ht1⟩, ho1, hk1, hs1⟩
    refine T.bind (fwdLoad_val hp (V := colsOf G sg) (by unfold YOk; rw [hs1 .y (by simp)]; exact hy)) ?_
    rintro v s2 ⟨rfl, hv⟩
    have hl := last_val hp h.isLt v hv
    refine T.bind (fwdSigns_val hl hw1 ho1 hk1) ?_
    rintro w' s3 ⟨hw3, ho3, hk3, hs3⟩
    have hf := absFold (bfly 5 v) (fun i j l => whole G sg (placeY (8 * qh + j) p (128 * h + l) i)) 32 0 b a1 ha1 fun i _ h2 => hl i (by omega)
    refine T.ret ⟨hw3, ⟨_, hf, ?_⟩, ho3, hk3, hs1.trans hs3⟩
    rw [Finset.sum_range_succ _ h.val, ← add_assoc, ← ht1]
    refine (tot_vec a1 fun i j l => |whole G sg (placeY (8 * qh + j) p (128 * h + l) (0 + i))|).trans ?_
    simp only [Nat.zero_add]
  · rintro ⟨b, w⟩ s1 ⟨hw1, ⟨a1, ha1, ht1⟩, ho1, hk1, hs1⟩
    have hw : WOk w (whole G sg) qh p fun _ _ => True := hw1.imp fun _ b _ => iff_true_intro (by omega)
    have hc1 : CwOk s1 (whole G sg) fun R => R / 16 % 2 < qh ∨ R / 16 % 2 = qh ∧ R / 32 < p := by unfold CwOk; rw [hs1 .cw (by simp)]; exact hc
    refine T.bind (T.loop (J := fun n _ st' => (CwOk st' (whole G sg) fun R => R / 16 % 2 < qh ∨ R / 16 % 2 = qh ∧ (R / 32 < p ∨ R / 32 = p ∧ R % 2 < n)) ∧ Same [.cw] s1 st')
      ⟨fun R l hR => hc1 R l (by omega), .refl _ _⟩ ?_) fun _ s2 ⟨hc2, hs2⟩ => T.ret ⟨⟨a1, ha1, ht1⟩, ?_, ?_, fun R l hR => hc2 R l (by omega), (hs1.mono (by simp)).trans (hs2.mono (by simp))⟩
    · rintro kk - s ⟨hcs, hss⟩
      refine tl_cw (te_cw ⟨cwOk_step hq hp kk _ hw hcs _ fun R hR h1 h2 => ?_, hss.trans (.upd _ _ _ (by simp))⟩)
      by_contra h3
      exact h2 (R % 16 / 2) (by omega) (by omega)
    · intro a b P q l ha hb
      rw [hs2 .s (by simp)]
      exact ho1 a b P q l ha (by omega)
    · intro a b P q l ha
      rw [hs2 .s (by simp)]
      exact hk1 a b P q l ha

/-- The two sums' halves are real with totals `u` and `v`. -/
def Sums (st : IState) (u v : ℝ) : Prop := ∃ a d : ℕ → ℕ → ℝ, (∀ (j : Fin 8) (l : Fin 128), (st .acc (ix2 (⟨8 * 0 + j.val, by omega⟩ : Fin 16) l) : EReal) = ((a j.val l.val : ℝ) : EReal))
  ∧ (∀ (j : Fin 8) (l : Fin 128), (st .acc (ix2 (⟨8 * 1 + j.val, by omega⟩ : Fin 16) l) : EReal) = ((d j.val l.val : ℝ) : EReal)) ∧ tot a = u ∧ tot d = v

/-- Half of the codes written. -/
theorem fwdCode_val {st : IState} {W : ℕ → ℝ} {p : ℕ} {hp : p < 2} {hk} (hc : CwOk st W fun _ => True) (h : CodeOk st W fun cb => cb / 128 < p) :
    Eval.T (mems A S) defs 𝒱 c Ix Name U Lvl st (fwdCode (F := Ideal) A p hp hk) fun _ st' => (CodeOk st' W fun cb => cb / 128 < p + 1) ∧ Same [.code] st st' := by
  refine tl_cw (tl_code (te_code ⟨?_, .upd _ _ _ (by simp)⟩))
  intro r cb hcb k hk
  rw [Function.update_self]
  have h1 := put_rB (α := BitVec 8) p hp (st .code) (shapeCast S1x128x128 (bitcast S128x128 8 (fun x => st .cw ((rCh p hp).toLoadRect.idx x)) bitcasts_S32x128_w32_S128x128_w8) shapeCasts_S128x128_S1x128x128) r cb
  refine (iff_of_eq (congrArg (fun z : BitVec 8 => z.getLsbD k = true) h1)).trans ?_
  by_cases e : cb.val / 128 = p
  · rw [if_pos e]
    refine (iff_of_eq (congrArg (· = true) (bytes_bit (fun x => st .cw ((rCh p hp).toLoadRect.idx x)) r _ k hk))).trans ?_
    refine (iff_of_eq (congrArg (fun i => (show BitVec 32 from st .cw i).getLsbD (8 * (r.val % 4) + k) = true) (idx_rCh p hp (⟨r.val / 4, by omega⟩ : Fin 32) (⟨cb.val % 128, Nat.mod_lt _ (by decide)⟩ : Fin 128)))).trans ?_
    refine (hc _ _ trivial _ (by omega)).trans (iff_of_eq (congrArg (fun z => W z < 0) ?_))
    show cwPos (32 * p + r.val / 4) (cb.val % 128) (8 * (r.val % 4) + k) = _
    unfold cwPos
    have hr := r.isLt
    omega
  · rw [if_neg e]
    exact h r cb (by omega) k hk

/-- What the forward rotation does. -/
theorem forward_val {st : IState} {G : ℕ → ℝ} {sg : ℕ → Bool} {sl : ℕ} {hs : sl < 9} {u v : ℝ} (hin : Input st G sg) (hH : Had st) (hsum : Sums st u v) :
    Eval.T (mems A S) defs 𝒱 c Ix Name U Lvl st (forward A (Ideal.dial (F := Ideal) S hS) sl hs) fun _ st' =>
      Sums st' (u + ∑ p ∈ Finset.range (2 ^ 18), G p ^ 2) (v + ∑ p ∈ Finset.range (2 ^ 18), |whole G sg p|) ∧ Ring st st' G sg sl 16
      ∧ (SOk st' (whole G sg) sl fun _ _ => True) ∧ SKeep st st' sl ∧ (CodeOk st' (whole G sg) fun _ => True) ∧ Same [.g, .m, .y, .wq, .cw, .code, .acc, .s] st st' := by
  obtain ⟨a, d, ha, hd, rfl, rfl⟩ := hsum
  refine T.bind (fwdWords_val hin) ?_
  rintro - s1 ⟨hw, hs1⟩
  refine tl_acc ?_
  have ha' : R2 (φ := .f32) (fun x => s1 .acc ((rAh 0 (by decide)).toLoadRect.idx x) : FVec Ideal S8x128 .f32) a := fun j l => by
    show (s1 .acc ((rAh 0 (by decide)).toLoadRect.idx (ix2 j l)) : EReal) = _
    rw [idx_rAh, hs1 .acc (by simp)]; exact ha j l
  refine T.bind (fwdCols_val (hin.same hs1 (by simp) (by simp) (by simp)) hw (by unfold Had; rw [hs1 .h (by simp)]; exact hH) ha') ?_
  rintro p1 s2 ⟨⟨a1, ha1, ht1⟩, hr2, hy2, hs2⟩
  refine tl_acc (ts_acc (tl_acc ?_))
  obtain ⟨s3, e3⟩ : ∃ s3, s3 = Function.update s2 Buf.acc (Eval.put (rAh 0 (by decide)) (s2 .acc) (shapeCast S8x128 p1 shapeCasts_S8x128_S8x128)) := ⟨_, rfl⟩
  rw [← e3]
  have hs3 : Same [.acc] s2 s3 := by rw [e3]; exact .upd _ _ _ (by simp)
  have h3 : ∀ (k : Fin 2) (j : Fin 8) (l : Fin 128), (s3 .acc (ix2 (⟨8 * k.val + j.val, by omega⟩ : Fin 16) l) : EReal)
      = if k = 0 then ((a1 j.val l.val : ℝ) : EReal) else ((d j.val l.val : ℝ) : EReal) := by
    intro k j l
    rw [e3, Function.update_self, put_rAh]
    have hk2 : k = 0 ∨ k = 1 := by omega
    rcases hk2 with rfl | rfl
    · rw [if_pos (by show (8 * 0 + j.val) / 8 = 0; omega), if_pos rfl, castSelf (α := EReal)]
      refine (ha1 _ _).trans ?_
      show ((a1 ((8 * 0 + j.val) % 8) l.val : ℝ) : EReal) = _
      rw [show (8 * 0 + j.val) % 8 = j.val by omega]
    · rw [if_neg (by show ¬(8 * 1 + j.val) / 8 = 0; omega), if_neg (by decide), hs2 .acc (by simp), hs1 .acc (by simp)]
      exact hd j l
  have hd' : R2 (φ := .f32) (fun x => s3 .acc ((rAh 1 (by decide)).toLoadRect.idx x) : FVec Ideal S8x128 .f32) d := fun j l => by
    show (s3 .acc ((rAh 1 (by decide)).toLoadRect.idx (ix2 j l)) : EReal) = _
    rw [idx_rAh]; exact (h3 1 j l).trans (if_neg (by decide))
  refine T.bind (T.loop (J := fun n b st' =>
      (∃ a', R2 (φ := .f32) b a' ∧ tot a' = tot d + ∑ qh ∈ Finset.range n, ∑ p ∈ Finset.range 2, ∑ h ∈ Finset.range 2, ∑ i ∈ Finset.range 32, ∑ j ∈ Finset.range 8, ∑ l ∈ Finset.range 128, |whole G sg (placeY (8 * qh + j) p (128 * h + l) i)|)
      ∧ (SOk st' (whole G sg) sl fun cb r => r / 4 < n) ∧ SKeep s3 st' sl ∧ (CwOk st' (whole G sg) fun R => R / 16 % 2 < n) ∧ Same [.s, .cw] s3 st')
    ⟨⟨d, hd', by simp⟩, fun a b P q l _ hb => absurd hb (by omega), fun _ _ _ _ _ _ => rfl, fun R l hR => absurd hR (by omega), .refl _ _⟩ ?_) ?_
  · rintro qh b s4 ⟨⟨a4, ha4, ht4⟩, ho4, hk4, hc4, hs4⟩
    refine T.mono (T.loop (J := fun n b st' =>
        (∃ a', R2 (φ := .f32) b a' ∧ tot a' = tot a4 + ∑ p ∈ Finset.range n, ∑ h ∈ Finset.range 2, ∑ i ∈ Finset.range 32, ∑ j ∈ Finset.range 8, ∑ l ∈ Finset.range 128, |whole G sg (placeY (8 * qh.val + j) p (128 * h + l) i)|)
        ∧ (SOk st' (whole G sg) sl fun cb r => r / 4 < qh.val ∨ r / 4 = qh.val ∧ cb / 8 < n) ∧ SKeep s3 st' sl ∧ (CwOk st' (whole G sg) fun R => R / 16 % 2 < qh.val ∨ R / 16 % 2 = qh.val ∧ R / 32 < n) ∧ Same [.s, .cw] s3 st')
      ⟨⟨a4, ha4, by simp⟩, fun a b P q l ha hb => ho4 a b P q l ha (by omega), hk4, fun R l hR => hc4 R l (by omega), hs4⟩ ?_) ?_
    · rintro p b s5 ⟨⟨a5, ha5, ht5⟩, ho5, hk5, hc5, hs5⟩
      refine T.mono (fwdQuarter_val (by unfold YOk; rw [hs5 .y (by simp), hs3 .y (by simp)]; exact hy2) ha5 ho5 hk5 hc5) ?_
      rintro b s6 ⟨⟨a6, ha6, ht6⟩, ho6, hk6, hc6, hs6⟩
      exact ⟨⟨a6, ha6, by rw [ht6, ht5, Finset.sum_range_succ _ p.val, add_assoc]⟩, ho6, hk6, hc6, hs5.trans hs6⟩
    · rintro b s6 ⟨⟨a6, ha6, ht6⟩, ho6, hk6, hc6, hs6⟩
      exact ⟨⟨a6, ha6, by rw [ht6, ht4, Finset.sum_range_succ _ qh.val, add_assoc]⟩, fun a b P q l ha hb => ho6 a b P q l ha (by omega), hk6, fun R l hR => hc6 R l (by omega), hs6⟩
  rintro b1 s4 ⟨⟨d4, hd4, ht4⟩, ho4, hk4, hc4, hs4⟩
  refine tl_acc (ts_acc ?_)
  obtain ⟨s5, e5⟩ : ∃ s5, s5 = Function.update s4 Buf.acc (Eval.put (rAh 1 (by decide)) (s4 .acc) (shapeCast S8x128 b1 shapeCasts_S8x128_S8x128)) := ⟨_, rfl⟩
  rw [← e5]
  have hs5 : Same [.acc] s4 s5 := by rw [e5]; exact .upd _ _ _ (by simp)
  have h5 : ∀ (k : Fin 2) (j : Fin 8) (l : Fin 128), (s5 .acc (ix2 (⟨8 * k.val + j.val, by omega⟩ : Fin 16) l) : EReal)
      = if k = 0 then ((a1 j.val l.val : ℝ) : EReal) else ((d4 j.val l.val : ℝ) : EReal) := by
    intro k j l
    rw [e5, Function.update_self, put_rAh]
    have hk2 : k = 0 ∨ k = 1 := by omega
    rcases hk2 with rfl | rfl
    · rw [if_neg (by show ¬(8 * 0 + j.val) / 8 = 1; omega), if_pos rfl, hs4 .acc (by simp)]
      exact (h3 0 j l).trans (if_pos rfl)
    · rw [if_pos (by show (8 * 1 + j.val) / 8 = 1; omega), if_neg (by decide), castSelf (α := EReal)]
      refine (hd4 _ _).trans ?_
      show ((d4 ((8 * 1 + j.val) % 8) l.val : ℝ) : EReal) = _
      rw [show (8 * 1 + j.val) % 8 = j.val by omega]
  have hc5 : CwOk s5 (whole G sg) fun _ => True := by
    unfold CwOk; rw [hs5 .cw (by simp)]; exact fun R l _ => hc4 R l (by omega)
  refine T.bind (fwdCode_val hc5 fun r cb h => absurd h (by omega)) fun _ s6 ⟨hd6, hs6⟩ => T.mono (fwdCode_val (by unfold CwOk; rw [hs6 .cw (by simp)]; exact hc5) hd6) fun _ s7 ⟨hd7, hs7⟩ => ?_
  have h67 := hs6.trans hs7
  refine ⟨⟨a1, d4, fun j l => ?_, fun j l => ?_, ht1, ?_⟩, ?_, ?_, ?_, fun r cb _ => hd7 r cb (by have := cb.isLt; omega), ?_⟩
  · rw [h67 .acc (by simp)]; exact (h5 0 j l).trans (if_pos rfl)
  · rw [h67 .acc (by simp)]; exact (h5 1 j l).trans (if_neg (by decide))
  · rw [ht4, sum_vectors fun p => |whole G sg p|]
  · intro x b r l
    rw [h67 .g (by simp), hs5 .g (by simp), hs4 .g (by simp), hs3 .g (by simp), h67 .m (by simp), hs5 .m (by simp), hs4 .m (by simp), hs3 .m (by simp), ← hs1 .g (by simp), ← hs1 .m (by simp)]
    exact hr2 x b r l
  · intro a b P q l ha _
    rw [h67 .s (by simp), hs5 .s (by simp)]
    exact ho4 a b P q l ha (by omega)
  · intro a b P q l ha
    rw [h67 .s (by simp), hs5 .s (by simp), hk4 a b P q l ha, hs3 .s (by simp), hs2 .s (by simp), hs1 .s (by simp)]
  · exact (hs1.mono (by simp)).trans ((hs2.mono (by simp)).trans ((hs3.mono (by simp)).trans ((hs4.mono (by simp)).trans ((hs5.mono (by simp)).trans (h67.mono (by simp))))))

end Bit

end
-- ==== Proof.Scale.lean ====
/-
  The first point's matrices and the scale of a batch: what those two steps of the body leave.
-/
module

public import proofs.«01_k».proof.Proof.FwdTail
public import proofs.«01_k».proof.Proof.RefY

@[expose] public section

noncomputable section

namespace Bit

open Idealize.ShloMosaic Idealize.ShloMosaic.TcCoe
open Idealize.SL Idealize.SL.RA Idealize.SL.BI Idealize.SL.Sem
open Cert.KernelIdeal Cert.KernelIdeal.Facts₀ Cert.KernelIdeal.Facts
open Bit.Eval

variable [Cert.KernelIdeal.Facts]
variable {A : Args sig} {S : Memref sig .tc .vmem S9x16x64x2x128 .bf16} {hS : S.IsWhole}
variable {defs : Defs nD τ sig (Elt Ideal) Λ₀} {𝒱 : Variants} {c : Dev nD}
variable {Ix : Type} [DecidableEq Ix] {Name : Type} [DecidableEq Name] {U : Type} [URA U] {Lvl : Type} [Preorder Lvl]

/-- The row, with the half in bit 7, that column `k` of the row matrix stands for. -/
def colRow (k : ℕ) : ℕ := 128 * (k / 128) + prow (k % 128 / 2) (k % 128 % 2)

/-- A row number below 256 is its bit 7 and its lower bits together. -/
theorem row_word : ∀ n < 256, (BitVec.ofNat 32 n &&& 128#32) + (BitVec.ofNat 32 n &&& 127#32) = BitVec.ofNat 32 n := by decide +kernel

/-- The words of `colRow`. -/
def colWord (w : BitVec 32) : BitVec 32 :=
  let k := w &&& 127#32
  let k4 := IntOp.shrsi .vector k 4#32
  let kp := k4 &&& 3#32
  (w &&& 128#32) + (64#32 * IntOp.shrsi .vector k4 2#32 + 8#32 * (IntOp.shrsi .vector k 1#32 &&& 7#32) + 4#32 * IntOp.shrsi .vector kp 1#32 + (kp &&& 1#32) + 2#32 * (k &&& 1#32))

/-- The word of a column is the row it stands for. -/
theorem col_word : ∀ n < 256, colWord (BitVec.ofNat 32 n) = BitVec.ofNat 32 (colRow n) := by decide +kernel

/-- The row matrix: a Hadamard matrix with its columns in the order of the stored signs. -/
theorem hrMat_real : R2 (hrMat (F := Ideal)) fun i j => had 8 i (colRow j) :=
  hsign_real _ _ (fun i _ => i) (fun _ j => colRow j)
    (fun i j => by
      have e : hRow (ix2 i j) = BitVec.ofNat 32 i.val := by rw [show hRow (ix2 i j) = _ from iota_apply _ _ _ _]; simp
      show (hRow (ix2 i j) &&& 128#32) + (hRow (ix2 i j) &&& 127#32) = _
      rw [e, row_word _ i.isLt])
    (fun i j => by
      have e : hCol (ix2 i j) = BitVec.ofNat 32 j.val := by rw [show hCol (ix2 i j) = _ from iota_apply _ _ _ _]; simp
      show colWord (hCol (ix2 i j)) = _
      rw [e, col_word _ j.isLt]) fun i _ => i.isLt

/-- The scratch row matrix is that matrix. -/
def HadR (st : IState) : Prop := ∀ i j : Fin 256, (st .hr (ix2 i j) : EReal) = ((had 8 i.val (colRow j.val) : ℝ) : EReal)

/-- An accumulator of zeros holds two sums of zero. -/
theorem zero_sums (s : IState) (x : S16x128.Idx → EReal) (hx : ∀ i, x i = 0) (e : s .acc = x) : Sums s 0 0 :=
  ⟨fun _ _ => 0, fun _ _ => 0, fun j l => by rw [e, hx]; rfl, fun j l => by rw [e, hx]; rfl, by simp [tot], by simp [tot]⟩

/-- The sums set to zero. -/
theorem zeroAcc_val {st : IState} : Eval.T (mems A S) defs 𝒱 c Ix Name U Lvl st (zeroAcc (F := Ideal) A) fun _ st' => Sums st' 0 0 ∧ Same [.acc] st st' :=
  tl_acc (te_acc ⟨zero_sums _ _ (fun i => Ideal.ofBits_zero_f32) (by
    rw [Function.update_self]
    exact (put_rAcc _ _).trans (castSelf _ _)), .upd _ _ _ (by simp)⟩)

/-- What the first point sets up. -/
theorem init_val {st : IState} : Eval.T (mems A S) defs 𝒱 c Ix Name U Lvl st (init (F := Ideal) A) fun _ st' => Had st' ∧ HadR st' ∧ Sums st' 0 0 ∧ Same [.h, .hr, .acc] st st' := by
  refine tl_h (ts_h (tl_hr (ts_hr ?_)))
  refine T.mono zeroAcc_val fun _ s2 h2 => ⟨fun i j => ?_, fun i j => ?_, h2.1, ?_⟩
  · rw [h2.2 .h (by simp), Function.update_of_ne (by decide), Function.update_self]
    refine (congrFun ((put_rH _ _).trans (castSelf _ _)) (ix2 i j)).trans (hMat_real i j)
  · rw [h2.2 .hr (by simp), Function.update_self]
    refine (congrFun ((put_rH _ _).trans (castSelf _ _)) (ix2 i j)).trans (hrMat_real i j)
  · exact ((Same.upd st .h _ (by simp)).trans (Same.upd _ .hr _ (by simp))).trans (h2.2.mono (by simp))

/-- The total of an eight-row block, as the kernel computes it. -/
theorem sum8_real (v : FVec Ideal S8x128 .f32) (a : ℕ → ℕ → ℝ) (hv : R2 v a) (i : S1x1.Idx) : (sum8 v i : EReal) = ((tot a : ℝ) : EReal) := by
  have e : (sum8 v i : EReal) = ∑ j : Fin 8, ∑ l : Fin 128, ((a j.val l.val : ℝ) : EReal) := by
    refine (shapeCast_apply _ _ _ (ix1 (0 : Fin 1)) (by rfl)).trans ?_
    refine (Ideal.reduceAdd_r3_a12 reduces_S1x8x128_S1 (shapeCast S1x8x128 v shapeCasts_S8x128_S1x8x128) (ix1 (0 : Fin 1))).trans ?_
    exact Finset.sum_congr rfl fun j _ => Finset.sum_congr rfl fun l _ => (cast8 (α := EReal) _ _ j l).trans (hv j l)
  rw [e]
  simp only [coe_sum]
  unfold tot
  simp only [Finset.sum_range]

/-- The scale from its two sums. -/
def scaleVal (u v : ℝ) : EReal := Ideal.div ((u : ℝ) : EReal) ((1 / 512 * v : ℝ) : EReal)

/-- The scale computed from two real sums is the real scale. -/
theorem scaleOf_real (num den : FVec Ideal S8x128 .f32) (a d : ℕ → ℕ → ℝ) (ha : R2 num a) (hd : R2 den d) (i : S1x1.Idx) : (scaleOf num den i : EReal) = scaleVal (tot a) (tot d) := by
  show Ideal.div (sum8 num i : EReal) (Ideal.ofBits .f32 0x3B000000#32 * (sum8 den i : EReal)) = _
  rw [sum8_real num a ha, sum8_real den d hd, norm_const, ← EReal.coe_mul]
  rfl

/-- What the scale's step leaves. -/
theorem scaleStep_val {st : IState} {u v : ℝ} {off : Fin 1 → ℕ} {ho : ∀ a, off a + S1.size a ≤ S8.size a} (hsum : Sums st u v) :
    Eval.T (mems A S) defs 𝒱 c Ix Name U Lvl st (scaleStep (F := Ideal) A off ho) fun _ st' => Sums st' 0 0
      ∧ (∀ b : Fin 8, (st' .scale (ix1 b) : EReal) = if b.val = off 0 then scaleVal u v else (st .scale (ix1 b) : EReal))
      ∧ (∀ (j : Fin 8) (l : Fin 128), (st' .sc (ix2 j l) : EReal) = scaleVal u v * ((1 / 512 : ℝ) : EReal)) ∧ Same [.acc, .sc, .scale] st st' := by
  obtain ⟨a, d, ha, hd, rfl, rfl⟩ := hsum
  have ha' : R2 (φ := .f32) (fun x => st .acc ((rAh 0 (by decide)).toLoadRect.idx x) : FVec Ideal S8x128 .f32) a := fun j l => by
    show (st .acc ((rAh 0 (by decide)).toLoadRect.idx (ix2 j l)) : EReal) = _
    rw [idx_rAh]; exact ha j l
  have hd' : R2 (φ := .f32) (fun x => st .acc ((rAh 1 (by decide)).toLoadRect.idx x) : FVec Ideal S8x128 .f32) d := fun j l => by
    show (st .acc ((rAh 1 (by decide)).toLoadRect.idx (ix2 j l)) : EReal) = _
    rw [idx_rAh]; exact hd j l
  have hsc := scaleOf_real _ _ a d ha' hd'
  refine tl_acc (tl_acc (tl_sc (ts_sc (tl_scale (ts_scale ?_)))))
  refine T.mono zeroAcc_val fun _ s2 h2 => ⟨h2.1, fun b => ?_, fun j l => ?_, ?_⟩
  · rw [h2.2 .scale (by simp), Function.update_self]
    by_cases e : b.val = off 0
    · rw [if_pos e]
      refine (put_hit (Rect.unit (s := S8) off S1.size ho) _ _ (ix1 b) (ix1 (0 : Fin 1)) fun a => ?_).trans (hsc _)
      fin_cases a
      show b.val = off 0 + 1 * 0
      omega
    · rw [if_neg e]
      refine (put_miss (Rect.unit (s := S8) off S1.size ho) _ _ (ix1 b) fun j => ⟨0, ?_⟩).trans (by rw [Function.update_of_ne (by decide)])
      have hj : (j 0).val < 1 := (j 0).isLt
      show b.val ≠ off 0 + 1 * (j 0).val
      omega
  · rw [h2.2 .sc (by simp), Function.update_of_ne (by decide), Function.update_self]
    refine (congrFun ((put_rSc _ _).trans (castSelf _ _)) (ix2 j l)).trans ?_
    refine (broadcastTo_apply _ _ _ (ix2 (0 : Fin 1) (0 : Fin 1)) (by intro x; fin_cases x <;> rfl)).trans ?_
    refine (congrFun (castSelf _ _) _).trans ?_
    refine (congrArg₂ (fun x y : EReal => x * y) (hsc _) norm_const)
  · exact ((Same.upd st .sc _ (by simp)).trans (Same.upd _ .scale _ (by simp))).trans (h2.2.mono (by simp))

end Bit

end
-- ==== Proof.Inverse.lean ====
/-
  The inverse rotation at a grid point: what its two outputs are.
-/
module

public import proofs.«01_k».proof.Proof.Scale

@[expose] public section

noncomputable section

namespace Bit

open Idealize.ShloMosaic Idealize.ShloMosaic.TcCoe
open Idealize.SL Idealize.SL.RA Idealize.SL.BI Idealize.SL.Sem
open Cert.KernelIdeal Cert.KernelIdeal.Facts₀ Cert.KernelIdeal.Facts
open Bit.Eval

variable [Cert.KernelIdeal.Facts]
variable {A : Args sig} {S : Memref sig .tc .vmem S9x16x64x2x128 .bf16} {hS : S.IsWhole}
variable {defs : Defs nD τ sig (Elt Ideal) Λ₀} {𝒱 : Variants} {c : Dev nD}
variable {Ix : Type} [DecidableEq Ix] {Name : Type} [DecidableEq Name] {U : Type} [URA U] {Lvl : Type} [Preorder Lvl]

/-- The column that stands for row `n`. -/
def rowCol (n : ℕ) : ℕ := 128 * (n / 128) + 64 * (n / 64 % 2) + 32 * (n / 4 % 2) + 16 * (n % 2) + 2 * (n / 8 % 8) + n / 2 % 2

/-- The two column orders undo each other, within 256. -/
theorem colRow_perm : ∀ n < 256, rowCol n < 256 ∧ colRow n < 256 ∧ colRow (rowCol n) = n ∧ rowCol (colRow n) = n := by decide +kernel

/-- A sum over the columns is a sum over the rows they stand for. -/
theorem sum_colRow (f : ℕ → ℝ) : ∑ k ∈ Finset.range 256, f (colRow k) = ∑ n ∈ Finset.range 256, f n :=
  Finset.sum_nbij' colRow rowCol (fun k hk => Finset.mem_range.mpr (colRow_perm k (Finset.mem_range.mp hk)).2.1) (fun k hk => Finset.mem_range.mpr (colRow_perm k (Finset.mem_range.mp hk)).1)
    (fun k hk => (colRow_perm k (Finset.mem_range.mp hk)).2.2.2) (fun k hk => (colRow_perm k (Finset.mem_range.mp hk)).2.2.1) fun _ _ => rfl

/-- The stored rows in order. -/
theorem readRows_apply (raw : FVec Ideal S1x1x64x2x128 .bf16) (r l : Fin 128) :
    Ideal.readRows raw (ix2 r l) = raw (ix5 (0 : Fin 1) (0 : Fin 1) (⟨r.val / 2, by omega⟩ : Fin 64) (⟨r.val % 2, by omega⟩ : Fin 2) l) := by
  unfold Ideal.readRows
  rw [interleaveRows_apply]
  have hc : ∀ (z : FVec Ideal S1x1x64x1x128 .bf16) (i : S64x128.Idx), i = ix2 (⟨r.val / 2, by omega⟩ : Fin 64) l →
      shapeCast S64x128 (shapeCast S1x1x64x128 z shapeCasts_S1x1x64x1x128_S1x1x64x128) shapeCasts_S1x1x64x128_S64x128 i = z (ix5 (0 : Fin 1) (0 : Fin 1) (⟨r.val / 2, by omega⟩ : Fin 64) (0 : Fin 1) l) := by
    rintro z i rfl
    refine (shapeCast_apply _ _ _ (ix4 (0 : Fin 1) (0 : Fin 1) (⟨r.val / 2, by omega⟩ : Fin 64) l) (by simp [rowMajor_val2, rowMajor_val4])).trans ?_
    exact shapeCast_apply _ _ _ _ (by simp [rowMajor_val4, rowMajor_val5])
  by_cases h : r.val % 2 = 0
  · refine (if_pos (show r.val % 2 = 0 from h)).trans ((hc _ _ ?_).trans ((rowsOfParity_apply _ _ _ _).trans (congrArg raw ?_)))
    · funext a; apply Fin.ext; fin_cases a <;> rfl
    · funext a; apply Fin.ext; fin_cases a <;> first | rfl | (show 2 * 0 + 0 = r.val % 2; omega)
  · refine (if_neg (show ¬r.val % 2 = 0 from h)).trans ((hc _ _ ?_).trans ((rowsOfParity_apply _ _ _ _).trans (congrArg raw ?_)))
    · funext a; apply Fin.ext; fin_cases a <;> rfl
    · funext a; apply Fin.ext; fin_cases a <;> first | rfl | (show 2 * 0 + 1 = r.val % 2; omega)

/-- A format's vector of reals, by rows in the stored order. -/
abbrev RP {b : ℕ} {φ : FTy} (x : FVec Ideal ⟨2, ![128, b]⟩ φ) (f : ℕ → ℕ → ℝ) : Prop := R2 x fun k l => f (prow (k / 2) (k % 2)) l

/-- A column block of stored signs. -/
theorem ldS_val {st : IState} {W : ℕ → ℝ} {sl : ℕ} {hs : sl < 9} {cb : Fin 16} (ho : SOk st W sl fun _ _ => True) :
    Eval.T (mems A S) defs 𝒱 c Ix Name U Lvl st ((Ideal.dial (F := Ideal) S hS).ldS sl hs cb) fun v st' => st' = st ∧ RP v fun r l => sgnS (W (r * 2048 + (128 * cb.val + l))) := by
  show Eval.T (mems A S) defs 𝒱 c Ix Name U Lvl st (ld (F := Ideal) S (Ideal.rSg sl hs cb).toLoadRect h_S1x1x64x2x128 >>= fun raw => pure (Ideal.readRows (F := Ideal) raw)) _
  refine tl_s (T.ret ⟨rfl, ?_⟩)
  intro r l
  refine (readRows_apply _ r l).trans ?_
  show (st .s ((Ideal.rSg sl hs cb).toLoadRect.idx _) : EReal) = _
  rw [idx_rSg]
  exact ho _ _ _ _ _ rfl trivial

/-- Two column blocks of stored signs. -/
theorem ldS2_val {st : IState} {W : ℕ → ℝ} {sl : ℕ} {hs : sl < 9} {cc : ℕ} {hc : cc < 8} (ho : SOk st W sl fun _ _ => True) :
    Eval.T (mems A S) defs 𝒱 c Ix Name U Lvl st (ldS2 (Ideal.dial (F := Ideal) S hS) sl hs cc hc) fun v st' => st' = st ∧ RP v fun r l => sgnS (W (r * 2048 + (256 * cc + l))) := by
  refine T.bind (ldS_val ho) ?_
  rintro a s ⟨rfl, ha⟩
  refine T.bind (ldS_val ho) ?_
  rintro b s ⟨rfl, hb⟩
  refine T.ret ⟨rfl, ?_⟩
  intro r l
  rw [cat2_apply]
  split
  · refine (ha _ _).trans (congrArg (fun z : ℝ => (z : EReal)) (congrArg (fun z => sgnS (W z)) ?_))
    show _ * 2048 + (128 * (2 * cc) + l.val) = _
    omega
  · refine (hb _ _).trans (congrArg (fun z : ℝ => (z : EReal)) (congrArg (fun z => sgnS (W z)) ?_))
    show _ * 2048 + (128 * (2 * cc + 1) + (l.val - 128)) = _
    omega

/-- The row transform of two stacked blocks. -/
theorem rowDot_real (hr : FVec Ideal S256x256 .bf16) (lo hi : FVec Ideal S128x256 .bf16) (f g : ℕ → ℕ → ℝ) (hh : R2 hr fun i j => had 8 i (colRow j)) (hl : RP lo f) (hg : RP hi g) :
    R2 (rowDot hr lo hi) fun i l => wht (List.range 8) (fun n => if n < 128 then f n l else g (n - 128) l) i := by
  intro i l
  have hcat : ∀ k : Fin 256, (concatenate S256x256 0 [⟨S128x256, lo⟩, ⟨S128x256, hi⟩] concatenates_S128x256_S128x256_S256x256_d0 (ix2 k l) : EReal)
      = (((fun n => if n < 128 then f n l.val else g (n - 128) l.val) (colRow k.val) : ℝ) : EReal) := by
    intro k
    rw [concatenate_pair_apply]
    have hp : prow (k.val % 128 / 2) (k.val % 128 % 2) < 128 := by unfold prow; omega
    split
    · rename_i h
      have h : k.val < 128 := h
      refine Eq.trans (congrArg lo ?_) ((hl (⟨k.val, h⟩ : Fin 128) l).trans ?_)
      · funext x; fin_cases x <;> rfl
      · have e : colRow k.val = prow (k.val / 2) (k.val % 2) := by
          unfold colRow; rw [show k.val / 128 = 0 by omega, show k.val % 128 = k.val by omega]; omega
        rw [Nat.mod_eq_of_lt h] at hp
        simp only [e, if_pos hp]
    · rename_i h
      have h : ¬k.val < 128 := h
      refine Eq.trans (congrArg hi ?_) ((hg (⟨k.val - 128, by omega⟩ : Fin 128) l).trans ?_)
      · funext x; fin_cases x <;> rfl
      · have e : colRow k.val = 128 + prow ((k.val - 128) / 2) ((k.val - 128) % 2) := by
          unfold colRow; rw [show k.val / 128 = 1 by omega, show k.val % 128 = k.val - 128 by omega]
        simp only [e]
        rw [if_neg (by omega), show 128 + prow ((k.val - 128) / 2) ((k.val - 128) % 2) - 128 = prow ((k.val - 128) / 2) ((k.val - 128) % 2) by omega]
  have e : rowDot hr lo hi (ix2 i l) = constant (F := Ideal) S256x256 .f32 0x00000000#32 (ix2 i l) + ∑ k : Fin 256, hr (ix2 i k) * concatenate S256x256 0 [⟨S128x256, lo⟩, ⟨S128x256, hi⟩] concatenates_S128x256_S128x256_S256x256_d0 (ix2 k l) :=
    Ideal.matmul_plain_apply none hr _ _ i l
  have z : (constant (F := Ideal) S256x256 .f32 0x00000000#32 (ix2 i l) : EReal) = 0 := Ideal.ofBits_zero_f32
  rw [e, z, zero_add]
  show _ = ((wht (List.range 8) (fun n => if n < 128 then f n l.val else g (n - 128) l.val) i.val : ℝ) : EReal)
  rw [wht_range]
  have hi' : i.val / 2 ^ 8 = 0 := Nat.div_eq_of_lt i.isLt
  simp only [hi', Nat.zero_mul, Nat.zero_add]
  rw [Finset.sum_congr rfl (g := fun k : Fin 256 => (((fun n => had 8 i.val n * (if n < 128 then f n l.val else g (n - 128) l.val)) (colRow k.val) : ℝ) : EReal)) fun k _ => by rw [hcat, hh, ← EReal.coe_mul], coe_sum]
  refine congrArg (fun z : ℝ => (z : EReal)) ?_
  rw [← Finset.sum_range (fun k => (fun n => had 8 i.val n * (if n < 128 then f n l.val else g (n - 128) l.val)) (colRow k)), sum_colRow fun n => had 8 i.val n * (if n < 128 then f n l.val else g (n - 128) l.val)]
  exact Finset.sum_congr rfl fun n _ => by rw [had_comm]

/-- Where a row of the stacked blocks lies in the bucket. -/
def stackPos (base n : ℕ) : ℕ := (n % 128) * 2048 + 1024 * (n / 128) + base
/-- The bucket's bit that a bit of the stacked row is. -/
def stackBit (b : ℕ) : ℕ := if b < 7 then b + 11 else 10

/-- The bits of an index are those of its place in the stack, under `stackBit`. -/
theorem stack_bits (base : ℕ) (hb : base < 1024) (b : ℕ) (hb8 : b < 8) (i : ℕ) (hi : i < 256) : (stackPos base i).testBit (stackBit b) = i.testBit b := by
  unfold stackBit
  split
  · rename_i h
    have e : stackPos base i / 2 ^ 11 = i % 2 ^ 7 := by unfold stackPos; norm_num; omega
    rw [← Nat.testBit_div_two_pow, e, Nat.testBit_mod_two_pow, decide_eq_true h, Bool.true_and]
  · have e : b = 7 := by omega
    subst e
    rw [Nat.testBit_eq_decide_div_mod_eq, Nat.testBit_eq_decide_div_mod_eq]
    refine decide_eq_decide.mpr ?_
    unfold stackPos; norm_num; omega

/-- Setting a bit of the index sets the corresponding bit of the place in the stack. -/
theorem stack_step (base : ℕ) (b : ℕ) (hb8 : b < 8) (i : ℕ) (hi : i < 256) (h0 : i.testBit b = false) : stackPos base (i + 2 ^ b) = stackPos base i + 2 ^ stackBit b := by
  rw [Nat.testBit_eq_decide_div_mod_eq] at h0
  have := of_decide_eq_false h0
  unfold stackPos stackBit
  interval_cases b <;> norm_num at * <;> omega

/-- The rows' stages, with bit 10, of a column block. -/
theorem inv_stage (Z : ℕ → ℝ) (base : ℕ) (hb : base < 1024) (g : ℕ → ℝ) (hg : ∀ n < 256, g n = Z (stackPos base n)) (n : ℕ) (hn : n < 256) :
    wht (List.range 8) g n = wht [11, 12, 13, 14, 15, 16, 17, 10] Z (stackPos base n) :=
  wht_reindex 8 (stackPos base) stackBit Z (stack_bits base hb) (stack_step base) (List.range 8) (fun b hb => List.mem_range.mp hb) g Z hg n hn

/-- The inverse's stages are the whole transform. -/
theorem inv_order (Z : ℕ → ℝ) : rstage 8 (wht (List.range 8) (wht [11, 12, 13, 14, 15, 16, 17, 10] (rstage 9 Z))) = wht (List.range 18) Z := by
  have h : rstage 8 (wht (List.range 8) (wht [11, 12, 13, 14, 15, 16, 17, 10] (rstage 9 Z))) = wht ([9] ++ ([11, 12, 13, 14, 15, 16, 17, 10] ++ (List.range 8 ++ [8]))) Z := by
    rw [wht_append, wht_append, wht_append]; rfl
  rw [h]
  exact wht_perm (by decide) Z

/-- The stages on the low eight bits of a block's row. -/
theorem cols_apply (V : ℕ → ℝ) (r cc l : ℕ) (hl : l < 2 ^ 8) :
    wht (List.range 8) (fun l => V (r * 2048 + (256 * cc + l))) l = wht (List.range 8) V (r * 2048 + (256 * cc + l)) := by
  have := cols_stage V (r * 8 + cc) l hl
  have e : ∀ l, r * 2048 + (256 * cc + l) = (r * 8 + cc) * 256 + l := fun l => by ring
  simp only [e]
  exact this

/-- The first 128 rows, read at an index. -/
theorem top_apply (v : FVec Ideal S256x256 .f32) (r : Fin 128) (l : Fin 256) : topRows v (ix2 r l) = v (ix2 (⟨r.val, by omega⟩ : Fin 256) l) :=
  extractStridedSlice_apply _ _ _ _ _ (by intro a; fin_cases a <;> simp)
/-- The last 128 rows, read at an index. -/
theorem bot_apply (v : FVec Ideal S256x256 .f32) (r : Fin 128) (l : Fin 256) : botRows v (ix2 r l) = v (ix2 (⟨128 + r.val, by omega⟩ : Fin 256) l) :=
  extractStridedSlice_apply _ _ _ _ _ (by intro a; fin_cases a <;> simp)

/-- A stacked pair of column blocks after the row transform, its bit 9 taken first. -/
theorem inv_pair (Z : ℕ → ℝ) (d j : ℕ) (hd : d < 2) (hj : j < 2) (hr : FVec Ideal S256x256 .bf16) (lo hi : FVec Ideal S128x256 .bf16) (hh : R2 hr fun i j => had 8 i (colRow j))
    (hl : RP lo fun r l => rstage 9 Z (r * 2048 + (256 * (j + 2 * d) + l))) (hg : RP hi fun r l => rstage 9 Z (r * 2048 + (256 * (j + 2 * d + 4) + l))) :
    (R2 (topRows (rowDot hr lo hi)) fun r l => wht [11, 12, 13, 14, 15, 16, 17, 10] (rstage 9 Z) (r * 2048 + (256 * (j + 2 * d) + l)))
    ∧ (R2 (botRows (rowDot hr lo hi)) fun r l => wht [11, 12, 13, 14, 15, 16, 17, 10] (rstage 9 Z) (r * 2048 + (256 * (j + 2 * d + 4) + l))) := by
  have hdot := rowDot_real hr lo hi _ _ hh hl hg
  have hs : ∀ (l : Fin 256) (n : ℕ), n < 256 → wht (List.range 8) (fun n => if n < 128 then rstage 9 Z (n * 2048 + (256 * (j + 2 * d) + l.val)) else rstage 9 Z ((n - 128) * 2048 + (256 * (j + 2 * d + 4) + l.val))) n
      = wht [11, 12, 13, 14, 15, 16, 17, 10] (rstage 9 Z) (stackPos (256 * (j + 2 * d) + l.val) n) := fun l n hn =>
    inv_stage (rstage 9 Z) (256 * (j + 2 * d) + l.val) (by have := l.isLt; omega) _ (fun n hn => by
      unfold stackPos
      split
      · refine congrArg _ ?_; omega
      · refine congrArg _ ?_; omega) n hn
  constructor
  · intro r l
    refine (top_apply _ r l).trans ((hdot _ l).trans (congrArg (fun z : ℝ => (z : EReal)) ((hs l r.val (by omega)).trans (congrArg _ ?_))))
    unfold stackPos; have := r.isLt; omega
  · intro r l
    refine (bot_apply _ r l).trans ((hdot _ l).trans (congrArg (fun z : ℝ => (z : EReal)) ((hs l (128 + r.val) (by omega)).trans (congrArg _ ?_))))
    unfold stackPos; have := r.isLt; omega

/-- Bit 9 by division. -/
theorem bit9 (x : ℕ) : x.testBit 9 = decide (x / 512 % 2 = 1) := by rw [Nat.testBit_eq_decide_div_mod_eq]
/-- Bit 8 by division. -/
theorem bit8 (x : ℕ) : x.testBit 8 = decide (x / 256 % 2 = 1) := by rw [Nat.testBit_eq_decide_div_mod_eq]

/-- The sum and the difference of two blocks of signs. -/
theorem addP (Z : ℕ → ℝ) (j : ℕ) (hj : j % 4 < 2) (a b : FVec Ideal S128x256 .bf16) (ha : RP a fun r l => Z (r * 2048 + (256 * j + l))) (hb : RP b fun r l => Z (r * 2048 + (256 * (j + 2) + l))) :
    (RP (addf a b) fun r l => rstage 9 Z (r * 2048 + (256 * j + l))) ∧ (RP (subf a b) fun r l => rstage 9 Z (r * 2048 + (256 * (j + 2) + l))) := by
  constructor
  · intro k l
    have hl := l.isLt
    show (a (ix2 k l) : EReal) + b (ix2 k l) = _
    rw [ha, hb, ← EReal.coe_add]
    refine congrArg (fun z : ℝ => (z : EReal)) ?_
    unfold rstage
    dsimp only
    rw [if_neg (by rw [bit9]; exact fun h => absurd (of_decide_eq_true h) (by omega))]
    congr 2; ring
  · intro k l
    have hl := l.isLt
    show (a (ix2 k l) : EReal) - b (ix2 k l) = _
    rw [ha, hb, ← EReal.coe_sub]
    refine congrArg (fun z : ℝ => (z : EReal)) ?_
    unfold rstage
    dsimp only
    rw [if_pos (by rw [bit9]; exact decide_eq_true (by omega))]
    congr 2; norm_num; omega

/-- The column blocks after the row transform. -/
theorem invRows_val {st : IState} {W : ℕ → ℝ} {sl : ℕ} {hs : sl < 9} {hr : FVec Ideal S256x256 .bf16} (hh : R2 hr fun i j => had 8 i (colRow j)) (ho : SOk st W sl fun _ _ => True) :
    Eval.T (mems A S) defs 𝒱 c Ix Name U Lvl st (invRows (Ideal.dial (F := Ideal) S hS) hr sl hs) fun p st' => st' = st ∧ ∀ i < 8, R2 (p i) fun r l => wht [11, 12, 13, 14, 15, 16, 17, 10] (rstage 9 fun x => sgnS (W x)) (r * 2048 + (256 * i + l)) := by
  refine T.mono (T.loop (J := fun n (p : ℕ → FVec Ideal S128x256 .f32) st' => st' = st ∧ ∀ i < 8, i % 2 < n → R2 (p i) fun r l => wht [11, 12, 13, 14, 15, 16, 17, 10] (rstage 9 fun x => sgnS (W x)) (r * 2048 + (256 * i + l)))
    ⟨rfl, fun i _ h => absurd h (Nat.not_lt_zero _)⟩ ?_) fun p st' h => ⟨h.1, fun i hi => h.2 i hi (Nat.mod_lt _ (by decide))⟩
  rintro j p s ⟨rfl, hp⟩
  refine T.bind (ldS2_val ho) ?_
  rintro lo0 s ⟨rfl, h0⟩
  refine T.bind (ldS2_val ho) ?_
  rintro lo1 s ⟨rfl, h1⟩
  refine T.bind (ldS2_val ho) ?_
  rintro hi0 s ⟨rfl, h2⟩
  refine T.bind (ldS2_val ho) ?_
  rintro hi1 s ⟨rfl, h3⟩
  have hj := j.isLt
  have hlo := addP (fun x => sgnS (W x)) j.val (by omega) lo0 lo1 h0 h1
  have hhi := addP (fun x => sgnS (W x)) (j.val + 4) (by omega) hi0 hi1 h2 h3
  have p0 := inv_pair (fun x => sgnS (W x)) 0 j.val (by decide) hj hr (addf lo0 lo1) (addf hi0 hi1) hh hlo.1 hhi.1
  have p1 := inv_pair (fun x => sgnS (W x)) 1 j.val (by decide) hj hr (subf lo0 lo1) (subf hi0 hi1) hh hlo.2 hhi.2
  refine T.ret ⟨rfl, fun i hi hm => ?_⟩
  by_cases e6 : i = j.val + 6
  · subst e6; rw [setAt_self]; exact p1.2
  rw [setAt_ne _ _ _ e6]
  by_cases e2 : i = j.val + 2
  · subst e2; rw [setAt_self]; exact p1.1
  rw [setAt_ne _ _ _ e2]
  by_cases e4 : i = j.val + 4
  · subst e4; rw [setAt_self]; exact p0.2
  rw [setAt_ne _ _ _ e4]
  by_cases e0 : i = j.val
  · subst e0; rw [setAt_self]; exact p0.1
  rw [setAt_ne _ _ _ e0]
  exact hp i hi (by omega)

end Bit

end
-- ==== Proof.InvOut.lean ====
/-
  The inverse rotation's outputs: the decoded bucket and the error.
-/
module

public import proofs.«01_k».proof.Proof.Inverse

@[expose] public section

noncomputable section

namespace Bit

open Idealize.ShloMosaic Idealize.ShloMosaic.TcCoe
open Idealize.SL Idealize.SL.RA Idealize.SL.BI Idealize.SL.Sem
open Cert.KernelIdeal Cert.KernelIdeal.Facts₀ Cert.KernelIdeal.Facts
open Bit.Eval

variable [Cert.KernelIdeal.Facts]
variable {A : Args sig} {S : Memref sig .tc .vmem S9x16x64x2x128 .bf16} {hS : S.IsWhole}
variable {defs : Defs nD τ sig (Elt Ideal) Λ₀} {𝒱 : Variants} {c : Dev nD}
variable {Ix : Type} [DecidableEq Ix] {Name : Type} [DecidableEq Name] {U : Type} [URA U] {Lvl : Type} [Preorder Lvl]

/-- A bucket's slot of the ring: the sum, the masks and the signs of its rotation. -/
structure Slot (st : IState) (sl : ℕ) (G : ℕ → ℝ) (sg : ℕ → Bool) : Prop where
  g : ∀ (a : Fin 9) (b : Fin 16) (r l : Fin 128), a.val = sl → (st .g (ix4 a b r l) : EReal) = ((G (r.val * 2048 + (128 * b.val + l.val)) : ℝ) : EReal)
  m : ∀ (a : Fin 9) (b : Fin 16) (r l : Fin 128), a.val = sl → (st .m (ix4 a b r l) : BitVec 32) = if sg (r.val * 2048 + (128 * b.val + l.val)) then 2147483648#32 else 0#32
  s : SOk st (whole G sg) sl fun _ _ => True

/-- A slot's contents persist while the three rings are not written. -/
theorem Slot.same {L : List Buf} {st st' : IState} {sl : ℕ} {G : ℕ → ℝ} {sg : ℕ → Bool} (h : Slot st sl G sg) (hs : Same L st st') (h1 : Buf.g ∉ L) (h2 : Buf.m ∉ L) (h3 : Buf.s ∉ L) : Slot st' sl G sg := by
  refine ⟨fun a b r l e => ?_, fun a b r l e => ?_, fun a b P q l e _ => ?_⟩
  · rw [hs _ h1]; exact h.g a b r l e
  · rw [hs _ h2]; exact h.m a b r l e
  · rw [hs _ h3]; exact h.s a b P q l e trivial

/-- The signs of the rotation. -/
def zsig (G : ℕ → ℝ) (sg : ℕ → Bool) (x : ℕ) : ℝ := sgnS (whole G sg x)

/-- The decoded bucket, of the scale's value `σ`. -/
def hat (G : ℕ → ℝ) (sg : ℕ → Bool) (σ : ℝ) (p : ℕ) : ℝ := if sg p then -(wht (List.range 18) (zsig G sg) p * σ) else wht (List.range 18) (zsig G sg) p * σ

/-- The two outputs' column blocks below `n`. -/
def Outs (st : IState) (G : ℕ → ℝ) (sg : ℕ → Bool) (σ : ℝ) (n : ℕ) : Prop := ∀ (r : Fin 128) (c : Fin 2048), c.val / 128 < n →
  (st .xh (ix3 (0 : Fin 1) r c) : EReal) = ((hat G sg σ (r.val * 2048 + c.val) : ℝ) : EReal)
  ∧ (st .ne (ix3 (0 : Fin 1) r c) : EReal) = ((G (r.val * 2048 + c.val) - hat G sg σ (r.val * 2048 + c.val) : ℝ) : EReal)

/-- A half of the lanes of a block, read at an index. -/
theorem slice_u (u : FVec Ideal S128x256 .f32) (h : ℕ) (hh : h < 2) (r l : Fin 128) :
    extractStridedSlice S128x128 ![0, 128 * h] u (slicesU h hh) (ix2 r l) = u (ix2 r (⟨128 * h + l.val, by omega⟩ : Fin 256)) :=
  extractStridedSlice_apply _ _ _ _ _ (by intro a; fin_cases a <;> simp)

/-- What a column block's outputs are. -/
theorem invOut_val {st : IState} {G : ℕ → ℝ} {sg : ℕ → Bool} {σ : ℝ} {sl : ℕ} {hs : sl < 9} {cb h : ℕ} {hcb : cb < 16} {hh : h < 2} {sc : FVec Ideal S128x128 .f32} {u : FVec Ideal S128x256 .f32}
    (hsl : Slot st sl G sg) (hsc : ∀ r l : Fin 128, (sc (ix2 r l) : EReal) = (σ : EReal))
    (hu : ∀ r l : Fin 128, (u (ix2 r (⟨128 * h + l.val, by omega⟩ : Fin 256)) : EReal) = ((wht (List.range 18) (zsig G sg) (r.val * 2048 + (128 * cb + l.val)) : ℝ) : EReal))
    (hx : Outs st G sg σ cb) : Eval.T (mems A S) defs 𝒱 c Ix Name U Lvl st (invOut A sc u sl hs cb h hcb hh) fun _ st' => Outs st' G sg σ (cb + 1) ∧ Same [.xh, .ne] st st' := by
  have hv : ∀ r l : Fin 128, (mulf (F := Ideal) (φ := .f32) (extractStridedSlice S128x128 ![0, 128 * h] u (slicesU h hh)) sc (ix2 r l) : EReal)
      = ((wht (List.range 18) (zsig G sg) (r.val * 2048 + (128 * cb + l.val)) * σ : ℝ) : EReal) := by
    intro r l
    rw [EReal.coe_mul]
    exact congrArg₂ (fun x y : EReal => x * y) ((slice_u u h hh r l).trans (hu r l)) (hsc r l)
  have ho : ∀ r l : Fin 128, (flip (shapeCast S128x128 (fun j => st .m ((rS sl hs cb hcb).toLoadRect.idx j) : IVec S1x1x128x128 32) shapeCasts_S1x1x128x128_S128x128)
      (mulf (F := Ideal) (φ := .f32) (extractStridedSlice S128x128 ![0, 128 * h] u (slicesU h hh)) sc) (ix2 r l) : EReal) = ((hat G sg σ (r.val * 2048 + (128 * cb + l.val)) : ℝ) : EReal) := by
    intro r l
    refine flip_apply _ _ r l _ _ ?_ (hv r l)
    rw [cast42]
    show (st .m _ : BitVec 32) = _
    rw [idx_rS]
    exact hsl.m _ _ _ _ rfl
  refine tl_m (tl_xh (ts_xh (tl_g (tl_ne (te_ne ⟨?_, ?_⟩)))))
  · intro r c hc
    have hcol : c.val / 128 = cb → 128 * cb + c.val % 128 = c.val := fun e => by omega
    constructor
    · rw [Function.update_of_ne (by decide), Function.update_self, put_rX]
      split
      · rename_i e
        refine (cast23 (α := EReal) _ _ _ _).trans ((ho _ _).trans ?_)
        rw [hcol e]
      · rename_i e
        exact (hx r c (by omega)).1
    · rw [Function.update_self, put_rX]
      split
      · rename_i e
        refine (cast23 (α := EReal) _ _ _ _).trans ?_
        have hG : (shapeCast S128x128 (fun j => (Function.update st .xh (Eval.put (rX cb hcb) (st .xh) (shapeCast S1x128x128 (flip (shapeCast S128x128 (fun j => st .m ((rS sl hs cb hcb).toLoadRect.idx j) : IVec S1x1x128x128 32) shapeCasts_S1x1x128x128_S128x128)
            (mulf (F := Ideal) (φ := .f32) (extractStridedSlice S128x128 ![0, 128 * h] u (slicesU h hh)) sc)) shapeCasts_S128x128_S1x128x128)) : IState) .g ((rS sl hs cb hcb).toLoadRect.idx j) : FVec Ideal S1x1x128x128 .f32) shapeCasts_S1x1x128x128_S128x128
            (ix2 r (⟨c.val % 128, Nat.mod_lt _ (by decide)⟩ : Fin 128)) : EReal) = ((G (r.val * 2048 + (128 * cb + c.val % 128)) : ℝ) : EReal) := by
          refine (cast42 (α := EReal) _ _ _ _).trans ?_
          rw [idx_rS, Function.update_of_ne (by decide)]
          exact hsl.g _ _ _ _ rfl
        refine (congrArg₂ (fun x y : EReal => x - y) hG (ho r _)).trans ?_
        simp only
        rw [hcol e, EReal.coe_sub]
      · rename_i e
        rw [Function.update_of_ne (by decide)]
        exact (hx r c (by omega)).2
  · exact (Same.upd st .xh _ (by simp)).trans (Same.upd _ .ne _ (by simp))

/-- The last stage of the inverse, on bit 8, between two column blocks. -/
theorem inv_last (V : ℕ → ℝ) (k : ℕ) (u0 u1 : FVec Ideal S128x256 .f32) (h0 : R2 u0 fun r l => V (r * 2048 + (256 * (2 * k) + l))) (h1 : R2 u1 fun r l => V (r * 2048 + (256 * (2 * k + 1) + l))) :
    (R2 (addf u0 u1) fun r l => rstage 8 V (r * 2048 + (512 * k + l))) ∧ (R2 (subf u0 u1) fun r l => rstage 8 V (r * 2048 + (512 * k + 256 + l))) := by
  constructor
  · intro r l
    have hl := l.isLt
    show (u0 (ix2 r l) : EReal) + u1 (ix2 r l) = _
    rw [h0, h1, ← EReal.coe_add]
    refine congrArg (fun z : ℝ => (z : EReal)) ?_
    unfold rstage
    dsimp only
    rw [if_neg (by rw [bit8]; exact fun h => absurd (of_decide_eq_true h) (by omega))]
    refine congrArg₂ (fun x y => V x + V y) ?_ ?_ <;> norm_num <;> omega
  · intro r l
    have hl := l.isLt
    show (u0 (ix2 r l) : EReal) - u1 (ix2 r l) = _
    rw [h0, h1, ← EReal.coe_sub]
    refine congrArg (fun z : ℝ => (z : EReal)) ?_
    unfold rstage
    dsimp only
    rw [if_pos (by rw [bit8]; exact decide_eq_true (by omega))]
    refine congrArg₂ (fun x y => V x - V y) ?_ ?_ <;> norm_num <;> omega

/-- What the inverse rotation's outputs are. -/
theorem inverse_val {st : IState} {G : ℕ → ℝ} {sg : ℕ → Bool} {σ : ℝ} {sl : ℕ} {hs : sl < 9} (hsl : Slot st sl G sg) (hH : Had st) (hR : HadR st)
    (hsc : ∀ (j : Fin 8) (l : Fin 128), (st .sc (ix2 j l) : EReal) = (σ : EReal)) :
    Eval.T (mems A S) defs 𝒱 c Ix Name U Lvl st (inverse A (Ideal.dial (F := Ideal) S hS) sl hs) fun _ st' => Outs st' G sg σ 16 ∧ Same [.xh, .ne] st st' := by
  refine tl_sc (tl_hr ?_)
  have hsc' : ∀ r l : Fin 128, (broadcastTo S128x128 (shapeCast S1x128 (fun j => st .sc (rSc1.toLoadRect.idx j) : FVec Ideal S1x128 .f32) shapeCasts_S1x128_S1x128) broadcasts_S1x128_S128x128 (ix2 r l) : EReal) = (σ : EReal) := by
    intro r l
    refine (broadcastTo_apply _ _ _ (ix2 (0 : Fin 1) l) (by intro a; fin_cases a <;> rfl)).trans ((congrFun (castSelf _ _) _).trans ?_)
    rw [idx_rSc1]
    exact hsc _ _
  refine T.bind (invRows_val (c := c) (hr := fun x => st .hr (rH.toLoadRect.idx x)) (fun i j => ?_) hsl.s) ?_
  · show (st .hr _ : EReal) = _
    rw [idx_rH]; exact hR i j
  rintro p s ⟨rfl, hp⟩
  refine T.mono (T.loop (J := fun n (_ : PUnit) st' => Outs st' G sg σ (4 * n) ∧ Same [.xh, .ne] s st') ⟨fun r c h => absurd h (Nat.not_lt_zero _), .refl _ _⟩ ?_) fun _ st' h => h
  rintro k - s0 ⟨h0, hs0⟩
  refine tl_h (tl_h ?_)
  have hk := k.isLt
  have hcol : ∀ q, q < 8 → R2 (colDot (p q) (fun x => s0 .h (rH.toLoadRect.idx x))) fun r l => wht (List.range 8) (wht [11, 12, 13, 14, 15, 16, 17, 10] (rstage 9 (zsig G sg))) (r * 2048 + (256 * q + l)) := fun q hq r l => by
    refine (colDot_real _ _ _ (hp q hq) (fun i j => ?_) r l).trans (congrArg (fun z : ℝ => (z : EReal)) (cols_apply _ _ _ _ l.isLt))
    show (s0 .h _ : EReal) = _
    rw [idx_rH, hs0 _ (by simp)]; exact hH i j
  have hl := inv_last _ k.val _ _ (hcol (2 * k.val) (by omega)) (hcol (2 * k.val + 1) (by omega))
  rw [inv_order] at hl
  have step : ∀ {s1 : IState}, Same [.xh, .ne] s s1 → Slot s1 sl G sg := fun h => hsl.same h (by simp) (by simp) (by simp)
  refine T.bind (invOut_val (step hs0) hsc' (fun r l => (hl.1 r _).trans (congrArg (fun z : ℝ => (z : EReal)) (congrArg _ ?_))) h0) ?_
  · show r.val * 2048 + (512 * k.val + (128 * 0 + l.val)) = _; omega
  rintro - s1 ⟨h1, e1⟩
  have hs1 := hs0.trans e1
  refine T.bind (invOut_val (step hs1) hsc' (fun r l => (hl.1 r _).trans (congrArg (fun z : ℝ => (z : EReal)) (congrArg _ ?_))) h1) ?_
  · show r.val * 2048 + (512 * k.val + (128 * 1 + l.val)) = _; omega
  rintro - s2 ⟨h2, e2⟩
  have hs2 := hs1.trans e2
  refine T.bind (invOut_val (step hs2) hsc' (fun r l => (hl.2 r _).trans (congrArg (fun z : ℝ => (z : EReal)) (congrArg _ ?_))) h2) ?_
  · show r.val * 2048 + (512 * k.val + 256 + (128 * 0 + l.val)) = _; omega
  rintro - s3 ⟨h3, e3⟩
  have hs3 := hs2.trans e3
  refine T.mono (invOut_val (step hs3) hsc' (fun r l => (hl.2 r _).trans (congrArg (fun z : ℝ => (z : EReal)) (congrArg _ ?_))) h3) ?_
  · show r.val * 2048 + (512 * k.val + 256 + (128 * 1 + l.val)) = _; omega
  rintro - s4 ⟨h4, e4⟩
  exact ⟨h4, hs3.trans e4⟩

end Bit

end
-- ==== Proof.Points.lean ====
/-
  What a grid point reads: the blocks of the three input arrays.
-/
module

public import proofs.«01_k».proof.Proof.Grid
public import proofs.«01_k».proof.Proof.InvOut

@[expose] public section

noncomputable section

namespace Bit.Ideal

open Idealize.ShloMosaic Idealize.ShloMosaic.TcCoe
open Cert.KernelIdeal Cert.KernelIdeal.Gen
open Idealize.ShloMosaic.Pipeline (RDat Cfg)

variable [Cert.KernelIdeal.Facts]
variable (m : (ℓ : Loc nD τ sig) → Idealize.ShloMosaic.Buf (Elt Ideal) ℓ) (c : Dev nD)

/-- The input arrays. -/
abbrev arrX : S8x1152x2048.Idx → EReal := m ((c.tc : Thread nD τ).loc main_arg0)
/-- The second input, the sign bytes. -/
abbrev arrB : S8x1152x256.Idx → BitVec 8 := m ((c.tc : Thread nD τ).loc main_arg1)
/-- The third input, the error. -/
abbrev arrE : S8x1152x2048.Idx → EReal := m ((c.tc : Thread nD τ).loc main_arg2)

/-- The inputs' sum as reals and the sign bits, by the position in the whole array. -/
structure InData (g : ℕ → ℝ) (sg : ℕ → Bool) : Prop where
  sum : ∀ (i : Fin 8) (j : Fin 1152) (k : Fin 2048), arrX m c (ix3 i j k) + arrE m c (ix3 i j k) = ((g ((i.val * 1152 + j.val) * 2048 + k.val) : ℝ) : EReal)
  bits : ∀ (i : Fin 8) (j : Fin 1152) (cb : Fin 256) (k : ℕ), k < 8 → (arrB m c (ix3 i j cb)).getLsbD k = sg ((i.val * 1152 + j.val) * 2048 + 8 * cb.val + k)

variable {m c} {Inv : Dev nD → ℕ → State Ideal → Prop} {aft : Dev nD → (w : Fin cfg0.W) → Fin cfg0.N → (Y X : (cfg0.win w).block.Idx → Elt Ideal (cfg0.win w).elt) → Prop}

/-- Where a bucket's row lies. -/
theorem row_lt (t : ℕ) (ht : t < 72) (r : Fin 128) : t % 9 * 128 + r.val < 1152 := by have := r.isLt; omega

/-- The block of the first input that a point finds. -/
theorem finds0 {t : Fin cfg0.N} (ht : t.val < 72) {Y : S1x128x2048.Idx → EReal} (h : (rdat m Inv aft c).Finds 0 t Y) (r : Fin 128) (k : Fin 2048) :
    Y (ix3 (0 : Fin 1) r k) = arrX m c (ix3 (⟨t.val / 9, by omega⟩ : Fin 8) (⟨t.val % 9 * 128 + r.val, row_lt _ ht r⟩ : Fin 1152) k) := by
  obtain ⟨d, rfl⟩ := (RDat.finds_of_fetch _ (fetch0 t ht) _).mp h
  show arrX m c ((win0_0.blk t).view.emb (ix3 (0 : Fin 1) r k)) = _
  refine congrArg _ (funext fun a => Fin.ext ?_)
  blk_simp [index0]
  fin_cases a <;> simp <;> omega

/-- The block of the third input that a point finds. -/
theorem finds2 {t : Fin cfg0.N} (ht : t.val < 72) {Y : S1x128x2048.Idx → EReal} (h : (rdat m Inv aft c).Finds 2 t Y) (r : Fin 128) (k : Fin 2048) :
    Y (ix3 (0 : Fin 1) r k) = arrE m c (ix3 (⟨t.val / 9, by omega⟩ : Fin 8) (⟨t.val % 9 * 128 + r.val, row_lt _ ht r⟩ : Fin 1152) k) := by
  obtain ⟨d, rfl⟩ := (RDat.finds_of_fetch _ (fetch2 t ht) _).mp h
  show arrE m c ((win0_2.blk t).view.emb (ix3 (0 : Fin 1) r k)) = _
  refine congrArg _ (funext fun a => Fin.ext ?_)
  blk_simp [index2]
  fin_cases a <;> simp <;> omega

/-- The block of the second input that a point finds. -/
theorem finds1 {t : Fin cfg0.N} (ht : t.val < 72) {Y : S1x128x256.Idx → BitVec 8} (h : (rdat m Inv aft c).Finds 1 t Y) (r : Fin 128) (k : Fin 256) :
    Y (ix3 (0 : Fin 1) r k) = arrB m c (ix3 (⟨t.val / 9, by omega⟩ : Fin 8) (⟨t.val % 9 * 128 + r.val, row_lt _ ht r⟩ : Fin 1152) k) := by
  obtain ⟨d, rfl⟩ := (RDat.finds_of_fetch _ (fetch1 t ht) _).mp h
  show arrB m c ((win0_1.blk t).view.emb (ix3 (0 : Fin 1) r k)) = _
  refine congrArg _ (funext fun a => Fin.ext ?_)
  blk_simp [index1]
  fin_cases a <;> simp <;> omega

end Bit.Ideal

end
-- ==== Proof.PointVal.lean ====
/-
  The invariant of the idealized kernel's scratch buffers, and that every grid point keeps it.
-/
module

public import proofs.«01_k».proof.Proof.Points

@[expose] public section

set_option maxRecDepth 16384

noncomputable section

namespace Bit.Ideal

open Idealize.ShloMosaic Idealize.ShloMosaic.TcCoe
open Idealize.SL Idealize.SL.RA Idealize.SL.BI Idealize.SL.Sem
open Cert.KernelIdeal Cert.KernelIdeal.Gen Bit.Eval
open Idealize.ShloMosaic.Pipeline (RDat Cfg)

variable [Cert.KernelIdeal.Facts]
variable (g : ℕ → ℝ) (sg : ℕ → Bool) (σ : ℕ → ℝ)

/-- Bucket `t` of the sum and of the sign bits. -/
def gAt (t p : ℕ) : ℝ := g (t * 2 ^ 18 + p)
/-- The sign bits of bucket `t`. -/
def sgAt (t p : ℕ) : Bool := sg (t * 2 ^ 18 + p)

/-- A bucket's sum of squares, and of absolute values of its rotation. -/
def sq (t : ℕ) : ℝ := ∑ p ∈ Finset.range (2 ^ 18), gAt g t p ^ 2
/-- A bucket's sum of absolute values of its rotation. -/
def ab (t : ℕ) : ℝ := ∑ p ∈ Finset.range (2 ^ 18), |whole (gAt g t) (sgAt sg t) p|

/-- The sum over the buckets from the batch's first up to point `t`. -/
def part (f : ℕ → ℝ) (b t : ℕ) : ℝ := ∑ k ∈ Finset.Ico (9 * b) (min t 72), f k
/-- The sum over a batch. -/
def full (f : ℕ → ℝ) (b : ℕ) : ℝ := ∑ k ∈ Finset.Ico (9 * b) (9 * (b + 1)), f k

/-- The scale of a batch. -/
def scaleAt (b : ℕ) : EReal := scaleVal (full (sq g) b) (full (ab g sg) b)

/-- What the scratch buffers hold before point `t`. -/
structure Holds (t : ℕ) (st : IState) : Prop where
  had : Had st
  hadR : HadR st
  sums : Sums st (part (sq g) ((t - 1) / 9) t) (part (ab g sg) ((t - 1) / 9) t)
  sc : 10 ≤ t → ∀ (j : Fin 8) (l : Fin 128), (st .sc (ix2 j l) : EReal) = ((σ ((t - 1) / 9 - 1) : ℝ) : EReal)
  slots : ∀ k < 72, k < t → t ≤ k + 9 → Slot st (k % 9) (gAt g k) (sgAt sg k)

/-- The codes of bucket `t`: the bits of the signs of its rotation. -/
def CodesAre (t : ℕ) (X : S1x128x256.Idx → BitVec 8) : Prop := ∀ (r : Fin 128) (cb : Fin 256), ∀ k < 8,
  ((X (ix3 (0 : Fin 1) r cb)).getLsbD k = true ↔ whole (gAt g t) (sgAt sg t) (r.val * 2048 + 8 * cb.val + k) < 0)

/-- What the windows hold after point `t`: the two outputs the decoded bucket and its error, the codes, the scales one by one. -/
def aftV (w : Fin cfg0.W) (t : Fin cfg0.N) (Y X : (cfg0.win w).block.Idx → Elt Ideal (cfg0.win w).elt) : Prop :=
  match w, Y, X with
  | 3, _, (X : S1x128x2048.Idx → EReal) => 9 ≤ t.val → ∀ (r : Fin 128) (k : Fin 2048), X (ix3 (0 : Fin 1) r k) = ((hat (gAt g (t.val - 9)) (sgAt sg (t.val - 9)) (σ (t.val / 9 - 1)) (r.val * 2048 + k.val) : ℝ) : EReal)
  | 4, _, (X : S1x128x2048.Idx → EReal) => 9 ≤ t.val → ∀ (r : Fin 128) (k : Fin 2048), X (ix3 (0 : Fin 1) r k)
      = ((gAt g (t.val - 9) (r.val * 2048 + k.val) - hat (gAt g (t.val - 9)) (sgAt sg (t.val - 9)) (σ (t.val / 9 - 1)) (r.val * 2048 + k.val) : ℝ) : EReal)
  | 5, (Y : S1x128x256.Idx → BitVec 8), (X : S1x128x256.Idx → BitVec 8) => (t.val < 72 → CodesAre g sg t.val X) ∧ (72 ≤ t.val → X = Y)
  | 6, (Y : S8.Idx → EReal), (X : S8.Idx → EReal) => ∀ b : Fin 8, X (ix1 b) = if t.val = 9 * (b.val + 1) then scaleAt g sg b.val else Y (ix1 b)
  | _, _, _ => True

/-- The two sums persist while the accumulator is not written. -/
theorem sums_same {L : List Buf} {st st' : IState} {u v : ℝ} (h : Sums st u v) (hs : Same L st st') (ha : Buf.acc ∉ L) : Sums st' u v := by
  unfold Sums; rw [hs _ ha]; exact h
/-- The first sign matrix persists while it is not written. -/
theorem had_same {L : List Buf} {st st' : IState} (h : Had st) (hs : Same L st st') (ha : Buf.h ∉ L) : Had st' := by
  unfold Had; rw [hs _ ha]; exact h
/-- The second sign matrix persists while it is not written. -/
theorem hadR_same {L : List Buf} {st st' : IState} (h : HadR st) (hs : Same L st st') (ha : Buf.hr ∉ L) : HadR st' := by
  unfold HadR; rw [hs _ ha]; exact h

section Steps

variable {g sg σ}
variable {A : Args sig} {S : Memref sig .tc .vmem S9x16x64x2x128 .bf16} {hS : S.IsWhole}
variable {defs : Defs nD τ sig (Elt Ideal) Λ₀} {𝒱 : Variants} {c : Dev nD}
variable {Ix : Type} [DecidableEq Ix] {Name : Type} [DecidableEq Name] {U : Type} [URA U] {Lvl : Type} [Preorder Lvl]

/-- The partial sum at the end of a batch is the whole. -/
theorem part_zero (f : ℕ → ℝ) (b : ℕ) (h : min (9 * (b + 1)) 72 = 9 * (b + 1)) : part f b (9 * (b + 1)) = full f b := by
  unfold part full; rw [h]
/-- The partial sum before a batch begins is zero. -/
theorem part_none (f : ℕ → ℝ) (b t : ℕ) (h : min t 72 ≤ 9 * b) : part f b t = 0 := by
  unfold part; rw [Finset.Ico_eq_empty_of_le h, Finset.sum_empty]
/-- The partial sum grows by the point's own term. -/
theorem part_succ (f : ℕ → ℝ) (t : ℕ) (h : t < 72) : part f (t / 9) (t + 1) = part f (t / 9) t + f t := by
  unfold part
  rw [show min (t + 1) 72 = t + 1 by omega, show min t 72 = t by omega, Finset.sum_Ico_succ_top (by omega)]

/-- The body as its four parts one after another. -/
theorem body_seq (D : Dial Ideal nD τ sig Λ₀) (i : grid0.Coords) : body A D i =
    ((if h1 : isFirst i = 1#1 then init (F := Ideal) A else pure ⟨⟩) >>= fun _ =>
      (if h2 : k0_cond2 i = 1#1 then scaleStep A (k0_off1 i) (k0_off1_inb i h2) else pure ⟨⟩) >>= fun _ =>
        (if h3 : k0_cond3 i = 1#1 then inverse A D (slot i) (slot_lt i) else pure ⟨⟩) >>= fun _ =>
          (if h4 : k0_cond4 i = 1#1 then forward A D (slot i) (slot_lt i) else pure ⟨⟩)) := by
  unfold body
  by_cases h1 : isFirst i = 1#1 <;> by_cases h2 : k0_cond2 i = 1#1 <;> by_cases h3 : k0_cond3 i = 1#1 <;>
    simp only [h1, h2, h3, dite_true, dite_false] <;> rfl

/-- The state's part that the first point sets. -/
theorem first_val {st : IState} (t : Fin cfg0.N) (h : 0 < t.val → Had st ∧ HadR st ∧ Sums st (part (sq g) ((t.val - 1) / 9) t.val) (part (ab g sg) ((t.val - 1) / 9) t.val)) :
    Eval.T (mems A S) defs 𝒱 c Ix Name U Lvl st (if h1 : isFirst (grid0.coords t) = 1#1 then init (F := Ideal) A else pure ⟨⟩)
      fun _ st' => (Had st' ∧ HadR st' ∧ Sums st' (part (sq g) ((t.val - 1) / 9) t.val) (part (ab g sg) ((t.val - 1) / 9) t.val)) ∧ Same [.h, .hr, .acc] st st' := by
  split
  · rename_i h1
    have e := (first_iff t).mp h1
    refine T.mono init_val ?_
    rintro _ st' ⟨a, b, d, hs⟩
    have z : ∀ f, part f ((t.val - 1) / 9) t.val = 0 := fun f => part_none _ _ _ (by omega)
    rw [z, z]
    exact ⟨⟨a, b, d⟩, hs⟩
  · rename_i h1
    exact T.ret ⟨h (by have := mt (first_iff t).mpr h1; omega), .refl _ _⟩

/-- The scale step at the first point of each later batch. -/
theorem scale_val {st : IState} (t : Fin cfg0.N) (hσ : ∀ b < 8, scaleAt g sg b * ((1 / 512 : ℝ) : EReal) = ((σ b : ℝ) : EReal))
    (hs : Sums st (part (sq g) ((t.val - 1) / 9) t.val) (part (ab g sg) ((t.val - 1) / 9) t.val))
    (hsc : 10 ≤ t.val → ∀ (j : Fin 8) (l : Fin 128), (st .sc (ix2 j l) : EReal) = ((σ ((t.val - 1) / 9 - 1) : ℝ) : EReal)) :
    Eval.T (mems A S) defs 𝒱 c Ix Name U Lvl st (if h2 : k0_cond2 (grid0.coords t) = 1#1 then scaleStep A (k0_off1 (grid0.coords t)) (k0_off1_inb (grid0.coords t) h2) else pure ⟨⟩)
      fun _ st' => Sums st' (part (sq g) (t.val / 9) t.val) (part (ab g sg) (t.val / 9) t.val)
        ∧ (9 ≤ t.val → ∀ (j : Fin 8) (l : Fin 128), (st' .sc (ix2 j l) : EReal) = ((σ (t.val / 9 - 1) : ℝ) : EReal))
        ∧ (∀ b : Fin 8, (st' .scale (ix1 b) : EReal) = if t.val = 9 * (b.val + 1) then scaleAt g sg b.val else st .scale (ix1 b)) ∧ Same [.acc, .sc, .scale] st st' := by
  have ht : t.val < 81 := t.isLt
  split
  · rename_i h2
    have e := (cond2_iff t).mp h2
    obtain ⟨b, hb⟩ : ∃ b, t.val = 9 * (b + 1) := ⟨t.val / 9 - 1, by omega⟩
    have hb8 : b < 8 := by omega
    have hd : (t.val - 1) / 9 = b := by omega
    have hp : ∀ f, part f ((t.val - 1) / 9) t.val = full f b := fun f => by rw [hd, hb]; exact part_zero f b (by omega)
    have hz : ∀ f, part f (t.val / 9) t.val = 0 := fun f => part_none _ _ _ (by omega)
    rw [hp, hp] at hs
    refine T.mono (scaleStep_val hs) ?_
    rintro _ st' ⟨a, h, k, hsame⟩
    rw [hz, hz]
    refine ⟨a, fun _ j l => ?_, fun b' => ?_, hsame⟩
    · rw [k, show t.val / 9 - 1 = b by omega]; exact hσ b hb8
    · rw [h, off1_eq t h2]
      by_cases e' : b'.val = b
      · rw [if_pos (by omega), if_pos (by omega), e']; rfl
      · rw [if_neg (by omega), if_neg (by omega)]
  · rename_i h2
    have e := mt (cond2_iff t).mpr h2
    have hd : (t.val - 1) / 9 = t.val / 9 := by omega
    rw [hd] at hs
    refine T.ret ⟨hs, fun h9 j l => ?_, fun b => ?_, .refl _ _⟩
    · rw [hsc (by omega), hd]
    · rw [if_neg (by omega)]

/-- The inverse rotation at a point. -/
theorem inv_val {st : IState} (t : Fin cfg0.N) (hH : Had st) (hR : HadR st)
    (hsc : 9 ≤ t.val → ∀ (j : Fin 8) (l : Fin 128), (st .sc (ix2 j l) : EReal) = ((σ (t.val / 9 - 1) : ℝ) : EReal))
    (hsl : 9 ≤ t.val → Slot st ((t.val - 9) % 9) (gAt g (t.val - 9)) (sgAt sg (t.val - 9))) :
    Eval.T (mems A S) defs 𝒱 c Ix Name U Lvl st (if h3 : k0_cond3 (grid0.coords t) = 1#1 then inverse A (dial (F := Ideal) S hS) (slot (grid0.coords t)) (slot_lt (grid0.coords t)) else pure ⟨⟩)
      fun _ st' => (9 ≤ t.val → Outs st' (gAt g (t.val - 9)) (sgAt sg (t.val - 9)) (σ (t.val / 9 - 1)) 16) ∧ Same [.xh, .ne] st st' := by
  split
  · rename_i h3
    have e := (cond3_iff t).mp h3
    have hsl' := hsl e
    rw [show (t.val - 9) % 9 = slot (grid0.coords t) by rw [slot_eq]; omega] at hsl'
    exact T.mono (inverse_val hsl' hH hR (hsc e)) fun _ st' h => ⟨fun _ => h.1, h.2⟩
  · rename_i h3
    exact T.ret ⟨fun h => absurd ((cond3_iff t).mpr h) h3, .refl _ _⟩

/-- The forward rotation at a point. -/
theorem fwd_val {st : IState} (t : Fin cfg0.N) (hH : Had st) (hin : t.val < 72 → Input st (gAt g t.val) (sgAt sg t.val))
    (hs : Sums st (part (sq g) (t.val / 9) t.val) (part (ab g sg) (t.val / 9) t.val))
    (hsl : ∀ k < 72, k < t.val → t.val ≤ k + 9 → Slot st (k % 9) (gAt g k) (sgAt sg k)) :
    Eval.T (mems A S) defs 𝒱 c Ix Name U Lvl st (if h4 : k0_cond4 (grid0.coords t) = 1#1 then forward A (dial (F := Ideal) S hS) (slot (grid0.coords t)) (slot_lt (grid0.coords t)) else pure ⟨⟩)
      fun _ st' => Sums st' (part (sq g) (t.val / 9) (t.val + 1)) (part (ab g sg) (t.val / 9) (t.val + 1))
        ∧ (∀ k < 72, k < t.val + 1 → t.val + 1 ≤ k + 9 → Slot st' (k % 9) (gAt g k) (sgAt sg k))
        ∧ (t.val < 72 → CodesAre g sg t.val (st' .code)) ∧ (72 ≤ t.val → st' .code = st .code) ∧ Same [.g, .m, .y, .wq, .cw, .code, .acc, .s] st st' := by
  split
  · rename_i h4
    have e := (cond4_iff t).mp h4
    refine T.mono (forward_val (hin e) hH hs) ?_
    rintro _ st' ⟨h1, h2, h3, h5, hcode, h6⟩
    rw [part_succ _ _ e, part_succ _ _ e]
    refine ⟨h1, fun k hk hkt htk => ?_, fun _ r cb k hk => hcode r cb trivial k hk, fun h => absurd e (by omega), h6⟩
    rw [slot_eq] at h2 h3 h5
    by_cases ek : k = t.val
    · subst ek
      refine ⟨fun a b r l ha => ?_, fun a b r l ha => ?_, h3⟩
      · rw [(h2 a b r l).1, if_pos ⟨ha, b.isLt⟩]
      · rw [(h2 a b r l).2, if_pos ⟨ha, b.isLt⟩]
    · have old := hsl k hk (by omega) (by omega)
      have hne : k % 9 ≠ t.val % 9 := by omega
      refine ⟨fun a b r l ha => ?_, fun a b r l ha => ?_, fun a b P q l ha _ => ?_⟩
      · rw [(h2 a b r l).1, if_neg (by omega)]; exact old.g a b r l ha
      · rw [(h2 a b r l).2, if_neg (by omega)]; exact old.m a b r l ha
      · rw [h5 a b P q l (by omega)]; exact old.s a b P q l ha trivial
  · rename_i h4
    have e := mt (cond4_iff t).mpr h4
    have hp : ∀ f, part f (t.val / 9) (t.val + 1) = part f (t.val / 9) t.val := fun f => by
      unfold part; rw [show min (t.val + 1) 72 = min t.val 72 by omega]
    rw [hp, hp]
    exact T.ret ⟨hs, fun k hk hkt htk => hsl k hk (by omega) (by omega), fun h => absurd h e, fun _ => rfl, .refl _ _⟩

end Steps

variable {g sg σ} {m : (ℓ : Loc nD τ sig) → Idealize.ShloMosaic.Buf (Elt Ideal) ℓ} {c : Dev nD}

/-- What a point reads is its bucket. -/
theorem input_of {Inv : Dev nD → ℕ → State Ideal → Prop} {aft : Dev nD → (w : Fin cfg0.W) → Fin cfg0.N → (Y X : (cfg0.win w).block.Idx → Elt Ideal (cfg0.win w).elt) → Prop}
    (hd : InData m c g sg) (t : Fin cfg0.N) (ht : t.val < 72) (Y : Wins Ideal) (st : State Ideal) (hY : ∀ w, (rdat m Inv aft c).Finds w t (Y w)) :
    Input (comb Y st) (gAt g t.val) (sgAt sg t.val) := by
  refine ⟨fun r k => ?_, fun r cb k hk => ?_⟩
  · refine (congrArg₂ (fun x y : EReal => x + y) (finds0 ht (hY 0) r k) (finds2 ht (hY 2) r k)).trans ((hd.sum _ _ _).trans ?_)
    refine congrArg (fun z : ℝ => (z : EReal)) (congrArg g ?_)
    show (t.val / 9 * 1152 + (t.val % 9 * 128 + r.val)) * 2048 + k.val = t.val * 2 ^ 18 + (r.val * 2048 + k.val)
    norm_num; omega
  · show (Y 1 (ix3 (0 : Fin 1) r cb) : BitVec 8).getLsbD k = _
    refine (congrArg (fun z => BitVec.getLsbD z k) (finds1 ht (hY 1) r cb)).trans ((hd.bits _ _ _ k hk).trans ?_)
    refine congrArg sg ?_
    show (t.val / 9 * 1152 + (t.val % 9 * 128 + r.val)) * 2048 + 8 * cb.val + k = t.val * 2 ^ 18 + (r.val * 2048 + 8 * cb.val + k)
    norm_num; omega

/-- The invariant. -/
def invV (g : ℕ → ℝ) (sg : ℕ → Bool) (σ : ℕ → ℝ) (t : ℕ) (st : State Ideal) : Prop := 0 < t → Holds g sg σ t st

/-- Every point keeps the invariant and leaves its windows as said. -/
theorem point_val (g : Dev nD → ℕ → ℝ) (sg : Dev nD → ℕ → Bool) (σ : Dev nD → ℕ → ℝ) (hd : InData m c (g c) (sg c))
    (hσ : ∀ b < 8, scaleAt (g c) (sg c) b * ((1 / 512 : ℝ) : EReal) = ((σ c b : ℝ) : EReal)) :
    Point m (fun c => invV (g c) (sg c) (σ c)) (fun c => aftV (g c) (sg c) (σ c)) c := by
  intro t Y st hY hI
  have htN : t.val < 81 := t.isLt
  have hI' : 0 < t.val → Holds (g c) (sg c) (σ c) t.val (comb Y st) := fun h => ⟨(hI h).had, (hI h).hadR, (hI h).sums, (hI h).sc, fun k a b d => ⟨((hI h).slots k a b d).g, ((hI h).slots k a b d).m, ((hI h).slots k a b d).s⟩⟩
  have hin := fun ht => input_of hd t ht Y st hY
  clear hI
  rw [body_seq]
  refine T.bind (first_val (c := c) (Ix := Unit) (Name := ℕ) (U := UR sig nD τ) (Lvl := ℕ) t fun h => ⟨(hI' h).had, (hI' h).hadR, (hI' h).sums⟩) ?_
  rintro - s1 ⟨⟨hH1, hR1, hS1⟩, e1⟩
  refine T.bind (scale_val (c := c) (Ix := Unit) (Name := ℕ) (U := UR sig nD τ) (Lvl := ℕ) t hσ hS1 fun h j l => by rw [e1 _ (by simp)]; exact (hI' (by omega)).sc h j l) ?_
  rintro - s2 ⟨hS2, hsc2, hscale2, e2⟩
  have hH2 := had_same hH1 e2 (by simp)
  have hR2 := hadR_same hR1 e2 (by simp)
  have hsl2 : ∀ k < 72, k < t.val → t.val ≤ k + 9 → Slot s2 (k % 9) (gAt (g c) k) (sgAt (sg c) k) := fun k a b d =>
    (((hI' (by omega)).slots k a b d).same e1 (by simp) (by simp) (by simp)).same e2 (by simp) (by simp) (by simp)
  refine T.bind (inv_val (c := c) (Ix := Unit) (Name := ℕ) (U := UR sig nD τ) (Lvl := ℕ) t hH2 hR2 hsc2 fun h => hsl2 (t.val - 9) (by omega) (by omega) (by omega)) ?_
  rintro - s3 ⟨hO3, e3⟩
  have hH3 := had_same hH2 e3 (by simp)
  have hR3 := hadR_same hR2 e3 (by simp)
  refine T.mono (fwd_val (c := c) (Ix := Unit) (Name := ℕ) (U := UR sig nD τ) (Lvl := ℕ) t hH3 (fun h => (((hin h).same e1 (by simp) (by simp) (by simp)).same e2 (by simp) (by simp) (by simp)).same e3 (by simp) (by simp) (by simp)) (sums_same hS2 e3 (by simp))
    fun k a b d => (hsl2 k a b d).same e3 (by simp) (by simp) (by simp)) ?_
  rintro - s4 ⟨hS4, hsl4, hcode4, hkeep4, e4⟩
  refine ⟨fun _ => ⟨had_same hH3 e4 (by simp), hadR_same hR3 e4 (by simp), by rw [Nat.add_sub_cancel]; exact hS4, fun h j l => ?_, hsl4⟩, fun w => ?_⟩
  · rw [e4 _ (by simp), e3 _ (by simp), Nat.add_sub_cancel]; exact hsc2 (by omega) j l
  · fin_cases w
    · trivial
    · trivial
    · trivial
    · show 9 ≤ t.val → ∀ (r : Fin 128) (k : Fin 2048), (s4 .xh (ix3 (0 : Fin 1) r k) : EReal) = _
      intro h r k
      rw [e4 _ (by simp)]; exact (hO3 h r k (by have := k.isLt; omega)).1
    · show 9 ≤ t.val → ∀ (r : Fin 128) (k : Fin 2048), (s4 .ne (ix3 (0 : Fin 1) r k) : EReal) = _
      intro h r k
      rw [e4 _ (by simp)]; exact (hO3 h r k (by have := k.isLt; omega)).2
    · refine ⟨hcode4, fun h => ?_⟩
      exact (hkeep4 h).trans ((e3 .code (by simp)).trans ((e2 .code (by simp)).trans (e1 .code (by simp))))
    · show ∀ b : Fin 8, (s4 .scale (ix1 b) : EReal) = if t.val = 9 * (b.val + 1) then scaleAt (g c) (sg c) b.val else (comb Y st .scale (ix1 b) : EReal)
      intro b
      rw [e4 _ (by simp), e3 _ (by simp), hscale2, e1 _ (by simp)]

end Bit.Ideal

end
-- ==== Proof.Bucket.lean ====
/-
  The transform on one bucket of the whole array: its linearity, its injectivity, and a batch's sums over its nine buckets.
-/
module

public import proofs.«01_k».proof.Proof.PointVal

@[expose] public section

noncomputable section

namespace Bit

open Bit.Ideal

/-- Eighteen stages stay within a bucket. -/
theorem wht_bucket (f : ℕ → ℝ) (t p : ℕ) (hp : p < 2 ^ 18) :
    wht (List.range 18) f (t * 2 ^ 18 + p) = wht (List.range 18) (fun q => f (t * 2 ^ 18 + q)) p := by
  rw [wht_range, wht_range]
  have e1 : (t * 2 ^ 18 + p) / 2 ^ 18 = t := by omega
  have e2 : p / 2 ^ 18 = 0 := by omega
  rw [e1, e2]
  refine Finset.sum_congr rfl fun k hk => ?_
  rw [show 0 * 2 ^ 18 + k = k by omega]
  congr 1
  refine had_congr (fun _ _ => rfl) fun b hb => ?_
  rw [Nat.mul_comm, Nat.testBit_two_pow_mul_add _ hp, if_pos hb]

/-- Eighteen stages see the bucket's entries only. -/
theorem wht_bucket_congr {f f' : ℕ → ℝ} (h : ∀ q < 2 ^ 18, f q = f' q) {p : ℕ} (hp : p < 2 ^ 18) :
    wht (List.range 18) f p = wht (List.range 18) f' p := by
  rw [wht_range, wht_range, show p / 2 ^ 18 = 0 by omega]
  refine Finset.sum_congr rfl fun k hk => ?_
  rw [show 0 * 2 ^ 18 + k = k by omega, h k (Finset.mem_range.mp hk)]

/-- Eighteen stages are linear. -/
theorem wht_smul (c : ℝ) (f : ℕ → ℝ) (p : ℕ) : wht (List.range 18) (fun q => c * f q) p = c * wht (List.range 18) f p := by
  rw [wht_range, wht_range, Finset.mul_sum]
  exact Finset.sum_congr rfl fun k _ => by ring

/-- A stage that gives zero throughout a bucket was given zero throughout it. -/
theorem rstage_zero {b : ℕ} (hb : b < 18) {f : ℕ → ℝ} (h : ∀ i < 2 ^ 18, rstage b f i = 0) (i : ℕ) (hi : i < 2 ^ 18) : f i = 0 := by
  have hx : i ^^^ 2 ^ b < 2 ^ 18 := Nat.xor_lt_two_pow hi (Nat.pow_lt_pow_right (by norm_num) hb)
  have h1 := h i hi
  have h2 := h _ hx
  rw [rstage_eq] at h1 h2
  rw [Nat.xor_assoc, Nat.xor_self, Nat.xor_zero] at h2
  have ht : (i ^^^ 2 ^ b).testBit b = !i.testBit b := by simp [Nat.testBit_xor, Nat.testBit_two_pow]
  rw [ht] at h2
  cases hc : i.testBit b <;> simp [hc] at h1 h2 <;> linarith

/-- So for all the stages. -/
theorem wht_zero {f : ℕ → ℝ} : ∀ n ≤ 18, (∀ i < 2 ^ 18, wht (List.range n) f i = 0) → ∀ i < 2 ^ 18, f i = 0 := by
  intro n
  induction n with
  | zero => exact fun _ h => h
  | succ n ih =>
    intro hn h
    refine ih (by omega) (rstage_zero (b := n) (by omega) ?_)
    intro i hi
    have := h i hi
    rwa [List.range_succ, wht_append] at this

/-- A batch's sum over rows and columns is the sum over its nine buckets. -/
theorem sum_batch (F : ℕ → ℝ) (i : ℕ) :
    ∑ j : Fin 1152, ∑ k : Fin 2048, F ((i * 1152 + j.val) * 2048 + k.val) = full (fun t => ∑ p ∈ Finset.range (2 ^ 18), F (t * 2 ^ 18 + p)) i := by
  have h1 : ∑ j : Fin 1152, ∑ k : Fin 2048, F ((i * 1152 + j.val) * 2048 + k.val) = ∑ x ∈ Finset.range (1152 * 2048), F (i * (1152 * 2048) + x) := by
    rw [sum_digits, Finset.sum_range]
    refine Finset.sum_congr rfl fun j _ => ?_
    rw [Finset.sum_range]
    refine Finset.sum_congr rfl fun k _ => congrArg F ?_
    ring
  have h2 : full (fun t => ∑ p ∈ Finset.range (2 ^ 18), F (t * 2 ^ 18 + p)) i = ∑ x ∈ Finset.range (9 * 2 ^ 18), F (i * (9 * 2 ^ 18) + x) := by
    rw [sum_digits]
    unfold full
    rw [Finset.sum_Ico_eq_sum_range, show 9 * (i + 1) - 9 * i = 9 by omega]
    refine Finset.sum_congr rfl fun t _ => Finset.sum_congr rfl fun p _ => congrArg F ?_
    ring
  rw [h1, h2, show 1152 * 2048 = 9 * 2 ^ 18 from by norm_num]

/-- A batch whose inputs are not all zero has a nonzero sum of magnitudes. -/
theorem full_ab_ne {g : ℕ → ℝ} {sg : ℕ → Bool} {b : ℕ} (h : 0 < full (sq g) b) : full (ab g sg) b ≠ 0 := by
  intro h0
  have hz : full (sq g) b = 0 := by
    unfold full at h0 ⊢
    have hn : ∀ t ∈ Finset.Ico (9 * b) (9 * (b + 1)), 0 ≤ ab g sg t := fun t _ => Finset.sum_nonneg fun p _ => abs_nonneg _
    refine Finset.sum_eq_zero fun t ht => ?_
    have h1 := (Finset.sum_eq_zero_iff_of_nonneg hn).mp h0 t ht
    have h2 : ∀ p < 2 ^ 18, whole (gAt g t) (sgAt sg t) p = 0 := fun p hp =>
      abs_eq_zero.mp ((Finset.sum_eq_zero_iff_of_nonneg fun p _ => abs_nonneg _).mp h1 p (Finset.mem_range.mpr hp))
    have h3 := wht_zero 18 le_rfl h2
    refine Finset.sum_eq_zero fun p hp => ?_
    have h4 := h3 p (Finset.mem_range.mp hp)
    unfold sgnd at h4
    split_ifs at h4
    · rw [neg_eq_zero.mp h4]; norm_num
    · rw [h4]; norm_num
  exact absurd hz h.ne'

end Bit

end
-- ==== Proof.Ends.lean ====
/-
  What the idealized kernel's result arrays hold at the end.
-/
module

public import proofs.«01_k».proof.Proof.PointVal

@[expose] public section

set_option maxRecDepth 16384

noncomputable section

namespace Bit.Ideal

open Idealize.ShloMosaic Idealize.ShloMosaic.TcCoe
open Cert.KernelIdeal Cert.KernelIdeal.Gen
open Idealize.ShloMosaic.Pipeline (RDat Cfg Dat)

variable [Cert.KernelIdeal.Facts]
variable {m : (ℓ : Loc nD τ sig) → Idealize.ShloMosaic.Buf (Elt Ideal) ℓ} {c : Dev nD} {g : Dev nD → ℕ → ℝ} {sg : Dev nD → ℕ → Bool} {σ : Dev nD → ℕ → ℝ}

/-- The decoded value and the error by the position in the whole array. -/
def xhAt (g : ℕ → ℝ) (sg : ℕ → Bool) (σ : ℕ → ℝ) (n : ℕ) : ℝ := hat (gAt g (n / 2 ^ 18)) (sgAt sg (n / 2 ^ 18)) (σ (n / 2 ^ 18 / 9)) (n % 2 ^ 18)
/-- The new error at a position of the whole array. -/
def neAt (g : ℕ → ℝ) (sg : ℕ → Bool) (σ : ℕ → ℝ) (n : ℕ) : ℝ := g n - xhAt g sg σ n

/-- Every element type of the ideal instance has a value. -/
instance : ∀ e, Nonempty (Elt Ideal e) := fun e => by cases e <;> infer_instance

/-- The run's proof data. -/
abbrev rd (m : (ℓ : Loc nD τ sig) → Idealize.ShloMosaic.Buf (Elt Ideal) ℓ) (g : Dev nD → ℕ → ℝ) (sg : Dev nD → ℕ → Bool) (σ : Dev nD → ℕ → ℝ) (c : Dev nD) :=
  rdat m (fun c => invV (g c) (sg c) (σ c)) (fun c => aftV (g c) (sg c) (σ c)) c

/-- A position within a bucket's block, as a position in the whole array. -/
theorem flat_pos (t : ℕ) (r : Fin 128) (k : Fin 2048) : (t / 9 * 1152 + (t % 9 * 128 + r.val)) * 2048 + k.val = t * 2 ^ 18 + (r.val * 2048 + k.val) := by
  norm_num; omega

/-- The result at a position of a bucket's block is that of the bucket's own transform. -/
theorem xh_pos (g : ℕ → ℝ) (sg : ℕ → Bool) (σ : ℕ → ℝ) (t : ℕ) (r : Fin 128) (k : Fin 2048) :
    xhAt g sg σ ((t / 9 * 1152 + (t % 9 * 128 + r.val)) * 2048 + k.val) = hat (gAt g t) (sgAt sg t) (σ (t / 9)) (r.val * 2048 + k.val) := by
  have hr := r.isLt
  have hk := k.isLt
  have e1 : (t * 2 ^ 18 + (r.val * 2048 + k.val)) / 2 ^ 18 = t := by norm_num; omega
  have e2 : (t * 2 ^ 18 + (r.val * 2048 + k.val)) % 2 ^ 18 = r.val * 2048 + k.val := by norm_num; omega
  unfold xhAt
  rw [flat_pos, e1, e2]

/-- The decoded array. -/
theorem end_xh {G : S8x1152x2048.Idx → EReal} (hG : (rd m g sg σ c).ArrAt 3 cfg0.N G) (i : Fin 8) (j : Fin 1152) (k : Fin 2048) :
    G (ix3 i j k) = ((xhAt (g c) (sg c) (σ c) ((i.val * 1152 + j.val) * 2048 + k.val) : ℝ) : EReal) := by
  obtain ⟨X, hX, hA⟩ := hG.exists_exact
  have e := hA (Function.update (fun _ _ _ => Classical.arbitrary _) 3 X) fun u _ _ => by rw [Function.update_self]
  subst e
  refine Dat.arrAt_forall_of_covers ((rd m g sg σ c).withAfter (Function.update (fun _ _ _ => Classical.arbitrary _) 3 X)) 3 (fun (q : S8x1152x2048.Idx) (v : EReal) => v = ((xhAt (g c) (sg c) (σ c) (((q 0).val * 1152 + (q 1).val) * 2048 + (q 2).val) : ℝ) : EReal)) covers3 (fun t hf y => ?_) (ix3 i j k)
  have h9 := (flush3 t).mp hf
  obtain ⟨Y, -, h⟩ := hX t t.isLt hf
  obtain ⟨z, r, k, rfl⟩ : ∃ (z : Fin 1) (r : Fin 128) (k : Fin 2048), y = ix3 z r k := ⟨_, _, _, eq_ix3 y⟩
  obtain rfl : z = 0 := Subsingleton.elim _ _
  have h' : ∀ (r : Fin 128) (k : Fin 2048), (X t (ix3 (0 : Fin 1) r k) : EReal) = _ := h h9
  have e0 : ((win0_3.blk t).view.emb (ix3 (0 : Fin 1) r k) 0).val = (t.val - 9) / 9 := by blk_simp [index3] <;> simp
  have e1 : ((win0_3.blk t).view.emb (ix3 (0 : Fin 1) r k) 1).val = (t.val - 9) % 9 * 128 + r.val := by blk_simp [index3] <;> simp
  have e2 : ((win0_3.blk t).view.emb (ix3 (0 : Fin 1) r k) 2).val = k.val := by blk_simp [index3] <;> simp
  show (Function.update (fun _ _ _ => Classical.arbitrary _) 3 X 3 t (ix3 (0 : Fin 1) r k) : EReal) = ((xhAt (g c) (sg c) (σ c) ((((win0_3.blk t).view.emb (ix3 (0 : Fin 1) r k) 0).val * 1152 + ((win0_3.blk t).view.emb (ix3 (0 : Fin 1) r k) 1).val) * 2048 + ((win0_3.blk t).view.emb (ix3 (0 : Fin 1) r k) 2).val) : ℝ) : EReal)
  rw [Function.update_self, h', e0, e1, e2, xh_pos, show (t.val - 9) / 9 = t.val / 9 - 1 by omega]

/-- The error's array. -/
theorem end_ne {G : S8x1152x2048.Idx → EReal} (hG : (rd m g sg σ c).ArrAt 4 cfg0.N G) (i : Fin 8) (j : Fin 1152) (k : Fin 2048) :
    G (ix3 i j k) = ((neAt (g c) (sg c) (σ c) ((i.val * 1152 + j.val) * 2048 + k.val) : ℝ) : EReal) := by
  obtain ⟨X, hX, hA⟩ := hG.exists_exact
  have e := hA (Function.update (fun _ _ _ => Classical.arbitrary _) 4 X) fun u _ _ => by rw [Function.update_self]
  subst e
  refine Dat.arrAt_forall_of_covers ((rd m g sg σ c).withAfter (Function.update (fun _ _ _ => Classical.arbitrary _) 4 X)) 4 (fun (q : S8x1152x2048.Idx) (v : EReal) => v = ((neAt (g c) (sg c) (σ c) (((q 0).val * 1152 + (q 1).val) * 2048 + (q 2).val) : ℝ) : EReal)) covers4 (fun t hf y => ?_) (ix3 i j k)
  have h9 := (flush4 t).mp hf
  obtain ⟨Y, -, h⟩ := hX t t.isLt hf
  obtain ⟨z, r, k, rfl⟩ : ∃ (z : Fin 1) (r : Fin 128) (k : Fin 2048), y = ix3 z r k := ⟨_, _, _, eq_ix3 y⟩
  obtain rfl : z = 0 := Subsingleton.elim _ _
  have h' : ∀ (r : Fin 128) (k : Fin 2048), (X t (ix3 (0 : Fin 1) r k) : EReal) = _ := h h9
  have e0 : ((win0_4.blk t).view.emb (ix3 (0 : Fin 1) r k) 0).val = (t.val - 9) / 9 := by blk_simp [index4] <;> simp
  have e1 : ((win0_4.blk t).view.emb (ix3 (0 : Fin 1) r k) 1).val = (t.val - 9) % 9 * 128 + r.val := by blk_simp [index4] <;> simp
  have e2 : ((win0_4.blk t).view.emb (ix3 (0 : Fin 1) r k) 2).val = k.val := by blk_simp [index4] <;> simp
  show (Function.update (fun _ _ _ => Classical.arbitrary _) 4 X 4 t (ix3 (0 : Fin 1) r k) : EReal) = ((neAt (g c) (sg c) (σ c) ((((win0_4.blk t).view.emb (ix3 (0 : Fin 1) r k) 0).val * 1152 + ((win0_4.blk t).view.emb (ix3 (0 : Fin 1) r k) 1).val) * 2048 + ((win0_4.blk t).view.emb (ix3 (0 : Fin 1) r k) 2).val) : ℝ) : EReal)
  rw [Function.update_self, h', e0, e1, e2]
  unfold neAt
  rw [xh_pos, flat_pos, show (t.val - 9) / 9 = t.val / 9 - 1 by omega]
  rfl

/-- The rotation's value by the position in the whole array. -/
def wAt (g : ℕ → ℝ) (sg : ℕ → Bool) (n : ℕ) : ℝ := whole (gAt g (n / 2 ^ 18)) (sgAt sg (n / 2 ^ 18)) (n % 2 ^ 18)

/-- The rotation at a position of a bucket's block is that of the bucket's own transform. -/
theorem w_pos (g : ℕ → ℝ) (sg : ℕ → Bool) (t : ℕ) (r : Fin 128) (cb : Fin 256) (k : ℕ) (hk : k < 8) :
    wAt g sg ((t / 9 * 1152 + (t % 9 * 128 + r.val)) * 2048 + 8 * cb.val + k) = whole (gAt g t) (sgAt sg t) (r.val * 2048 + 8 * cb.val + k) := by
  have hr := r.isLt
  have hcb := cb.isLt
  have e0 : (t / 9 * 1152 + (t % 9 * 128 + r.val)) * 2048 + 8 * cb.val + k = t * 2 ^ 18 + (r.val * 2048 + 8 * cb.val + k) := by norm_num; omega
  have e1 : (t * 2 ^ 18 + (r.val * 2048 + 8 * cb.val + k)) / 2 ^ 18 = t := by norm_num; omega
  have e2 : (t * 2 ^ 18 + (r.val * 2048 + 8 * cb.val + k)) % 2 ^ 18 = r.val * 2048 + 8 * cb.val + k := by norm_num; omega
  unfold wAt
  rw [e0, e1, e2]

/-- What the codes' buffer holds after the last buckets' points: the last bucket's codes. -/
theorem leaves_code : ∀ (n : ℕ) (hn : n < 81) (X : S1x128x256.Idx → BitVec 8), (rd m g sg σ c).Leaves 5 ⟨n, hn⟩ X → 71 ≤ n → CodesAre (g c) (sg c) 71 X := by
  intro n
  induction n with
  | zero => intro _ _ _ h; omega
  | succ n ih =>
    intro hn X hX h71
    obtain ⟨Y, hY, h⟩ := hX
    have h' : (n + 1 < 72 → CodesAre (g c) (sg c) (n + 1) X) ∧ (72 ≤ n + 1 → X = Y) := h
    by_cases e : n + 1 = 71
    · have := h'.1 (by omega); rwa [e] at this
    · rw [h'.2 (by omega)]
      rcases (RDat.finds_of_pos _ (fetch5 _) (Nat.succ_ne_zero n) _).mp hY with hf | hl
      · exact absurd ((flush5 _).mp hf) (by show ¬ (n + 1 - 1 < 71 ∨ n + 1 - 1 = 80); omega)
      · exact ih (by omega) Y hl (by omega)

/-- The position of a code's bit. -/
def codePos (q : S8x1152x256.Idx) (k : ℕ) : ℕ := ((q 0).val * 1152 + (q 1).val) * 2048 + 8 * (q 2).val + k

/-- The codes' array. -/
theorem end_code {G : S8x1152x256.Idx → BitVec 8} (hG : (rd m g sg σ c).ArrAt 5 cfg0.N G) (i : Fin 8) (j : Fin 1152) (cb : Fin 256) :
    ∀ k < 8, ((G (ix3 i j cb)).getLsbD k = true ↔ wAt (g c) (sg c) ((i.val * 1152 + j.val) * 2048 + 8 * cb.val + k) < 0) := by
  obtain ⟨X, hX, hA⟩ := hG.exists_exact
  have e := hA (Function.update (fun _ _ _ => Classical.arbitrary _) 5 X) fun u _ _ => by rw [Function.update_self]
  subst e
  refine Dat.arrAt_forall_of_covers ((rd m g sg σ c).withAfter (Function.update (fun _ _ _ => Classical.arbitrary _) 5 X)) 5 (fun (q : S8x1152x256.Idx) (v : BitVec 8) => ∀ k < 8, (v.getLsbD k = true ↔ wAt (g c) (sg c) (codePos q k) < 0)) covers5 (fun t hf y => ?_) (ix3 i j cb)
  have ht : t.val < 81 := t.isLt
  have hfl := (flush5 t).mp hf
  have h' : CodesAre (g c) (sg c) (min t.val 71) (X t) := by
    rcases hfl with h | h
    · obtain ⟨Y, -, h2⟩ := hX t t.isLt hf
      rw [show min t.val 71 = t.val by omega]
      exact h2.1 (by omega)
    · rw [show min t.val 71 = 71 by omega]
      exact leaves_code t.val ht (X t) (hX t t.isLt hf) (by omega)
  obtain ⟨z, r, cb, rfl⟩ : ∃ (z : Fin 1) (r : Fin 128) (cb : Fin 256), y = ix3 z r cb := ⟨_, _, _, eq_ix3 y⟩
  obtain rfl : z = 0 := Subsingleton.elim _ _
  intro k hk
  have e0 : ((win0_5.blk t).view.emb (ix3 (0 : Fin 1) r cb) 0).val = min t.val 71 / 9 := by blk_simp [index5] <;> simp
  have e1 : ((win0_5.blk t).view.emb (ix3 (0 : Fin 1) r cb) 1).val = min t.val 71 % 9 * 128 + r.val := by blk_simp [index5] <;> simp
  have e2 : ((win0_5.blk t).view.emb (ix3 (0 : Fin 1) r cb) 2).val = cb.val := by blk_simp [index5] <;> simp
  have ep : codePos ((win0_5.blk t).view.emb (ix3 (0 : Fin 1) r cb)) k = (min t.val 71 / 9 * 1152 + (min t.val 71 % 9 * 128 + r.val)) * 2048 + 8 * cb.val + k := by
    unfold codePos
    exact congrArg₂ (fun x y => x + 8 * y + k) (congrArg₂ (fun x y => (x * 1152 + y) * 2048) e0 e1) e2
  have h2 := (h' r cb k hk).trans (iff_of_eq (congrArg (· < 0) ((congrArg (wAt (g c) (sg c)) ep).trans (w_pos (g c) (sg c) (min t.val 71) r cb k hk)).symm))
  refine (iff_of_eq (congrArg (fun z : BitVec 8 => z.getLsbD k = true) ?_)).trans h2
  show (Function.update (fun _ _ _ => Classical.arbitrary _) 5 X 5 t (ix3 (0 : Fin 1) r cb) : BitVec 8) = _
  rw [Function.update_self]

/-- What the scales' buffer holds after a point: the scales of the batches finished by then. -/
theorem leaves_scale : ∀ (n : ℕ) (hn : n < 81) (X : S8.Idx → EReal), (rd m g sg σ c).Leaves 6 ⟨n, hn⟩ X → ∀ b : Fin 8, 9 * (b.val + 1) ≤ n → X (ix1 b) = scaleAt (g c) (sg c) b.val := by
  intro n
  induction n with
  | zero => intro _ _ _ b h; omega
  | succ n ih =>
    intro hn X hX b hb
    obtain ⟨Y, hY, h⟩ := hX
    have h' : ∀ b : Fin 8, (X (ix1 b) : EReal) = if n + 1 = 9 * (b.val + 1) then scaleAt (g c) (sg c) b.val else (show S8.Idx → EReal from Y) (ix1 b) := h
    rw [h']
    split
    · rfl
    · rename_i hne
      rcases (RDat.finds_of_pos _ (fetch6 _) (Nat.succ_ne_zero n) _).mp hY with hf | hl
      · exact absurd ((flush0_6 _).mp hf) (by show ¬ (n + 1 - 1) % 81 = 80; omega)
      · exact ih (by omega) Y hl b (by omega)

/-- The scales. -/
theorem end_scale {G : S8.Idx → EReal} (hG : (rd m g sg σ c).ArrAt 6 cfg0.N G) (b : Fin 8) : G (ix1 b) = scaleAt (g c) (sg c) b.val := by
  obtain ⟨X, hX, h⟩ := hG.emb_eq_of_wholeAt whole6
  exact (h (ix1 b)).trans (leaves_scale 80 (by decide) X hX b (by have := b.isLt; omega))

end Bit.Ideal

end
-- ==== Proof.RefOut.lean ====
/-
  What the reference computes, by the position in the whole array.
-/
module

public import proofs.«01_k».proof.Proof.RefZ
public import proofs.«01_k».proof.Proof.RefBits
public import proofs.«01_k».proof.Proof.Bucket
public import proofs.«01_k».proof.Proof.Ends

@[expose] public section

set_option maxRecDepth 16384

noncomputable section

namespace Bit

open Idealize.ShloMosaic Cert.ReferenceIdeal Cert.ReferenceIdeal.Facts Cert.ReferenceIdeal.Facts₀
open Bit.Ideal (gAt sgAt sq ab full scaleAt xhAt neAt)

variable [Cert.ReferenceIdeal.Facts]

/-- The arguments: the inputs' sum as reals, and the sign bits. -/
structure RefData (V : Valuation τ sig (Elt Ideal)) (g : ℕ → ℝ) (sg : ℕ → Bool) : Prop where
  sum : ∀ (i : Fin 8) (j : Fin 1152) (k : Fin 2048), (Value.res_main_v0 V (ix3 i j k) : EReal) = ((g ((i.val * 1152 + j.val) * 2048 + k.val) : ℝ) : EReal)
  bits : ∀ (i : Fin 8) (j : Fin 1152) (cb : Fin 256) (k : ℕ), k < 8 → ((V (Proc.devRef .tc main_arg1) : IVec S8x1152x256 8) (ix3 i j cb)).getLsbD k = sg ((i.val * 1152 + j.val) * 2048 + 8 * cb.val + k)

variable {V : Valuation τ sig (Elt Ideal)} {g : ℕ → ℝ} {sg : ℕ → Bool}

/-- An array given at its three coordinates. -/
theorem lin_of {x : FVec Ideal S8x1152x2048 .f32} {f : ℕ → ℝ} (h : ∀ (i : Fin 8) (j : Fin 1152) (k : Fin 2048), (x (ix3 i j k) : EReal) = ((f ((i.val * 1152 + j.val) * 2048 + k.val) : ℝ) : EReal)) : Lin x f := by
  intro q
  obtain ⟨i, j, k, rfl⟩ : ∃ (i : Fin 8) (j : Fin 1152) (k : Fin 2048), q = ix3 i j k := ⟨_, _, _, eq_ix3 q⟩
  rw [rm3]; exact h i j k

/-- The product of two arrays. -/
theorem Lin.mul {s : Shape} {x y : FVec Ideal s .f32} {f f' : ℕ → ℝ} (hx : Lin x f) (hy : Lin y f') : Lin (mulf x y : FVec Ideal s .f32) (fun n => f n * f' n) := by
  intro q
  show (x q : EReal) * y q = _
  rw [hx q, hy q, ← EReal.coe_mul]

/-- The difference of two arrays. -/
theorem Lin.sub {s : Shape} {x y : FVec Ideal s .f32} {f f' : ℕ → ℝ} (hx : Lin x f) (hy : Lin y f') : Lin (subf x y : FVec Ideal s .f32) (fun n => f n - f' n) := by
  intro q
  show (x q : EReal) - y q = _
  rw [hx q, hy q, ← EReal.coe_sub]

/-- The magnitudes of an array. -/
theorem Lin.abs {s : Shape} {x : FVec Ideal s .f32} {f : ℕ → ℝ} (hx : Lin x f) : Lin (Host.absf x : FVec Ideal s .f32) (fun n => |f n|) := by
  intro q
  show max (x q : EReal) (-(x q : EReal)) = _
  rw [hx q, ← EReal.coe_neg, ← EReal.coe_strictMono.monotone.map_max]
  rfl

/-- The reference's sum of the inputs, by position. -/
theorem RefData.lin (h : RefData V g sg) : Lin (Value.res_main_v0 V) g := lin_of h.sum

/-- The reference's signs, by position. -/
theorem RefData.signs (h : RefData V g sg) : Lin (Value.res_main_v15 V) (fun n => if sg n then -1 else 1) := signsOf_val _ sg h.bits

/-- The first rotation of the arguments. -/
theorem RefData.y (h : RefData V g sg) : Lin (Value.res_main_v218 V) (fun n => 1 / 512 * wht (List.range 18) (sgnd g sg) n) := by
  refine ref_forward V (sgnd g sg) ?_
  have := h.signs.mul h.lin
  rw [show sgnd g sg = fun n => (if sg n then -1 else 1) * g n from by funext n; unfold sgnd; split_ifs <;> ring]
  exact this

/-- The rotated value by bucket. -/
theorem wht_sgnd (g : ℕ → ℝ) (sg : ℕ → Bool) (t p : ℕ) (hp : p < 2 ^ 18) : wht (List.range 18) (sgnd g sg) (t * 2 ^ 18 + p) = whole (gAt g t) (sgAt sg t) p :=
  wht_bucket _ t p hp

/-- The sum of an array over a batch. -/
theorem batch_sum {x : FVec Ideal S8x1152x2048 .f32} {f : ℕ → ℝ} (hx : Lin x f) (b : Fin 8) :
    (Host.reduceAdd x (constant S_ .f32 0x00000000#32) reducesTo_S8x1152x2048_S8_d1_2 h_S_ (ix1 b) : EReal)
      = ((full (fun t => ∑ p ∈ Finset.range (2 ^ 18), f (t * 2 ^ 18 + p)) b.val : ℝ) : EReal) := by
  refine (Host.reduceAdd_apply _ _ _ _ _).trans ?_
  refine (Ideal.hostReduceAdd_r3_a12 _ _ _ _).trans ?_
  rw [← sum_batch]
  show Ideal.ofBits .f32 0x00000000#32 + ∑ k0 : Fin 1152, ∑ k1 : Fin 2048, (x (ix3 b k0 k1) : EReal) = _
  rw [Ideal.ofBits_zero_f32, zero_add]
  simp only [← coe_sum]
  refine Finset.sum_congr rfl fun j _ => Finset.sum_congr rfl fun k _ => ?_
  rw [hx, rm3]

/-- The scale. -/
theorem RefData.scale (h : RefData V g sg) (b : Fin 8) :
    (Host.divf (Host.reduceAdd (mulf (Value.res_main_v0 V) (Value.res_main_v0 V)) (constant S_ .f32 0x00000000#32) reducesTo_S8x1152x2048_S8_d1_2 h_S_)
      (Host.reduceAdd (Host.absf (Value.res_main_v218 V)) (constant S_ .f32 0x00000000#32) reducesTo_S8x1152x2048_S8_d1_2 h_S_) (ix1 b) : EReal)
      = scaleAt g sg b.val := by
  have h1 := batch_sum (h.lin.mul h.lin) b
  have h2 := Lin.abs h.y
  have h3 := batch_sum h2 b
  show Ideal.div _ _ = _
  rw [h1, h3]
  unfold scaleAt scaleVal
  refine congrArg₂ (fun u v : ℝ => Ideal.div (u : EReal) (v : EReal)) ?_ ?_
  · refine Finset.sum_congr rfl fun t _ => Finset.sum_congr rfl fun p _ => ?_
    show _ = g (t * 2 ^ 18 + p) ^ 2
    ring
  · unfold full
    rw [Finset.mul_sum]
    refine Finset.sum_congr rfl fun t _ => ?_
    unfold ab
    rw [Finset.mul_sum]
    refine Finset.sum_congr rfl fun p hp => ?_
    rw [wht_sgnd g sg t p (Finset.mem_range.mp hp), abs_mul, abs_of_pos (by norm_num : (0 : ℝ) < 1 / 512)]

/-- The packed signs' bits. -/
theorem RefData.codes (h : RefData V g sg) (i : Fin 8) (j : Fin 1152) (cb : Fin 256) (k : ℕ) (hk : k < 8) :
    (codesOf (Value.res_main_v218 V) (ix3 i j cb)).getLsbD k = decide (wht (List.range 18) (sgnd g sg) ((i.val * 1152 + j.val) * 2048 + 8 * cb.val + k) < 0) := by
  rw [codesOf_val _ _ h.y i j cb k hk]
  refine decide_eq_decide.mpr ⟨fun h => by linarith, fun h => by linarith⟩

/-- The decoded array. -/
theorem RefData.xh (h : RefData V g sg) (s : ℕ → ℝ) (hs : ∀ b < 8, scaleAt g sg b = ((s b : ℝ) : EReal)) :
    Lin (mulf (Value.res_main_v15 V) (rotated2 V) : FVec Ideal S8x1152x2048 .f32) (xhAt g sg (fun b => s b * (1 / 512))) := by
  have hz : Lin (Value.res_main_v253 V) (fun n => s (n / 2 ^ 18 / 9) * (if decide (wht (List.range 18) (sgnd g sg) n < 0) then -1 else 1)) := by
    refine Lin.cast (Lin.cast (Lin.mul ?_ (signsOf_val (codesOf (Value.res_main_v218 V)) (fun n => decide (wht (List.range 18) (sgnd g sg) n < 0)) h.codes)) _) _
    refine lin_of fun i j k => ?_
    have hi := i.isLt
    have hj := j.isLt
    have hk := k.isLt
    rw [show ((i.val * 1152 + j.val) * 2048 + k.val) / 2 ^ 18 / 9 = i.val by omega, ← hs i.val hi, ← h.scale i]
    refine congrArg (Host.divf _ _) (funext fun a => ?_)
    fin_cases a; rfl
  have hr := h.signs.mul (ref_inverse V _ hz)
  intro q
  rw [hr q]
  refine congrArg (fun x : ℝ => (x : EReal)) ?_
  generalize (S8x1152x2048.rowMajor q).val = n
  dsimp only
  unfold xhAt hat
  have e : wht (List.range 18) (fun n => s (n / 2 ^ 18 / 9) * (if decide (wht (List.range 18) (sgnd g sg) n < 0) then -1 else 1)) n
      = s (n / 2 ^ 18 / 9) * wht (List.range 18) (zsig (gAt g (n / 2 ^ 18)) (sgAt sg (n / 2 ^ 18))) (n % 2 ^ 18) := by
    conv_lhs => rw [show n = n / 2 ^ 18 * 2 ^ 18 + n % 2 ^ 18 by omega]
    rw [wht_bucket _ _ _ (by omega), ← wht_smul]
    refine wht_bucket_congr (fun q hq => ?_) (by omega)
    rw [wht_sgnd g sg _ q hq, show (n / 2 ^ 18 * 2 ^ 18 + q) / 2 ^ 18 = n / 2 ^ 18 by omega]
    unfold zsig sgnS
    simp only [decide_eq_true_eq]
  rw [e, show sgAt sg (n / 2 ^ 18) (n % 2 ^ 18) = sg n from by unfold sgAt; congr 1; omega]
  split_ifs <;> ring

end Bit

end
-- ==== Proof.Sane.lean ====
/-
  The precondition, read: the inputs are finite, and every batch's sum of squares is positive.
-/
module

public import proofs.«01_k».proof.Defs
public import proofs.«01_k».proof.Proof.RefOut

@[expose] public section

set_option maxRecDepth 16384

noncomputable section

namespace Bit

open Idealize.ShloMosaic
open Bit.Ideal (full sq ab scaleAt)

/-- The precondition's side conditions. -/
theorem saneFacts : Cert.Pre_sane.Facts where
  reducesTo_S8x1152x2048_S8_d1_2 := by decide
  h_S_ := by decide
  bcast_S_S8 := by decide
  bcast_S_S8x1152x2048 := by decide
  bcast_S8_S8x1x1_0 := by decide
  bcast_S8x1x1_S8x1152x2048_0_1_2 := by decide

/-- The shape of the two real inputs. -/
abbrev SX : Shape := ⟨3, ![8, 1152, 2048]⟩
/-- The shape of the sign bytes. -/
abbrev SB : Shape := ⟨3, ![8, 1152, 256]⟩

/-- The index at a position of the whole array. -/
def dec (n : ℕ) : SX.Idx := ix3 (Fin.ofNat 8 (n / 2048 / 1152)) (Fin.ofNat 1152 (n / 2048 % 1152)) (Fin.ofNat 2048 (n % 2048))

/-- The index at a position given by its three coordinates. -/
theorem dec_pos (i : Fin 8) (j : Fin 1152) (k : Fin 2048) : dec ((i.val * 1152 + j.val) * 2048 + k.val) = ix3 i j k := by
  have hi := i.isLt
  have hj := j.isLt
  have hk := k.isLt
  unfold dec
  congr 1 <;> refine Fin.ext ?_ <;> simp only [Fin.ofNat] <;> omega

/-- The inputs' sum as reals, by position. -/
def gOf (x e : SX.Idx → EReal) (n : ℕ) : ℝ := (x (dec n) + e (dec n)).toReal

/-- The sign bits, by position. -/
def sgOf (b : SB.Idx → BitVec 8) (n : ℕ) : Bool :=
  (b (ix3 (Fin.ofNat 8 (n / 2048 / 1152)) (Fin.ofNat 1152 (n / 2048 % 1152)) (Fin.ofNat 256 (n % 2048 / 8)))).getLsbD (n % 8)

/-- Bit `k` of a byte is the sign bit of the position it covers. -/
theorem sgOf_pos (b : SB.Idx → BitVec 8) (i : Fin 8) (j : Fin 1152) (cb : Fin 256) (k : ℕ) (hk : k < 8) :
    (b (ix3 i j cb)).getLsbD k = sgOf b ((i.val * 1152 + j.val) * 2048 + 8 * cb.val + k) := by
  have hi := i.isLt
  have hj := j.isLt
  have hc := cb.isLt
  unfold sgOf
  rw [show ((i.val * 1152 + j.val) * 2048 + 8 * cb.val + k) % 8 = k by omega]
  congr 2
  congr 1 <;> refine Fin.ext ?_ <;> simp only [Fin.ofNat] <;> omega

/-- A conjunction of truth bits is true only if both are. -/
theorem and_one : ∀ a b : BitVec 1, IntOp.andi a b = 1#1 → a = 1#1 ∧ b = 1#1 := by decide

/-- A truth bit is set only for true. -/
theorem ofBool_one : ∀ b : Bool, BitVec.ofBool b = 1#1 → b = true := by decide

/-- The bits of the 32-bit infinity read as ⊤. -/
theorem ofBits_inf_f32 : (Ideal.ofBits .f32 0x7F800000#32 : EReal) = ⊤ := by
  simp [Ideal.ofBits, Ideal.ieee]

/-- A magnitude below infinity is of a real. -/
theorem real_of_abs {a : EReal} (h : max a (-a) < ⊤) : ∃ r : ℝ, a = (r : EReal) := by
  induction a with
  | bot => simp at h
  | coe r => exact ⟨r, rfl⟩
  | top => simp at h

/-- What the precondition says. -/
theorem sane_iff [Cert.Pre_sane.Facts] {x e : SX.Idx → EReal} {b : SB.Idx → BitVec 8} (h : Cert.Pre_sane.fn (F := Ideal) x b e = fun _ => 1#1) :
    (∀ i j k, x (ix3 i j k) + e (ix3 i j k) = ((gOf x e ((i.val * 1152 + j.val) * 2048 + k.val) : ℝ) : EReal))
    ∧ ∀ b : ℕ, b < 8 → 0 < full (sq (gOf x e)) b := by
  have h1 : ∀ (i : Fin 8) (j : Fin 1152) (k : Fin 2048), max (x (ix3 i j k)) (-(x (ix3 i j k))) < ⊤ ∧ max (e (ix3 i j k)) (-(e (ix3 i j k))) < ⊤
      ∧ (0 : EReal) < Host.reduceAdd (F := Ideal) (φ := .f32) (mulf (addf x e : FVec Ideal SX .f32) (addf x e : FVec Ideal SX .f32)) (constant (⟨0, ![]⟩ : Shape) .f32 0x00000000#32)
        Cert.Pre_sane.Facts.reducesTo_S8x1152x2048_S8_d1_2 Cert.Pre_sane.Facts.h_S_ (ix1 i) := by
    intro i j k
    have h2 := congrFun h (ix3 i j k)
    obtain ⟨h3, h5⟩ := and_one _ _ h2
    obtain ⟨h3, h4⟩ := and_one _ _ h3
    have h3' : (max (x (ix3 i j k)) (-(x (ix3 i j k))) : EReal) < Ideal.ofBits .f32 0x7F800000#32 := of_decide_eq_true (ofBool_one _ h3)
    have h4' : (max (e (ix3 i j k)) (-(e (ix3 i j k))) : EReal) < Ideal.ofBits .f32 0x7F800000#32 := of_decide_eq_true (ofBool_one _ h4)
    rw [ofBits_inf_f32] at h3' h4'
    refine ⟨h3', h4', ?_⟩
    have hq : ∀ q : (⟨1, ![8]⟩ : Shape).Idx, q = ix1 i →
        BitVec.ofBool (decide ((Ideal.ofBits .f32 0x00000000#32 : EReal) < Host.reduceAdd (F := Ideal) (φ := .f32) (mulf (addf x e : FVec Ideal SX .f32) (addf x e : FVec Ideal SX .f32)) (constant (⟨0, ![]⟩ : Shape) .f32 0x00000000#32)
          Cert.Pre_sane.Facts.reducesTo_S8x1152x2048_S8_d1_2 Cert.Pre_sane.Facts.h_S_ q)) = 1#1 → _ := fun q hq h => of_decide_eq_true (ofBool_one _ (hq ▸ h))
    have h5' := hq _ (funext fun a => by fin_cases a; rfl) h5
    rw [Ideal.ofBits_zero_f32] at h5'
    exact h5'
  have h2 : ∀ (i : Fin 8) (j : Fin 1152) (k : Fin 2048), x (ix3 i j k) + e (ix3 i j k) = ((gOf x e ((i.val * 1152 + j.val) * 2048 + k.val) : ℝ) : EReal) := by
    intro i j k
    obtain ⟨r, hr⟩ := real_of_abs (h1 i j k).1
    obtain ⟨s, hs⟩ := real_of_abs (h1 i j k).2.1
    unfold gOf
    rw [dec_pos, hr, hs, ← EReal.coe_add, EReal.toReal_coe]
  refine ⟨h2, fun b hb => ?_⟩
  haveI := Cert.ReferenceIdeal.Gen.facts
  have hl : Lin (addf x e : FVec Ideal SX .f32) (gOf x e) := lin_of h2
  have h3 := (h1 ⟨b, hb⟩ 0 0).2.2.trans_eq (batch_sum (hl.mul hl) ⟨b, hb⟩)
  rw [← EReal.coe_zero] at h3
  refine (EReal.coe_lt_coe_iff.mp h3).trans_eq ?_
  refine Finset.sum_congr rfl fun t _ => Finset.sum_congr rfl fun p _ => ?_
  show _ = gOf x e (t * 2 ^ 18 + p) ^ 2
  ring

end Bit

end
-- ==== Proof.Values.lean ====
/-
  The two programs' results: the idealized kernel's arrays are the reference's.
-/
module

public import proofs.«01_k».proof.Proof.Sane

@[expose] public section

set_option maxRecDepth 16384

noncomputable section

namespace Bit

open Idealize.ShloMosaic Idealize.ShloMosaic.TcCoe
open Idealize.ShloMosaic.Pipeline (RDat)
open Bit.Ideal (arrX arrB arrE InData full sq ab scaleAt xhAt neAt wAt rd invV aftV)

section
variable [Cert.KernelIdeal.Facts] [Cert.ReferenceIdeal.Facts]

/-- The inputs as reals and bits. -/
def gM (m : (ℓ : Loc Cert.KernelIdeal.nD Cert.KernelIdeal.τ Cert.KernelIdeal.sig) → Idealize.ShloMosaic.Buf (Elt Ideal) ℓ) (c : Dev Cert.KernelIdeal.nD) : ℕ → ℝ := gOf (arrX m c) (arrE m c)
/-- The sign bits of the kernel's second input. -/
def sgM (m : (ℓ : Loc Cert.KernelIdeal.nD Cert.KernelIdeal.τ Cert.KernelIdeal.sig) → Idealize.ShloMosaic.Buf (Elt Ideal) ℓ) (c : Dev Cert.KernelIdeal.nD) : ℕ → Bool := sgOf (arrB m c)
/-- A batch's scale as a real. -/
def sM (m : (ℓ : Loc Cert.KernelIdeal.nD Cert.KernelIdeal.τ Cert.KernelIdeal.sig) → Idealize.ShloMosaic.Buf (Elt Ideal) ℓ) (c : Dev Cert.KernelIdeal.nD) (b : ℕ) : ℝ :=
  full (sq (gM m c)) b * (1 / (1 / 512 * full (ab (gM m c) (sgM m c)) b))

variable {m : (ℓ : Loc Cert.KernelIdeal.nD Cert.KernelIdeal.τ Cert.KernelIdeal.sig) → Idealize.ShloMosaic.Buf (Elt Ideal) ℓ} {c : Dev Cert.KernelIdeal.nD}

/-- Under the precondition the inputs are real, and given by position. -/
theorem inData [Cert.Pre_sane.Facts] (h : Cert.Pre_KernelIdeal_sane m) : InData m c (gM m c) (sgM m c) :=
  ⟨fun i j k => (sane_iff (h c)).1 i j k, fun i j cb k hk => sgOf_pos (arrB m c) i j cb k hk⟩

/-- The scale is a real. -/
theorem scale_real [Cert.Pre_sane.Facts] (h : Cert.Pre_KernelIdeal_sane m) (b : ℕ) (hb : b < 8) : scaleAt (gM m c) (sgM m c) b = ((sM m c b : ℝ) : EReal) := by
  have hn : full (ab (gM m c) (sgM m c)) b ≠ 0 := full_ab_ne ((sane_iff (h c)).2 b hb)
  unfold scaleAt scaleVal sM
  rw [Ideal.div_coe (mul_ne_zero (by norm_num) hn), ← EReal.coe_mul]

/-- The scale times the normalisation. -/
def σM (m : (ℓ : Loc Cert.KernelIdeal.nD Cert.KernelIdeal.τ Cert.KernelIdeal.sig) → Idealize.ShloMosaic.Buf (Elt Ideal) ℓ) (c : Dev Cert.KernelIdeal.nD) : ℕ → ℝ := fun b => sM m c b * (1 / 512)

/-- What is known of the kernel's memory at the end. -/
def KernelEnd (m m1 : (ℓ : Loc Cert.KernelIdeal.nD Cert.KernelIdeal.τ Cert.KernelIdeal.sig) → Idealize.ShloMosaic.Buf (Elt Ideal) ℓ) (c : Dev Cert.KernelIdeal.nD) : Prop :=
  (∀ i j k, (m1 ((c.tc : Thread Cert.KernelIdeal.nD Cert.KernelIdeal.τ).loc Cert.KernelIdeal.main_v0_0) : SX.Idx → EReal) (ix3 i j k) = ((xhAt (gM m c) (sgM m c) (σM m c) ((i.val * 1152 + j.val) * 2048 + k.val) : ℝ) : EReal))
  ∧ (∀ i j k, (m1 ((c.tc : Thread Cert.KernelIdeal.nD Cert.KernelIdeal.τ).loc Cert.KernelIdeal.main_v0_1) : SX.Idx → EReal) (ix3 i j k) = ((neAt (gM m c) (sgM m c) (σM m c) ((i.val * 1152 + j.val) * 2048 + k.val) : ℝ) : EReal))
  ∧ (∀ i j cb, ∀ k < 8, (((m1 ((c.tc : Thread Cert.KernelIdeal.nD Cert.KernelIdeal.τ).loc Cert.KernelIdeal.main_v0_2) : SB.Idx → BitVec 8) (ix3 i j cb)).getLsbD k = true ↔ wAt (gM m c) (sgM m c) ((i.val * 1152 + j.val) * 2048 + 8 * cb.val + k) < 0))
  ∧ (∀ b : Fin 8, (m1 ((c.tc : Thread Cert.KernelIdeal.nD Cert.KernelIdeal.τ).loc Cert.KernelIdeal.main_v0_3) : (⟨1, ![8]⟩ : Shape).Idx → EReal) (ix1 b) = scaleAt (gM m c) (sgM m c) b.val)

/-- The kernel's run. -/
theorem kernel_run [Cert.Pre_sane.Facts] (h : Cert.Pre_KernelIdeal_sane m) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c,
      KernelEnd m r.2.mem c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine (θ_run _ _ _).mono (fun r hr c => ?_) (Bit.Ideal.run ρ
    (fun c => Bit.Ideal.point_val (gM m) (sgM m) (σM m) (inData h) (fun b hb => by rw [scale_real h b hb, ← EReal.coe_mul]; rfl))
    (fun c st h0 => absurd h0 (Nat.lt_irrefl 0)))
  have ha := Bit.Ideal.args_kept hr.1 c
  exact ⟨⟨fun i j k => Bit.Ideal.end_xh ((hr.1 c).1 3) i j k, fun i j k => Bit.Ideal.end_ne ((hr.1 c).1 4) i j k, fun i j cb k hk => Bit.Ideal.end_code ((hr.1 c).1 5) i j cb k hk, fun b => Bit.Ideal.end_scale ((hr.1 c).1 6) b⟩, ha⟩

end

end Bit

end
-- ==== Proof.Equal.lean ====
/-
  From memories that agree on the arguments, the idealized kernel and the reference end with equal results.
-/
module

public import proofs.«01_k».proof.Proof.Values

@[expose] public section

set_option maxRecDepth 16384

noncomputable section

namespace Bit

open Idealize.ShloMosaic Idealize.ShloMosaic.TcCoe
open Bit.Ideal (arrX arrB arrE InData full sq ab scaleAt xhAt neAt wAt)

variable [Cert.KernelIdeal.Facts] [Cert.ReferenceIdeal.Facts] [Cert.Pre_sane.Facts]
variable {m : (ℓ : Loc Cert.KernelIdeal.nD Cert.KernelIdeal.τ Cert.KernelIdeal.sig) → Idealize.ShloMosaic.Buf (Elt Ideal) ℓ}
  {m' : (ℓ : Loc Cert.ReferenceIdeal.nD Cert.ReferenceIdeal.τ Cert.ReferenceIdeal.sig) → Idealize.ShloMosaic.Buf (Elt Ideal) ℓ} {c : Dev Cert.KernelIdeal.nD}

/-- The memories agree on the arguments. -/
abbrev SameArgs (m : (ℓ : Loc Cert.KernelIdeal.nD Cert.KernelIdeal.τ Cert.KernelIdeal.sig) → Idealize.ShloMosaic.Buf (Elt Ideal) ℓ)
    (m' : (ℓ : Loc Cert.ReferenceIdeal.nD Cert.ReferenceIdeal.τ Cert.ReferenceIdeal.sig) → Idealize.ShloMosaic.Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

/-- The reference's arguments, as reals and bits. -/
theorem refData (h : Cert.Pre_KernelIdeal_sane m) (hs : SameArgs m m' c) : RefData (StableHlo.launchContents m' c) (gM m c) (sgM m c) := by
  refine ⟨fun i j k => ?_, fun i j cb k hk => ?_⟩
  · exact (congrArg₂ (fun a b : SX.Idx → EReal => a (ix3 i j k) + b (ix3 i j k)) hs.1 hs.2.2).trans ((sane_iff (h c)).1 i j k)
  · show ((m' ((c.tc : Thread Cert.ReferenceIdeal.nD Cert.ReferenceIdeal.τ).loc Cert.ReferenceIdeal.main_arg1) : SB.Idx → BitVec 8) (ix3 i j cb)).getLsbD k = _
    rw [hs.2.1]
    exact sgOf_pos (arrB m c) i j cb k hk

/-- The decoded array. -/
theorem eq_xh (h : Cert.Pre_KernelIdeal_sane m) (hs : SameArgs m m' c) {X : SX.Idx → EReal}
    (hX : ∀ i j k, X (ix3 i j k) = ((xhAt (gM m c) (sgM m c) (σM m c) ((i.val * 1152 + j.val) * 2048 + k.val) : ℝ) : EReal)) :
    X = mulf (Cert.ReferenceIdeal.Value.res_main_v15 (StableHlo.launchContents m' c)) (rotated2 (StableHlo.launchContents m' c)) := by
  funext q
  exact (lin_of (x := X) hX q).trans ((refData h hs).xh (sM m c) (fun b hb => scale_real h b hb) q).symm

/-- The error. -/
theorem eq_ne (h : Cert.Pre_KernelIdeal_sane m) (hs : SameArgs m m' c) {X : SX.Idx → EReal}
    (hX : ∀ i j k, X (ix3 i j k) = ((neAt (gM m c) (sgM m c) (σM m c) ((i.val * 1152 + j.val) * 2048 + k.val) : ℝ) : EReal)) :
    X = subf (Cert.ReferenceIdeal.Value.res_main_v0 (StableHlo.launchContents m' c))
      (mulf (Cert.ReferenceIdeal.Value.res_main_v15 (StableHlo.launchContents m' c)) (rotated2 (StableHlo.launchContents m' c))) := by
  funext q
  exact (lin_of (x := X) hX q).trans ((refData h hs).lin.sub ((refData h hs).xh (sM m c) (fun b hb => scale_real h b hb)) q).symm

/-- The codes. -/
theorem eq_codes (h : Cert.Pre_KernelIdeal_sane m) (hs : SameArgs m m' c) {X : SB.Idx → BitVec 8}
    (hX : ∀ i j cb, ∀ k < 8, ((X (ix3 i j cb)).getLsbD k = true ↔ wAt (gM m c) (sgM m c) ((i.val * 1152 + j.val) * 2048 + 8 * cb.val + k) < 0)) :
    X = codesOf (Cert.ReferenceIdeal.Value.res_main_v218 (StableHlo.launchContents m' c)) := by
  funext q
  obtain ⟨i, j, cb, rfl⟩ : ∃ (i : Fin 8) (j : Fin 1152) (cb : Fin 256), q = ix3 i j cb := ⟨_, _, _, eq_ix3 q⟩
  refine BitVec.eq_of_getLsbD_eq fun k hk => ?_
  rw [(refData h hs).codes i j cb k hk]
  refine Bool.eq_iff_iff.mpr ((hX i j cb k hk).trans ?_)
  generalize (i.val * 1152 + j.val) * 2048 + 8 * cb.val + k = n
  have e : wht (List.range 18) (sgnd (gM m c) (sgM m c)) n = wAt (gM m c) (sgM m c) n := by
    conv_lhs => rw [show n = n / 2 ^ 18 * 2 ^ 18 + n % 2 ^ 18 by omega]
    exact wht_sgnd _ _ _ _ (by omega)
  rw [e, decide_eq_true_eq]

/-- The scales. -/
theorem eq_scale (h : Cert.Pre_KernelIdeal_sane m) (hs : SameArgs m m' c) {X : (⟨1, ![8]⟩ : Shape).Idx → EReal}
    (hX : ∀ b : Fin 8, X (ix1 b) = scaleAt (gM m c) (sgM m c) b.val) {Y : (⟨1, ![8]⟩ : Shape).Idx → EReal}
    (hY : ∀ b : Fin 8, Y (ix1 b) = scaleAt (gM m c) (sgM m c) b.val) : X = Y := by
  funext q
  obtain ⟨b, rfl⟩ : ∃ b : Fin 8, q = ix1 b := ⟨_, eq_ix1 q⟩
  rw [hX, hY]

/-- The equality of the results. -/
theorem algebraic : Cert.algebraic_KernelIdeal_ReferenceIdeal_pre_sane := by
  intro m ρ m' ρ' h hs
  have hr := Cert.ReferenceIdeal.Value.run (F := Ideal) m' ρ'
  refine ⟨_, _, _, _, (θ_run _ _ _).mono (fun r hk c => ?_) (kernel_run h ρ), hr⟩
  obtain ⟨⟨h0, h1, h2, h3⟩, ha⟩ := hk c
  exact ⟨eq_xh h (hs c) h0, eq_ne h (hs c) h1, eq_codes h (hs c) h2, eq_scale h (hs c) h3 (refData h (hs c)).scale, ha⟩

end Bit

end
-- ==== Proof.lean ====
/- The proof of the claim: the frames of the kernel, of its idealization and of the reference, the ledger of rewrites, and the results' equality. -/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent
public import proofs.«01_k».proof.Proof.RunBits
public import proofs.«01_k».proof.Proof.RunIdeal
public import proofs.«01_k».proof.Proof.Ledger
public import proofs.«01_k».proof.Proof.Equal

@[expose] public section

noncomputable section

namespace Cert.Proof

open Idealize.ShloMosaic Idealize.SL.Sem

/-- The reference's frame: its run read at the arguments; it declares no semaphore. -/
theorem frame_reference : Cert.quiescent_ReferenceIdeal (hReferenceIdeal := Cert.ReferenceIdeal.Gen.facts) := fun m ρ _ =>
  (θ_run _ _ _).mono (fun r h => ⟨fun c => (h c).2.2.2.2, sem_eq_zero_of_no_sems (by decide) r.2⟩) (Cert.ReferenceIdeal.Value.run m ρ)

/-- Everything claimed. -/
theorem claim : Cert.Claim := ⟨Cert.Kernel.Gen.facts, Cert.KernelIdeal.Gen.facts, Cert.ReferenceIdeal.Gen.facts, Bit.saneFacts,
  fun m ρ _ => Bit.Bits.frame ρ, fun m ρ _ => Bit.Ideal.frame ρ, fun m ρ _ => Bit.Ideal.frame ρ, frame_reference,
  fun m ρ _ => frame_reference m ρ trivial, Bit.preserves,
  letI := Cert.KernelIdeal.Gen.facts; letI := Cert.ReferenceIdeal.Gen.facts; letI := Bit.saneFacts; Bit.algebraic⟩

end Cert.Proof

end
